-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S3x16x256 : Shape := ⟨3, ![3, 16, 256]⟩
abbrev S3x32x16x256 : Shape := ⟨4, ![3, 32, 16, 256]⟩
abbrev S3x512x256 : Shape := ⟨3, ![3, 512, 256]⟩
abbrev S3x32 : Shape := ⟨2, ![3, 32]⟩
abbrev S32 : Shape := ⟨1, ![32]⟩
abbrev S_ : Shape := ⟨0, ![]⟩
abbrev S512x512 : Shape := ⟨2, ![512, 512]⟩
abbrev S1 : Shape := ⟨1, ![1]⟩
abbrev S1x1 : Shape := ⟨2, ![1, 1]⟩
abbrev S1x1x16x256 : Shape := ⟨4, ![1, 1, 16, 256]⟩
abbrev S16x256 : Shape := ⟨2, ![16, 256]⟩
abbrev S1x32x16x256 : Shape := ⟨4, ![1, 32, 16, 256]⟩
abbrev S32x16x256 : Shape := ⟨3, ![32, 16, 256]⟩
abbrev S1x16x256 : Shape := ⟨3, ![1, 16, 256]⟩
abbrev S1x512x256 : Shape := ⟨3, ![1, 512, 256]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S512x256, .bf16⟩
  | .local _ .vmem, ⟨9, _⟩ => ⟨S3x16x256, .bf16⟩
  | .local _ .vmem, ⟨10, _⟩ => ⟨S3x32x16x256, .bf16⟩
  | .local _ .vmem, ⟨11, _⟩ => ⟨S3x512x256, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 232 → Bool
  | ⟨i, _⟩ => dmaSemScopedAt i

abbrev sig : RefSig :=
  (ofTc nBuf bufTy 1 232 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_289 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v422 : BitVec 32 := Scalar.addi v2 c1_i32_289
  let c32_i32_290 : BitVec 32 := 32#32
  let c0_i32_291 : BitVec 32 := 0#32
  let v423 : BitVec 1 := Scalar.cmpi .eq c32_i32_290 c0_i32_291
  let c1_i32_292 : BitVec 32 := 1#32
  let v424 : BitVec 32 := Scalar.select v423 c1_i32_292 c32_i32_290
  let v425 : BitVec 32 := Scalar.remsi v422 v424
  let c0_i32_294 : BitVec 32 := 0#32
  let v427 : BitVec 1 := Scalar.cmpi .slt v425 c0_i32_294
  let c0_i32_295 : BitVec 32 := 0#32
  let v428 : BitVec 1 := Scalar.cmpi .slt v424 c0_i32_295
  let v429 : BitVec 1 := Scalar.xori v427 v428
  let c0_i32_293 : BitVec 32 := 0#32
  let v426 : BitVec 1 := Scalar.cmpi .ne v425 c0_i32_293
  let v430 : BitVec 1 := Scalar.andi v429 v426
  let v431 : BitVec 32 := Scalar.addi v425 v424
  let v432 : BitVec 32 := Scalar.select v430 v431 v425
  let c16_i32_296 : BitVec 32 := 16#32
  let v433 : BitVec 32 := Scalar.muli v432 c16_i32_296
  let c0_i32_306 : BitVec 32 := 0#32
  ![v433.toNat, 0]
def k0_dev32 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_289 : BitVec 32 := 1#32
  let v422 : BitVec 32 := Scalar.addi v2 c1_i32_289
  let c32_i32_290 : BitVec 32 := 32#32
  let c0_i32_291 : BitVec 32 := 0#32
  let v423 : BitVec 1 := Scalar.cmpi .eq c32_i32_290 c0_i32_291
  let c1_i32_292 : BitVec 32 := 1#32
  let v424 : BitVec 32 := Scalar.select v423 c1_i32_292 c32_i32_290
  let v425 : BitVec 32 := Scalar.remsi v422 v424
  let c0_i32_294 : BitVec 32 := 0#32
  let v427 : BitVec 1 := Scalar.cmpi .slt v425 c0_i32_294
  let c0_i32_295 : BitVec 32 := 0#32
  let v428 : BitVec 1 := Scalar.cmpi .slt v424 c0_i32_295
  let v429 : BitVec 1 := Scalar.xori v427 v428
  let c0_i32_293 : BitVec 32 := 0#32
  let v426 : BitVec 1 := Scalar.cmpi .ne v425 c0_i32_293
  let v430 : BitVec 1 := Scalar.andi v429 v426
  let v431 : BitVec 32 := Scalar.addi v425 v424
  let v432 : BitVec 32 := Scalar.select v430 v431 v425
  let c1_i32_302 : BitVec 32 := 1#32
  let v434 : BitVec 32 := Scalar.muli v432 c1_i32_302
  let v435 : BitVec 32 := Scalar.addi c0_i32_303 v434
  v435.toNat
def k0_dev33 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_307 : BitVec 32 := 2#32
  let v443 : BitVec 32 := Scalar.addi v2 c2_i32_307
  let c32_i32_308 : BitVec 32 := 32#32
  let c0_i32_309 : BitVec 32 := 0#32
  let v444 : BitVec 1 := Scalar.cmpi .eq c32_i32_308 c0_i32_309
  let c1_i32_310 : BitVec 32 := 1#32
  let v445 : BitVec 32 := Scalar.select v444 c1_i32_310 c32_i32_308
  let v446 : BitVec 32 := Scalar.remsi v443 v445
  let c0_i32_312 : BitVec 32 := 0#32
  let v448 : BitVec 1 := Scalar.cmpi .slt v446 c0_i32_312
  let c0_i32_313 : BitVec 32 := 0#32
  let v449 : BitVec 1 := Scalar.cmpi .slt v445 c0_i32_313
  let v450 : BitVec 1 := Scalar.xori v448 v449
  let c0_i32_311 : BitVec 32 := 0#32
  let v447 : BitVec 1 := Scalar.cmpi .ne v446 c0_i32_311
  let v451 : BitVec 1 := Scalar.andi v450 v447
  let v452 : BitVec 32 := Scalar.addi v446 v445
  let v453 : BitVec 32 := Scalar.select v451 v452 v446
  let c1_i32_320 : BitVec 32 := 1#32
  let v455 : BitVec 32 := Scalar.muli v453 c1_i32_320
  let v456 : BitVec 32 := Scalar.addi c0_i32_321 v455
  v456.toNat
def k0_dev34 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_325 : BitVec 32 := 3#32
  let v464 : BitVec 32 := Scalar.addi v2 c3_i32_325
  let c32_i32_326 : BitVec 32 := 32#32
  let c0_i32_327 : BitVec 32 := 0#32
  let v465 : BitVec 1 := Scalar.cmpi .eq c32_i32_326 c0_i32_327
  let c1_i32_328 : BitVec 32 := 1#32
  let v466 : BitVec 32 := Scalar.select v465 c1_i32_328 c32_i32_326
  let v467 : BitVec 32 := Scalar.remsi v464 v466
  let c0_i32_330 : BitVec 32 := 0#32
  let v469 : BitVec 1 := Scalar.cmpi .slt v467 c0_i32_330
  let c0_i32_331 : BitVec 32 := 0#32
  let v470 : BitVec 1 := Scalar.cmpi .slt v466 c0_i32_331
  let v471 : BitVec 1 := Scalar.xori v469 v470
  let c0_i32_329 : BitVec 32 := 0#32
  let v468 : BitVec 1 := Scalar.cmpi .ne v467 c0_i32_329
  let v472 : BitVec 1 := Scalar.andi v471 v468
  let v473 : BitVec 32 := Scalar.addi v467 v466
  let v474 : BitVec 32 := Scalar.select v472 v473 v467
  let c1_i32_338 : BitVec 32 := 1#32
  let v476 : BitVec 32 := Scalar.muli v474 c1_i32_338
  let v477 : BitVec 32 := Scalar.addi c0_i32_339 v476
  v477.toNat
def k0_dev35 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_343 : BitVec 32 := 4#32
  let v485 : BitVec 32 := Scalar.addi v2 c4_i32_343
  let c32_i32_344 : BitVec 32 := 32#32
  let c0_i32_345 : BitVec 32 := 0#32
  let v486 : BitVec 1 := Scalar.cmpi .eq c32_i32_344 c0_i32_345
  let c1_i32_346 : BitVec 32 := 1#32
  let v487 : BitVec 32 := Scalar.select v486 c1_i32_346 c32_i32_344
  let v488 : BitVec 32 := Scalar.remsi v485 v487
  let c0_i32_348 : BitVec 32 := 0#32
  let v490 : BitVec 1 := Scalar.cmpi .slt v488 c0_i32_348
  let c0_i32_349 : BitVec 32 := 0#32
  let v491 : BitVec 1 := Scalar.cmpi .slt v487 c0_i32_349
  let v492 : BitVec 1 := Scalar.xori v490 v491
  let c0_i32_347 : BitVec 32 := 0#32
  let v489 : BitVec 1 := Scalar.cmpi .ne v488 c0_i32_347
  let v493 : BitVec 1 := Scalar.andi v492 v489
  let v494 : BitVec 32 := Scalar.addi v488 v487
  let v495 : BitVec 32 := Scalar.select v493 v494 v488
  let c1_i32_356 : BitVec 32 := 1#32
  let v497 : BitVec 32 := Scalar.muli v495 c1_i32_356
  let v498 : BitVec 32 := Scalar.addi c0_i32_357 v497
  v498.toNat
def k0_dev36 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_361 : BitVec 32 := 5#32
  let v506 : BitVec 32 := Scalar.addi v2 c5_i32_361
  let c32_i32_362 : BitVec 32 := 32#32
  let c0_i32_363 : BitVec 32 := 0#32
  let v507 : BitVec 1 := Scalar.cmpi .eq c32_i32_362 c0_i32_363
  let c1_i32_364 : BitVec 32 := 1#32
  let v508 : BitVec 32 := Scalar.select v507 c1_i32_364 c32_i32_362
  let v509 : BitVec 32 := Scalar.remsi v506 v508
  let c0_i32_366 : BitVec 32 := 0#32
  let v511 : BitVec 1 := Scalar.cmpi .slt v509 c0_i32_366
  let c0_i32_367 : BitVec 32 := 0#32
  let v512 : BitVec 1 := Scalar.cmpi .slt v508 c0_i32_367
  let v513 : BitVec 1 := Scalar.xori v511 v512
  let c0_i32_365 : BitVec 32 := 0#32
  let v510 : BitVec 1 := Scalar.cmpi .ne v509 c0_i32_365
  let v514 : BitVec 1 := Scalar.andi v513 v510
  let v515 : BitVec 32 := Scalar.addi v509 v508
  let v516 : BitVec 32 := Scalar.select v514 v515 v509
  let c1_i32_374 : BitVec 32 := 1#32
  let v518 : BitVec 32 := Scalar.muli v516 c1_i32_374
  let v519 : BitVec 32 := Scalar.addi c0_i32_375 v518
  v519.toNat
def k0_dev37 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_379 : BitVec 32 := 6#32
  let v527 : BitVec 32 := Scalar.addi v2 c6_i32_379
  let c32_i32_380 : BitVec 32 := 32#32
  let c0_i32_381 : BitVec 32 := 0#32
  let v528 : BitVec 1 := Scalar.cmpi .eq c32_i32_380 c0_i32_381
  let c1_i32_382 : BitVec 32 := 1#32
  let v529 : BitVec 32 := Scalar.select v528 c1_i32_382 c32_i32_380
  let v530 : BitVec 32 := Scalar.remsi v527 v529
  let c0_i32_384 : BitVec 32 := 0#32
  let v532 : BitVec 1 := Scalar.cmpi .slt v530 c0_i32_384
  let c0_i32_385 : BitVec 32 := 0#32
  let v533 : BitVec 1 := Scalar.cmpi .slt v529 c0_i32_385
  let v534 : BitVec 1 := Scalar.xori v532 v533
  let c0_i32_383 : BitVec 32 := 0#32
  let v531 : BitVec 1 := Scalar.cmpi .ne v530 c0_i32_383
  let v535 : BitVec 1 := Scalar.andi v534 v531
  let v536 : BitVec 32 := Scalar.addi v530 v529
  let v537 : BitVec 32 := Scalar.select v535 v536 v530
  let c1_i32_392 : BitVec 32 := 1#32
  let v539 : BitVec 32 := Scalar.muli v537 c1_i32_392
  let v540 : BitVec 32 := Scalar.addi c0_i32_393 v539
  v540.toNat
def k0_dev38 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_397 : BitVec 32 := 7#32
  let v548 : BitVec 32 := Scalar.addi v2 c7_i32_397
  let c32_i32_398 : BitVec 32 := 32#32
  let c0_i32_399 : BitVec 32 := 0#32
  let v549 : BitVec 1 := Scalar.cmpi .eq c32_i32_398 c0_i32_399
  let c1_i32_400 : BitVec 32 := 1#32
  let v550 : BitVec 32 := Scalar.select v549 c1_i32_400 c32_i32_398
  let v551 : BitVec 32 := Scalar.remsi v548 v550
  let c0_i32_402 : BitVec 32 := 0#32
  let v553 : BitVec 1 := Scalar.cmpi .slt v551 c0_i32_402
  let c0_i32_403 : BitVec 32 := 0#32
  let v554 : BitVec 1 := Scalar.cmpi .slt v550 c0_i32_403
  let v555 : BitVec 1 := Scalar.xori v553 v554
  let c0_i32_401 : BitVec 32 := 0#32
  let v552 : BitVec 1 := Scalar.cmpi .ne v551 c0_i32_401
  let v556 : BitVec 1 := Scalar.andi v555 v552
  let v557 : BitVec 32 := Scalar.addi v551 v550
  let v558 : BitVec 32 := Scalar.select v556 v557 v551
  let c1_i32_410 : BitVec 32 := 1#32
  let v560 : BitVec 32 := Scalar.muli v558 c1_i32_410
  let v561 : BitVec 32 := Scalar.addi c0_i32_411 v560
  v561.toNat
def k0_dev39 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_415 : BitVec 32 := 8#32
  let v569 : BitVec 32 := Scalar.addi v2 c8_i32_415
  let c32_i32_416 : BitVec 32 := 32#32
  let c0_i32_417 : BitVec 32 := 0#32
  let v570 : BitVec 1 := Scalar.cmpi .eq c32_i32_416 c0_i32_417
  let c1_i32_418 : BitVec 32 := 1#32
  let v571 : BitVec 32 := Scalar.select v570 c1_i32_418 c32_i32_416
  let v572 : BitVec 32 := Scalar.remsi v569 v571
  let c0_i32_420 : BitVec 32 := 0#32
  let v574 : BitVec 1 := Scalar.cmpi .slt v572 c0_i32_420
  let c0_i32_421 : BitVec 32 := 0#32
  let v575 : BitVec 1 := Scalar.cmpi .slt v571 c0_i32_421
  let v576 : BitVec 1 := Scalar.xori v574 v575
  let c0_i32_419 : BitVec 32 := 0#32
  let v573 : BitVec 1 := Scalar.cmpi .ne v572 c0_i32_419
  let v577 : BitVec 1 := Scalar.andi v576 v573
  let v578 : BitVec 32 := Scalar.addi v572 v571
  let v579 : BitVec 32 := Scalar.select v577 v578 v572
  let c1_i32_428 : BitVec 32 := 1#32
  let v581 : BitVec 32 := Scalar.muli v579 c1_i32_428
  let v582 : BitVec 32 := Scalar.addi c0_i32_429 v581
  v582.toNat
def k0_dev40 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_433 : BitVec 32 := 9#32
  let v590 : BitVec 32 := Scalar.addi v2 c9_i32_433
  let c32_i32_434 : BitVec 32 := 32#32
  let c0_i32_435 : BitVec 32 := 0#32
  let v591 : BitVec 1 := Scalar.cmpi .eq c32_i32_434 c0_i32_435
  let c1_i32_436 : BitVec 32 := 1#32
  let v592 : BitVec 32 := Scalar.select v591 c1_i32_436 c32_i32_434
  let v593 : BitVec 32 := Scalar.remsi v590 v592
  let c0_i32_438 : BitVec 32 := 0#32
  let v595 : BitVec 1 := Scalar.cmpi .slt v593 c0_i32_438
  let c0_i32_439 : BitVec 32 := 0#32
  let v596 : BitVec 1 := Scalar.cmpi .slt v592 c0_i32_439
  let v597 : BitVec 1 := Scalar.xori v595 v596
  let c0_i32_437 : BitVec 32 := 0#32
  let v594 : BitVec 1 := Scalar.cmpi .ne v593 c0_i32_437
  let v598 : BitVec 1 := Scalar.andi v597 v594
  let v599 : BitVec 32 := Scalar.addi v593 v592
  let v600 : BitVec 32 := Scalar.select v598 v599 v593
  let c1_i32_446 : BitVec 32 := 1#32
  let v602 : BitVec 32 := Scalar.muli v600 c1_i32_446
  let v603 : BitVec 32 := Scalar.addi c0_i32_447 v602
  v603.toNat
def k0_dev41 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_451 : BitVec 32 := 10#32
  let v611 : BitVec 32 := Scalar.addi v2 c10_i32_451
  let c32_i32_452 : BitVec 32 := 32#32
  let c0_i32_453 : BitVec 32 := 0#32
  let v612 : BitVec 1 := Scalar.cmpi .eq c32_i32_452 c0_i32_453
  let c1_i32_454 : BitVec 32 := 1#32
  let v613 : BitVec 32 := Scalar.select v612 c1_i32_454 c32_i32_452
  let v614 : BitVec 32 := Scalar.remsi v611 v613
  let c0_i32_456 : BitVec 32 := 0#32
  let v616 : BitVec 1 := Scalar.cmpi .slt v614 c0_i32_456
  let c0_i32_457 : BitVec 32 := 0#32
  let v617 : BitVec 1 := Scalar.cmpi .slt v613 c0_i32_457
  let v618 : BitVec 1 := Scalar.xori v616 v617
  let c0_i32_455 : BitVec 32 := 0#32
  let v615 : BitVec 1 := Scalar.cmpi .ne v614 c0_i32_455
  let v619 : BitVec 1 := Scalar.andi v618 v615
  let v620 : BitVec 32 := Scalar.addi v614 v613
  let v621 : BitVec 32 := Scalar.select v619 v620 v614
  let c1_i32_464 : BitVec 32 := 1#32
  let v623 : BitVec 32 := Scalar.muli v621 c1_i32_464
  let v624 : BitVec 32 := Scalar.addi c0_i32_465 v623
  v624.toNat
def k0_dev42 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_469 : BitVec 32 := 11#32
  let v632 : BitVec 32 := Scalar.addi v2 c11_i32_469
  let c32_i32_470 : BitVec 32 := 32#32
  let c0_i32_471 : BitVec 32 := 0#32
  let v633 : BitVec 1 := Scalar.cmpi .eq c32_i32_470 c0_i32_471
  let c1_i32_472 : BitVec 32 := 1#32
  let v634 : BitVec 32 := Scalar.select v633 c1_i32_472 c32_i32_470
  let v635 : BitVec 32 := Scalar.remsi v632 v634
  let c0_i32_474 : BitVec 32 := 0#32
  let v637 : BitVec 1 := Scalar.cmpi .slt v635 c0_i32_474
  let c0_i32_475 : BitVec 32 := 0#32
  let v638 : BitVec 1 := Scalar.cmpi .slt v634 c0_i32_475
  let v639 : BitVec 1 := Scalar.xori v637 v638
  let c0_i32_473 : BitVec 32 := 0#32
  let v636 : BitVec 1 := Scalar.cmpi .ne v635 c0_i32_473
  let v640 : BitVec 1 := Scalar.andi v639 v636
  let v641 : BitVec 32 := Scalar.addi v635 v634
  let v642 : BitVec 32 := Scalar.select v640 v641 v635
  let c1_i32_482 : BitVec 32 := 1#32
  let v644 : BitVec 32 := Scalar.muli v642 c1_i32_482
  let v645 : BitVec 32 := Scalar.addi c0_i32_483 v644
  v645.toNat
def k0_dev43 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_487 : BitVec 32 := 12#32
  let v653 : BitVec 32 := Scalar.addi v2 c12_i32_487
  let c32_i32_488 : BitVec 32 := 32#32
  let c0_i32_489 : BitVec 32 := 0#32
  let v654 : BitVec 1 := Scalar.cmpi .eq c32_i32_488 c0_i32_489
  let c1_i32_490 : BitVec 32 := 1#32
  let v655 : BitVec 32 := Scalar.select v654 c1_i32_490 c32_i32_488
  let v656 : BitVec 32 := Scalar.remsi v653 v655
  let c0_i32_492 : BitVec 32 := 0#32
  let v658 : BitVec 1 := Scalar.cmpi .slt v656 c0_i32_492
  let c0_i32_493 : BitVec 32 := 0#32
  let v659 : BitVec 1 := Scalar.cmpi .slt v655 c0_i32_493
  let v660 : BitVec 1 := Scalar.xori v658 v659
  let c0_i32_491 : BitVec 32 := 0#32
  let v657 : BitVec 1 := Scalar.cmpi .ne v656 c0_i32_491
  let v661 : BitVec 1 := Scalar.andi v660 v657
  let v662 : BitVec 32 := Scalar.addi v656 v655
  let v663 : BitVec 32 := Scalar.select v661 v662 v656
  let c1_i32_500 : BitVec 32 := 1#32
  let v665 : BitVec 32 := Scalar.muli v663 c1_i32_500
  let v666 : BitVec 32 := Scalar.addi c0_i32_501 v665
  v666.toNat
def k0_dev44 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_505 : BitVec 32 := 13#32
  let v674 : BitVec 32 := Scalar.addi v2 c13_i32_505
  let c32_i32_506 : BitVec 32 := 32#32
  let c0_i32_507 : BitVec 32 := 0#32
  let v675 : BitVec 1 := Scalar.cmpi .eq c32_i32_506 c0_i32_507
  let c1_i32_508 : BitVec 32 := 1#32
  let v676 : BitVec 32 := Scalar.select v675 c1_i32_508 c32_i32_506
  let v677 : BitVec 32 := Scalar.remsi v674 v676
  let c0_i32_510 : BitVec 32 := 0#32
  let v679 : BitVec 1 := Scalar.cmpi .slt v677 c0_i32_510
  let c0_i32_511 : BitVec 32 := 0#32
  let v680 : BitVec 1 := Scalar.cmpi .slt v676 c0_i32_511
  let v681 : BitVec 1 := Scalar.xori v679 v680
  let c0_i32_509 : BitVec 32 := 0#32
  let v678 : BitVec 1 := Scalar.cmpi .ne v677 c0_i32_509
  let v682 : BitVec 1 := Scalar.andi v681 v678
  let v683 : BitVec 32 := Scalar.addi v677 v676
  let v684 : BitVec 32 := Scalar.select v682 v683 v677
  let c1_i32_518 : BitVec 32 := 1#32
  let v686 : BitVec 32 := Scalar.muli v684 c1_i32_518
  let v687 : BitVec 32 := Scalar.addi c0_i32_519 v686
  v687.toNat
def k0_dev45 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_523 : BitVec 32 := 14#32
  let v695 : BitVec 32 := Scalar.addi v2 c14_i32_523
  let c32_i32_524 : BitVec 32 := 32#32
  let c0_i32_525 : BitVec 32 := 0#32
  let v696 : BitVec 1 := Scalar.cmpi .eq c32_i32_524 c0_i32_525
  let c1_i32_526 : BitVec 32 := 1#32
  let v697 : BitVec 32 := Scalar.select v696 c1_i32_526 c32_i32_524
  let v698 : BitVec 32 := Scalar.remsi v695 v697
  let c0_i32_528 : BitVec 32 := 0#32
  let v700 : BitVec 1 := Scalar.cmpi .slt v698 c0_i32_528
  let c0_i32_529 : BitVec 32 := 0#32
  let v701 : BitVec 1 := Scalar.cmpi .slt v697 c0_i32_529
  let v702 : BitVec 1 := Scalar.xori v700 v701
  let c0_i32_527 : BitVec 32 := 0#32
  let v699 : BitVec 1 := Scalar.cmpi .ne v698 c0_i32_527
  let v703 : BitVec 1 := Scalar.andi v702 v699
  let v704 : BitVec 32 := Scalar.addi v698 v697
  let v705 : BitVec 32 := Scalar.select v703 v704 v698
  let c1_i32_536 : BitVec 32 := 1#32
  let v707 : BitVec 32 := Scalar.muli v705 c1_i32_536
  let v708 : BitVec 32 := Scalar.addi c0_i32_537 v707
  v708.toNat
def k0_dev46 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_541 : BitVec 32 := 15#32
  let v716 : BitVec 32 := Scalar.addi v2 c15_i32_541
  let c32_i32_542 : BitVec 32 := 32#32
  let c0_i32_543 : BitVec 32 := 0#32
  let v717 : BitVec 1 := Scalar.cmpi .eq c32_i32_542 c0_i32_543
  let c1_i32_544 : BitVec 32 := 1#32
  let v718 : BitVec 32 := Scalar.select v717 c1_i32_544 c32_i32_542
  let v719 : BitVec 32 := Scalar.remsi v716 v718
  let c0_i32_546 : BitVec 32 := 0#32
  let v721 : BitVec 1 := Scalar.cmpi .slt v719 c0_i32_546
  let c0_i32_547 : BitVec 32 := 0#32
  let v722 : BitVec 1 := Scalar.cmpi .slt v718 c0_i32_547
  let v723 : BitVec 1 := Scalar.xori v721 v722
  let c0_i32_545 : BitVec 32 := 0#32
  let v720 : BitVec 1 := Scalar.cmpi .ne v719 c0_i32_545
  let v724 : BitVec 1 := Scalar.andi v723 v720
  let v725 : BitVec 32 := Scalar.addi v719 v718
  let v726 : BitVec 32 := Scalar.select v724 v725 v719
  let c1_i32_554 : BitVec 32 := 1#32
  let v728 : BitVec 32 := Scalar.muli v726 c1_i32_554
  let v729 : BitVec 32 := Scalar.addi c0_i32_555 v728
  v729.toNat
def k0_dev47 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_559 : BitVec 32 := 16#32
  let v737 : BitVec 32 := Scalar.addi v2 c16_i32_559
  let c32_i32_560 : BitVec 32 := 32#32
  let c0_i32_561 : BitVec 32 := 0#32
  let v738 : BitVec 1 := Scalar.cmpi .eq c32_i32_560 c0_i32_561
  let c1_i32_562 : BitVec 32 := 1#32
  let v739 : BitVec 32 := Scalar.select v738 c1_i32_562 c32_i32_560
  let v740 : BitVec 32 := Scalar.remsi v737 v739
  let c0_i32_564 : BitVec 32 := 0#32
  let v742 : BitVec 1 := Scalar.cmpi .slt v740 c0_i32_564
  let c0_i32_565 : BitVec 32 := 0#32
  let v743 : BitVec 1 := Scalar.cmpi .slt v739 c0_i32_565
  let v744 : BitVec 1 := Scalar.xori v742 v743
  let c0_i32_563 : BitVec 32 := 0#32
  let v741 : BitVec 1 := Scalar.cmpi .ne v740 c0_i32_563
  let v745 : BitVec 1 := Scalar.andi v744 v741
  let v746 : BitVec 32 := Scalar.addi v740 v739
  let v747 : BitVec 32 := Scalar.select v745 v746 v740
  let c1_i32_572 : BitVec 32 := 1#32
  let v749 : BitVec 32 := Scalar.muli v747 c1_i32_572
  let v750 : BitVec 32 := Scalar.addi c0_i32_573 v749
  v750.toNat
def k0_dev48 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_577 : BitVec 32 := 17#32
  let v758 : BitVec 32 := Scalar.addi v2 c17_i32_577
  let c32_i32_578 : BitVec 32 := 32#32
  let c0_i32_579 : BitVec 32 := 0#32
  let v759 : BitVec 1 := Scalar.cmpi .eq c32_i32_578 c0_i32_579
  let c1_i32_580 : BitVec 32 := 1#32
  let v760 : BitVec 32 := Scalar.select v759 c1_i32_580 c32_i32_578
  let v761 : BitVec 32 := Scalar.remsi v758 v760
  let c0_i32_582 : BitVec 32 := 0#32
  let v763 : BitVec 1 := Scalar.cmpi .slt v761 c0_i32_582
  let c0_i32_583 : BitVec 32 := 0#32
  let v764 : BitVec 1 := Scalar.cmpi .slt v760 c0_i32_583
  let v765 : BitVec 1 := Scalar.xori v763 v764
  let c0_i32_581 : BitVec 32 := 0#32
  let v762 : BitVec 1 := Scalar.cmpi .ne v761 c0_i32_581
  let v766 : BitVec 1 := Scalar.andi v765 v762
  let v767 : BitVec 32 := Scalar.addi v761 v760
  let v768 : BitVec 32 := Scalar.select v766 v767 v761
  let c1_i32_590 : BitVec 32 := 1#32
  let v770 : BitVec 32 := Scalar.muli v768 c1_i32_590
  let v771 : BitVec 32 := Scalar.addi c0_i32_591 v770
  v771.toNat
def k0_dev49 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_595 : BitVec 32 := 18#32
  let v779 : BitVec 32 := Scalar.addi v2 c18_i32_595
  let c32_i32_596 : BitVec 32 := 32#32
  let c0_i32_597 : BitVec 32 := 0#32
  let v780 : BitVec 1 := Scalar.cmpi .eq c32_i32_596 c0_i32_597
  let c1_i32_598 : BitVec 32 := 1#32
  let v781 : BitVec 32 := Scalar.select v780 c1_i32_598 c32_i32_596
  let v782 : BitVec 32 := Scalar.remsi v779 v781
  let c0_i32_600 : BitVec 32 := 0#32
  let v784 : BitVec 1 := Scalar.cmpi .slt v782 c0_i32_600
  let c0_i32_601 : BitVec 32 := 0#32
  let v785 : BitVec 1 := Scalar.cmpi .slt v781 c0_i32_601
  let v786 : BitVec 1 := Scalar.xori v784 v785
  let c0_i32_599 : BitVec 32 := 0#32
  let v783 : BitVec 1 := Scalar.cmpi .ne v782 c0_i32_599
  let v787 : BitVec 1 := Scalar.andi v786 v783
  let v788 : BitVec 32 := Scalar.addi v782 v781
  let v789 : BitVec 32 := Scalar.select v787 v788 v782
  let c1_i32_608 : BitVec 32 := 1#32
  let v791 : BitVec 32 := Scalar.muli v789 c1_i32_608
  let v792 : BitVec 32 := Scalar.addi c0_i32_609 v791
  v792.toNat
def k0_dev50 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_613 : BitVec 32 := 19#32
  let v800 : BitVec 32 := Scalar.addi v2 c19_i32_613
  let c32_i32_614 : BitVec 32 := 32#32
  let c0_i32_615 : BitVec 32 := 0#32
  let v801 : BitVec 1 := Scalar.cmpi .eq c32_i32_614 c0_i32_615
  let c1_i32_616 : BitVec 32 := 1#32
  let v802 : BitVec 32 := Scalar.select v801 c1_i32_616 c32_i32_614
  let v803 : BitVec 32 := Scalar.remsi v800 v802
  let c0_i32_618 : BitVec 32 := 0#32
  let v805 : BitVec 1 := Scalar.cmpi .slt v803 c0_i32_618
  let c0_i32_619 : BitVec 32 := 0#32
  let v806 : BitVec 1 := Scalar.cmpi .slt v802 c0_i32_619
  let v807 : BitVec 1 := Scalar.xori v805 v806
  let c0_i32_617 : BitVec 32 := 0#32
  let v804 : BitVec 1 := Scalar.cmpi .ne v803 c0_i32_617
  let v808 : BitVec 1 := Scalar.andi v807 v804
  let v809 : BitVec 32 := Scalar.addi v803 v802
  let v810 : BitVec 32 := Scalar.select v808 v809 v803
  let c1_i32_626 : BitVec 32 := 1#32
  let v812 : BitVec 32 := Scalar.muli v810 c1_i32_626
  let v813 : BitVec 32 := Scalar.addi c0_i32_627 v812
  v813.toNat
def k0_dev51 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_631 : BitVec 32 := 20#32
  let v821 : BitVec 32 := Scalar.addi v2 c20_i32_631
  let c32_i32_632 : BitVec 32 := 32#32
  let c0_i32_633 : BitVec 32 := 0#32
  let v822 : BitVec 1 := Scalar.cmpi .eq c32_i32_632 c0_i32_633
  let c1_i32_634 : BitVec 32 := 1#32
  let v823 : BitVec 32 := Scalar.select v822 c1_i32_634 c32_i32_632
  let v824 : BitVec 32 := Scalar.remsi v821 v823
  let c0_i32_636 : BitVec 32 := 0#32
  let v826 : BitVec 1 := Scalar.cmpi .slt v824 c0_i32_636
  let c0_i32_637 : BitVec 32 := 0#32
  let v827 : BitVec 1 := Scalar.cmpi .slt v823 c0_i32_637
  let v828 : BitVec 1 := Scalar.xori v826 v827
  let c0_i32_635 : BitVec 32 := 0#32
  let v825 : BitVec 1 := Scalar.cmpi .ne v824 c0_i32_635
  let v829 : BitVec 1 := Scalar.andi v828 v825
  let v830 : BitVec 32 := Scalar.addi v824 v823
  let v831 : BitVec 32 := Scalar.select v829 v830 v824
  let c1_i32_644 : BitVec 32 := 1#32
  let v833 : BitVec 32 := Scalar.muli v831 c1_i32_644
  let v834 : BitVec 32 := Scalar.addi c0_i32_645 v833
  v834.toNat
def k0_dev52 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_649 : BitVec 32 := 21#32
  let v842 : BitVec 32 := Scalar.addi v2 c21_i32_649
  let c32_i32_650 : BitVec 32 := 32#32
  let c0_i32_651 : BitVec 32 := 0#32
  let v843 : BitVec 1 := Scalar.cmpi .eq c32_i32_650 c0_i32_651
  let c1_i32_652 : BitVec 32 := 1#32
  let v844 : BitVec 32 := Scalar.select v843 c1_i32_652 c32_i32_650
  let v845 : BitVec 32 := Scalar.remsi v842 v844
  let c0_i32_654 : BitVec 32 := 0#32
  let v847 : BitVec 1 := Scalar.cmpi .slt v845 c0_i32_654
  let c0_i32_655 : BitVec 32 := 0#32
  let v848 : BitVec 1 := Scalar.cmpi .slt v844 c0_i32_655
  let v849 : BitVec 1 := Scalar.xori v847 v848
  let c0_i32_653 : BitVec 32 := 0#32
  let v846 : BitVec 1 := Scalar.cmpi .ne v845 c0_i32_653
  let v850 : BitVec 1 := Scalar.andi v849 v846
  let v851 : BitVec 32 := Scalar.addi v845 v844
  let v852 : BitVec 32 := Scalar.select v850 v851 v845
  let c1_i32_662 : BitVec 32 := 1#32
  let v854 : BitVec 32 := Scalar.muli v852 c1_i32_662
  let v855 : BitVec 32 := Scalar.addi c0_i32_663 v854
  v855.toNat
def k0_dev53 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_667 : BitVec 32 := 22#32
  let v863 : BitVec 32 := Scalar.addi v2 c22_i32_667
  let c32_i32_668 : BitVec 32 := 32#32
  let c0_i32_669 : BitVec 32 := 0#32
  let v864 : BitVec 1 := Scalar.cmpi .eq c32_i32_668 c0_i32_669
  let c1_i32_670 : BitVec 32 := 1#32
  let v865 : BitVec 32 := Scalar.select v864 c1_i32_670 c32_i32_668
  let v866 : BitVec 32 := Scalar.remsi v863 v865
  let c0_i32_672 : BitVec 32 := 0#32
  let v868 : BitVec 1 := Scalar.cmpi .slt v866 c0_i32_672
  let c0_i32_673 : BitVec 32 := 0#32
  let v869 : BitVec 1 := Scalar.cmpi .slt v865 c0_i32_673
  let v870 : BitVec 1 := Scalar.xori v868 v869
  let c0_i32_671 : BitVec 32 := 0#32
  let v867 : BitVec 1 := Scalar.cmpi .ne v866 c0_i32_671
  let v871 : BitVec 1 := Scalar.andi v870 v867
  let v872 : BitVec 32 := Scalar.addi v866 v865
  let v873 : BitVec 32 := Scalar.select v871 v872 v866
  let c1_i32_680 : BitVec 32 := 1#32
  let v875 : BitVec 32 := Scalar.muli v873 c1_i32_680
  let v876 : BitVec 32 := Scalar.addi c0_i32_681 v875
  v876.toNat
def k0_dev54 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_685 : BitVec 32 := 23#32
  let v884 : BitVec 32 := Scalar.addi v2 c23_i32_685
  let c32_i32_686 : BitVec 32 := 32#32
  let c0_i32_687 : BitVec 32 := 0#32
  let v885 : BitVec 1 := Scalar.cmpi .eq c32_i32_686 c0_i32_687
  let c1_i32_688 : BitVec 32 := 1#32
  let v886 : BitVec 32 := Scalar.select v885 c1_i32_688 c32_i32_686
  let v887 : BitVec 32 := Scalar.remsi v884 v886
  let c0_i32_690 : BitVec 32 := 0#32
  let v889 : BitVec 1 := Scalar.cmpi .slt v887 c0_i32_690
  let c0_i32_691 : BitVec 32 := 0#32
  let v890 : BitVec 1 := Scalar.cmpi .slt v886 c0_i32_691
  let v891 : BitVec 1 := Scalar.xori v889 v890
  let c0_i32_689 : BitVec 32 := 0#32
  let v888 : BitVec 1 := Scalar.cmpi .ne v887 c0_i32_689
  let v892 : BitVec 1 := Scalar.andi v891 v888
  let v893 : BitVec 32 := Scalar.addi v887 v886
  let v894 : BitVec 32 := Scalar.select v892 v893 v887
  let c1_i32_698 : BitVec 32 := 1#32
  let v896 : BitVec 32 := Scalar.muli v894 c1_i32_698
  let v897 : BitVec 32 := Scalar.addi c0_i32_699 v896
  v897.toNat
def k0_dev55 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_703 : BitVec 32 := 24#32
  let v905 : BitVec 32 := Scalar.addi v2 c24_i32_703
  let c32_i32_704 : BitVec 32 := 32#32
  let c0_i32_705 : BitVec 32 := 0#32
  let v906 : BitVec 1 := Scalar.cmpi .eq c32_i32_704 c0_i32_705
  let c1_i32_706 : BitVec 32 := 1#32
  let v907 : BitVec 32 := Scalar.select v906 c1_i32_706 c32_i32_704
  let v908 : BitVec 32 := Scalar.remsi v905 v907
  let c0_i32_708 : BitVec 32 := 0#32
  let v910 : BitVec 1 := Scalar.cmpi .slt v908 c0_i32_708
  let c0_i32_709 : BitVec 32 := 0#32
  let v911 : BitVec 1 := Scalar.cmpi .slt v907 c0_i32_709
  let v912 : BitVec 1 := Scalar.xori v910 v911
  let c0_i32_707 : BitVec 32 := 0#32
  let v909 : BitVec 1 := Scalar.cmpi .ne v908 c0_i32_707
  let v913 : BitVec 1 := Scalar.andi v912 v909
  let v914 : BitVec 32 := Scalar.addi v908 v907
  let v915 : BitVec 32 := Scalar.select v913 v914 v908
  let c1_i32_716 : BitVec 32 := 1#32
  let v917 : BitVec 32 := Scalar.muli v915 c1_i32_716
  let v918 : BitVec 32 := Scalar.addi c0_i32_717 v917
  v918.toNat
def k0_dev56 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_721 : BitVec 32 := 25#32
  let v926 : BitVec 32 := Scalar.addi v2 c25_i32_721
  let c32_i32_722 : BitVec 32 := 32#32
  let c0_i32_723 : BitVec 32 := 0#32
  let v927 : BitVec 1 := Scalar.cmpi .eq c32_i32_722 c0_i32_723
  let c1_i32_724 : BitVec 32 := 1#32
  let v928 : BitVec 32 := Scalar.select v927 c1_i32_724 c32_i32_722
  let v929 : BitVec 32 := Scalar.remsi v926 v928
  let c0_i32_726 : BitVec 32 := 0#32
  let v931 : BitVec 1 := Scalar.cmpi .slt v929 c0_i32_726
  let c0_i32_727 : BitVec 32 := 0#32
  let v932 : BitVec 1 := Scalar.cmpi .slt v928 c0_i32_727
  let v933 : BitVec 1 := Scalar.xori v931 v932
  let c0_i32_725 : BitVec 32 := 0#32
  let v930 : BitVec 1 := Scalar.cmpi .ne v929 c0_i32_725
  let v934 : BitVec 1 := Scalar.andi v933 v930
  let v935 : BitVec 32 := Scalar.addi v929 v928
  let v936 : BitVec 32 := Scalar.select v934 v935 v929
  let c1_i32_734 : BitVec 32 := 1#32
  let v938 : BitVec 32 := Scalar.muli v936 c1_i32_734
  let v939 : BitVec 32 := Scalar.addi c0_i32_735 v938
  v939.toNat
def k0_dev57 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_739 : BitVec 32 := 26#32
  let v947 : BitVec 32 := Scalar.addi v2 c26_i32_739
  let c32_i32_740 : BitVec 32 := 32#32
  let c0_i32_741 : BitVec 32 := 0#32
  let v948 : BitVec 1 := Scalar.cmpi .eq c32_i32_740 c0_i32_741
  let c1_i32_742 : BitVec 32 := 1#32
  let v949 : BitVec 32 := Scalar.select v948 c1_i32_742 c32_i32_740
  let v950 : BitVec 32 := Scalar.remsi v947 v949
  let c0_i32_744 : BitVec 32 := 0#32
  let v952 : BitVec 1 := Scalar.cmpi .slt v950 c0_i32_744
  let c0_i32_745 : BitVec 32 := 0#32
  let v953 : BitVec 1 := Scalar.cmpi .slt v949 c0_i32_745
  let v954 : BitVec 1 := Scalar.xori v952 v953
  let c0_i32_743 : BitVec 32 := 0#32
  let v951 : BitVec 1 := Scalar.cmpi .ne v950 c0_i32_743
  let v955 : BitVec 1 := Scalar.andi v954 v951
  let v956 : BitVec 32 := Scalar.addi v950 v949
  let v957 : BitVec 32 := Scalar.select v955 v956 v950
  let c1_i32_752 : BitVec 32 := 1#32
  let v959 : BitVec 32 := Scalar.muli v957 c1_i32_752
  let v960 : BitVec 32 := Scalar.addi c0_i32_753 v959
  v960.toNat
def k0_dev58 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_757 : BitVec 32 := 27#32
  let v968 : BitVec 32 := Scalar.addi v2 c27_i32_757
  let c32_i32_758 : BitVec 32 := 32#32
  let c0_i32_759 : BitVec 32 := 0#32
  let v969 : BitVec 1 := Scalar.cmpi .eq c32_i32_758 c0_i32_759
  let c1_i32_760 : BitVec 32 := 1#32
  let v970 : BitVec 32 := Scalar.select v969 c1_i32_760 c32_i32_758
  let v971 : BitVec 32 := Scalar.remsi v968 v970
  let c0_i32_762 : BitVec 32 := 0#32
  let v973 : BitVec 1 := Scalar.cmpi .slt v971 c0_i32_762
  let c0_i32_763 : BitVec 32 := 0#32
  let v974 : BitVec 1 := Scalar.cmpi .slt v970 c0_i32_763
  let v975 : BitVec 1 := Scalar.xori v973 v974
  let c0_i32_761 : BitVec 32 := 0#32
  let v972 : BitVec 1 := Scalar.cmpi .ne v971 c0_i32_761
  let v976 : BitVec 1 := Scalar.andi v975 v972
  let v977 : BitVec 32 := Scalar.addi v971 v970
  let v978 : BitVec 32 := Scalar.select v976 v977 v971
  let c1_i32_770 : BitVec 32 := 1#32
  let v980 : BitVec 32 := Scalar.muli v978 c1_i32_770
  let v981 : BitVec 32 := Scalar.addi c0_i32_771 v980
  v981.toNat
def k0_dev59 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_775 : BitVec 32 := 28#32
  let v989 : BitVec 32 := Scalar.addi v2 c28_i32_775
  let c32_i32_776 : BitVec 32 := 32#32
  let c0_i32_777 : BitVec 32 := 0#32
  let v990 : BitVec 1 := Scalar.cmpi .eq c32_i32_776 c0_i32_777
  let c1_i32_778 : BitVec 32 := 1#32
  let v991 : BitVec 32 := Scalar.select v990 c1_i32_778 c32_i32_776
  let v992 : BitVec 32 := Scalar.remsi v989 v991
  let c0_i32_780 : BitVec 32 := 0#32
  let v994 : BitVec 1 := Scalar.cmpi .slt v992 c0_i32_780
  let c0_i32_781 : BitVec 32 := 0#32
  let v995 : BitVec 1 := Scalar.cmpi .slt v991 c0_i32_781
  let v996 : BitVec 1 := Scalar.xori v994 v995
  let c0_i32_779 : BitVec 32 := 0#32
  let v993 : BitVec 1 := Scalar.cmpi .ne v992 c0_i32_779
  let v997 : BitVec 1 := Scalar.andi v996 v993
  let v998 : BitVec 32 := Scalar.addi v992 v991
  let v999 : BitVec 32 := Scalar.select v997 v998 v992
  let c1_i32_788 : BitVec 32 := 1#32
  let v1001 : BitVec 32 := Scalar.muli v999 c1_i32_788
  let v1002 : BitVec 32 := Scalar.addi c0_i32_789 v1001
  v1002.toNat
def k0_dev60 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_793 : BitVec 32 := 29#32
  let v1010 : BitVec 32 := Scalar.addi v2 c29_i32_793
  let c32_i32_794 : BitVec 32 := 32#32
  let c0_i32_795 : BitVec 32 := 0#32
  let v1011 : BitVec 1 := Scalar.cmpi .eq c32_i32_794 c0_i32_795
  let c1_i32_796 : BitVec 32 := 1#32
  let v1012 : BitVec 32 := Scalar.select v1011 c1_i32_796 c32_i32_794
  let v1013 : BitVec 32 := Scalar.remsi v1010 v1012
  let c0_i32_798 : BitVec 32 := 0#32
  let v1015 : BitVec 1 := Scalar.cmpi .slt v1013 c0_i32_798
  let c0_i32_799 : BitVec 32 := 0#32
  let v1016 : BitVec 1 := Scalar.cmpi .slt v1012 c0_i32_799
  let v1017 : BitVec 1 := Scalar.xori v1015 v1016
  let c0_i32_797 : BitVec 32 := 0#32
  let v1014 : BitVec 1 := Scalar.cmpi .ne v1013 c0_i32_797
  let v1018 : BitVec 1 := Scalar.andi v1017 v1014
  let v1019 : BitVec 32 := Scalar.addi v1013 v1012
  let v1020 : BitVec 32 := Scalar.select v1018 v1019 v1013
  let c1_i32_806 : BitVec 32 := 1#32
  let v1022 : BitVec 32 := Scalar.muli v1020 c1_i32_806
  let v1023 : BitVec 32 := Scalar.addi c0_i32_807 v1022
  v1023.toNat
def k0_dev61 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_811 : BitVec 32 := 30#32
  let v1031 : BitVec 32 := Scalar.addi v2 c30_i32_811
  let c32_i32_812 : BitVec 32 := 32#32
  let c0_i32_813 : BitVec 32 := 0#32
  let v1032 : BitVec 1 := Scalar.cmpi .eq c32_i32_812 c0_i32_813
  let c1_i32_814 : BitVec 32 := 1#32
  let v1033 : BitVec 32 := Scalar.select v1032 c1_i32_814 c32_i32_812
  let v1034 : BitVec 32 := Scalar.remsi v1031 v1033
  let c0_i32_816 : BitVec 32 := 0#32
  let v1036 : BitVec 1 := Scalar.cmpi .slt v1034 c0_i32_816
  let c0_i32_817 : BitVec 32 := 0#32
  let v1037 : BitVec 1 := Scalar.cmpi .slt v1033 c0_i32_817
  let v1038 : BitVec 1 := Scalar.xori v1036 v1037
  let c0_i32_815 : BitVec 32 := 0#32
  let v1035 : BitVec 1 := Scalar.cmpi .ne v1034 c0_i32_815
  let v1039 : BitVec 1 := Scalar.andi v1038 v1035
  let v1040 : BitVec 32 := Scalar.addi v1034 v1033
  let v1041 : BitVec 32 := Scalar.select v1039 v1040 v1034
  let c1_i32_824 : BitVec 32 := 1#32
  let v1043 : BitVec 32 := Scalar.muli v1041 c1_i32_824
  let v1044 : BitVec 32 := Scalar.addi c0_i32_825 v1043
  v1044.toNat
def k0_dev62 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_829 : BitVec 32 := 31#32
  let v1052 : BitVec 32 := Scalar.addi v2 c31_i32_829
  let c32_i32_830 : BitVec 32 := 32#32
  let c0_i32_831 : BitVec 32 := 0#32
  let v1053 : BitVec 1 := Scalar.cmpi .eq c32_i32_830 c0_i32_831
  let c1_i32_832 : BitVec 32 := 1#32
  let v1054 : BitVec 32 := Scalar.select v1053 c1_i32_832 c32_i32_830
  let v1055 : BitVec 32 := Scalar.remsi v1052 v1054
  let c0_i32_834 : BitVec 32 := 0#32
  let v1057 : BitVec 1 := Scalar.cmpi .slt v1055 c0_i32_834
  let c0_i32_835 : BitVec 32 := 0#32
  let v1058 : BitVec 1 := Scalar.cmpi .slt v1054 c0_i32_835
  let v1059 : BitVec 1 := Scalar.xori v1057 v1058
  let c0_i32_833 : BitVec 32 := 0#32
  let v1056 : BitVec 1 := Scalar.cmpi .ne v1055 c0_i32_833
  let v1060 : BitVec 1 := Scalar.andi v1059 v1056
  let v1061 : BitVec 32 := Scalar.addi v1055 v1054
  let v1062 : BitVec 32 := Scalar.select v1060 v1061 v1055
  let c1_i32_842 : BitVec 32 := 1#32
  let v1064 : BitVec 32 := Scalar.muli v1062 c1_i32_842
  let v1065 : BitVec 32 := Scalar.addi c0_i32_843 v1064
  v1065.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_847 : BitVec 32 := 16#32
  let v1073 : BitVec 32 := Scalar.muli v2 c16_i32_847
  let v1074 : Index := Scalar.indexCast v1073
  let c0_848 : Index := 0#32
  ![v1074.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1581 : BitVec 32 := 16#32
  let v1501 : BitVec 32 := Scalar.muli v2 c16_i32_1581
  let c0_i32_1591 : BitVec 32 := 0#32
  ![v1501.toNat, 0]
def k0_off4 (d0 : Dev nD) : Fin 3 → Nat :=
  let c0_i32_1583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1581 : BitVec 32 := 16#32
  let v1501 : BitVec 32 := Scalar.muli v2 c16_i32_1581
  let c0_i32_1590 : BitVec 32 := 0#32
  ![0, v1501.toNat, 0]
def k0_dev63 (d0 : Dev nD) : Nat :=
  let c0_i32_1588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1574 : BitVec 32 := 1#32
  let v1490 : BitVec 32 := Scalar.addi v2 c1_i32_1574
  let c32_i32_1575 : BitVec 32 := 32#32
  let c0_i32_1576 : BitVec 32 := 0#32
  let v1491 : BitVec 1 := Scalar.cmpi .eq c32_i32_1575 c0_i32_1576
  let c1_i32_1577 : BitVec 32 := 1#32
  let v1492 : BitVec 32 := Scalar.select v1491 c1_i32_1577 c32_i32_1575
  let v1493 : BitVec 32 := Scalar.remsi v1490 v1492
  let c0_i32_1579 : BitVec 32 := 0#32
  let v1495 : BitVec 1 := Scalar.cmpi .slt v1493 c0_i32_1579
  let c0_i32_1580 : BitVec 32 := 0#32
  let v1496 : BitVec 1 := Scalar.cmpi .slt v1492 c0_i32_1580
  let v1497 : BitVec 1 := Scalar.xori v1495 v1496
  let c0_i32_1578 : BitVec 32 := 0#32
  let v1494 : BitVec 1 := Scalar.cmpi .ne v1493 c0_i32_1578
  let v1498 : BitVec 1 := Scalar.andi v1497 v1494
  let v1499 : BitVec 32 := Scalar.addi v1493 v1492
  let v1500 : BitVec 32 := Scalar.select v1498 v1499 v1493
  let c1_i32_1587 : BitVec 32 := 1#32
  let v1502 : BitVec 32 := Scalar.muli v1500 c1_i32_1587
  let v1503 : BitVec 32 := Scalar.addi c0_i32_1588 v1502
  v1503.toNat
def k0_dev64 (d0 : Dev nD) : Nat :=
  let c0_i32_1608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1594 : BitVec 32 := 2#32
  let v1513 : BitVec 32 := Scalar.addi v2 c2_i32_1594
  let c32_i32_1595 : BitVec 32 := 32#32
  let c0_i32_1596 : BitVec 32 := 0#32
  let v1514 : BitVec 1 := Scalar.cmpi .eq c32_i32_1595 c0_i32_1596
  let c1_i32_1597 : BitVec 32 := 1#32
  let v1515 : BitVec 32 := Scalar.select v1514 c1_i32_1597 c32_i32_1595
  let v1516 : BitVec 32 := Scalar.remsi v1513 v1515
  let c0_i32_1599 : BitVec 32 := 0#32
  let v1518 : BitVec 1 := Scalar.cmpi .slt v1516 c0_i32_1599
  let c0_i32_1600 : BitVec 32 := 0#32
  let v1519 : BitVec 1 := Scalar.cmpi .slt v1515 c0_i32_1600
  let v1520 : BitVec 1 := Scalar.xori v1518 v1519
  let c0_i32_1598 : BitVec 32 := 0#32
  let v1517 : BitVec 1 := Scalar.cmpi .ne v1516 c0_i32_1598
  let v1521 : BitVec 1 := Scalar.andi v1520 v1517
  let v1522 : BitVec 32 := Scalar.addi v1516 v1515
  let v1523 : BitVec 32 := Scalar.select v1521 v1522 v1516
  let c1_i32_1607 : BitVec 32 := 1#32
  let v1525 : BitVec 32 := Scalar.muli v1523 c1_i32_1607
  let v1526 : BitVec 32 := Scalar.addi c0_i32_1608 v1525
  v1526.toNat
def k0_dev65 (d0 : Dev nD) : Nat :=
  let c0_i32_1628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1614 : BitVec 32 := 3#32
  let v1536 : BitVec 32 := Scalar.addi v2 c3_i32_1614
  let c32_i32_1615 : BitVec 32 := 32#32
  let c0_i32_1616 : BitVec 32 := 0#32
  let v1537 : BitVec 1 := Scalar.cmpi .eq c32_i32_1615 c0_i32_1616
  let c1_i32_1617 : BitVec 32 := 1#32
  let v1538 : BitVec 32 := Scalar.select v1537 c1_i32_1617 c32_i32_1615
  let v1539 : BitVec 32 := Scalar.remsi v1536 v1538
  let c0_i32_1619 : BitVec 32 := 0#32
  let v1541 : BitVec 1 := Scalar.cmpi .slt v1539 c0_i32_1619
  let c0_i32_1620 : BitVec 32 := 0#32
  let v1542 : BitVec 1 := Scalar.cmpi .slt v1538 c0_i32_1620
  let v1543 : BitVec 1 := Scalar.xori v1541 v1542
  let c0_i32_1618 : BitVec 32 := 0#32
  let v1540 : BitVec 1 := Scalar.cmpi .ne v1539 c0_i32_1618
  let v1544 : BitVec 1 := Scalar.andi v1543 v1540
  let v1545 : BitVec 32 := Scalar.addi v1539 v1538
  let v1546 : BitVec 32 := Scalar.select v1544 v1545 v1539
  let c1_i32_1627 : BitVec 32 := 1#32
  let v1548 : BitVec 32 := Scalar.muli v1546 c1_i32_1627
  let v1549 : BitVec 32 := Scalar.addi c0_i32_1628 v1548
  v1549.toNat
def k0_dev66 (d0 : Dev nD) : Nat :=
  let c0_i32_1648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1634 : BitVec 32 := 4#32
  let v1559 : BitVec 32 := Scalar.addi v2 c4_i32_1634
  let c32_i32_1635 : BitVec 32 := 32#32
  let c0_i32_1636 : BitVec 32 := 0#32
  let v1560 : BitVec 1 := Scalar.cmpi .eq c32_i32_1635 c0_i32_1636
  let c1_i32_1637 : BitVec 32 := 1#32
  let v1561 : BitVec 32 := Scalar.select v1560 c1_i32_1637 c32_i32_1635
  let v1562 : BitVec 32 := Scalar.remsi v1559 v1561
  let c0_i32_1639 : BitVec 32 := 0#32
  let v1564 : BitVec 1 := Scalar.cmpi .slt v1562 c0_i32_1639
  let c0_i32_1640 : BitVec 32 := 0#32
  let v1565 : BitVec 1 := Scalar.cmpi .slt v1561 c0_i32_1640
  let v1566 : BitVec 1 := Scalar.xori v1564 v1565
  let c0_i32_1638 : BitVec 32 := 0#32
  let v1563 : BitVec 1 := Scalar.cmpi .ne v1562 c0_i32_1638
  let v1567 : BitVec 1 := Scalar.andi v1566 v1563
  let v1568 : BitVec 32 := Scalar.addi v1562 v1561
  let v1569 : BitVec 32 := Scalar.select v1567 v1568 v1562
  let c1_i32_1647 : BitVec 32 := 1#32
  let v1571 : BitVec 32 := Scalar.muli v1569 c1_i32_1647
  let v1572 : BitVec 32 := Scalar.addi c0_i32_1648 v1571
  v1572.toNat
def k0_dev67 (d0 : Dev nD) : Nat :=
  let c0_i32_1668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1654 : BitVec 32 := 5#32
  let v1582 : BitVec 32 := Scalar.addi v2 c5_i32_1654
  let c32_i32_1655 : BitVec 32 := 32#32
  let c0_i32_1656 : BitVec 32 := 0#32
  let v1583 : BitVec 1 := Scalar.cmpi .eq c32_i32_1655 c0_i32_1656
  let c1_i32_1657 : BitVec 32 := 1#32
  let v1584 : BitVec 32 := Scalar.select v1583 c1_i32_1657 c32_i32_1655
  let v1585 : BitVec 32 := Scalar.remsi v1582 v1584
  let c0_i32_1659 : BitVec 32 := 0#32
  let v1587 : BitVec 1 := Scalar.cmpi .slt v1585 c0_i32_1659
  let c0_i32_1660 : BitVec 32 := 0#32
  let v1588 : BitVec 1 := Scalar.cmpi .slt v1584 c0_i32_1660
  let v1589 : BitVec 1 := Scalar.xori v1587 v1588
  let c0_i32_1658 : BitVec 32 := 0#32
  let v1586 : BitVec 1 := Scalar.cmpi .ne v1585 c0_i32_1658
  let v1590 : BitVec 1 := Scalar.andi v1589 v1586
  let v1591 : BitVec 32 := Scalar.addi v1585 v1584
  let v1592 : BitVec 32 := Scalar.select v1590 v1591 v1585
  let c1_i32_1667 : BitVec 32 := 1#32
  let v1594 : BitVec 32 := Scalar.muli v1592 c1_i32_1667
  let v1595 : BitVec 32 := Scalar.addi c0_i32_1668 v1594
  v1595.toNat
def k0_dev68 (d0 : Dev nD) : Nat :=
  let c0_i32_1688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1674 : BitVec 32 := 6#32
  let v1605 : BitVec 32 := Scalar.addi v2 c6_i32_1674
  let c32_i32_1675 : BitVec 32 := 32#32
  let c0_i32_1676 : BitVec 32 := 0#32
  let v1606 : BitVec 1 := Scalar.cmpi .eq c32_i32_1675 c0_i32_1676
  let c1_i32_1677 : BitVec 32 := 1#32
  let v1607 : BitVec 32 := Scalar.select v1606 c1_i32_1677 c32_i32_1675
  let v1608 : BitVec 32 := Scalar.remsi v1605 v1607
  let c0_i32_1679 : BitVec 32 := 0#32
  let v1610 : BitVec 1 := Scalar.cmpi .slt v1608 c0_i32_1679
  let c0_i32_1680 : BitVec 32 := 0#32
  let v1611 : BitVec 1 := Scalar.cmpi .slt v1607 c0_i32_1680
  let v1612 : BitVec 1 := Scalar.xori v1610 v1611
  let c0_i32_1678 : BitVec 32 := 0#32
  let v1609 : BitVec 1 := Scalar.cmpi .ne v1608 c0_i32_1678
  let v1613 : BitVec 1 := Scalar.andi v1612 v1609
  let v1614 : BitVec 32 := Scalar.addi v1608 v1607
  let v1615 : BitVec 32 := Scalar.select v1613 v1614 v1608
  let c1_i32_1687 : BitVec 32 := 1#32
  let v1617 : BitVec 32 := Scalar.muli v1615 c1_i32_1687
  let v1618 : BitVec 32 := Scalar.addi c0_i32_1688 v1617
  v1618.toNat
def k0_dev69 (d0 : Dev nD) : Nat :=
  let c0_i32_1708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1694 : BitVec 32 := 7#32
  let v1628 : BitVec 32 := Scalar.addi v2 c7_i32_1694
  let c32_i32_1695 : BitVec 32 := 32#32
  let c0_i32_1696 : BitVec 32 := 0#32
  let v1629 : BitVec 1 := Scalar.cmpi .eq c32_i32_1695 c0_i32_1696
  let c1_i32_1697 : BitVec 32 := 1#32
  let v1630 : BitVec 32 := Scalar.select v1629 c1_i32_1697 c32_i32_1695
  let v1631 : BitVec 32 := Scalar.remsi v1628 v1630
  let c0_i32_1699 : BitVec 32 := 0#32
  let v1633 : BitVec 1 := Scalar.cmpi .slt v1631 c0_i32_1699
  let c0_i32_1700 : BitVec 32 := 0#32
  let v1634 : BitVec 1 := Scalar.cmpi .slt v1630 c0_i32_1700
  let v1635 : BitVec 1 := Scalar.xori v1633 v1634
  let c0_i32_1698 : BitVec 32 := 0#32
  let v1632 : BitVec 1 := Scalar.cmpi .ne v1631 c0_i32_1698
  let v1636 : BitVec 1 := Scalar.andi v1635 v1632
  let v1637 : BitVec 32 := Scalar.addi v1631 v1630
  let v1638 : BitVec 32 := Scalar.select v1636 v1637 v1631
  let c1_i32_1707 : BitVec 32 := 1#32
  let v1640 : BitVec 32 := Scalar.muli v1638 c1_i32_1707
  let v1641 : BitVec 32 := Scalar.addi c0_i32_1708 v1640
  v1641.toNat
def k0_dev70 (d0 : Dev nD) : Nat :=
  let c0_i32_1728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1714 : BitVec 32 := 8#32
  let v1651 : BitVec 32 := Scalar.addi v2 c8_i32_1714
  let c32_i32_1715 : BitVec 32 := 32#32
  let c0_i32_1716 : BitVec 32 := 0#32
  let v1652 : BitVec 1 := Scalar.cmpi .eq c32_i32_1715 c0_i32_1716
  let c1_i32_1717 : BitVec 32 := 1#32
  let v1653 : BitVec 32 := Scalar.select v1652 c1_i32_1717 c32_i32_1715
  let v1654 : BitVec 32 := Scalar.remsi v1651 v1653
  let c0_i32_1719 : BitVec 32 := 0#32
  let v1656 : BitVec 1 := Scalar.cmpi .slt v1654 c0_i32_1719
  let c0_i32_1720 : BitVec 32 := 0#32
  let v1657 : BitVec 1 := Scalar.cmpi .slt v1653 c0_i32_1720
  let v1658 : BitVec 1 := Scalar.xori v1656 v1657
  let c0_i32_1718 : BitVec 32 := 0#32
  let v1655 : BitVec 1 := Scalar.cmpi .ne v1654 c0_i32_1718
  let v1659 : BitVec 1 := Scalar.andi v1658 v1655
  let v1660 : BitVec 32 := Scalar.addi v1654 v1653
  let v1661 : BitVec 32 := Scalar.select v1659 v1660 v1654
  let c1_i32_1727 : BitVec 32 := 1#32
  let v1663 : BitVec 32 := Scalar.muli v1661 c1_i32_1727
  let v1664 : BitVec 32 := Scalar.addi c0_i32_1728 v1663
  v1664.toNat
def k0_dev71 (d0 : Dev nD) : Nat :=
  let c0_i32_1748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1734 : BitVec 32 := 9#32
  let v1674 : BitVec 32 := Scalar.addi v2 c9_i32_1734
  let c32_i32_1735 : BitVec 32 := 32#32
  let c0_i32_1736 : BitVec 32 := 0#32
  let v1675 : BitVec 1 := Scalar.cmpi .eq c32_i32_1735 c0_i32_1736
  let c1_i32_1737 : BitVec 32 := 1#32
  let v1676 : BitVec 32 := Scalar.select v1675 c1_i32_1737 c32_i32_1735
  let v1677 : BitVec 32 := Scalar.remsi v1674 v1676
  let c0_i32_1739 : BitVec 32 := 0#32
  let v1679 : BitVec 1 := Scalar.cmpi .slt v1677 c0_i32_1739
  let c0_i32_1740 : BitVec 32 := 0#32
  let v1680 : BitVec 1 := Scalar.cmpi .slt v1676 c0_i32_1740
  let v1681 : BitVec 1 := Scalar.xori v1679 v1680
  let c0_i32_1738 : BitVec 32 := 0#32
  let v1678 : BitVec 1 := Scalar.cmpi .ne v1677 c0_i32_1738
  let v1682 : BitVec 1 := Scalar.andi v1681 v1678
  let v1683 : BitVec 32 := Scalar.addi v1677 v1676
  let v1684 : BitVec 32 := Scalar.select v1682 v1683 v1677
  let c1_i32_1747 : BitVec 32 := 1#32
  let v1686 : BitVec 32 := Scalar.muli v1684 c1_i32_1747
  let v1687 : BitVec 32 := Scalar.addi c0_i32_1748 v1686
  v1687.toNat
def k0_dev72 (d0 : Dev nD) : Nat :=
  let c0_i32_1768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1754 : BitVec 32 := 10#32
  let v1697 : BitVec 32 := Scalar.addi v2 c10_i32_1754
  let c32_i32_1755 : BitVec 32 := 32#32
  let c0_i32_1756 : BitVec 32 := 0#32
  let v1698 : BitVec 1 := Scalar.cmpi .eq c32_i32_1755 c0_i32_1756
  let c1_i32_1757 : BitVec 32 := 1#32
  let v1699 : BitVec 32 := Scalar.select v1698 c1_i32_1757 c32_i32_1755
  let v1700 : BitVec 32 := Scalar.remsi v1697 v1699
  let c0_i32_1759 : BitVec 32 := 0#32
  let v1702 : BitVec 1 := Scalar.cmpi .slt v1700 c0_i32_1759
  let c0_i32_1760 : BitVec 32 := 0#32
  let v1703 : BitVec 1 := Scalar.cmpi .slt v1699 c0_i32_1760
  let v1704 : BitVec 1 := Scalar.xori v1702 v1703
  let c0_i32_1758 : BitVec 32 := 0#32
  let v1701 : BitVec 1 := Scalar.cmpi .ne v1700 c0_i32_1758
  let v1705 : BitVec 1 := Scalar.andi v1704 v1701
  let v1706 : BitVec 32 := Scalar.addi v1700 v1699
  let v1707 : BitVec 32 := Scalar.select v1705 v1706 v1700
  let c1_i32_1767 : BitVec 32 := 1#32
  let v1709 : BitVec 32 := Scalar.muli v1707 c1_i32_1767
  let v1710 : BitVec 32 := Scalar.addi c0_i32_1768 v1709
  v1710.toNat
def k0_dev73 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1774 : BitVec 32 := 11#32
  let v1720 : BitVec 32 := Scalar.addi v2 c11_i32_1774
  let c32_i32_1775 : BitVec 32 := 32#32
  let c0_i32_1776 : BitVec 32 := 0#32
  let v1721 : BitVec 1 := Scalar.cmpi .eq c32_i32_1775 c0_i32_1776
  let c1_i32_1777 : BitVec 32 := 1#32
  let v1722 : BitVec 32 := Scalar.select v1721 c1_i32_1777 c32_i32_1775
  let v1723 : BitVec 32 := Scalar.remsi v1720 v1722
  let c0_i32_1779 : BitVec 32 := 0#32
  let v1725 : BitVec 1 := Scalar.cmpi .slt v1723 c0_i32_1779
  let c0_i32_1780 : BitVec 32 := 0#32
  let v1726 : BitVec 1 := Scalar.cmpi .slt v1722 c0_i32_1780
  let v1727 : BitVec 1 := Scalar.xori v1725 v1726
  let c0_i32_1778 : BitVec 32 := 0#32
  let v1724 : BitVec 1 := Scalar.cmpi .ne v1723 c0_i32_1778
  let v1728 : BitVec 1 := Scalar.andi v1727 v1724
  let v1729 : BitVec 32 := Scalar.addi v1723 v1722
  let v1730 : BitVec 32 := Scalar.select v1728 v1729 v1723
  let c1_i32_1787 : BitVec 32 := 1#32
  let v1732 : BitVec 32 := Scalar.muli v1730 c1_i32_1787
  let v1733 : BitVec 32 := Scalar.addi c0_i32_1788 v1732
  v1733.toNat
def k0_dev74 (d0 : Dev nD) : Nat :=
  let c0_i32_1808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1794 : BitVec 32 := 12#32
  let v1743 : BitVec 32 := Scalar.addi v2 c12_i32_1794
  let c32_i32_1795 : BitVec 32 := 32#32
  let c0_i32_1796 : BitVec 32 := 0#32
  let v1744 : BitVec 1 := Scalar.cmpi .eq c32_i32_1795 c0_i32_1796
  let c1_i32_1797 : BitVec 32 := 1#32
  let v1745 : BitVec 32 := Scalar.select v1744 c1_i32_1797 c32_i32_1795
  let v1746 : BitVec 32 := Scalar.remsi v1743 v1745
  let c0_i32_1799 : BitVec 32 := 0#32
  let v1748 : BitVec 1 := Scalar.cmpi .slt v1746 c0_i32_1799
  let c0_i32_1800 : BitVec 32 := 0#32
  let v1749 : BitVec 1 := Scalar.cmpi .slt v1745 c0_i32_1800
  let v1750 : BitVec 1 := Scalar.xori v1748 v1749
  let c0_i32_1798 : BitVec 32 := 0#32
  let v1747 : BitVec 1 := Scalar.cmpi .ne v1746 c0_i32_1798
  let v1751 : BitVec 1 := Scalar.andi v1750 v1747
  let v1752 : BitVec 32 := Scalar.addi v1746 v1745
  let v1753 : BitVec 32 := Scalar.select v1751 v1752 v1746
  let c1_i32_1807 : BitVec 32 := 1#32
  let v1755 : BitVec 32 := Scalar.muli v1753 c1_i32_1807
  let v1756 : BitVec 32 := Scalar.addi c0_i32_1808 v1755
  v1756.toNat
def k0_dev75 (d0 : Dev nD) : Nat :=
  let c0_i32_1828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1814 : BitVec 32 := 13#32
  let v1766 : BitVec 32 := Scalar.addi v2 c13_i32_1814
  let c32_i32_1815 : BitVec 32 := 32#32
  let c0_i32_1816 : BitVec 32 := 0#32
  let v1767 : BitVec 1 := Scalar.cmpi .eq c32_i32_1815 c0_i32_1816
  let c1_i32_1817 : BitVec 32 := 1#32
  let v1768 : BitVec 32 := Scalar.select v1767 c1_i32_1817 c32_i32_1815
  let v1769 : BitVec 32 := Scalar.remsi v1766 v1768
  let c0_i32_1819 : BitVec 32 := 0#32
  let v1771 : BitVec 1 := Scalar.cmpi .slt v1769 c0_i32_1819
  let c0_i32_1820 : BitVec 32 := 0#32
  let v1772 : BitVec 1 := Scalar.cmpi .slt v1768 c0_i32_1820
  let v1773 : BitVec 1 := Scalar.xori v1771 v1772
  let c0_i32_1818 : BitVec 32 := 0#32
  let v1770 : BitVec 1 := Scalar.cmpi .ne v1769 c0_i32_1818
  let v1774 : BitVec 1 := Scalar.andi v1773 v1770
  let v1775 : BitVec 32 := Scalar.addi v1769 v1768
  let v1776 : BitVec 32 := Scalar.select v1774 v1775 v1769
  let c1_i32_1827 : BitVec 32 := 1#32
  let v1778 : BitVec 32 := Scalar.muli v1776 c1_i32_1827
  let v1779 : BitVec 32 := Scalar.addi c0_i32_1828 v1778
  v1779.toNat
def k0_dev76 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1834 : BitVec 32 := 14#32
  let v1789 : BitVec 32 := Scalar.addi v2 c14_i32_1834
  let c32_i32_1835 : BitVec 32 := 32#32
  let c0_i32_1836 : BitVec 32 := 0#32
  let v1790 : BitVec 1 := Scalar.cmpi .eq c32_i32_1835 c0_i32_1836
  let c1_i32_1837 : BitVec 32 := 1#32
  let v1791 : BitVec 32 := Scalar.select v1790 c1_i32_1837 c32_i32_1835
  let v1792 : BitVec 32 := Scalar.remsi v1789 v1791
  let c0_i32_1839 : BitVec 32 := 0#32
  let v1794 : BitVec 1 := Scalar.cmpi .slt v1792 c0_i32_1839
  let c0_i32_1840 : BitVec 32 := 0#32
  let v1795 : BitVec 1 := Scalar.cmpi .slt v1791 c0_i32_1840
  let v1796 : BitVec 1 := Scalar.xori v1794 v1795
  let c0_i32_1838 : BitVec 32 := 0#32
  let v1793 : BitVec 1 := Scalar.cmpi .ne v1792 c0_i32_1838
  let v1797 : BitVec 1 := Scalar.andi v1796 v1793
  let v1798 : BitVec 32 := Scalar.addi v1792 v1791
  let v1799 : BitVec 32 := Scalar.select v1797 v1798 v1792
  let c1_i32_1847 : BitVec 32 := 1#32
  let v1801 : BitVec 32 := Scalar.muli v1799 c1_i32_1847
  let v1802 : BitVec 32 := Scalar.addi c0_i32_1848 v1801
  v1802.toNat
def k0_dev77 (d0 : Dev nD) : Nat :=
  let c0_i32_1868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1854 : BitVec 32 := 15#32
  let v1812 : BitVec 32 := Scalar.addi v2 c15_i32_1854
  let c32_i32_1855 : BitVec 32 := 32#32
  let c0_i32_1856 : BitVec 32 := 0#32
  let v1813 : BitVec 1 := Scalar.cmpi .eq c32_i32_1855 c0_i32_1856
  let c1_i32_1857 : BitVec 32 := 1#32
  let v1814 : BitVec 32 := Scalar.select v1813 c1_i32_1857 c32_i32_1855
  let v1815 : BitVec 32 := Scalar.remsi v1812 v1814
  let c0_i32_1859 : BitVec 32 := 0#32
  let v1817 : BitVec 1 := Scalar.cmpi .slt v1815 c0_i32_1859
  let c0_i32_1860 : BitVec 32 := 0#32
  let v1818 : BitVec 1 := Scalar.cmpi .slt v1814 c0_i32_1860
  let v1819 : BitVec 1 := Scalar.xori v1817 v1818
  let c0_i32_1858 : BitVec 32 := 0#32
  let v1816 : BitVec 1 := Scalar.cmpi .ne v1815 c0_i32_1858
  let v1820 : BitVec 1 := Scalar.andi v1819 v1816
  let v1821 : BitVec 32 := Scalar.addi v1815 v1814
  let v1822 : BitVec 32 := Scalar.select v1820 v1821 v1815
  let c1_i32_1867 : BitVec 32 := 1#32
  let v1824 : BitVec 32 := Scalar.muli v1822 c1_i32_1867
  let v1825 : BitVec 32 := Scalar.addi c0_i32_1868 v1824
  v1825.toNat
def k0_dev78 (d0 : Dev nD) : Nat :=
  let c0_i32_1888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1874 : BitVec 32 := 16#32
  let v1835 : BitVec 32 := Scalar.addi v2 c16_i32_1874
  let c32_i32_1875 : BitVec 32 := 32#32
  let c0_i32_1876 : BitVec 32 := 0#32
  let v1836 : BitVec 1 := Scalar.cmpi .eq c32_i32_1875 c0_i32_1876
  let c1_i32_1877 : BitVec 32 := 1#32
  let v1837 : BitVec 32 := Scalar.select v1836 c1_i32_1877 c32_i32_1875
  let v1838 : BitVec 32 := Scalar.remsi v1835 v1837
  let c0_i32_1879 : BitVec 32 := 0#32
  let v1840 : BitVec 1 := Scalar.cmpi .slt v1838 c0_i32_1879
  let c0_i32_1880 : BitVec 32 := 0#32
  let v1841 : BitVec 1 := Scalar.cmpi .slt v1837 c0_i32_1880
  let v1842 : BitVec 1 := Scalar.xori v1840 v1841
  let c0_i32_1878 : BitVec 32 := 0#32
  let v1839 : BitVec 1 := Scalar.cmpi .ne v1838 c0_i32_1878
  let v1843 : BitVec 1 := Scalar.andi v1842 v1839
  let v1844 : BitVec 32 := Scalar.addi v1838 v1837
  let v1845 : BitVec 32 := Scalar.select v1843 v1844 v1838
  let c1_i32_1887 : BitVec 32 := 1#32
  let v1847 : BitVec 32 := Scalar.muli v1845 c1_i32_1887
  let v1848 : BitVec 32 := Scalar.addi c0_i32_1888 v1847
  v1848.toNat
def k0_dev79 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1894 : BitVec 32 := 17#32
  let v1858 : BitVec 32 := Scalar.addi v2 c17_i32_1894
  let c32_i32_1895 : BitVec 32 := 32#32
  let c0_i32_1896 : BitVec 32 := 0#32
  let v1859 : BitVec 1 := Scalar.cmpi .eq c32_i32_1895 c0_i32_1896
  let c1_i32_1897 : BitVec 32 := 1#32
  let v1860 : BitVec 32 := Scalar.select v1859 c1_i32_1897 c32_i32_1895
  let v1861 : BitVec 32 := Scalar.remsi v1858 v1860
  let c0_i32_1899 : BitVec 32 := 0#32
  let v1863 : BitVec 1 := Scalar.cmpi .slt v1861 c0_i32_1899
  let c0_i32_1900 : BitVec 32 := 0#32
  let v1864 : BitVec 1 := Scalar.cmpi .slt v1860 c0_i32_1900
  let v1865 : BitVec 1 := Scalar.xori v1863 v1864
  let c0_i32_1898 : BitVec 32 := 0#32
  let v1862 : BitVec 1 := Scalar.cmpi .ne v1861 c0_i32_1898
  let v1866 : BitVec 1 := Scalar.andi v1865 v1862
  let v1867 : BitVec 32 := Scalar.addi v1861 v1860
  let v1868 : BitVec 32 := Scalar.select v1866 v1867 v1861
  let c1_i32_1907 : BitVec 32 := 1#32
  let v1870 : BitVec 32 := Scalar.muli v1868 c1_i32_1907
  let v1871 : BitVec 32 := Scalar.addi c0_i32_1908 v1870
  v1871.toNat
def k0_dev80 (d0 : Dev nD) : Nat :=
  let c0_i32_1928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1914 : BitVec 32 := 18#32
  let v1881 : BitVec 32 := Scalar.addi v2 c18_i32_1914
  let c32_i32_1915 : BitVec 32 := 32#32
  let c0_i32_1916 : BitVec 32 := 0#32
  let v1882 : BitVec 1 := Scalar.cmpi .eq c32_i32_1915 c0_i32_1916
  let c1_i32_1917 : BitVec 32 := 1#32
  let v1883 : BitVec 32 := Scalar.select v1882 c1_i32_1917 c32_i32_1915
  let v1884 : BitVec 32 := Scalar.remsi v1881 v1883
  let c0_i32_1919 : BitVec 32 := 0#32
  let v1886 : BitVec 1 := Scalar.cmpi .slt v1884 c0_i32_1919
  let c0_i32_1920 : BitVec 32 := 0#32
  let v1887 : BitVec 1 := Scalar.cmpi .slt v1883 c0_i32_1920
  let v1888 : BitVec 1 := Scalar.xori v1886 v1887
  let c0_i32_1918 : BitVec 32 := 0#32
  let v1885 : BitVec 1 := Scalar.cmpi .ne v1884 c0_i32_1918
  let v1889 : BitVec 1 := Scalar.andi v1888 v1885
  let v1890 : BitVec 32 := Scalar.addi v1884 v1883
  let v1891 : BitVec 32 := Scalar.select v1889 v1890 v1884
  let c1_i32_1927 : BitVec 32 := 1#32
  let v1893 : BitVec 32 := Scalar.muli v1891 c1_i32_1927
  let v1894 : BitVec 32 := Scalar.addi c0_i32_1928 v1893
  v1894.toNat
def k0_dev81 (d0 : Dev nD) : Nat :=
  let c0_i32_1948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1934 : BitVec 32 := 19#32
  let v1904 : BitVec 32 := Scalar.addi v2 c19_i32_1934
  let c32_i32_1935 : BitVec 32 := 32#32
  let c0_i32_1936 : BitVec 32 := 0#32
  let v1905 : BitVec 1 := Scalar.cmpi .eq c32_i32_1935 c0_i32_1936
  let c1_i32_1937 : BitVec 32 := 1#32
  let v1906 : BitVec 32 := Scalar.select v1905 c1_i32_1937 c32_i32_1935
  let v1907 : BitVec 32 := Scalar.remsi v1904 v1906
  let c0_i32_1939 : BitVec 32 := 0#32
  let v1909 : BitVec 1 := Scalar.cmpi .slt v1907 c0_i32_1939
  let c0_i32_1940 : BitVec 32 := 0#32
  let v1910 : BitVec 1 := Scalar.cmpi .slt v1906 c0_i32_1940
  let v1911 : BitVec 1 := Scalar.xori v1909 v1910
  let c0_i32_1938 : BitVec 32 := 0#32
  let v1908 : BitVec 1 := Scalar.cmpi .ne v1907 c0_i32_1938
  let v1912 : BitVec 1 := Scalar.andi v1911 v1908
  let v1913 : BitVec 32 := Scalar.addi v1907 v1906
  let v1914 : BitVec 32 := Scalar.select v1912 v1913 v1907
  let c1_i32_1947 : BitVec 32 := 1#32
  let v1916 : BitVec 32 := Scalar.muli v1914 c1_i32_1947
  let v1917 : BitVec 32 := Scalar.addi c0_i32_1948 v1916
  v1917.toNat
def k0_dev82 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1954 : BitVec 32 := 20#32
  let v1927 : BitVec 32 := Scalar.addi v2 c20_i32_1954
  let c32_i32_1955 : BitVec 32 := 32#32
  let c0_i32_1956 : BitVec 32 := 0#32
  let v1928 : BitVec 1 := Scalar.cmpi .eq c32_i32_1955 c0_i32_1956
  let c1_i32_1957 : BitVec 32 := 1#32
  let v1929 : BitVec 32 := Scalar.select v1928 c1_i32_1957 c32_i32_1955
  let v1930 : BitVec 32 := Scalar.remsi v1927 v1929
  let c0_i32_1959 : BitVec 32 := 0#32
  let v1932 : BitVec 1 := Scalar.cmpi .slt v1930 c0_i32_1959
  let c0_i32_1960 : BitVec 32 := 0#32
  let v1933 : BitVec 1 := Scalar.cmpi .slt v1929 c0_i32_1960
  let v1934 : BitVec 1 := Scalar.xori v1932 v1933
  let c0_i32_1958 : BitVec 32 := 0#32
  let v1931 : BitVec 1 := Scalar.cmpi .ne v1930 c0_i32_1958
  let v1935 : BitVec 1 := Scalar.andi v1934 v1931
  let v1936 : BitVec 32 := Scalar.addi v1930 v1929
  let v1937 : BitVec 32 := Scalar.select v1935 v1936 v1930
  let c1_i32_1967 : BitVec 32 := 1#32
  let v1939 : BitVec 32 := Scalar.muli v1937 c1_i32_1967
  let v1940 : BitVec 32 := Scalar.addi c0_i32_1968 v1939
  v1940.toNat
def k0_dev83 (d0 : Dev nD) : Nat :=
  let c0_i32_1988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1974 : BitVec 32 := 21#32
  let v1950 : BitVec 32 := Scalar.addi v2 c21_i32_1974
  let c32_i32_1975 : BitVec 32 := 32#32
  let c0_i32_1976 : BitVec 32 := 0#32
  let v1951 : BitVec 1 := Scalar.cmpi .eq c32_i32_1975 c0_i32_1976
  let c1_i32_1977 : BitVec 32 := 1#32
  let v1952 : BitVec 32 := Scalar.select v1951 c1_i32_1977 c32_i32_1975
  let v1953 : BitVec 32 := Scalar.remsi v1950 v1952
  let c0_i32_1979 : BitVec 32 := 0#32
  let v1955 : BitVec 1 := Scalar.cmpi .slt v1953 c0_i32_1979
  let c0_i32_1980 : BitVec 32 := 0#32
  let v1956 : BitVec 1 := Scalar.cmpi .slt v1952 c0_i32_1980
  let v1957 : BitVec 1 := Scalar.xori v1955 v1956
  let c0_i32_1978 : BitVec 32 := 0#32
  let v1954 : BitVec 1 := Scalar.cmpi .ne v1953 c0_i32_1978
  let v1958 : BitVec 1 := Scalar.andi v1957 v1954
  let v1959 : BitVec 32 := Scalar.addi v1953 v1952
  let v1960 : BitVec 32 := Scalar.select v1958 v1959 v1953
  let c1_i32_1987 : BitVec 32 := 1#32
  let v1962 : BitVec 32 := Scalar.muli v1960 c1_i32_1987
  let v1963 : BitVec 32 := Scalar.addi c0_i32_1988 v1962
  v1963.toNat
def k0_dev84 (d0 : Dev nD) : Nat :=
  let c0_i32_2008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1994 : BitVec 32 := 22#32
  let v1973 : BitVec 32 := Scalar.addi v2 c22_i32_1994
  let c32_i32_1995 : BitVec 32 := 32#32
  let c0_i32_1996 : BitVec 32 := 0#32
  let v1974 : BitVec 1 := Scalar.cmpi .eq c32_i32_1995 c0_i32_1996
  let c1_i32_1997 : BitVec 32 := 1#32
  let v1975 : BitVec 32 := Scalar.select v1974 c1_i32_1997 c32_i32_1995
  let v1976 : BitVec 32 := Scalar.remsi v1973 v1975
  let c0_i32_1999 : BitVec 32 := 0#32
  let v1978 : BitVec 1 := Scalar.cmpi .slt v1976 c0_i32_1999
  let c0_i32_2000 : BitVec 32 := 0#32
  let v1979 : BitVec 1 := Scalar.cmpi .slt v1975 c0_i32_2000
  let v1980 : BitVec 1 := Scalar.xori v1978 v1979
  let c0_i32_1998 : BitVec 32 := 0#32
  let v1977 : BitVec 1 := Scalar.cmpi .ne v1976 c0_i32_1998
  let v1981 : BitVec 1 := Scalar.andi v1980 v1977
  let v1982 : BitVec 32 := Scalar.addi v1976 v1975
  let v1983 : BitVec 32 := Scalar.select v1981 v1982 v1976
  let c1_i32_2007 : BitVec 32 := 1#32
  let v1985 : BitVec 32 := Scalar.muli v1983 c1_i32_2007
  let v1986 : BitVec 32 := Scalar.addi c0_i32_2008 v1985
  v1986.toNat
def k0_dev85 (d0 : Dev nD) : Nat :=
  let c0_i32_2028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2014 : BitVec 32 := 23#32
  let v1996 : BitVec 32 := Scalar.addi v2 c23_i32_2014
  let c32_i32_2015 : BitVec 32 := 32#32
  let c0_i32_2016 : BitVec 32 := 0#32
  let v1997 : BitVec 1 := Scalar.cmpi .eq c32_i32_2015 c0_i32_2016
  let c1_i32_2017 : BitVec 32 := 1#32
  let v1998 : BitVec 32 := Scalar.select v1997 c1_i32_2017 c32_i32_2015
  let v1999 : BitVec 32 := Scalar.remsi v1996 v1998
  let c0_i32_2019 : BitVec 32 := 0#32
  let v2001 : BitVec 1 := Scalar.cmpi .slt v1999 c0_i32_2019
  let c0_i32_2020 : BitVec 32 := 0#32
  let v2002 : BitVec 1 := Scalar.cmpi .slt v1998 c0_i32_2020
  let v2003 : BitVec 1 := Scalar.xori v2001 v2002
  let c0_i32_2018 : BitVec 32 := 0#32
  let v2000 : BitVec 1 := Scalar.cmpi .ne v1999 c0_i32_2018
  let v2004 : BitVec 1 := Scalar.andi v2003 v2000
  let v2005 : BitVec 32 := Scalar.addi v1999 v1998
  let v2006 : BitVec 32 := Scalar.select v2004 v2005 v1999
  let c1_i32_2027 : BitVec 32 := 1#32
  let v2008 : BitVec 32 := Scalar.muli v2006 c1_i32_2027
  let v2009 : BitVec 32 := Scalar.addi c0_i32_2028 v2008
  v2009.toNat
def k0_dev86 (d0 : Dev nD) : Nat :=
  let c0_i32_2048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2034 : BitVec 32 := 24#32
  let v2019 : BitVec 32 := Scalar.addi v2 c24_i32_2034
  let c32_i32_2035 : BitVec 32 := 32#32
  let c0_i32_2036 : BitVec 32 := 0#32
  let v2020 : BitVec 1 := Scalar.cmpi .eq c32_i32_2035 c0_i32_2036
  let c1_i32_2037 : BitVec 32 := 1#32
  let v2021 : BitVec 32 := Scalar.select v2020 c1_i32_2037 c32_i32_2035
  let v2022 : BitVec 32 := Scalar.remsi v2019 v2021
  let c0_i32_2039 : BitVec 32 := 0#32
  let v2024 : BitVec 1 := Scalar.cmpi .slt v2022 c0_i32_2039
  let c0_i32_2040 : BitVec 32 := 0#32
  let v2025 : BitVec 1 := Scalar.cmpi .slt v2021 c0_i32_2040
  let v2026 : BitVec 1 := Scalar.xori v2024 v2025
  let c0_i32_2038 : BitVec 32 := 0#32
  let v2023 : BitVec 1 := Scalar.cmpi .ne v2022 c0_i32_2038
  let v2027 : BitVec 1 := Scalar.andi v2026 v2023
  let v2028 : BitVec 32 := Scalar.addi v2022 v2021
  let v2029 : BitVec 32 := Scalar.select v2027 v2028 v2022
  let c1_i32_2047 : BitVec 32 := 1#32
  let v2031 : BitVec 32 := Scalar.muli v2029 c1_i32_2047
  let v2032 : BitVec 32 := Scalar.addi c0_i32_2048 v2031
  v2032.toNat
def k0_dev87 (d0 : Dev nD) : Nat :=
  let c0_i32_2068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2054 : BitVec 32 := 25#32
  let v2042 : BitVec 32 := Scalar.addi v2 c25_i32_2054
  let c32_i32_2055 : BitVec 32 := 32#32
  let c0_i32_2056 : BitVec 32 := 0#32
  let v2043 : BitVec 1 := Scalar.cmpi .eq c32_i32_2055 c0_i32_2056
  let c1_i32_2057 : BitVec 32 := 1#32
  let v2044 : BitVec 32 := Scalar.select v2043 c1_i32_2057 c32_i32_2055
  let v2045 : BitVec 32 := Scalar.remsi v2042 v2044
  let c0_i32_2059 : BitVec 32 := 0#32
  let v2047 : BitVec 1 := Scalar.cmpi .slt v2045 c0_i32_2059
  let c0_i32_2060 : BitVec 32 := 0#32
  let v2048 : BitVec 1 := Scalar.cmpi .slt v2044 c0_i32_2060
  let v2049 : BitVec 1 := Scalar.xori v2047 v2048
  let c0_i32_2058 : BitVec 32 := 0#32
  let v2046 : BitVec 1 := Scalar.cmpi .ne v2045 c0_i32_2058
  let v2050 : BitVec 1 := Scalar.andi v2049 v2046
  let v2051 : BitVec 32 := Scalar.addi v2045 v2044
  let v2052 : BitVec 32 := Scalar.select v2050 v2051 v2045
  let c1_i32_2067 : BitVec 32 := 1#32
  let v2054 : BitVec 32 := Scalar.muli v2052 c1_i32_2067
  let v2055 : BitVec 32 := Scalar.addi c0_i32_2068 v2054
  v2055.toNat
def k0_dev88 (d0 : Dev nD) : Nat :=
  let c0_i32_2088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2074 : BitVec 32 := 26#32
  let v2065 : BitVec 32 := Scalar.addi v2 c26_i32_2074
  let c32_i32_2075 : BitVec 32 := 32#32
  let c0_i32_2076 : BitVec 32 := 0#32
  let v2066 : BitVec 1 := Scalar.cmpi .eq c32_i32_2075 c0_i32_2076
  let c1_i32_2077 : BitVec 32 := 1#32
  let v2067 : BitVec 32 := Scalar.select v2066 c1_i32_2077 c32_i32_2075
  let v2068 : BitVec 32 := Scalar.remsi v2065 v2067
  let c0_i32_2079 : BitVec 32 := 0#32
  let v2070 : BitVec 1 := Scalar.cmpi .slt v2068 c0_i32_2079
  let c0_i32_2080 : BitVec 32 := 0#32
  let v2071 : BitVec 1 := Scalar.cmpi .slt v2067 c0_i32_2080
  let v2072 : BitVec 1 := Scalar.xori v2070 v2071
  let c0_i32_2078 : BitVec 32 := 0#32
  let v2069 : BitVec 1 := Scalar.cmpi .ne v2068 c0_i32_2078
  let v2073 : BitVec 1 := Scalar.andi v2072 v2069
  let v2074 : BitVec 32 := Scalar.addi v2068 v2067
  let v2075 : BitVec 32 := Scalar.select v2073 v2074 v2068
  let c1_i32_2087 : BitVec 32 := 1#32
  let v2077 : BitVec 32 := Scalar.muli v2075 c1_i32_2087
  let v2078 : BitVec 32 := Scalar.addi c0_i32_2088 v2077
  v2078.toNat
def k0_dev89 (d0 : Dev nD) : Nat :=
  let c0_i32_2108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2094 : BitVec 32 := 27#32
  let v2088 : BitVec 32 := Scalar.addi v2 c27_i32_2094
  let c32_i32_2095 : BitVec 32 := 32#32
  let c0_i32_2096 : BitVec 32 := 0#32
  let v2089 : BitVec 1 := Scalar.cmpi .eq c32_i32_2095 c0_i32_2096
  let c1_i32_2097 : BitVec 32 := 1#32
  let v2090 : BitVec 32 := Scalar.select v2089 c1_i32_2097 c32_i32_2095
  let v2091 : BitVec 32 := Scalar.remsi v2088 v2090
  let c0_i32_2099 : BitVec 32 := 0#32
  let v2093 : BitVec 1 := Scalar.cmpi .slt v2091 c0_i32_2099
  let c0_i32_2100 : BitVec 32 := 0#32
  let v2094 : BitVec 1 := Scalar.cmpi .slt v2090 c0_i32_2100
  let v2095 : BitVec 1 := Scalar.xori v2093 v2094
  let c0_i32_2098 : BitVec 32 := 0#32
  let v2092 : BitVec 1 := Scalar.cmpi .ne v2091 c0_i32_2098
  let v2096 : BitVec 1 := Scalar.andi v2095 v2092
  let v2097 : BitVec 32 := Scalar.addi v2091 v2090
  let v2098 : BitVec 32 := Scalar.select v2096 v2097 v2091
  let c1_i32_2107 : BitVec 32 := 1#32
  let v2100 : BitVec 32 := Scalar.muli v2098 c1_i32_2107
  let v2101 : BitVec 32 := Scalar.addi c0_i32_2108 v2100
  v2101.toNat
def k0_dev90 (d0 : Dev nD) : Nat :=
  let c0_i32_2128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2114 : BitVec 32 := 28#32
  let v2111 : BitVec 32 := Scalar.addi v2 c28_i32_2114
  let c32_i32_2115 : BitVec 32 := 32#32
  let c0_i32_2116 : BitVec 32 := 0#32
  let v2112 : BitVec 1 := Scalar.cmpi .eq c32_i32_2115 c0_i32_2116
  let c1_i32_2117 : BitVec 32 := 1#32
  let v2113 : BitVec 32 := Scalar.select v2112 c1_i32_2117 c32_i32_2115
  let v2114 : BitVec 32 := Scalar.remsi v2111 v2113
  let c0_i32_2119 : BitVec 32 := 0#32
  let v2116 : BitVec 1 := Scalar.cmpi .slt v2114 c0_i32_2119
  let c0_i32_2120 : BitVec 32 := 0#32
  let v2117 : BitVec 1 := Scalar.cmpi .slt v2113 c0_i32_2120
  let v2118 : BitVec 1 := Scalar.xori v2116 v2117
  let c0_i32_2118 : BitVec 32 := 0#32
  let v2115 : BitVec 1 := Scalar.cmpi .ne v2114 c0_i32_2118
  let v2119 : BitVec 1 := Scalar.andi v2118 v2115
  let v2120 : BitVec 32 := Scalar.addi v2114 v2113
  let v2121 : BitVec 32 := Scalar.select v2119 v2120 v2114
  let c1_i32_2127 : BitVec 32 := 1#32
  let v2123 : BitVec 32 := Scalar.muli v2121 c1_i32_2127
  let v2124 : BitVec 32 := Scalar.addi c0_i32_2128 v2123
  v2124.toNat
def k0_dev91 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2134 : BitVec 32 := 29#32
  let v2134 : BitVec 32 := Scalar.addi v2 c29_i32_2134
  let c32_i32_2135 : BitVec 32 := 32#32
  let c0_i32_2136 : BitVec 32 := 0#32
  let v2135 : BitVec 1 := Scalar.cmpi .eq c32_i32_2135 c0_i32_2136
  let c1_i32_2137 : BitVec 32 := 1#32
  let v2136 : BitVec 32 := Scalar.select v2135 c1_i32_2137 c32_i32_2135
  let v2137 : BitVec 32 := Scalar.remsi v2134 v2136
  let c0_i32_2139 : BitVec 32 := 0#32
  let v2139 : BitVec 1 := Scalar.cmpi .slt v2137 c0_i32_2139
  let c0_i32_2140 : BitVec 32 := 0#32
  let v2140 : BitVec 1 := Scalar.cmpi .slt v2136 c0_i32_2140
  let v2141 : BitVec 1 := Scalar.xori v2139 v2140
  let c0_i32_2138 : BitVec 32 := 0#32
  let v2138 : BitVec 1 := Scalar.cmpi .ne v2137 c0_i32_2138
  let v2142 : BitVec 1 := Scalar.andi v2141 v2138
  let v2143 : BitVec 32 := Scalar.addi v2137 v2136
  let v2144 : BitVec 32 := Scalar.select v2142 v2143 v2137
  let c1_i32_2147 : BitVec 32 := 1#32
  let v2146 : BitVec 32 := Scalar.muli v2144 c1_i32_2147
  let v2147 : BitVec 32 := Scalar.addi c0_i32_2148 v2146
  v2147.toNat
def k0_dev92 (d0 : Dev nD) : Nat :=
  let c0_i32_2168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2154 : BitVec 32 := 30#32
  let v2157 : BitVec 32 := Scalar.addi v2 c30_i32_2154
  let c32_i32_2155 : BitVec 32 := 32#32
  let c0_i32_2156 : BitVec 32 := 0#32
  let v2158 : BitVec 1 := Scalar.cmpi .eq c32_i32_2155 c0_i32_2156
  let c1_i32_2157 : BitVec 32 := 1#32
  let v2159 : BitVec 32 := Scalar.select v2158 c1_i32_2157 c32_i32_2155
  let v2160 : BitVec 32 := Scalar.remsi v2157 v2159
  let c0_i32_2159 : BitVec 32 := 0#32
  let v2162 : BitVec 1 := Scalar.cmpi .slt v2160 c0_i32_2159
  let c0_i32_2160 : BitVec 32 := 0#32
  let v2163 : BitVec 1 := Scalar.cmpi .slt v2159 c0_i32_2160
  let v2164 : BitVec 1 := Scalar.xori v2162 v2163
  let c0_i32_2158 : BitVec 32 := 0#32
  let v2161 : BitVec 1 := Scalar.cmpi .ne v2160 c0_i32_2158
  let v2165 : BitVec 1 := Scalar.andi v2164 v2161
  let v2166 : BitVec 32 := Scalar.addi v2160 v2159
  let v2167 : BitVec 32 := Scalar.select v2165 v2166 v2160
  let c1_i32_2167 : BitVec 32 := 1#32
  let v2169 : BitVec 32 := Scalar.muli v2167 c1_i32_2167
  let v2170 : BitVec 32 := Scalar.addi c0_i32_2168 v2169
  v2170.toNat
def k0_dev93 (d0 : Dev nD) : Nat :=
  let c0_i32_2188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2174 : BitVec 32 := 31#32
  let v2180 : BitVec 32 := Scalar.addi v2 c31_i32_2174
  let c32_i32_2175 : BitVec 32 := 32#32
  let c0_i32_2176 : BitVec 32 := 0#32
  let v2181 : BitVec 1 := Scalar.cmpi .eq c32_i32_2175 c0_i32_2176
  let c1_i32_2177 : BitVec 32 := 1#32
  let v2182 : BitVec 32 := Scalar.select v2181 c1_i32_2177 c32_i32_2175
  let v2183 : BitVec 32 := Scalar.remsi v2180 v2182
  let c0_i32_2179 : BitVec 32 := 0#32
  let v2185 : BitVec 1 := Scalar.cmpi .slt v2183 c0_i32_2179
  let c0_i32_2180 : BitVec 32 := 0#32
  let v2186 : BitVec 1 := Scalar.cmpi .slt v2182 c0_i32_2180
  let v2187 : BitVec 1 := Scalar.xori v2185 v2186
  let c0_i32_2178 : BitVec 32 := 0#32
  let v2184 : BitVec 1 := Scalar.cmpi .ne v2183 c0_i32_2178
  let v2188 : BitVec 1 := Scalar.andi v2187 v2184
  let v2189 : BitVec 32 := Scalar.addi v2183 v2182
  let v2190 : BitVec 32 := Scalar.select v2188 v2189 v2183
  let c1_i32_2187 : BitVec 32 := 1#32
  let v2192 : BitVec 32 := Scalar.muli v2190 c1_i32_2187
  let v2193 : BitVec 32 := Scalar.addi c0_i32_2188 v2192
  v2193.toNat
def k0_off5 (d0 : Dev nD) : Fin 3 → Nat :=
  let c0_2198 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2197 : BitVec 32 := 16#32
  let v2205 : BitVec 32 := Scalar.muli v2 c16_i32_2197
  let v2206 : Index := Scalar.indexCast v2205
  let c0_2199 : Index := 0#32
  ![0, v2206.toNat, 0]
def k0_dev94 (d0 : Dev nD) : Nat :=
  let c0_i32_3063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3049 : BitVec 32 := 1#32
  let v2752 : BitVec 32 := Scalar.addi v2 c1_i32_3049
  let c32_i32_3050 : BitVec 32 := 32#32
  let c0_i32_3051 : BitVec 32 := 0#32
  let v2753 : BitVec 1 := Scalar.cmpi .eq c32_i32_3050 c0_i32_3051
  let c1_i32_3052 : BitVec 32 := 1#32
  let v2754 : BitVec 32 := Scalar.select v2753 c1_i32_3052 c32_i32_3050
  let v2755 : BitVec 32 := Scalar.remsi v2752 v2754
  let c0_i32_3054 : BitVec 32 := 0#32
  let v2757 : BitVec 1 := Scalar.cmpi .slt v2755 c0_i32_3054
  let c0_i32_3055 : BitVec 32 := 0#32
  let v2758 : BitVec 1 := Scalar.cmpi .slt v2754 c0_i32_3055
  let v2759 : BitVec 1 := Scalar.xori v2757 v2758
  let c0_i32_3053 : BitVec 32 := 0#32
  let v2756 : BitVec 1 := Scalar.cmpi .ne v2755 c0_i32_3053
  let v2760 : BitVec 1 := Scalar.andi v2759 v2756
  let v2761 : BitVec 32 := Scalar.addi v2755 v2754
  let v2762 : BitVec 32 := Scalar.select v2760 v2761 v2755
  let c1_i32_3062 : BitVec 32 := 1#32
  let v2764 : BitVec 32 := Scalar.muli v2762 c1_i32_3062
  let v2765 : BitVec 32 := Scalar.addi c0_i32_3063 v2764
  v2765.toNat
def k0_dev95 (d0 : Dev nD) : Nat :=
  let c0_i32_3081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3067 : BitVec 32 := 2#32
  let v2773 : BitVec 32 := Scalar.addi v2 c2_i32_3067
  let c32_i32_3068 : BitVec 32 := 32#32
  let c0_i32_3069 : BitVec 32 := 0#32
  let v2774 : BitVec 1 := Scalar.cmpi .eq c32_i32_3068 c0_i32_3069
  let c1_i32_3070 : BitVec 32 := 1#32
  let v2775 : BitVec 32 := Scalar.select v2774 c1_i32_3070 c32_i32_3068
  let v2776 : BitVec 32 := Scalar.remsi v2773 v2775
  let c0_i32_3072 : BitVec 32 := 0#32
  let v2778 : BitVec 1 := Scalar.cmpi .slt v2776 c0_i32_3072
  let c0_i32_3073 : BitVec 32 := 0#32
  let v2779 : BitVec 1 := Scalar.cmpi .slt v2775 c0_i32_3073
  let v2780 : BitVec 1 := Scalar.xori v2778 v2779
  let c0_i32_3071 : BitVec 32 := 0#32
  let v2777 : BitVec 1 := Scalar.cmpi .ne v2776 c0_i32_3071
  let v2781 : BitVec 1 := Scalar.andi v2780 v2777
  let v2782 : BitVec 32 := Scalar.addi v2776 v2775
  let v2783 : BitVec 32 := Scalar.select v2781 v2782 v2776
  let c1_i32_3080 : BitVec 32 := 1#32
  let v2785 : BitVec 32 := Scalar.muli v2783 c1_i32_3080
  let v2786 : BitVec 32 := Scalar.addi c0_i32_3081 v2785
  v2786.toNat
def k0_dev96 (d0 : Dev nD) : Nat :=
  let c0_i32_3099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3085 : BitVec 32 := 3#32
  let v2794 : BitVec 32 := Scalar.addi v2 c3_i32_3085
  let c32_i32_3086 : BitVec 32 := 32#32
  let c0_i32_3087 : BitVec 32 := 0#32
  let v2795 : BitVec 1 := Scalar.cmpi .eq c32_i32_3086 c0_i32_3087
  let c1_i32_3088 : BitVec 32 := 1#32
  let v2796 : BitVec 32 := Scalar.select v2795 c1_i32_3088 c32_i32_3086
  let v2797 : BitVec 32 := Scalar.remsi v2794 v2796
  let c0_i32_3090 : BitVec 32 := 0#32
  let v2799 : BitVec 1 := Scalar.cmpi .slt v2797 c0_i32_3090
  let c0_i32_3091 : BitVec 32 := 0#32
  let v2800 : BitVec 1 := Scalar.cmpi .slt v2796 c0_i32_3091
  let v2801 : BitVec 1 := Scalar.xori v2799 v2800
  let c0_i32_3089 : BitVec 32 := 0#32
  let v2798 : BitVec 1 := Scalar.cmpi .ne v2797 c0_i32_3089
  let v2802 : BitVec 1 := Scalar.andi v2801 v2798
  let v2803 : BitVec 32 := Scalar.addi v2797 v2796
  let v2804 : BitVec 32 := Scalar.select v2802 v2803 v2797
  let c1_i32_3098 : BitVec 32 := 1#32
  let v2806 : BitVec 32 := Scalar.muli v2804 c1_i32_3098
  let v2807 : BitVec 32 := Scalar.addi c0_i32_3099 v2806
  v2807.toNat
def k0_dev97 (d0 : Dev nD) : Nat :=
  let c0_i32_3117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3103 : BitVec 32 := 4#32
  let v2815 : BitVec 32 := Scalar.addi v2 c4_i32_3103
  let c32_i32_3104 : BitVec 32 := 32#32
  let c0_i32_3105 : BitVec 32 := 0#32
  let v2816 : BitVec 1 := Scalar.cmpi .eq c32_i32_3104 c0_i32_3105
  let c1_i32_3106 : BitVec 32 := 1#32
  let v2817 : BitVec 32 := Scalar.select v2816 c1_i32_3106 c32_i32_3104
  let v2818 : BitVec 32 := Scalar.remsi v2815 v2817
  let c0_i32_3108 : BitVec 32 := 0#32
  let v2820 : BitVec 1 := Scalar.cmpi .slt v2818 c0_i32_3108
  let c0_i32_3109 : BitVec 32 := 0#32
  let v2821 : BitVec 1 := Scalar.cmpi .slt v2817 c0_i32_3109
  let v2822 : BitVec 1 := Scalar.xori v2820 v2821
  let c0_i32_3107 : BitVec 32 := 0#32
  let v2819 : BitVec 1 := Scalar.cmpi .ne v2818 c0_i32_3107
  let v2823 : BitVec 1 := Scalar.andi v2822 v2819
  let v2824 : BitVec 32 := Scalar.addi v2818 v2817
  let v2825 : BitVec 32 := Scalar.select v2823 v2824 v2818
  let c1_i32_3116 : BitVec 32 := 1#32
  let v2827 : BitVec 32 := Scalar.muli v2825 c1_i32_3116
  let v2828 : BitVec 32 := Scalar.addi c0_i32_3117 v2827
  v2828.toNat
def k0_dev98 (d0 : Dev nD) : Nat :=
  let c0_i32_3135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3121 : BitVec 32 := 5#32
  let v2836 : BitVec 32 := Scalar.addi v2 c5_i32_3121
  let c32_i32_3122 : BitVec 32 := 32#32
  let c0_i32_3123 : BitVec 32 := 0#32
  let v2837 : BitVec 1 := Scalar.cmpi .eq c32_i32_3122 c0_i32_3123
  let c1_i32_3124 : BitVec 32 := 1#32
  let v2838 : BitVec 32 := Scalar.select v2837 c1_i32_3124 c32_i32_3122
  let v2839 : BitVec 32 := Scalar.remsi v2836 v2838
  let c0_i32_3126 : BitVec 32 := 0#32
  let v2841 : BitVec 1 := Scalar.cmpi .slt v2839 c0_i32_3126
  let c0_i32_3127 : BitVec 32 := 0#32
  let v2842 : BitVec 1 := Scalar.cmpi .slt v2838 c0_i32_3127
  let v2843 : BitVec 1 := Scalar.xori v2841 v2842
  let c0_i32_3125 : BitVec 32 := 0#32
  let v2840 : BitVec 1 := Scalar.cmpi .ne v2839 c0_i32_3125
  let v2844 : BitVec 1 := Scalar.andi v2843 v2840
  let v2845 : BitVec 32 := Scalar.addi v2839 v2838
  let v2846 : BitVec 32 := Scalar.select v2844 v2845 v2839
  let c1_i32_3134 : BitVec 32 := 1#32
  let v2848 : BitVec 32 := Scalar.muli v2846 c1_i32_3134
  let v2849 : BitVec 32 := Scalar.addi c0_i32_3135 v2848
  v2849.toNat
def k0_dev99 (d0 : Dev nD) : Nat :=
  let c0_i32_3153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3139 : BitVec 32 := 6#32
  let v2857 : BitVec 32 := Scalar.addi v2 c6_i32_3139
  let c32_i32_3140 : BitVec 32 := 32#32
  let c0_i32_3141 : BitVec 32 := 0#32
  let v2858 : BitVec 1 := Scalar.cmpi .eq c32_i32_3140 c0_i32_3141
  let c1_i32_3142 : BitVec 32 := 1#32
  let v2859 : BitVec 32 := Scalar.select v2858 c1_i32_3142 c32_i32_3140
  let v2860 : BitVec 32 := Scalar.remsi v2857 v2859
  let c0_i32_3144 : BitVec 32 := 0#32
  let v2862 : BitVec 1 := Scalar.cmpi .slt v2860 c0_i32_3144
  let c0_i32_3145 : BitVec 32 := 0#32
  let v2863 : BitVec 1 := Scalar.cmpi .slt v2859 c0_i32_3145
  let v2864 : BitVec 1 := Scalar.xori v2862 v2863
  let c0_i32_3143 : BitVec 32 := 0#32
  let v2861 : BitVec 1 := Scalar.cmpi .ne v2860 c0_i32_3143
  let v2865 : BitVec 1 := Scalar.andi v2864 v2861
  let v2866 : BitVec 32 := Scalar.addi v2860 v2859
  let v2867 : BitVec 32 := Scalar.select v2865 v2866 v2860
  let c1_i32_3152 : BitVec 32 := 1#32
  let v2869 : BitVec 32 := Scalar.muli v2867 c1_i32_3152
  let v2870 : BitVec 32 := Scalar.addi c0_i32_3153 v2869
  v2870.toNat
def k0_dev100 (d0 : Dev nD) : Nat :=
  let c0_i32_3171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3157 : BitVec 32 := 7#32
  let v2878 : BitVec 32 := Scalar.addi v2 c7_i32_3157
  let c32_i32_3158 : BitVec 32 := 32#32
  let c0_i32_3159 : BitVec 32 := 0#32
  let v2879 : BitVec 1 := Scalar.cmpi .eq c32_i32_3158 c0_i32_3159
  let c1_i32_3160 : BitVec 32 := 1#32
  let v2880 : BitVec 32 := Scalar.select v2879 c1_i32_3160 c32_i32_3158
  let v2881 : BitVec 32 := Scalar.remsi v2878 v2880
  let c0_i32_3162 : BitVec 32 := 0#32
  let v2883 : BitVec 1 := Scalar.cmpi .slt v2881 c0_i32_3162
  let c0_i32_3163 : BitVec 32 := 0#32
  let v2884 : BitVec 1 := Scalar.cmpi .slt v2880 c0_i32_3163
  let v2885 : BitVec 1 := Scalar.xori v2883 v2884
  let c0_i32_3161 : BitVec 32 := 0#32
  let v2882 : BitVec 1 := Scalar.cmpi .ne v2881 c0_i32_3161
  let v2886 : BitVec 1 := Scalar.andi v2885 v2882
  let v2887 : BitVec 32 := Scalar.addi v2881 v2880
  let v2888 : BitVec 32 := Scalar.select v2886 v2887 v2881
  let c1_i32_3170 : BitVec 32 := 1#32
  let v2890 : BitVec 32 := Scalar.muli v2888 c1_i32_3170
  let v2891 : BitVec 32 := Scalar.addi c0_i32_3171 v2890
  v2891.toNat
def k0_dev101 (d0 : Dev nD) : Nat :=
  let c0_i32_3189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3175 : BitVec 32 := 8#32
  let v2899 : BitVec 32 := Scalar.addi v2 c8_i32_3175
  let c32_i32_3176 : BitVec 32 := 32#32
  let c0_i32_3177 : BitVec 32 := 0#32
  let v2900 : BitVec 1 := Scalar.cmpi .eq c32_i32_3176 c0_i32_3177
  let c1_i32_3178 : BitVec 32 := 1#32
  let v2901 : BitVec 32 := Scalar.select v2900 c1_i32_3178 c32_i32_3176
  let v2902 : BitVec 32 := Scalar.remsi v2899 v2901
  let c0_i32_3180 : BitVec 32 := 0#32
  let v2904 : BitVec 1 := Scalar.cmpi .slt v2902 c0_i32_3180
  let c0_i32_3181 : BitVec 32 := 0#32
  let v2905 : BitVec 1 := Scalar.cmpi .slt v2901 c0_i32_3181
  let v2906 : BitVec 1 := Scalar.xori v2904 v2905
  let c0_i32_3179 : BitVec 32 := 0#32
  let v2903 : BitVec 1 := Scalar.cmpi .ne v2902 c0_i32_3179
  let v2907 : BitVec 1 := Scalar.andi v2906 v2903
  let v2908 : BitVec 32 := Scalar.addi v2902 v2901
  let v2909 : BitVec 32 := Scalar.select v2907 v2908 v2902
  let c1_i32_3188 : BitVec 32 := 1#32
  let v2911 : BitVec 32 := Scalar.muli v2909 c1_i32_3188
  let v2912 : BitVec 32 := Scalar.addi c0_i32_3189 v2911
  v2912.toNat
def k0_dev102 (d0 : Dev nD) : Nat :=
  let c0_i32_3207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3193 : BitVec 32 := 9#32
  let v2920 : BitVec 32 := Scalar.addi v2 c9_i32_3193
  let c32_i32_3194 : BitVec 32 := 32#32
  let c0_i32_3195 : BitVec 32 := 0#32
  let v2921 : BitVec 1 := Scalar.cmpi .eq c32_i32_3194 c0_i32_3195
  let c1_i32_3196 : BitVec 32 := 1#32
  let v2922 : BitVec 32 := Scalar.select v2921 c1_i32_3196 c32_i32_3194
  let v2923 : BitVec 32 := Scalar.remsi v2920 v2922
  let c0_i32_3198 : BitVec 32 := 0#32
  let v2925 : BitVec 1 := Scalar.cmpi .slt v2923 c0_i32_3198
  let c0_i32_3199 : BitVec 32 := 0#32
  let v2926 : BitVec 1 := Scalar.cmpi .slt v2922 c0_i32_3199
  let v2927 : BitVec 1 := Scalar.xori v2925 v2926
  let c0_i32_3197 : BitVec 32 := 0#32
  let v2924 : BitVec 1 := Scalar.cmpi .ne v2923 c0_i32_3197
  let v2928 : BitVec 1 := Scalar.andi v2927 v2924
  let v2929 : BitVec 32 := Scalar.addi v2923 v2922
  let v2930 : BitVec 32 := Scalar.select v2928 v2929 v2923
  let c1_i32_3206 : BitVec 32 := 1#32
  let v2932 : BitVec 32 := Scalar.muli v2930 c1_i32_3206
  let v2933 : BitVec 32 := Scalar.addi c0_i32_3207 v2932
  v2933.toNat
def k0_dev103 (d0 : Dev nD) : Nat :=
  let c0_i32_3225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3211 : BitVec 32 := 10#32
  let v2941 : BitVec 32 := Scalar.addi v2 c10_i32_3211
  let c32_i32_3212 : BitVec 32 := 32#32
  let c0_i32_3213 : BitVec 32 := 0#32
  let v2942 : BitVec 1 := Scalar.cmpi .eq c32_i32_3212 c0_i32_3213
  let c1_i32_3214 : BitVec 32 := 1#32
  let v2943 : BitVec 32 := Scalar.select v2942 c1_i32_3214 c32_i32_3212
  let v2944 : BitVec 32 := Scalar.remsi v2941 v2943
  let c0_i32_3216 : BitVec 32 := 0#32
  let v2946 : BitVec 1 := Scalar.cmpi .slt v2944 c0_i32_3216
  let c0_i32_3217 : BitVec 32 := 0#32
  let v2947 : BitVec 1 := Scalar.cmpi .slt v2943 c0_i32_3217
  let v2948 : BitVec 1 := Scalar.xori v2946 v2947
  let c0_i32_3215 : BitVec 32 := 0#32
  let v2945 : BitVec 1 := Scalar.cmpi .ne v2944 c0_i32_3215
  let v2949 : BitVec 1 := Scalar.andi v2948 v2945
  let v2950 : BitVec 32 := Scalar.addi v2944 v2943
  let v2951 : BitVec 32 := Scalar.select v2949 v2950 v2944
  let c1_i32_3224 : BitVec 32 := 1#32
  let v2953 : BitVec 32 := Scalar.muli v2951 c1_i32_3224
  let v2954 : BitVec 32 := Scalar.addi c0_i32_3225 v2953
  v2954.toNat
def k0_dev104 (d0 : Dev nD) : Nat :=
  let c0_i32_3243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3229 : BitVec 32 := 11#32
  let v2962 : BitVec 32 := Scalar.addi v2 c11_i32_3229
  let c32_i32_3230 : BitVec 32 := 32#32
  let c0_i32_3231 : BitVec 32 := 0#32
  let v2963 : BitVec 1 := Scalar.cmpi .eq c32_i32_3230 c0_i32_3231
  let c1_i32_3232 : BitVec 32 := 1#32
  let v2964 : BitVec 32 := Scalar.select v2963 c1_i32_3232 c32_i32_3230
  let v2965 : BitVec 32 := Scalar.remsi v2962 v2964
  let c0_i32_3234 : BitVec 32 := 0#32
  let v2967 : BitVec 1 := Scalar.cmpi .slt v2965 c0_i32_3234
  let c0_i32_3235 : BitVec 32 := 0#32
  let v2968 : BitVec 1 := Scalar.cmpi .slt v2964 c0_i32_3235
  let v2969 : BitVec 1 := Scalar.xori v2967 v2968
  let c0_i32_3233 : BitVec 32 := 0#32
  let v2966 : BitVec 1 := Scalar.cmpi .ne v2965 c0_i32_3233
  let v2970 : BitVec 1 := Scalar.andi v2969 v2966
  let v2971 : BitVec 32 := Scalar.addi v2965 v2964
  let v2972 : BitVec 32 := Scalar.select v2970 v2971 v2965
  let c1_i32_3242 : BitVec 32 := 1#32
  let v2974 : BitVec 32 := Scalar.muli v2972 c1_i32_3242
  let v2975 : BitVec 32 := Scalar.addi c0_i32_3243 v2974
  v2975.toNat
def k0_dev105 (d0 : Dev nD) : Nat :=
  let c0_i32_3261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3247 : BitVec 32 := 12#32
  let v2983 : BitVec 32 := Scalar.addi v2 c12_i32_3247
  let c32_i32_3248 : BitVec 32 := 32#32
  let c0_i32_3249 : BitVec 32 := 0#32
  let v2984 : BitVec 1 := Scalar.cmpi .eq c32_i32_3248 c0_i32_3249
  let c1_i32_3250 : BitVec 32 := 1#32
  let v2985 : BitVec 32 := Scalar.select v2984 c1_i32_3250 c32_i32_3248
  let v2986 : BitVec 32 := Scalar.remsi v2983 v2985
  let c0_i32_3252 : BitVec 32 := 0#32
  let v2988 : BitVec 1 := Scalar.cmpi .slt v2986 c0_i32_3252
  let c0_i32_3253 : BitVec 32 := 0#32
  let v2989 : BitVec 1 := Scalar.cmpi .slt v2985 c0_i32_3253
  let v2990 : BitVec 1 := Scalar.xori v2988 v2989
  let c0_i32_3251 : BitVec 32 := 0#32
  let v2987 : BitVec 1 := Scalar.cmpi .ne v2986 c0_i32_3251
  let v2991 : BitVec 1 := Scalar.andi v2990 v2987
  let v2992 : BitVec 32 := Scalar.addi v2986 v2985
  let v2993 : BitVec 32 := Scalar.select v2991 v2992 v2986
  let c1_i32_3260 : BitVec 32 := 1#32
  let v2995 : BitVec 32 := Scalar.muli v2993 c1_i32_3260
  let v2996 : BitVec 32 := Scalar.addi c0_i32_3261 v2995
  v2996.toNat
def k0_dev106 (d0 : Dev nD) : Nat :=
  let c0_i32_3279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3265 : BitVec 32 := 13#32
  let v3004 : BitVec 32 := Scalar.addi v2 c13_i32_3265
  let c32_i32_3266 : BitVec 32 := 32#32
  let c0_i32_3267 : BitVec 32 := 0#32
  let v3005 : BitVec 1 := Scalar.cmpi .eq c32_i32_3266 c0_i32_3267
  let c1_i32_3268 : BitVec 32 := 1#32
  let v3006 : BitVec 32 := Scalar.select v3005 c1_i32_3268 c32_i32_3266
  let v3007 : BitVec 32 := Scalar.remsi v3004 v3006
  let c0_i32_3270 : BitVec 32 := 0#32
  let v3009 : BitVec 1 := Scalar.cmpi .slt v3007 c0_i32_3270
  let c0_i32_3271 : BitVec 32 := 0#32
  let v3010 : BitVec 1 := Scalar.cmpi .slt v3006 c0_i32_3271
  let v3011 : BitVec 1 := Scalar.xori v3009 v3010
  let c0_i32_3269 : BitVec 32 := 0#32
  let v3008 : BitVec 1 := Scalar.cmpi .ne v3007 c0_i32_3269
  let v3012 : BitVec 1 := Scalar.andi v3011 v3008
  let v3013 : BitVec 32 := Scalar.addi v3007 v3006
  let v3014 : BitVec 32 := Scalar.select v3012 v3013 v3007
  let c1_i32_3278 : BitVec 32 := 1#32
  let v3016 : BitVec 32 := Scalar.muli v3014 c1_i32_3278
  let v3017 : BitVec 32 := Scalar.addi c0_i32_3279 v3016
  v3017.toNat
def k0_dev107 (d0 : Dev nD) : Nat :=
  let c0_i32_3297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3283 : BitVec 32 := 14#32
  let v3025 : BitVec 32 := Scalar.addi v2 c14_i32_3283
  let c32_i32_3284 : BitVec 32 := 32#32
  let c0_i32_3285 : BitVec 32 := 0#32
  let v3026 : BitVec 1 := Scalar.cmpi .eq c32_i32_3284 c0_i32_3285
  let c1_i32_3286 : BitVec 32 := 1#32
  let v3027 : BitVec 32 := Scalar.select v3026 c1_i32_3286 c32_i32_3284
  let v3028 : BitVec 32 := Scalar.remsi v3025 v3027
  let c0_i32_3288 : BitVec 32 := 0#32
  let v3030 : BitVec 1 := Scalar.cmpi .slt v3028 c0_i32_3288
  let c0_i32_3289 : BitVec 32 := 0#32
  let v3031 : BitVec 1 := Scalar.cmpi .slt v3027 c0_i32_3289
  let v3032 : BitVec 1 := Scalar.xori v3030 v3031
  let c0_i32_3287 : BitVec 32 := 0#32
  let v3029 : BitVec 1 := Scalar.cmpi .ne v3028 c0_i32_3287
  let v3033 : BitVec 1 := Scalar.andi v3032 v3029
  let v3034 : BitVec 32 := Scalar.addi v3028 v3027
  let v3035 : BitVec 32 := Scalar.select v3033 v3034 v3028
  let c1_i32_3296 : BitVec 32 := 1#32
  let v3037 : BitVec 32 := Scalar.muli v3035 c1_i32_3296
  let v3038 : BitVec 32 := Scalar.addi c0_i32_3297 v3037
  v3038.toNat
def k0_dev108 (d0 : Dev nD) : Nat :=
  let c0_i32_3315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3301 : BitVec 32 := 15#32
  let v3046 : BitVec 32 := Scalar.addi v2 c15_i32_3301
  let c32_i32_3302 : BitVec 32 := 32#32
  let c0_i32_3303 : BitVec 32 := 0#32
  let v3047 : BitVec 1 := Scalar.cmpi .eq c32_i32_3302 c0_i32_3303
  let c1_i32_3304 : BitVec 32 := 1#32
  let v3048 : BitVec 32 := Scalar.select v3047 c1_i32_3304 c32_i32_3302
  let v3049 : BitVec 32 := Scalar.remsi v3046 v3048
  let c0_i32_3306 : BitVec 32 := 0#32
  let v3051 : BitVec 1 := Scalar.cmpi .slt v3049 c0_i32_3306
  let c0_i32_3307 : BitVec 32 := 0#32
  let v3052 : BitVec 1 := Scalar.cmpi .slt v3048 c0_i32_3307
  let v3053 : BitVec 1 := Scalar.xori v3051 v3052
  let c0_i32_3305 : BitVec 32 := 0#32
  let v3050 : BitVec 1 := Scalar.cmpi .ne v3049 c0_i32_3305
  let v3054 : BitVec 1 := Scalar.andi v3053 v3050
  let v3055 : BitVec 32 := Scalar.addi v3049 v3048
  let v3056 : BitVec 32 := Scalar.select v3054 v3055 v3049
  let c1_i32_3314 : BitVec 32 := 1#32
  let v3058 : BitVec 32 := Scalar.muli v3056 c1_i32_3314
  let v3059 : BitVec 32 := Scalar.addi c0_i32_3315 v3058
  v3059.toNat
def k0_dev109 (d0 : Dev nD) : Nat :=
  let c0_i32_3333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3319 : BitVec 32 := 16#32
  let v3067 : BitVec 32 := Scalar.addi v2 c16_i32_3319
  let c32_i32_3320 : BitVec 32 := 32#32
  let c0_i32_3321 : BitVec 32 := 0#32
  let v3068 : BitVec 1 := Scalar.cmpi .eq c32_i32_3320 c0_i32_3321
  let c1_i32_3322 : BitVec 32 := 1#32
  let v3069 : BitVec 32 := Scalar.select v3068 c1_i32_3322 c32_i32_3320
  let v3070 : BitVec 32 := Scalar.remsi v3067 v3069
  let c0_i32_3324 : BitVec 32 := 0#32
  let v3072 : BitVec 1 := Scalar.cmpi .slt v3070 c0_i32_3324
  let c0_i32_3325 : BitVec 32 := 0#32
  let v3073 : BitVec 1 := Scalar.cmpi .slt v3069 c0_i32_3325
  let v3074 : BitVec 1 := Scalar.xori v3072 v3073
  let c0_i32_3323 : BitVec 32 := 0#32
  let v3071 : BitVec 1 := Scalar.cmpi .ne v3070 c0_i32_3323
  let v3075 : BitVec 1 := Scalar.andi v3074 v3071
  let v3076 : BitVec 32 := Scalar.addi v3070 v3069
  let v3077 : BitVec 32 := Scalar.select v3075 v3076 v3070
  let c1_i32_3332 : BitVec 32 := 1#32
  let v3079 : BitVec 32 := Scalar.muli v3077 c1_i32_3332
  let v3080 : BitVec 32 := Scalar.addi c0_i32_3333 v3079
  v3080.toNat
def k0_dev110 (d0 : Dev nD) : Nat :=
  let c0_i32_3351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3337 : BitVec 32 := 17#32
  let v3088 : BitVec 32 := Scalar.addi v2 c17_i32_3337
  let c32_i32_3338 : BitVec 32 := 32#32
  let c0_i32_3339 : BitVec 32 := 0#32
  let v3089 : BitVec 1 := Scalar.cmpi .eq c32_i32_3338 c0_i32_3339
  let c1_i32_3340 : BitVec 32 := 1#32
  let v3090 : BitVec 32 := Scalar.select v3089 c1_i32_3340 c32_i32_3338
  let v3091 : BitVec 32 := Scalar.remsi v3088 v3090
  let c0_i32_3342 : BitVec 32 := 0#32
  let v3093 : BitVec 1 := Scalar.cmpi .slt v3091 c0_i32_3342
  let c0_i32_3343 : BitVec 32 := 0#32
  let v3094 : BitVec 1 := Scalar.cmpi .slt v3090 c0_i32_3343
  let v3095 : BitVec 1 := Scalar.xori v3093 v3094
  let c0_i32_3341 : BitVec 32 := 0#32
  let v3092 : BitVec 1 := Scalar.cmpi .ne v3091 c0_i32_3341
  let v3096 : BitVec 1 := Scalar.andi v3095 v3092
  let v3097 : BitVec 32 := Scalar.addi v3091 v3090
  let v3098 : BitVec 32 := Scalar.select v3096 v3097 v3091
  let c1_i32_3350 : BitVec 32 := 1#32
  let v3100 : BitVec 32 := Scalar.muli v3098 c1_i32_3350
  let v3101 : BitVec 32 := Scalar.addi c0_i32_3351 v3100
  v3101.toNat
def k0_dev111 (d0 : Dev nD) : Nat :=
  let c0_i32_3369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3355 : BitVec 32 := 18#32
  let v3109 : BitVec 32 := Scalar.addi v2 c18_i32_3355
  let c32_i32_3356 : BitVec 32 := 32#32
  let c0_i32_3357 : BitVec 32 := 0#32
  let v3110 : BitVec 1 := Scalar.cmpi .eq c32_i32_3356 c0_i32_3357
  let c1_i32_3358 : BitVec 32 := 1#32
  let v3111 : BitVec 32 := Scalar.select v3110 c1_i32_3358 c32_i32_3356
  let v3112 : BitVec 32 := Scalar.remsi v3109 v3111
  let c0_i32_3360 : BitVec 32 := 0#32
  let v3114 : BitVec 1 := Scalar.cmpi .slt v3112 c0_i32_3360
  let c0_i32_3361 : BitVec 32 := 0#32
  let v3115 : BitVec 1 := Scalar.cmpi .slt v3111 c0_i32_3361
  let v3116 : BitVec 1 := Scalar.xori v3114 v3115
  let c0_i32_3359 : BitVec 32 := 0#32
  let v3113 : BitVec 1 := Scalar.cmpi .ne v3112 c0_i32_3359
  let v3117 : BitVec 1 := Scalar.andi v3116 v3113
  let v3118 : BitVec 32 := Scalar.addi v3112 v3111
  let v3119 : BitVec 32 := Scalar.select v3117 v3118 v3112
  let c1_i32_3368 : BitVec 32 := 1#32
  let v3121 : BitVec 32 := Scalar.muli v3119 c1_i32_3368
  let v3122 : BitVec 32 := Scalar.addi c0_i32_3369 v3121
  v3122.toNat
def k0_dev112 (d0 : Dev nD) : Nat :=
  let c0_i32_3387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3373 : BitVec 32 := 19#32
  let v3130 : BitVec 32 := Scalar.addi v2 c19_i32_3373
  let c32_i32_3374 : BitVec 32 := 32#32
  let c0_i32_3375 : BitVec 32 := 0#32
  let v3131 : BitVec 1 := Scalar.cmpi .eq c32_i32_3374 c0_i32_3375
  let c1_i32_3376 : BitVec 32 := 1#32
  let v3132 : BitVec 32 := Scalar.select v3131 c1_i32_3376 c32_i32_3374
  let v3133 : BitVec 32 := Scalar.remsi v3130 v3132
  let c0_i32_3378 : BitVec 32 := 0#32
  let v3135 : BitVec 1 := Scalar.cmpi .slt v3133 c0_i32_3378
  let c0_i32_3379 : BitVec 32 := 0#32
  let v3136 : BitVec 1 := Scalar.cmpi .slt v3132 c0_i32_3379
  let v3137 : BitVec 1 := Scalar.xori v3135 v3136
  let c0_i32_3377 : BitVec 32 := 0#32
  let v3134 : BitVec 1 := Scalar.cmpi .ne v3133 c0_i32_3377
  let v3138 : BitVec 1 := Scalar.andi v3137 v3134
  let v3139 : BitVec 32 := Scalar.addi v3133 v3132
  let v3140 : BitVec 32 := Scalar.select v3138 v3139 v3133
  let c1_i32_3386 : BitVec 32 := 1#32
  let v3142 : BitVec 32 := Scalar.muli v3140 c1_i32_3386
  let v3143 : BitVec 32 := Scalar.addi c0_i32_3387 v3142
  v3143.toNat
def k0_dev113 (d0 : Dev nD) : Nat :=
  let c0_i32_3405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3391 : BitVec 32 := 20#32
  let v3151 : BitVec 32 := Scalar.addi v2 c20_i32_3391
  let c32_i32_3392 : BitVec 32 := 32#32
  let c0_i32_3393 : BitVec 32 := 0#32
  let v3152 : BitVec 1 := Scalar.cmpi .eq c32_i32_3392 c0_i32_3393
  let c1_i32_3394 : BitVec 32 := 1#32
  let v3153 : BitVec 32 := Scalar.select v3152 c1_i32_3394 c32_i32_3392
  let v3154 : BitVec 32 := Scalar.remsi v3151 v3153
  let c0_i32_3396 : BitVec 32 := 0#32
  let v3156 : BitVec 1 := Scalar.cmpi .slt v3154 c0_i32_3396
  let c0_i32_3397 : BitVec 32 := 0#32
  let v3157 : BitVec 1 := Scalar.cmpi .slt v3153 c0_i32_3397
  let v3158 : BitVec 1 := Scalar.xori v3156 v3157
  let c0_i32_3395 : BitVec 32 := 0#32
  let v3155 : BitVec 1 := Scalar.cmpi .ne v3154 c0_i32_3395
  let v3159 : BitVec 1 := Scalar.andi v3158 v3155
  let v3160 : BitVec 32 := Scalar.addi v3154 v3153
  let v3161 : BitVec 32 := Scalar.select v3159 v3160 v3154
  let c1_i32_3404 : BitVec 32 := 1#32
  let v3163 : BitVec 32 := Scalar.muli v3161 c1_i32_3404
  let v3164 : BitVec 32 := Scalar.addi c0_i32_3405 v3163
  v3164.toNat
def k0_dev114 (d0 : Dev nD) : Nat :=
  let c0_i32_3423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3409 : BitVec 32 := 21#32
  let v3172 : BitVec 32 := Scalar.addi v2 c21_i32_3409
  let c32_i32_3410 : BitVec 32 := 32#32
  let c0_i32_3411 : BitVec 32 := 0#32
  let v3173 : BitVec 1 := Scalar.cmpi .eq c32_i32_3410 c0_i32_3411
  let c1_i32_3412 : BitVec 32 := 1#32
  let v3174 : BitVec 32 := Scalar.select v3173 c1_i32_3412 c32_i32_3410
  let v3175 : BitVec 32 := Scalar.remsi v3172 v3174
  let c0_i32_3414 : BitVec 32 := 0#32
  let v3177 : BitVec 1 := Scalar.cmpi .slt v3175 c0_i32_3414
  let c0_i32_3415 : BitVec 32 := 0#32
  let v3178 : BitVec 1 := Scalar.cmpi .slt v3174 c0_i32_3415
  let v3179 : BitVec 1 := Scalar.xori v3177 v3178
  let c0_i32_3413 : BitVec 32 := 0#32
  let v3176 : BitVec 1 := Scalar.cmpi .ne v3175 c0_i32_3413
  let v3180 : BitVec 1 := Scalar.andi v3179 v3176
  let v3181 : BitVec 32 := Scalar.addi v3175 v3174
  let v3182 : BitVec 32 := Scalar.select v3180 v3181 v3175
  let c1_i32_3422 : BitVec 32 := 1#32
  let v3184 : BitVec 32 := Scalar.muli v3182 c1_i32_3422
  let v3185 : BitVec 32 := Scalar.addi c0_i32_3423 v3184
  v3185.toNat
def k0_dev115 (d0 : Dev nD) : Nat :=
  let c0_i32_3441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3427 : BitVec 32 := 22#32
  let v3193 : BitVec 32 := Scalar.addi v2 c22_i32_3427
  let c32_i32_3428 : BitVec 32 := 32#32
  let c0_i32_3429 : BitVec 32 := 0#32
  let v3194 : BitVec 1 := Scalar.cmpi .eq c32_i32_3428 c0_i32_3429
  let c1_i32_3430 : BitVec 32 := 1#32
  let v3195 : BitVec 32 := Scalar.select v3194 c1_i32_3430 c32_i32_3428
  let v3196 : BitVec 32 := Scalar.remsi v3193 v3195
  let c0_i32_3432 : BitVec 32 := 0#32
  let v3198 : BitVec 1 := Scalar.cmpi .slt v3196 c0_i32_3432
  let c0_i32_3433 : BitVec 32 := 0#32
  let v3199 : BitVec 1 := Scalar.cmpi .slt v3195 c0_i32_3433
  let v3200 : BitVec 1 := Scalar.xori v3198 v3199
  let c0_i32_3431 : BitVec 32 := 0#32
  let v3197 : BitVec 1 := Scalar.cmpi .ne v3196 c0_i32_3431
  let v3201 : BitVec 1 := Scalar.andi v3200 v3197
  let v3202 : BitVec 32 := Scalar.addi v3196 v3195
  let v3203 : BitVec 32 := Scalar.select v3201 v3202 v3196
  let c1_i32_3440 : BitVec 32 := 1#32
  let v3205 : BitVec 32 := Scalar.muli v3203 c1_i32_3440
  let v3206 : BitVec 32 := Scalar.addi c0_i32_3441 v3205
  v3206.toNat
def k0_dev116 (d0 : Dev nD) : Nat :=
  let c0_i32_3459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3445 : BitVec 32 := 23#32
  let v3214 : BitVec 32 := Scalar.addi v2 c23_i32_3445
  let c32_i32_3446 : BitVec 32 := 32#32
  let c0_i32_3447 : BitVec 32 := 0#32
  let v3215 : BitVec 1 := Scalar.cmpi .eq c32_i32_3446 c0_i32_3447
  let c1_i32_3448 : BitVec 32 := 1#32
  let v3216 : BitVec 32 := Scalar.select v3215 c1_i32_3448 c32_i32_3446
  let v3217 : BitVec 32 := Scalar.remsi v3214 v3216
  let c0_i32_3450 : BitVec 32 := 0#32
  let v3219 : BitVec 1 := Scalar.cmpi .slt v3217 c0_i32_3450
  let c0_i32_3451 : BitVec 32 := 0#32
  let v3220 : BitVec 1 := Scalar.cmpi .slt v3216 c0_i32_3451
  let v3221 : BitVec 1 := Scalar.xori v3219 v3220
  let c0_i32_3449 : BitVec 32 := 0#32
  let v3218 : BitVec 1 := Scalar.cmpi .ne v3217 c0_i32_3449
  let v3222 : BitVec 1 := Scalar.andi v3221 v3218
  let v3223 : BitVec 32 := Scalar.addi v3217 v3216
  let v3224 : BitVec 32 := Scalar.select v3222 v3223 v3217
  let c1_i32_3458 : BitVec 32 := 1#32
  let v3226 : BitVec 32 := Scalar.muli v3224 c1_i32_3458
  let v3227 : BitVec 32 := Scalar.addi c0_i32_3459 v3226
  v3227.toNat
def k0_dev117 (d0 : Dev nD) : Nat :=
  let c0_i32_3477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3463 : BitVec 32 := 24#32
  let v3235 : BitVec 32 := Scalar.addi v2 c24_i32_3463
  let c32_i32_3464 : BitVec 32 := 32#32
  let c0_i32_3465 : BitVec 32 := 0#32
  let v3236 : BitVec 1 := Scalar.cmpi .eq c32_i32_3464 c0_i32_3465
  let c1_i32_3466 : BitVec 32 := 1#32
  let v3237 : BitVec 32 := Scalar.select v3236 c1_i32_3466 c32_i32_3464
  let v3238 : BitVec 32 := Scalar.remsi v3235 v3237
  let c0_i32_3468 : BitVec 32 := 0#32
  let v3240 : BitVec 1 := Scalar.cmpi .slt v3238 c0_i32_3468
  let c0_i32_3469 : BitVec 32 := 0#32
  let v3241 : BitVec 1 := Scalar.cmpi .slt v3237 c0_i32_3469
  let v3242 : BitVec 1 := Scalar.xori v3240 v3241
  let c0_i32_3467 : BitVec 32 := 0#32
  let v3239 : BitVec 1 := Scalar.cmpi .ne v3238 c0_i32_3467
  let v3243 : BitVec 1 := Scalar.andi v3242 v3239
  let v3244 : BitVec 32 := Scalar.addi v3238 v3237
  let v3245 : BitVec 32 := Scalar.select v3243 v3244 v3238
  let c1_i32_3476 : BitVec 32 := 1#32
  let v3247 : BitVec 32 := Scalar.muli v3245 c1_i32_3476
  let v3248 : BitVec 32 := Scalar.addi c0_i32_3477 v3247
  v3248.toNat
def k0_dev118 (d0 : Dev nD) : Nat :=
  let c0_i32_3495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3481 : BitVec 32 := 25#32
  let v3256 : BitVec 32 := Scalar.addi v2 c25_i32_3481
  let c32_i32_3482 : BitVec 32 := 32#32
  let c0_i32_3483 : BitVec 32 := 0#32
  let v3257 : BitVec 1 := Scalar.cmpi .eq c32_i32_3482 c0_i32_3483
  let c1_i32_3484 : BitVec 32 := 1#32
  let v3258 : BitVec 32 := Scalar.select v3257 c1_i32_3484 c32_i32_3482
  let v3259 : BitVec 32 := Scalar.remsi v3256 v3258
  let c0_i32_3486 : BitVec 32 := 0#32
  let v3261 : BitVec 1 := Scalar.cmpi .slt v3259 c0_i32_3486
  let c0_i32_3487 : BitVec 32 := 0#32
  let v3262 : BitVec 1 := Scalar.cmpi .slt v3258 c0_i32_3487
  let v3263 : BitVec 1 := Scalar.xori v3261 v3262
  let c0_i32_3485 : BitVec 32 := 0#32
  let v3260 : BitVec 1 := Scalar.cmpi .ne v3259 c0_i32_3485
  let v3264 : BitVec 1 := Scalar.andi v3263 v3260
  let v3265 : BitVec 32 := Scalar.addi v3259 v3258
  let v3266 : BitVec 32 := Scalar.select v3264 v3265 v3259
  let c1_i32_3494 : BitVec 32 := 1#32
  let v3268 : BitVec 32 := Scalar.muli v3266 c1_i32_3494
  let v3269 : BitVec 32 := Scalar.addi c0_i32_3495 v3268
  v3269.toNat
def k0_dev119 (d0 : Dev nD) : Nat :=
  let c0_i32_3513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3499 : BitVec 32 := 26#32
  let v3277 : BitVec 32 := Scalar.addi v2 c26_i32_3499
  let c32_i32_3500 : BitVec 32 := 32#32
  let c0_i32_3501 : BitVec 32 := 0#32
  let v3278 : BitVec 1 := Scalar.cmpi .eq c32_i32_3500 c0_i32_3501
  let c1_i32_3502 : BitVec 32 := 1#32
  let v3279 : BitVec 32 := Scalar.select v3278 c1_i32_3502 c32_i32_3500
  let v3280 : BitVec 32 := Scalar.remsi v3277 v3279
  let c0_i32_3504 : BitVec 32 := 0#32
  let v3282 : BitVec 1 := Scalar.cmpi .slt v3280 c0_i32_3504
  let c0_i32_3505 : BitVec 32 := 0#32
  let v3283 : BitVec 1 := Scalar.cmpi .slt v3279 c0_i32_3505
  let v3284 : BitVec 1 := Scalar.xori v3282 v3283
  let c0_i32_3503 : BitVec 32 := 0#32
  let v3281 : BitVec 1 := Scalar.cmpi .ne v3280 c0_i32_3503
  let v3285 : BitVec 1 := Scalar.andi v3284 v3281
  let v3286 : BitVec 32 := Scalar.addi v3280 v3279
  let v3287 : BitVec 32 := Scalar.select v3285 v3286 v3280
  let c1_i32_3512 : BitVec 32 := 1#32
  let v3289 : BitVec 32 := Scalar.muli v3287 c1_i32_3512
  let v3290 : BitVec 32 := Scalar.addi c0_i32_3513 v3289
  v3290.toNat
def k0_dev120 (d0 : Dev nD) : Nat :=
  let c0_i32_3531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3517 : BitVec 32 := 27#32
  let v3298 : BitVec 32 := Scalar.addi v2 c27_i32_3517
  let c32_i32_3518 : BitVec 32 := 32#32
  let c0_i32_3519 : BitVec 32 := 0#32
  let v3299 : BitVec 1 := Scalar.cmpi .eq c32_i32_3518 c0_i32_3519
  let c1_i32_3520 : BitVec 32 := 1#32
  let v3300 : BitVec 32 := Scalar.select v3299 c1_i32_3520 c32_i32_3518
  let v3301 : BitVec 32 := Scalar.remsi v3298 v3300
  let c0_i32_3522 : BitVec 32 := 0#32
  let v3303 : BitVec 1 := Scalar.cmpi .slt v3301 c0_i32_3522
  let c0_i32_3523 : BitVec 32 := 0#32
  let v3304 : BitVec 1 := Scalar.cmpi .slt v3300 c0_i32_3523
  let v3305 : BitVec 1 := Scalar.xori v3303 v3304
  let c0_i32_3521 : BitVec 32 := 0#32
  let v3302 : BitVec 1 := Scalar.cmpi .ne v3301 c0_i32_3521
  let v3306 : BitVec 1 := Scalar.andi v3305 v3302
  let v3307 : BitVec 32 := Scalar.addi v3301 v3300
  let v3308 : BitVec 32 := Scalar.select v3306 v3307 v3301
  let c1_i32_3530 : BitVec 32 := 1#32
  let v3310 : BitVec 32 := Scalar.muli v3308 c1_i32_3530
  let v3311 : BitVec 32 := Scalar.addi c0_i32_3531 v3310
  v3311.toNat
def k0_dev121 (d0 : Dev nD) : Nat :=
  let c0_i32_3549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3535 : BitVec 32 := 28#32
  let v3319 : BitVec 32 := Scalar.addi v2 c28_i32_3535
  let c32_i32_3536 : BitVec 32 := 32#32
  let c0_i32_3537 : BitVec 32 := 0#32
  let v3320 : BitVec 1 := Scalar.cmpi .eq c32_i32_3536 c0_i32_3537
  let c1_i32_3538 : BitVec 32 := 1#32
  let v3321 : BitVec 32 := Scalar.select v3320 c1_i32_3538 c32_i32_3536
  let v3322 : BitVec 32 := Scalar.remsi v3319 v3321
  let c0_i32_3540 : BitVec 32 := 0#32
  let v3324 : BitVec 1 := Scalar.cmpi .slt v3322 c0_i32_3540
  let c0_i32_3541 : BitVec 32 := 0#32
  let v3325 : BitVec 1 := Scalar.cmpi .slt v3321 c0_i32_3541
  let v3326 : BitVec 1 := Scalar.xori v3324 v3325
  let c0_i32_3539 : BitVec 32 := 0#32
  let v3323 : BitVec 1 := Scalar.cmpi .ne v3322 c0_i32_3539
  let v3327 : BitVec 1 := Scalar.andi v3326 v3323
  let v3328 : BitVec 32 := Scalar.addi v3322 v3321
  let v3329 : BitVec 32 := Scalar.select v3327 v3328 v3322
  let c1_i32_3548 : BitVec 32 := 1#32
  let v3331 : BitVec 32 := Scalar.muli v3329 c1_i32_3548
  let v3332 : BitVec 32 := Scalar.addi c0_i32_3549 v3331
  v3332.toNat
def k0_dev122 (d0 : Dev nD) : Nat :=
  let c0_i32_3567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3553 : BitVec 32 := 29#32
  let v3340 : BitVec 32 := Scalar.addi v2 c29_i32_3553
  let c32_i32_3554 : BitVec 32 := 32#32
  let c0_i32_3555 : BitVec 32 := 0#32
  let v3341 : BitVec 1 := Scalar.cmpi .eq c32_i32_3554 c0_i32_3555
  let c1_i32_3556 : BitVec 32 := 1#32
  let v3342 : BitVec 32 := Scalar.select v3341 c1_i32_3556 c32_i32_3554
  let v3343 : BitVec 32 := Scalar.remsi v3340 v3342
  let c0_i32_3558 : BitVec 32 := 0#32
  let v3345 : BitVec 1 := Scalar.cmpi .slt v3343 c0_i32_3558
  let c0_i32_3559 : BitVec 32 := 0#32
  let v3346 : BitVec 1 := Scalar.cmpi .slt v3342 c0_i32_3559
  let v3347 : BitVec 1 := Scalar.xori v3345 v3346
  let c0_i32_3557 : BitVec 32 := 0#32
  let v3344 : BitVec 1 := Scalar.cmpi .ne v3343 c0_i32_3557
  let v3348 : BitVec 1 := Scalar.andi v3347 v3344
  let v3349 : BitVec 32 := Scalar.addi v3343 v3342
  let v3350 : BitVec 32 := Scalar.select v3348 v3349 v3343
  let c1_i32_3566 : BitVec 32 := 1#32
  let v3352 : BitVec 32 := Scalar.muli v3350 c1_i32_3566
  let v3353 : BitVec 32 := Scalar.addi c0_i32_3567 v3352
  v3353.toNat
def k0_dev123 (d0 : Dev nD) : Nat :=
  let c0_i32_3585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3571 : BitVec 32 := 30#32
  let v3361 : BitVec 32 := Scalar.addi v2 c30_i32_3571
  let c32_i32_3572 : BitVec 32 := 32#32
  let c0_i32_3573 : BitVec 32 := 0#32
  let v3362 : BitVec 1 := Scalar.cmpi .eq c32_i32_3572 c0_i32_3573
  let c1_i32_3574 : BitVec 32 := 1#32
  let v3363 : BitVec 32 := Scalar.select v3362 c1_i32_3574 c32_i32_3572
  let v3364 : BitVec 32 := Scalar.remsi v3361 v3363
  let c0_i32_3576 : BitVec 32 := 0#32
  let v3366 : BitVec 1 := Scalar.cmpi .slt v3364 c0_i32_3576
  let c0_i32_3577 : BitVec 32 := 0#32
  let v3367 : BitVec 1 := Scalar.cmpi .slt v3363 c0_i32_3577
  let v3368 : BitVec 1 := Scalar.xori v3366 v3367
  let c0_i32_3575 : BitVec 32 := 0#32
  let v3365 : BitVec 1 := Scalar.cmpi .ne v3364 c0_i32_3575
  let v3369 : BitVec 1 := Scalar.andi v3368 v3365
  let v3370 : BitVec 32 := Scalar.addi v3364 v3363
  let v3371 : BitVec 32 := Scalar.select v3369 v3370 v3364
  let c1_i32_3584 : BitVec 32 := 1#32
  let v3373 : BitVec 32 := Scalar.muli v3371 c1_i32_3584
  let v3374 : BitVec 32 := Scalar.addi c0_i32_3585 v3373
  v3374.toNat
def k0_dev124 (d0 : Dev nD) : Nat :=
  let c0_i32_3603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3589 : BitVec 32 := 31#32
  let v3382 : BitVec 32 := Scalar.addi v2 c31_i32_3589
  let c32_i32_3590 : BitVec 32 := 32#32
  let c0_i32_3591 : BitVec 32 := 0#32
  let v3383 : BitVec 1 := Scalar.cmpi .eq c32_i32_3590 c0_i32_3591
  let c1_i32_3592 : BitVec 32 := 1#32
  let v3384 : BitVec 32 := Scalar.select v3383 c1_i32_3592 c32_i32_3590
  let v3385 : BitVec 32 := Scalar.remsi v3382 v3384
  let c0_i32_3594 : BitVec 32 := 0#32
  let v3387 : BitVec 1 := Scalar.cmpi .slt v3385 c0_i32_3594
  let c0_i32_3595 : BitVec 32 := 0#32
  let v3388 : BitVec 1 := Scalar.cmpi .slt v3384 c0_i32_3595
  let v3389 : BitVec 1 := Scalar.xori v3387 v3388
  let c0_i32_3593 : BitVec 32 := 0#32
  let v3386 : BitVec 1 := Scalar.cmpi .ne v3385 c0_i32_3593
  let v3390 : BitVec 1 := Scalar.andi v3389 v3386
  let v3391 : BitVec 32 := Scalar.addi v3385 v3384
  let v3392 : BitVec 32 := Scalar.select v3390 v3391 v3385
  let c1_i32_3602 : BitVec 32 := 1#32
  let v3394 : BitVec 32 := Scalar.muli v3392 c1_i32_3602
  let v3395 : BitVec 32 := Scalar.addi c0_i32_3603 v3394
  v3395.toNat
def k0_off6 (d0 : Dev nD) : Fin 3 → Nat :=
  let c1_i32_4342 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4340 : BitVec 32 := 16#32
  let v3831 : BitVec 32 := Scalar.muli v2 c16_i32_4340
  let c0_i32_4349 : BitVec 32 := 0#32
  ![1, v3831.toNat, 0]
def k0_dev125 (d0 : Dev nD) : Nat :=
  let c0_i32_4347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4333 : BitVec 32 := 1#32
  let v3820 : BitVec 32 := Scalar.addi v2 c1_i32_4333
  let c32_i32_4334 : BitVec 32 := 32#32
  let c0_i32_4335 : BitVec 32 := 0#32
  let v3821 : BitVec 1 := Scalar.cmpi .eq c32_i32_4334 c0_i32_4335
  let c1_i32_4336 : BitVec 32 := 1#32
  let v3822 : BitVec 32 := Scalar.select v3821 c1_i32_4336 c32_i32_4334
  let v3823 : BitVec 32 := Scalar.remsi v3820 v3822
  let c0_i32_4338 : BitVec 32 := 0#32
  let v3825 : BitVec 1 := Scalar.cmpi .slt v3823 c0_i32_4338
  let c0_i32_4339 : BitVec 32 := 0#32
  let v3826 : BitVec 1 := Scalar.cmpi .slt v3822 c0_i32_4339
  let v3827 : BitVec 1 := Scalar.xori v3825 v3826
  let c0_i32_4337 : BitVec 32 := 0#32
  let v3824 : BitVec 1 := Scalar.cmpi .ne v3823 c0_i32_4337
  let v3828 : BitVec 1 := Scalar.andi v3827 v3824
  let v3829 : BitVec 32 := Scalar.addi v3823 v3822
  let v3830 : BitVec 32 := Scalar.select v3828 v3829 v3823
  let c1_i32_4346 : BitVec 32 := 1#32
  let v3832 : BitVec 32 := Scalar.muli v3830 c1_i32_4346
  let v3833 : BitVec 32 := Scalar.addi c0_i32_4347 v3832
  v3833.toNat
def k0_dev126 (d0 : Dev nD) : Nat :=
  let c0_i32_4367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4353 : BitVec 32 := 2#32
  let v3843 : BitVec 32 := Scalar.addi v2 c2_i32_4353
  let c32_i32_4354 : BitVec 32 := 32#32
  let c0_i32_4355 : BitVec 32 := 0#32
  let v3844 : BitVec 1 := Scalar.cmpi .eq c32_i32_4354 c0_i32_4355
  let c1_i32_4356 : BitVec 32 := 1#32
  let v3845 : BitVec 32 := Scalar.select v3844 c1_i32_4356 c32_i32_4354
  let v3846 : BitVec 32 := Scalar.remsi v3843 v3845
  let c0_i32_4358 : BitVec 32 := 0#32
  let v3848 : BitVec 1 := Scalar.cmpi .slt v3846 c0_i32_4358
  let c0_i32_4359 : BitVec 32 := 0#32
  let v3849 : BitVec 1 := Scalar.cmpi .slt v3845 c0_i32_4359
  let v3850 : BitVec 1 := Scalar.xori v3848 v3849
  let c0_i32_4357 : BitVec 32 := 0#32
  let v3847 : BitVec 1 := Scalar.cmpi .ne v3846 c0_i32_4357
  let v3851 : BitVec 1 := Scalar.andi v3850 v3847
  let v3852 : BitVec 32 := Scalar.addi v3846 v3845
  let v3853 : BitVec 32 := Scalar.select v3851 v3852 v3846
  let c1_i32_4366 : BitVec 32 := 1#32
  let v3855 : BitVec 32 := Scalar.muli v3853 c1_i32_4366
  let v3856 : BitVec 32 := Scalar.addi c0_i32_4367 v3855
  v3856.toNat
def k0_dev127 (d0 : Dev nD) : Nat :=
  let c0_i32_4387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4373 : BitVec 32 := 3#32
  let v3866 : BitVec 32 := Scalar.addi v2 c3_i32_4373
  let c32_i32_4374 : BitVec 32 := 32#32
  let c0_i32_4375 : BitVec 32 := 0#32
  let v3867 : BitVec 1 := Scalar.cmpi .eq c32_i32_4374 c0_i32_4375
  let c1_i32_4376 : BitVec 32 := 1#32
  let v3868 : BitVec 32 := Scalar.select v3867 c1_i32_4376 c32_i32_4374
  let v3869 : BitVec 32 := Scalar.remsi v3866 v3868
  let c0_i32_4378 : BitVec 32 := 0#32
  let v3871 : BitVec 1 := Scalar.cmpi .slt v3869 c0_i32_4378
  let c0_i32_4379 : BitVec 32 := 0#32
  let v3872 : BitVec 1 := Scalar.cmpi .slt v3868 c0_i32_4379
  let v3873 : BitVec 1 := Scalar.xori v3871 v3872
  let c0_i32_4377 : BitVec 32 := 0#32
  let v3870 : BitVec 1 := Scalar.cmpi .ne v3869 c0_i32_4377
  let v3874 : BitVec 1 := Scalar.andi v3873 v3870
  let v3875 : BitVec 32 := Scalar.addi v3869 v3868
  let v3876 : BitVec 32 := Scalar.select v3874 v3875 v3869
  let c1_i32_4386 : BitVec 32 := 1#32
  let v3878 : BitVec 32 := Scalar.muli v3876 c1_i32_4386
  let v3879 : BitVec 32 := Scalar.addi c0_i32_4387 v3878
  v3879.toNat
def k0_dev128 (d0 : Dev nD) : Nat :=
  let c0_i32_4407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4393 : BitVec 32 := 4#32
  let v3889 : BitVec 32 := Scalar.addi v2 c4_i32_4393
  let c32_i32_4394 : BitVec 32 := 32#32
  let c0_i32_4395 : BitVec 32 := 0#32
  let v3890 : BitVec 1 := Scalar.cmpi .eq c32_i32_4394 c0_i32_4395
  let c1_i32_4396 : BitVec 32 := 1#32
  let v3891 : BitVec 32 := Scalar.select v3890 c1_i32_4396 c32_i32_4394
  let v3892 : BitVec 32 := Scalar.remsi v3889 v3891
  let c0_i32_4398 : BitVec 32 := 0#32
  let v3894 : BitVec 1 := Scalar.cmpi .slt v3892 c0_i32_4398
  let c0_i32_4399 : BitVec 32 := 0#32
  let v3895 : BitVec 1 := Scalar.cmpi .slt v3891 c0_i32_4399
  let v3896 : BitVec 1 := Scalar.xori v3894 v3895
  let c0_i32_4397 : BitVec 32 := 0#32
  let v3893 : BitVec 1 := Scalar.cmpi .ne v3892 c0_i32_4397
  let v3897 : BitVec 1 := Scalar.andi v3896 v3893
  let v3898 : BitVec 32 := Scalar.addi v3892 v3891
  let v3899 : BitVec 32 := Scalar.select v3897 v3898 v3892
  let c1_i32_4406 : BitVec 32 := 1#32
  let v3901 : BitVec 32 := Scalar.muli v3899 c1_i32_4406
  let v3902 : BitVec 32 := Scalar.addi c0_i32_4407 v3901
  v3902.toNat
def k0_dev129 (d0 : Dev nD) : Nat :=
  let c0_i32_4427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4413 : BitVec 32 := 5#32
  let v3912 : BitVec 32 := Scalar.addi v2 c5_i32_4413
  let c32_i32_4414 : BitVec 32 := 32#32
  let c0_i32_4415 : BitVec 32 := 0#32
  let v3913 : BitVec 1 := Scalar.cmpi .eq c32_i32_4414 c0_i32_4415
  let c1_i32_4416 : BitVec 32 := 1#32
  let v3914 : BitVec 32 := Scalar.select v3913 c1_i32_4416 c32_i32_4414
  let v3915 : BitVec 32 := Scalar.remsi v3912 v3914
  let c0_i32_4418 : BitVec 32 := 0#32
  let v3917 : BitVec 1 := Scalar.cmpi .slt v3915 c0_i32_4418
  let c0_i32_4419 : BitVec 32 := 0#32
  let v3918 : BitVec 1 := Scalar.cmpi .slt v3914 c0_i32_4419
  let v3919 : BitVec 1 := Scalar.xori v3917 v3918
  let c0_i32_4417 : BitVec 32 := 0#32
  let v3916 : BitVec 1 := Scalar.cmpi .ne v3915 c0_i32_4417
  let v3920 : BitVec 1 := Scalar.andi v3919 v3916
  let v3921 : BitVec 32 := Scalar.addi v3915 v3914
  let v3922 : BitVec 32 := Scalar.select v3920 v3921 v3915
  let c1_i32_4426 : BitVec 32 := 1#32
  let v3924 : BitVec 32 := Scalar.muli v3922 c1_i32_4426
  let v3925 : BitVec 32 := Scalar.addi c0_i32_4427 v3924
  v3925.toNat
def k0_dev130 (d0 : Dev nD) : Nat :=
  let c0_i32_4447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4433 : BitVec 32 := 6#32
  let v3935 : BitVec 32 := Scalar.addi v2 c6_i32_4433
  let c32_i32_4434 : BitVec 32 := 32#32
  let c0_i32_4435 : BitVec 32 := 0#32
  let v3936 : BitVec 1 := Scalar.cmpi .eq c32_i32_4434 c0_i32_4435
  let c1_i32_4436 : BitVec 32 := 1#32
  let v3937 : BitVec 32 := Scalar.select v3936 c1_i32_4436 c32_i32_4434
  let v3938 : BitVec 32 := Scalar.remsi v3935 v3937
  let c0_i32_4438 : BitVec 32 := 0#32
  let v3940 : BitVec 1 := Scalar.cmpi .slt v3938 c0_i32_4438
  let c0_i32_4439 : BitVec 32 := 0#32
  let v3941 : BitVec 1 := Scalar.cmpi .slt v3937 c0_i32_4439
  let v3942 : BitVec 1 := Scalar.xori v3940 v3941
  let c0_i32_4437 : BitVec 32 := 0#32
  let v3939 : BitVec 1 := Scalar.cmpi .ne v3938 c0_i32_4437
  let v3943 : BitVec 1 := Scalar.andi v3942 v3939
  let v3944 : BitVec 32 := Scalar.addi v3938 v3937
  let v3945 : BitVec 32 := Scalar.select v3943 v3944 v3938
  let c1_i32_4446 : BitVec 32 := 1#32
  let v3947 : BitVec 32 := Scalar.muli v3945 c1_i32_4446
  let v3948 : BitVec 32 := Scalar.addi c0_i32_4447 v3947
  v3948.toNat
def k0_dev131 (d0 : Dev nD) : Nat :=
  let c0_i32_4467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4453 : BitVec 32 := 7#32
  let v3958 : BitVec 32 := Scalar.addi v2 c7_i32_4453
  let c32_i32_4454 : BitVec 32 := 32#32
  let c0_i32_4455 : BitVec 32 := 0#32
  let v3959 : BitVec 1 := Scalar.cmpi .eq c32_i32_4454 c0_i32_4455
  let c1_i32_4456 : BitVec 32 := 1#32
  let v3960 : BitVec 32 := Scalar.select v3959 c1_i32_4456 c32_i32_4454
  let v3961 : BitVec 32 := Scalar.remsi v3958 v3960
  let c0_i32_4458 : BitVec 32 := 0#32
  let v3963 : BitVec 1 := Scalar.cmpi .slt v3961 c0_i32_4458
  let c0_i32_4459 : BitVec 32 := 0#32
  let v3964 : BitVec 1 := Scalar.cmpi .slt v3960 c0_i32_4459
  let v3965 : BitVec 1 := Scalar.xori v3963 v3964
  let c0_i32_4457 : BitVec 32 := 0#32
  let v3962 : BitVec 1 := Scalar.cmpi .ne v3961 c0_i32_4457
  let v3966 : BitVec 1 := Scalar.andi v3965 v3962
  let v3967 : BitVec 32 := Scalar.addi v3961 v3960
  let v3968 : BitVec 32 := Scalar.select v3966 v3967 v3961
  let c1_i32_4466 : BitVec 32 := 1#32
  let v3970 : BitVec 32 := Scalar.muli v3968 c1_i32_4466
  let v3971 : BitVec 32 := Scalar.addi c0_i32_4467 v3970
  v3971.toNat
def k0_dev132 (d0 : Dev nD) : Nat :=
  let c0_i32_4487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4473 : BitVec 32 := 8#32
  let v3981 : BitVec 32 := Scalar.addi v2 c8_i32_4473
  let c32_i32_4474 : BitVec 32 := 32#32
  let c0_i32_4475 : BitVec 32 := 0#32
  let v3982 : BitVec 1 := Scalar.cmpi .eq c32_i32_4474 c0_i32_4475
  let c1_i32_4476 : BitVec 32 := 1#32
  let v3983 : BitVec 32 := Scalar.select v3982 c1_i32_4476 c32_i32_4474
  let v3984 : BitVec 32 := Scalar.remsi v3981 v3983
  let c0_i32_4478 : BitVec 32 := 0#32
  let v3986 : BitVec 1 := Scalar.cmpi .slt v3984 c0_i32_4478
  let c0_i32_4479 : BitVec 32 := 0#32
  let v3987 : BitVec 1 := Scalar.cmpi .slt v3983 c0_i32_4479
  let v3988 : BitVec 1 := Scalar.xori v3986 v3987
  let c0_i32_4477 : BitVec 32 := 0#32
  let v3985 : BitVec 1 := Scalar.cmpi .ne v3984 c0_i32_4477
  let v3989 : BitVec 1 := Scalar.andi v3988 v3985
  let v3990 : BitVec 32 := Scalar.addi v3984 v3983
  let v3991 : BitVec 32 := Scalar.select v3989 v3990 v3984
  let c1_i32_4486 : BitVec 32 := 1#32
  let v3993 : BitVec 32 := Scalar.muli v3991 c1_i32_4486
  let v3994 : BitVec 32 := Scalar.addi c0_i32_4487 v3993
  v3994.toNat
def k0_dev133 (d0 : Dev nD) : Nat :=
  let c0_i32_4507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4493 : BitVec 32 := 9#32
  let v4004 : BitVec 32 := Scalar.addi v2 c9_i32_4493
  let c32_i32_4494 : BitVec 32 := 32#32
  let c0_i32_4495 : BitVec 32 := 0#32
  let v4005 : BitVec 1 := Scalar.cmpi .eq c32_i32_4494 c0_i32_4495
  let c1_i32_4496 : BitVec 32 := 1#32
  let v4006 : BitVec 32 := Scalar.select v4005 c1_i32_4496 c32_i32_4494
  let v4007 : BitVec 32 := Scalar.remsi v4004 v4006
  let c0_i32_4498 : BitVec 32 := 0#32
  let v4009 : BitVec 1 := Scalar.cmpi .slt v4007 c0_i32_4498
  let c0_i32_4499 : BitVec 32 := 0#32
  let v4010 : BitVec 1 := Scalar.cmpi .slt v4006 c0_i32_4499
  let v4011 : BitVec 1 := Scalar.xori v4009 v4010
  let c0_i32_4497 : BitVec 32 := 0#32
  let v4008 : BitVec 1 := Scalar.cmpi .ne v4007 c0_i32_4497
  let v4012 : BitVec 1 := Scalar.andi v4011 v4008
  let v4013 : BitVec 32 := Scalar.addi v4007 v4006
  let v4014 : BitVec 32 := Scalar.select v4012 v4013 v4007
  let c1_i32_4506 : BitVec 32 := 1#32
  let v4016 : BitVec 32 := Scalar.muli v4014 c1_i32_4506
  let v4017 : BitVec 32 := Scalar.addi c0_i32_4507 v4016
  v4017.toNat
def k0_dev134 (d0 : Dev nD) : Nat :=
  let c0_i32_4527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4513 : BitVec 32 := 10#32
  let v4027 : BitVec 32 := Scalar.addi v2 c10_i32_4513
  let c32_i32_4514 : BitVec 32 := 32#32
  let c0_i32_4515 : BitVec 32 := 0#32
  let v4028 : BitVec 1 := Scalar.cmpi .eq c32_i32_4514 c0_i32_4515
  let c1_i32_4516 : BitVec 32 := 1#32
  let v4029 : BitVec 32 := Scalar.select v4028 c1_i32_4516 c32_i32_4514
  let v4030 : BitVec 32 := Scalar.remsi v4027 v4029
  let c0_i32_4518 : BitVec 32 := 0#32
  let v4032 : BitVec 1 := Scalar.cmpi .slt v4030 c0_i32_4518
  let c0_i32_4519 : BitVec 32 := 0#32
  let v4033 : BitVec 1 := Scalar.cmpi .slt v4029 c0_i32_4519
  let v4034 : BitVec 1 := Scalar.xori v4032 v4033
  let c0_i32_4517 : BitVec 32 := 0#32
  let v4031 : BitVec 1 := Scalar.cmpi .ne v4030 c0_i32_4517
  let v4035 : BitVec 1 := Scalar.andi v4034 v4031
  let v4036 : BitVec 32 := Scalar.addi v4030 v4029
  let v4037 : BitVec 32 := Scalar.select v4035 v4036 v4030
  let c1_i32_4526 : BitVec 32 := 1#32
  let v4039 : BitVec 32 := Scalar.muli v4037 c1_i32_4526
  let v4040 : BitVec 32 := Scalar.addi c0_i32_4527 v4039
  v4040.toNat
def k0_dev135 (d0 : Dev nD) : Nat :=
  let c0_i32_4547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4533 : BitVec 32 := 11#32
  let v4050 : BitVec 32 := Scalar.addi v2 c11_i32_4533
  let c32_i32_4534 : BitVec 32 := 32#32
  let c0_i32_4535 : BitVec 32 := 0#32
  let v4051 : BitVec 1 := Scalar.cmpi .eq c32_i32_4534 c0_i32_4535
  let c1_i32_4536 : BitVec 32 := 1#32
  let v4052 : BitVec 32 := Scalar.select v4051 c1_i32_4536 c32_i32_4534
  let v4053 : BitVec 32 := Scalar.remsi v4050 v4052
  let c0_i32_4538 : BitVec 32 := 0#32
  let v4055 : BitVec 1 := Scalar.cmpi .slt v4053 c0_i32_4538
  let c0_i32_4539 : BitVec 32 := 0#32
  let v4056 : BitVec 1 := Scalar.cmpi .slt v4052 c0_i32_4539
  let v4057 : BitVec 1 := Scalar.xori v4055 v4056
  let c0_i32_4537 : BitVec 32 := 0#32
  let v4054 : BitVec 1 := Scalar.cmpi .ne v4053 c0_i32_4537
  let v4058 : BitVec 1 := Scalar.andi v4057 v4054
  let v4059 : BitVec 32 := Scalar.addi v4053 v4052
  let v4060 : BitVec 32 := Scalar.select v4058 v4059 v4053
  let c1_i32_4546 : BitVec 32 := 1#32
  let v4062 : BitVec 32 := Scalar.muli v4060 c1_i32_4546
  let v4063 : BitVec 32 := Scalar.addi c0_i32_4547 v4062
  v4063.toNat
def k0_dev136 (d0 : Dev nD) : Nat :=
  let c0_i32_4567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4553 : BitVec 32 := 12#32
  let v4073 : BitVec 32 := Scalar.addi v2 c12_i32_4553
  let c32_i32_4554 : BitVec 32 := 32#32
  let c0_i32_4555 : BitVec 32 := 0#32
  let v4074 : BitVec 1 := Scalar.cmpi .eq c32_i32_4554 c0_i32_4555
  let c1_i32_4556 : BitVec 32 := 1#32
  let v4075 : BitVec 32 := Scalar.select v4074 c1_i32_4556 c32_i32_4554
  let v4076 : BitVec 32 := Scalar.remsi v4073 v4075
  let c0_i32_4558 : BitVec 32 := 0#32
  let v4078 : BitVec 1 := Scalar.cmpi .slt v4076 c0_i32_4558
  let c0_i32_4559 : BitVec 32 := 0#32
  let v4079 : BitVec 1 := Scalar.cmpi .slt v4075 c0_i32_4559
  let v4080 : BitVec 1 := Scalar.xori v4078 v4079
  let c0_i32_4557 : BitVec 32 := 0#32
  let v4077 : BitVec 1 := Scalar.cmpi .ne v4076 c0_i32_4557
  let v4081 : BitVec 1 := Scalar.andi v4080 v4077
  let v4082 : BitVec 32 := Scalar.addi v4076 v4075
  let v4083 : BitVec 32 := Scalar.select v4081 v4082 v4076
  let c1_i32_4566 : BitVec 32 := 1#32
  let v4085 : BitVec 32 := Scalar.muli v4083 c1_i32_4566
  let v4086 : BitVec 32 := Scalar.addi c0_i32_4567 v4085
  v4086.toNat
def k0_dev137 (d0 : Dev nD) : Nat :=
  let c0_i32_4587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4573 : BitVec 32 := 13#32
  let v4096 : BitVec 32 := Scalar.addi v2 c13_i32_4573
  let c32_i32_4574 : BitVec 32 := 32#32
  let c0_i32_4575 : BitVec 32 := 0#32
  let v4097 : BitVec 1 := Scalar.cmpi .eq c32_i32_4574 c0_i32_4575
  let c1_i32_4576 : BitVec 32 := 1#32
  let v4098 : BitVec 32 := Scalar.select v4097 c1_i32_4576 c32_i32_4574
  let v4099 : BitVec 32 := Scalar.remsi v4096 v4098
  let c0_i32_4578 : BitVec 32 := 0#32
  let v4101 : BitVec 1 := Scalar.cmpi .slt v4099 c0_i32_4578
  let c0_i32_4579 : BitVec 32 := 0#32
  let v4102 : BitVec 1 := Scalar.cmpi .slt v4098 c0_i32_4579
  let v4103 : BitVec 1 := Scalar.xori v4101 v4102
  let c0_i32_4577 : BitVec 32 := 0#32
  let v4100 : BitVec 1 := Scalar.cmpi .ne v4099 c0_i32_4577
  let v4104 : BitVec 1 := Scalar.andi v4103 v4100
  let v4105 : BitVec 32 := Scalar.addi v4099 v4098
  let v4106 : BitVec 32 := Scalar.select v4104 v4105 v4099
  let c1_i32_4586 : BitVec 32 := 1#32
  let v4108 : BitVec 32 := Scalar.muli v4106 c1_i32_4586
  let v4109 : BitVec 32 := Scalar.addi c0_i32_4587 v4108
  v4109.toNat
def k0_dev138 (d0 : Dev nD) : Nat :=
  let c0_i32_4607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4593 : BitVec 32 := 14#32
  let v4119 : BitVec 32 := Scalar.addi v2 c14_i32_4593
  let c32_i32_4594 : BitVec 32 := 32#32
  let c0_i32_4595 : BitVec 32 := 0#32
  let v4120 : BitVec 1 := Scalar.cmpi .eq c32_i32_4594 c0_i32_4595
  let c1_i32_4596 : BitVec 32 := 1#32
  let v4121 : BitVec 32 := Scalar.select v4120 c1_i32_4596 c32_i32_4594
  let v4122 : BitVec 32 := Scalar.remsi v4119 v4121
  let c0_i32_4598 : BitVec 32 := 0#32
  let v4124 : BitVec 1 := Scalar.cmpi .slt v4122 c0_i32_4598
  let c0_i32_4599 : BitVec 32 := 0#32
  let v4125 : BitVec 1 := Scalar.cmpi .slt v4121 c0_i32_4599
  let v4126 : BitVec 1 := Scalar.xori v4124 v4125
  let c0_i32_4597 : BitVec 32 := 0#32
  let v4123 : BitVec 1 := Scalar.cmpi .ne v4122 c0_i32_4597
  let v4127 : BitVec 1 := Scalar.andi v4126 v4123
  let v4128 : BitVec 32 := Scalar.addi v4122 v4121
  let v4129 : BitVec 32 := Scalar.select v4127 v4128 v4122
  let c1_i32_4606 : BitVec 32 := 1#32
  let v4131 : BitVec 32 := Scalar.muli v4129 c1_i32_4606
  let v4132 : BitVec 32 := Scalar.addi c0_i32_4607 v4131
  v4132.toNat
def k0_dev139 (d0 : Dev nD) : Nat :=
  let c0_i32_4627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4613 : BitVec 32 := 15#32
  let v4142 : BitVec 32 := Scalar.addi v2 c15_i32_4613
  let c32_i32_4614 : BitVec 32 := 32#32
  let c0_i32_4615 : BitVec 32 := 0#32
  let v4143 : BitVec 1 := Scalar.cmpi .eq c32_i32_4614 c0_i32_4615
  let c1_i32_4616 : BitVec 32 := 1#32
  let v4144 : BitVec 32 := Scalar.select v4143 c1_i32_4616 c32_i32_4614
  let v4145 : BitVec 32 := Scalar.remsi v4142 v4144
  let c0_i32_4618 : BitVec 32 := 0#32
  let v4147 : BitVec 1 := Scalar.cmpi .slt v4145 c0_i32_4618
  let c0_i32_4619 : BitVec 32 := 0#32
  let v4148 : BitVec 1 := Scalar.cmpi .slt v4144 c0_i32_4619
  let v4149 : BitVec 1 := Scalar.xori v4147 v4148
  let c0_i32_4617 : BitVec 32 := 0#32
  let v4146 : BitVec 1 := Scalar.cmpi .ne v4145 c0_i32_4617
  let v4150 : BitVec 1 := Scalar.andi v4149 v4146
  let v4151 : BitVec 32 := Scalar.addi v4145 v4144
  let v4152 : BitVec 32 := Scalar.select v4150 v4151 v4145
  let c1_i32_4626 : BitVec 32 := 1#32
  let v4154 : BitVec 32 := Scalar.muli v4152 c1_i32_4626
  let v4155 : BitVec 32 := Scalar.addi c0_i32_4627 v4154
  v4155.toNat
def k0_dev140 (d0 : Dev nD) : Nat :=
  let c0_i32_4647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4633 : BitVec 32 := 16#32
  let v4165 : BitVec 32 := Scalar.addi v2 c16_i32_4633
  let c32_i32_4634 : BitVec 32 := 32#32
  let c0_i32_4635 : BitVec 32 := 0#32
  let v4166 : BitVec 1 := Scalar.cmpi .eq c32_i32_4634 c0_i32_4635
  let c1_i32_4636 : BitVec 32 := 1#32
  let v4167 : BitVec 32 := Scalar.select v4166 c1_i32_4636 c32_i32_4634
  let v4168 : BitVec 32 := Scalar.remsi v4165 v4167
  let c0_i32_4638 : BitVec 32 := 0#32
  let v4170 : BitVec 1 := Scalar.cmpi .slt v4168 c0_i32_4638
  let c0_i32_4639 : BitVec 32 := 0#32
  let v4171 : BitVec 1 := Scalar.cmpi .slt v4167 c0_i32_4639
  let v4172 : BitVec 1 := Scalar.xori v4170 v4171
  let c0_i32_4637 : BitVec 32 := 0#32
  let v4169 : BitVec 1 := Scalar.cmpi .ne v4168 c0_i32_4637
  let v4173 : BitVec 1 := Scalar.andi v4172 v4169
  let v4174 : BitVec 32 := Scalar.addi v4168 v4167
  let v4175 : BitVec 32 := Scalar.select v4173 v4174 v4168
  let c1_i32_4646 : BitVec 32 := 1#32
  let v4177 : BitVec 32 := Scalar.muli v4175 c1_i32_4646
  let v4178 : BitVec 32 := Scalar.addi c0_i32_4647 v4177
  v4178.toNat
def k0_dev141 (d0 : Dev nD) : Nat :=
  let c0_i32_4667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4653 : BitVec 32 := 17#32
  let v4188 : BitVec 32 := Scalar.addi v2 c17_i32_4653
  let c32_i32_4654 : BitVec 32 := 32#32
  let c0_i32_4655 : BitVec 32 := 0#32
  let v4189 : BitVec 1 := Scalar.cmpi .eq c32_i32_4654 c0_i32_4655
  let c1_i32_4656 : BitVec 32 := 1#32
  let v4190 : BitVec 32 := Scalar.select v4189 c1_i32_4656 c32_i32_4654
  let v4191 : BitVec 32 := Scalar.remsi v4188 v4190
  let c0_i32_4658 : BitVec 32 := 0#32
  let v4193 : BitVec 1 := Scalar.cmpi .slt v4191 c0_i32_4658
  let c0_i32_4659 : BitVec 32 := 0#32
  let v4194 : BitVec 1 := Scalar.cmpi .slt v4190 c0_i32_4659
  let v4195 : BitVec 1 := Scalar.xori v4193 v4194
  let c0_i32_4657 : BitVec 32 := 0#32
  let v4192 : BitVec 1 := Scalar.cmpi .ne v4191 c0_i32_4657
  let v4196 : BitVec 1 := Scalar.andi v4195 v4192
  let v4197 : BitVec 32 := Scalar.addi v4191 v4190
  let v4198 : BitVec 32 := Scalar.select v4196 v4197 v4191
  let c1_i32_4666 : BitVec 32 := 1#32
  let v4200 : BitVec 32 := Scalar.muli v4198 c1_i32_4666
  let v4201 : BitVec 32 := Scalar.addi c0_i32_4667 v4200
  v4201.toNat
def k0_dev142 (d0 : Dev nD) : Nat :=
  let c0_i32_4687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4673 : BitVec 32 := 18#32
  let v4211 : BitVec 32 := Scalar.addi v2 c18_i32_4673
  let c32_i32_4674 : BitVec 32 := 32#32
  let c0_i32_4675 : BitVec 32 := 0#32
  let v4212 : BitVec 1 := Scalar.cmpi .eq c32_i32_4674 c0_i32_4675
  let c1_i32_4676 : BitVec 32 := 1#32
  let v4213 : BitVec 32 := Scalar.select v4212 c1_i32_4676 c32_i32_4674
  let v4214 : BitVec 32 := Scalar.remsi v4211 v4213
  let c0_i32_4678 : BitVec 32 := 0#32
  let v4216 : BitVec 1 := Scalar.cmpi .slt v4214 c0_i32_4678
  let c0_i32_4679 : BitVec 32 := 0#32
  let v4217 : BitVec 1 := Scalar.cmpi .slt v4213 c0_i32_4679
  let v4218 : BitVec 1 := Scalar.xori v4216 v4217
  let c0_i32_4677 : BitVec 32 := 0#32
  let v4215 : BitVec 1 := Scalar.cmpi .ne v4214 c0_i32_4677
  let v4219 : BitVec 1 := Scalar.andi v4218 v4215
  let v4220 : BitVec 32 := Scalar.addi v4214 v4213
  let v4221 : BitVec 32 := Scalar.select v4219 v4220 v4214
  let c1_i32_4686 : BitVec 32 := 1#32
  let v4223 : BitVec 32 := Scalar.muli v4221 c1_i32_4686
  let v4224 : BitVec 32 := Scalar.addi c0_i32_4687 v4223
  v4224.toNat
def k0_dev143 (d0 : Dev nD) : Nat :=
  let c0_i32_4707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4693 : BitVec 32 := 19#32
  let v4234 : BitVec 32 := Scalar.addi v2 c19_i32_4693
  let c32_i32_4694 : BitVec 32 := 32#32
  let c0_i32_4695 : BitVec 32 := 0#32
  let v4235 : BitVec 1 := Scalar.cmpi .eq c32_i32_4694 c0_i32_4695
  let c1_i32_4696 : BitVec 32 := 1#32
  let v4236 : BitVec 32 := Scalar.select v4235 c1_i32_4696 c32_i32_4694
  let v4237 : BitVec 32 := Scalar.remsi v4234 v4236
  let c0_i32_4698 : BitVec 32 := 0#32
  let v4239 : BitVec 1 := Scalar.cmpi .slt v4237 c0_i32_4698
  let c0_i32_4699 : BitVec 32 := 0#32
  let v4240 : BitVec 1 := Scalar.cmpi .slt v4236 c0_i32_4699
  let v4241 : BitVec 1 := Scalar.xori v4239 v4240
  let c0_i32_4697 : BitVec 32 := 0#32
  let v4238 : BitVec 1 := Scalar.cmpi .ne v4237 c0_i32_4697
  let v4242 : BitVec 1 := Scalar.andi v4241 v4238
  let v4243 : BitVec 32 := Scalar.addi v4237 v4236
  let v4244 : BitVec 32 := Scalar.select v4242 v4243 v4237
  let c1_i32_4706 : BitVec 32 := 1#32
  let v4246 : BitVec 32 := Scalar.muli v4244 c1_i32_4706
  let v4247 : BitVec 32 := Scalar.addi c0_i32_4707 v4246
  v4247.toNat
def k0_dev144 (d0 : Dev nD) : Nat :=
  let c0_i32_4727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4713 : BitVec 32 := 20#32
  let v4257 : BitVec 32 := Scalar.addi v2 c20_i32_4713
  let c32_i32_4714 : BitVec 32 := 32#32
  let c0_i32_4715 : BitVec 32 := 0#32
  let v4258 : BitVec 1 := Scalar.cmpi .eq c32_i32_4714 c0_i32_4715
  let c1_i32_4716 : BitVec 32 := 1#32
  let v4259 : BitVec 32 := Scalar.select v4258 c1_i32_4716 c32_i32_4714
  let v4260 : BitVec 32 := Scalar.remsi v4257 v4259
  let c0_i32_4718 : BitVec 32 := 0#32
  let v4262 : BitVec 1 := Scalar.cmpi .slt v4260 c0_i32_4718
  let c0_i32_4719 : BitVec 32 := 0#32
  let v4263 : BitVec 1 := Scalar.cmpi .slt v4259 c0_i32_4719
  let v4264 : BitVec 1 := Scalar.xori v4262 v4263
  let c0_i32_4717 : BitVec 32 := 0#32
  let v4261 : BitVec 1 := Scalar.cmpi .ne v4260 c0_i32_4717
  let v4265 : BitVec 1 := Scalar.andi v4264 v4261
  let v4266 : BitVec 32 := Scalar.addi v4260 v4259
  let v4267 : BitVec 32 := Scalar.select v4265 v4266 v4260
  let c1_i32_4726 : BitVec 32 := 1#32
  let v4269 : BitVec 32 := Scalar.muli v4267 c1_i32_4726
  let v4270 : BitVec 32 := Scalar.addi c0_i32_4727 v4269
  v4270.toNat
def k0_dev145 (d0 : Dev nD) : Nat :=
  let c0_i32_4747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4733 : BitVec 32 := 21#32
  let v4280 : BitVec 32 := Scalar.addi v2 c21_i32_4733
  let c32_i32_4734 : BitVec 32 := 32#32
  let c0_i32_4735 : BitVec 32 := 0#32
  let v4281 : BitVec 1 := Scalar.cmpi .eq c32_i32_4734 c0_i32_4735
  let c1_i32_4736 : BitVec 32 := 1#32
  let v4282 : BitVec 32 := Scalar.select v4281 c1_i32_4736 c32_i32_4734
  let v4283 : BitVec 32 := Scalar.remsi v4280 v4282
  let c0_i32_4738 : BitVec 32 := 0#32
  let v4285 : BitVec 1 := Scalar.cmpi .slt v4283 c0_i32_4738
  let c0_i32_4739 : BitVec 32 := 0#32
  let v4286 : BitVec 1 := Scalar.cmpi .slt v4282 c0_i32_4739
  let v4287 : BitVec 1 := Scalar.xori v4285 v4286
  let c0_i32_4737 : BitVec 32 := 0#32
  let v4284 : BitVec 1 := Scalar.cmpi .ne v4283 c0_i32_4737
  let v4288 : BitVec 1 := Scalar.andi v4287 v4284
  let v4289 : BitVec 32 := Scalar.addi v4283 v4282
  let v4290 : BitVec 32 := Scalar.select v4288 v4289 v4283
  let c1_i32_4746 : BitVec 32 := 1#32
  let v4292 : BitVec 32 := Scalar.muli v4290 c1_i32_4746
  let v4293 : BitVec 32 := Scalar.addi c0_i32_4747 v4292
  v4293.toNat
def k0_dev146 (d0 : Dev nD) : Nat :=
  let c0_i32_4767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4753 : BitVec 32 := 22#32
  let v4303 : BitVec 32 := Scalar.addi v2 c22_i32_4753
  let c32_i32_4754 : BitVec 32 := 32#32
  let c0_i32_4755 : BitVec 32 := 0#32
  let v4304 : BitVec 1 := Scalar.cmpi .eq c32_i32_4754 c0_i32_4755
  let c1_i32_4756 : BitVec 32 := 1#32
  let v4305 : BitVec 32 := Scalar.select v4304 c1_i32_4756 c32_i32_4754
  let v4306 : BitVec 32 := Scalar.remsi v4303 v4305
  let c0_i32_4758 : BitVec 32 := 0#32
  let v4308 : BitVec 1 := Scalar.cmpi .slt v4306 c0_i32_4758
  let c0_i32_4759 : BitVec 32 := 0#32
  let v4309 : BitVec 1 := Scalar.cmpi .slt v4305 c0_i32_4759
  let v4310 : BitVec 1 := Scalar.xori v4308 v4309
  let c0_i32_4757 : BitVec 32 := 0#32
  let v4307 : BitVec 1 := Scalar.cmpi .ne v4306 c0_i32_4757
  let v4311 : BitVec 1 := Scalar.andi v4310 v4307
  let v4312 : BitVec 32 := Scalar.addi v4306 v4305
  let v4313 : BitVec 32 := Scalar.select v4311 v4312 v4306
  let c1_i32_4766 : BitVec 32 := 1#32
  let v4315 : BitVec 32 := Scalar.muli v4313 c1_i32_4766
  let v4316 : BitVec 32 := Scalar.addi c0_i32_4767 v4315
  v4316.toNat
def k0_dev147 (d0 : Dev nD) : Nat :=
  let c0_i32_4787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4773 : BitVec 32 := 23#32
  let v4326 : BitVec 32 := Scalar.addi v2 c23_i32_4773
  let c32_i32_4774 : BitVec 32 := 32#32
  let c0_i32_4775 : BitVec 32 := 0#32
  let v4327 : BitVec 1 := Scalar.cmpi .eq c32_i32_4774 c0_i32_4775
  let c1_i32_4776 : BitVec 32 := 1#32
  let v4328 : BitVec 32 := Scalar.select v4327 c1_i32_4776 c32_i32_4774
  let v4329 : BitVec 32 := Scalar.remsi v4326 v4328
  let c0_i32_4778 : BitVec 32 := 0#32
  let v4331 : BitVec 1 := Scalar.cmpi .slt v4329 c0_i32_4778
  let c0_i32_4779 : BitVec 32 := 0#32
  let v4332 : BitVec 1 := Scalar.cmpi .slt v4328 c0_i32_4779
  let v4333 : BitVec 1 := Scalar.xori v4331 v4332
  let c0_i32_4777 : BitVec 32 := 0#32
  let v4330 : BitVec 1 := Scalar.cmpi .ne v4329 c0_i32_4777
  let v4334 : BitVec 1 := Scalar.andi v4333 v4330
  let v4335 : BitVec 32 := Scalar.addi v4329 v4328
  let v4336 : BitVec 32 := Scalar.select v4334 v4335 v4329
  let c1_i32_4786 : BitVec 32 := 1#32
  let v4338 : BitVec 32 := Scalar.muli v4336 c1_i32_4786
  let v4339 : BitVec 32 := Scalar.addi c0_i32_4787 v4338
  v4339.toNat
def k0_dev148 (d0 : Dev nD) : Nat :=
  let c0_i32_4807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4793 : BitVec 32 := 24#32
  let v4349 : BitVec 32 := Scalar.addi v2 c24_i32_4793
  let c32_i32_4794 : BitVec 32 := 32#32
  let c0_i32_4795 : BitVec 32 := 0#32
  let v4350 : BitVec 1 := Scalar.cmpi .eq c32_i32_4794 c0_i32_4795
  let c1_i32_4796 : BitVec 32 := 1#32
  let v4351 : BitVec 32 := Scalar.select v4350 c1_i32_4796 c32_i32_4794
  let v4352 : BitVec 32 := Scalar.remsi v4349 v4351
  let c0_i32_4798 : BitVec 32 := 0#32
  let v4354 : BitVec 1 := Scalar.cmpi .slt v4352 c0_i32_4798
  let c0_i32_4799 : BitVec 32 := 0#32
  let v4355 : BitVec 1 := Scalar.cmpi .slt v4351 c0_i32_4799
  let v4356 : BitVec 1 := Scalar.xori v4354 v4355
  let c0_i32_4797 : BitVec 32 := 0#32
  let v4353 : BitVec 1 := Scalar.cmpi .ne v4352 c0_i32_4797
  let v4357 : BitVec 1 := Scalar.andi v4356 v4353
  let v4358 : BitVec 32 := Scalar.addi v4352 v4351
  let v4359 : BitVec 32 := Scalar.select v4357 v4358 v4352
  let c1_i32_4806 : BitVec 32 := 1#32
  let v4361 : BitVec 32 := Scalar.muli v4359 c1_i32_4806
  let v4362 : BitVec 32 := Scalar.addi c0_i32_4807 v4361
  v4362.toNat
def k0_dev149 (d0 : Dev nD) : Nat :=
  let c0_i32_4827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4813 : BitVec 32 := 25#32
  let v4372 : BitVec 32 := Scalar.addi v2 c25_i32_4813
  let c32_i32_4814 : BitVec 32 := 32#32
  let c0_i32_4815 : BitVec 32 := 0#32
  let v4373 : BitVec 1 := Scalar.cmpi .eq c32_i32_4814 c0_i32_4815
  let c1_i32_4816 : BitVec 32 := 1#32
  let v4374 : BitVec 32 := Scalar.select v4373 c1_i32_4816 c32_i32_4814
  let v4375 : BitVec 32 := Scalar.remsi v4372 v4374
  let c0_i32_4818 : BitVec 32 := 0#32
  let v4377 : BitVec 1 := Scalar.cmpi .slt v4375 c0_i32_4818
  let c0_i32_4819 : BitVec 32 := 0#32
  let v4378 : BitVec 1 := Scalar.cmpi .slt v4374 c0_i32_4819
  let v4379 : BitVec 1 := Scalar.xori v4377 v4378
  let c0_i32_4817 : BitVec 32 := 0#32
  let v4376 : BitVec 1 := Scalar.cmpi .ne v4375 c0_i32_4817
  let v4380 : BitVec 1 := Scalar.andi v4379 v4376
  let v4381 : BitVec 32 := Scalar.addi v4375 v4374
  let v4382 : BitVec 32 := Scalar.select v4380 v4381 v4375
  let c1_i32_4826 : BitVec 32 := 1#32
  let v4384 : BitVec 32 := Scalar.muli v4382 c1_i32_4826
  let v4385 : BitVec 32 := Scalar.addi c0_i32_4827 v4384
  v4385.toNat
def k0_dev150 (d0 : Dev nD) : Nat :=
  let c0_i32_4847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4833 : BitVec 32 := 26#32
  let v4395 : BitVec 32 := Scalar.addi v2 c26_i32_4833
  let c32_i32_4834 : BitVec 32 := 32#32
  let c0_i32_4835 : BitVec 32 := 0#32
  let v4396 : BitVec 1 := Scalar.cmpi .eq c32_i32_4834 c0_i32_4835
  let c1_i32_4836 : BitVec 32 := 1#32
  let v4397 : BitVec 32 := Scalar.select v4396 c1_i32_4836 c32_i32_4834
  let v4398 : BitVec 32 := Scalar.remsi v4395 v4397
  let c0_i32_4838 : BitVec 32 := 0#32
  let v4400 : BitVec 1 := Scalar.cmpi .slt v4398 c0_i32_4838
  let c0_i32_4839 : BitVec 32 := 0#32
  let v4401 : BitVec 1 := Scalar.cmpi .slt v4397 c0_i32_4839
  let v4402 : BitVec 1 := Scalar.xori v4400 v4401
  let c0_i32_4837 : BitVec 32 := 0#32
  let v4399 : BitVec 1 := Scalar.cmpi .ne v4398 c0_i32_4837
  let v4403 : BitVec 1 := Scalar.andi v4402 v4399
  let v4404 : BitVec 32 := Scalar.addi v4398 v4397
  let v4405 : BitVec 32 := Scalar.select v4403 v4404 v4398
  let c1_i32_4846 : BitVec 32 := 1#32
  let v4407 : BitVec 32 := Scalar.muli v4405 c1_i32_4846
  let v4408 : BitVec 32 := Scalar.addi c0_i32_4847 v4407
  v4408.toNat
def k0_dev151 (d0 : Dev nD) : Nat :=
  let c0_i32_4867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4853 : BitVec 32 := 27#32
  let v4418 : BitVec 32 := Scalar.addi v2 c27_i32_4853
  let c32_i32_4854 : BitVec 32 := 32#32
  let c0_i32_4855 : BitVec 32 := 0#32
  let v4419 : BitVec 1 := Scalar.cmpi .eq c32_i32_4854 c0_i32_4855
  let c1_i32_4856 : BitVec 32 := 1#32
  let v4420 : BitVec 32 := Scalar.select v4419 c1_i32_4856 c32_i32_4854
  let v4421 : BitVec 32 := Scalar.remsi v4418 v4420
  let c0_i32_4858 : BitVec 32 := 0#32
  let v4423 : BitVec 1 := Scalar.cmpi .slt v4421 c0_i32_4858
  let c0_i32_4859 : BitVec 32 := 0#32
  let v4424 : BitVec 1 := Scalar.cmpi .slt v4420 c0_i32_4859
  let v4425 : BitVec 1 := Scalar.xori v4423 v4424
  let c0_i32_4857 : BitVec 32 := 0#32
  let v4422 : BitVec 1 := Scalar.cmpi .ne v4421 c0_i32_4857
  let v4426 : BitVec 1 := Scalar.andi v4425 v4422
  let v4427 : BitVec 32 := Scalar.addi v4421 v4420
  let v4428 : BitVec 32 := Scalar.select v4426 v4427 v4421
  let c1_i32_4866 : BitVec 32 := 1#32
  let v4430 : BitVec 32 := Scalar.muli v4428 c1_i32_4866
  let v4431 : BitVec 32 := Scalar.addi c0_i32_4867 v4430
  v4431.toNat
def k0_dev152 (d0 : Dev nD) : Nat :=
  let c0_i32_4887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4873 : BitVec 32 := 28#32
  let v4441 : BitVec 32 := Scalar.addi v2 c28_i32_4873
  let c32_i32_4874 : BitVec 32 := 32#32
  let c0_i32_4875 : BitVec 32 := 0#32
  let v4442 : BitVec 1 := Scalar.cmpi .eq c32_i32_4874 c0_i32_4875
  let c1_i32_4876 : BitVec 32 := 1#32
  let v4443 : BitVec 32 := Scalar.select v4442 c1_i32_4876 c32_i32_4874
  let v4444 : BitVec 32 := Scalar.remsi v4441 v4443
  let c0_i32_4878 : BitVec 32 := 0#32
  let v4446 : BitVec 1 := Scalar.cmpi .slt v4444 c0_i32_4878
  let c0_i32_4879 : BitVec 32 := 0#32
  let v4447 : BitVec 1 := Scalar.cmpi .slt v4443 c0_i32_4879
  let v4448 : BitVec 1 := Scalar.xori v4446 v4447
  let c0_i32_4877 : BitVec 32 := 0#32
  let v4445 : BitVec 1 := Scalar.cmpi .ne v4444 c0_i32_4877
  let v4449 : BitVec 1 := Scalar.andi v4448 v4445
  let v4450 : BitVec 32 := Scalar.addi v4444 v4443
  let v4451 : BitVec 32 := Scalar.select v4449 v4450 v4444
  let c1_i32_4886 : BitVec 32 := 1#32
  let v4453 : BitVec 32 := Scalar.muli v4451 c1_i32_4886
  let v4454 : BitVec 32 := Scalar.addi c0_i32_4887 v4453
  v4454.toNat
def k0_dev153 (d0 : Dev nD) : Nat :=
  let c0_i32_4907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4893 : BitVec 32 := 29#32
  let v4464 : BitVec 32 := Scalar.addi v2 c29_i32_4893
  let c32_i32_4894 : BitVec 32 := 32#32
  let c0_i32_4895 : BitVec 32 := 0#32
  let v4465 : BitVec 1 := Scalar.cmpi .eq c32_i32_4894 c0_i32_4895
  let c1_i32_4896 : BitVec 32 := 1#32
  let v4466 : BitVec 32 := Scalar.select v4465 c1_i32_4896 c32_i32_4894
  let v4467 : BitVec 32 := Scalar.remsi v4464 v4466
  let c0_i32_4898 : BitVec 32 := 0#32
  let v4469 : BitVec 1 := Scalar.cmpi .slt v4467 c0_i32_4898
  let c0_i32_4899 : BitVec 32 := 0#32
  let v4470 : BitVec 1 := Scalar.cmpi .slt v4466 c0_i32_4899
  let v4471 : BitVec 1 := Scalar.xori v4469 v4470
  let c0_i32_4897 : BitVec 32 := 0#32
  let v4468 : BitVec 1 := Scalar.cmpi .ne v4467 c0_i32_4897
  let v4472 : BitVec 1 := Scalar.andi v4471 v4468
  let v4473 : BitVec 32 := Scalar.addi v4467 v4466
  let v4474 : BitVec 32 := Scalar.select v4472 v4473 v4467
  let c1_i32_4906 : BitVec 32 := 1#32
  let v4476 : BitVec 32 := Scalar.muli v4474 c1_i32_4906
  let v4477 : BitVec 32 := Scalar.addi c0_i32_4907 v4476
  v4477.toNat
def k0_dev154 (d0 : Dev nD) : Nat :=
  let c0_i32_4927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4913 : BitVec 32 := 30#32
  let v4487 : BitVec 32 := Scalar.addi v2 c30_i32_4913
  let c32_i32_4914 : BitVec 32 := 32#32
  let c0_i32_4915 : BitVec 32 := 0#32
  let v4488 : BitVec 1 := Scalar.cmpi .eq c32_i32_4914 c0_i32_4915
  let c1_i32_4916 : BitVec 32 := 1#32
  let v4489 : BitVec 32 := Scalar.select v4488 c1_i32_4916 c32_i32_4914
  let v4490 : BitVec 32 := Scalar.remsi v4487 v4489
  let c0_i32_4918 : BitVec 32 := 0#32
  let v4492 : BitVec 1 := Scalar.cmpi .slt v4490 c0_i32_4918
  let c0_i32_4919 : BitVec 32 := 0#32
  let v4493 : BitVec 1 := Scalar.cmpi .slt v4489 c0_i32_4919
  let v4494 : BitVec 1 := Scalar.xori v4492 v4493
  let c0_i32_4917 : BitVec 32 := 0#32
  let v4491 : BitVec 1 := Scalar.cmpi .ne v4490 c0_i32_4917
  let v4495 : BitVec 1 := Scalar.andi v4494 v4491
  let v4496 : BitVec 32 := Scalar.addi v4490 v4489
  let v4497 : BitVec 32 := Scalar.select v4495 v4496 v4490
  let c1_i32_4926 : BitVec 32 := 1#32
  let v4499 : BitVec 32 := Scalar.muli v4497 c1_i32_4926
  let v4500 : BitVec 32 := Scalar.addi c0_i32_4927 v4499
  v4500.toNat
def k0_dev155 (d0 : Dev nD) : Nat :=
  let c0_i32_4947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4933 : BitVec 32 := 31#32
  let v4510 : BitVec 32 := Scalar.addi v2 c31_i32_4933
  let c32_i32_4934 : BitVec 32 := 32#32
  let c0_i32_4935 : BitVec 32 := 0#32
  let v4511 : BitVec 1 := Scalar.cmpi .eq c32_i32_4934 c0_i32_4935
  let c1_i32_4936 : BitVec 32 := 1#32
  let v4512 : BitVec 32 := Scalar.select v4511 c1_i32_4936 c32_i32_4934
  let v4513 : BitVec 32 := Scalar.remsi v4510 v4512
  let c0_i32_4938 : BitVec 32 := 0#32
  let v4515 : BitVec 1 := Scalar.cmpi .slt v4513 c0_i32_4938
  let c0_i32_4939 : BitVec 32 := 0#32
  let v4516 : BitVec 1 := Scalar.cmpi .slt v4512 c0_i32_4939
  let v4517 : BitVec 1 := Scalar.xori v4515 v4516
  let c0_i32_4937 : BitVec 32 := 0#32
  let v4514 : BitVec 1 := Scalar.cmpi .ne v4513 c0_i32_4937
  let v4518 : BitVec 1 := Scalar.andi v4517 v4514
  let v4519 : BitVec 32 := Scalar.addi v4513 v4512
  let v4520 : BitVec 32 := Scalar.select v4518 v4519 v4513
  let c1_i32_4946 : BitVec 32 := 1#32
  let v4522 : BitVec 32 := Scalar.muli v4520 c1_i32_4946
  let v4523 : BitVec 32 := Scalar.addi c0_i32_4947 v4522
  v4523.toNat
def k0_off7 (d0 : Dev nD) : Fin 3 → Nat :=
  let c1_4957 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4956 : BitVec 32 := 16#32
  let v4535 : BitVec 32 := Scalar.muli v2 c16_i32_4956
  let v4536 : Index := Scalar.indexCast v4535
  let c0_4958 : Index := 0#32
  ![1, v4536.toNat, 0]
def k0_dev156 (d0 : Dev nD) : Nat :=
  let c0_i32_5822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5808 : BitVec 32 := 1#32
  let v5082 : BitVec 32 := Scalar.addi v2 c1_i32_5808
  let c32_i32_5809 : BitVec 32 := 32#32
  let c0_i32_5810 : BitVec 32 := 0#32
  let v5083 : BitVec 1 := Scalar.cmpi .eq c32_i32_5809 c0_i32_5810
  let c1_i32_5811 : BitVec 32 := 1#32
  let v5084 : BitVec 32 := Scalar.select v5083 c1_i32_5811 c32_i32_5809
  let v5085 : BitVec 32 := Scalar.remsi v5082 v5084
  let c0_i32_5813 : BitVec 32 := 0#32
  let v5087 : BitVec 1 := Scalar.cmpi .slt v5085 c0_i32_5813
  let c0_i32_5814 : BitVec 32 := 0#32
  let v5088 : BitVec 1 := Scalar.cmpi .slt v5084 c0_i32_5814
  let v5089 : BitVec 1 := Scalar.xori v5087 v5088
  let c0_i32_5812 : BitVec 32 := 0#32
  let v5086 : BitVec 1 := Scalar.cmpi .ne v5085 c0_i32_5812
  let v5090 : BitVec 1 := Scalar.andi v5089 v5086
  let v5091 : BitVec 32 := Scalar.addi v5085 v5084
  let v5092 : BitVec 32 := Scalar.select v5090 v5091 v5085
  let c1_i32_5821 : BitVec 32 := 1#32
  let v5094 : BitVec 32 := Scalar.muli v5092 c1_i32_5821
  let v5095 : BitVec 32 := Scalar.addi c0_i32_5822 v5094
  v5095.toNat
def k0_dev157 (d0 : Dev nD) : Nat :=
  let c0_i32_5840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5826 : BitVec 32 := 2#32
  let v5103 : BitVec 32 := Scalar.addi v2 c2_i32_5826
  let c32_i32_5827 : BitVec 32 := 32#32
  let c0_i32_5828 : BitVec 32 := 0#32
  let v5104 : BitVec 1 := Scalar.cmpi .eq c32_i32_5827 c0_i32_5828
  let c1_i32_5829 : BitVec 32 := 1#32
  let v5105 : BitVec 32 := Scalar.select v5104 c1_i32_5829 c32_i32_5827
  let v5106 : BitVec 32 := Scalar.remsi v5103 v5105
  let c0_i32_5831 : BitVec 32 := 0#32
  let v5108 : BitVec 1 := Scalar.cmpi .slt v5106 c0_i32_5831
  let c0_i32_5832 : BitVec 32 := 0#32
  let v5109 : BitVec 1 := Scalar.cmpi .slt v5105 c0_i32_5832
  let v5110 : BitVec 1 := Scalar.xori v5108 v5109
  let c0_i32_5830 : BitVec 32 := 0#32
  let v5107 : BitVec 1 := Scalar.cmpi .ne v5106 c0_i32_5830
  let v5111 : BitVec 1 := Scalar.andi v5110 v5107
  let v5112 : BitVec 32 := Scalar.addi v5106 v5105
  let v5113 : BitVec 32 := Scalar.select v5111 v5112 v5106
  let c1_i32_5839 : BitVec 32 := 1#32
  let v5115 : BitVec 32 := Scalar.muli v5113 c1_i32_5839
  let v5116 : BitVec 32 := Scalar.addi c0_i32_5840 v5115
  v5116.toNat
def k0_dev158 (d0 : Dev nD) : Nat :=
  let c0_i32_5858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_5844 : BitVec 32 := 3#32
  let v5124 : BitVec 32 := Scalar.addi v2 c3_i32_5844
  let c32_i32_5845 : BitVec 32 := 32#32
  let c0_i32_5846 : BitVec 32 := 0#32
  let v5125 : BitVec 1 := Scalar.cmpi .eq c32_i32_5845 c0_i32_5846
  let c1_i32_5847 : BitVec 32 := 1#32
  let v5126 : BitVec 32 := Scalar.select v5125 c1_i32_5847 c32_i32_5845
  let v5127 : BitVec 32 := Scalar.remsi v5124 v5126
  let c0_i32_5849 : BitVec 32 := 0#32
  let v5129 : BitVec 1 := Scalar.cmpi .slt v5127 c0_i32_5849
  let c0_i32_5850 : BitVec 32 := 0#32
  let v5130 : BitVec 1 := Scalar.cmpi .slt v5126 c0_i32_5850
  let v5131 : BitVec 1 := Scalar.xori v5129 v5130
  let c0_i32_5848 : BitVec 32 := 0#32
  let v5128 : BitVec 1 := Scalar.cmpi .ne v5127 c0_i32_5848
  let v5132 : BitVec 1 := Scalar.andi v5131 v5128
  let v5133 : BitVec 32 := Scalar.addi v5127 v5126
  let v5134 : BitVec 32 := Scalar.select v5132 v5133 v5127
  let c1_i32_5857 : BitVec 32 := 1#32
  let v5136 : BitVec 32 := Scalar.muli v5134 c1_i32_5857
  let v5137 : BitVec 32 := Scalar.addi c0_i32_5858 v5136
  v5137.toNat
def k0_dev159 (d0 : Dev nD) : Nat :=
  let c0_i32_5876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5862 : BitVec 32 := 4#32
  let v5145 : BitVec 32 := Scalar.addi v2 c4_i32_5862
  let c32_i32_5863 : BitVec 32 := 32#32
  let c0_i32_5864 : BitVec 32 := 0#32
  let v5146 : BitVec 1 := Scalar.cmpi .eq c32_i32_5863 c0_i32_5864
  let c1_i32_5865 : BitVec 32 := 1#32
  let v5147 : BitVec 32 := Scalar.select v5146 c1_i32_5865 c32_i32_5863
  let v5148 : BitVec 32 := Scalar.remsi v5145 v5147
  let c0_i32_5867 : BitVec 32 := 0#32
  let v5150 : BitVec 1 := Scalar.cmpi .slt v5148 c0_i32_5867
  let c0_i32_5868 : BitVec 32 := 0#32
  let v5151 : BitVec 1 := Scalar.cmpi .slt v5147 c0_i32_5868
  let v5152 : BitVec 1 := Scalar.xori v5150 v5151
  let c0_i32_5866 : BitVec 32 := 0#32
  let v5149 : BitVec 1 := Scalar.cmpi .ne v5148 c0_i32_5866
  let v5153 : BitVec 1 := Scalar.andi v5152 v5149
  let v5154 : BitVec 32 := Scalar.addi v5148 v5147
  let v5155 : BitVec 32 := Scalar.select v5153 v5154 v5148
  let c1_i32_5875 : BitVec 32 := 1#32
  let v5157 : BitVec 32 := Scalar.muli v5155 c1_i32_5875
  let v5158 : BitVec 32 := Scalar.addi c0_i32_5876 v5157
  v5158.toNat
def k0_dev160 (d0 : Dev nD) : Nat :=
  let c0_i32_5894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_5880 : BitVec 32 := 5#32
  let v5166 : BitVec 32 := Scalar.addi v2 c5_i32_5880
  let c32_i32_5881 : BitVec 32 := 32#32
  let c0_i32_5882 : BitVec 32 := 0#32
  let v5167 : BitVec 1 := Scalar.cmpi .eq c32_i32_5881 c0_i32_5882
  let c1_i32_5883 : BitVec 32 := 1#32
  let v5168 : BitVec 32 := Scalar.select v5167 c1_i32_5883 c32_i32_5881
  let v5169 : BitVec 32 := Scalar.remsi v5166 v5168
  let c0_i32_5885 : BitVec 32 := 0#32
  let v5171 : BitVec 1 := Scalar.cmpi .slt v5169 c0_i32_5885
  let c0_i32_5886 : BitVec 32 := 0#32
  let v5172 : BitVec 1 := Scalar.cmpi .slt v5168 c0_i32_5886
  let v5173 : BitVec 1 := Scalar.xori v5171 v5172
  let c0_i32_5884 : BitVec 32 := 0#32
  let v5170 : BitVec 1 := Scalar.cmpi .ne v5169 c0_i32_5884
  let v5174 : BitVec 1 := Scalar.andi v5173 v5170
  let v5175 : BitVec 32 := Scalar.addi v5169 v5168
  let v5176 : BitVec 32 := Scalar.select v5174 v5175 v5169
  let c1_i32_5893 : BitVec 32 := 1#32
  let v5178 : BitVec 32 := Scalar.muli v5176 c1_i32_5893
  let v5179 : BitVec 32 := Scalar.addi c0_i32_5894 v5178
  v5179.toNat
def k0_dev161 (d0 : Dev nD) : Nat :=
  let c0_i32_5912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_5898 : BitVec 32 := 6#32
  let v5187 : BitVec 32 := Scalar.addi v2 c6_i32_5898
  let c32_i32_5899 : BitVec 32 := 32#32
  let c0_i32_5900 : BitVec 32 := 0#32
  let v5188 : BitVec 1 := Scalar.cmpi .eq c32_i32_5899 c0_i32_5900
  let c1_i32_5901 : BitVec 32 := 1#32
  let v5189 : BitVec 32 := Scalar.select v5188 c1_i32_5901 c32_i32_5899
  let v5190 : BitVec 32 := Scalar.remsi v5187 v5189
  let c0_i32_5903 : BitVec 32 := 0#32
  let v5192 : BitVec 1 := Scalar.cmpi .slt v5190 c0_i32_5903
  let c0_i32_5904 : BitVec 32 := 0#32
  let v5193 : BitVec 1 := Scalar.cmpi .slt v5189 c0_i32_5904
  let v5194 : BitVec 1 := Scalar.xori v5192 v5193
  let c0_i32_5902 : BitVec 32 := 0#32
  let v5191 : BitVec 1 := Scalar.cmpi .ne v5190 c0_i32_5902
  let v5195 : BitVec 1 := Scalar.andi v5194 v5191
  let v5196 : BitVec 32 := Scalar.addi v5190 v5189
  let v5197 : BitVec 32 := Scalar.select v5195 v5196 v5190
  let c1_i32_5911 : BitVec 32 := 1#32
  let v5199 : BitVec 32 := Scalar.muli v5197 c1_i32_5911
  let v5200 : BitVec 32 := Scalar.addi c0_i32_5912 v5199
  v5200.toNat
def k0_dev162 (d0 : Dev nD) : Nat :=
  let c0_i32_5930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_5916 : BitVec 32 := 7#32
  let v5208 : BitVec 32 := Scalar.addi v2 c7_i32_5916
  let c32_i32_5917 : BitVec 32 := 32#32
  let c0_i32_5918 : BitVec 32 := 0#32
  let v5209 : BitVec 1 := Scalar.cmpi .eq c32_i32_5917 c0_i32_5918
  let c1_i32_5919 : BitVec 32 := 1#32
  let v5210 : BitVec 32 := Scalar.select v5209 c1_i32_5919 c32_i32_5917
  let v5211 : BitVec 32 := Scalar.remsi v5208 v5210
  let c0_i32_5921 : BitVec 32 := 0#32
  let v5213 : BitVec 1 := Scalar.cmpi .slt v5211 c0_i32_5921
  let c0_i32_5922 : BitVec 32 := 0#32
  let v5214 : BitVec 1 := Scalar.cmpi .slt v5210 c0_i32_5922
  let v5215 : BitVec 1 := Scalar.xori v5213 v5214
  let c0_i32_5920 : BitVec 32 := 0#32
  let v5212 : BitVec 1 := Scalar.cmpi .ne v5211 c0_i32_5920
  let v5216 : BitVec 1 := Scalar.andi v5215 v5212
  let v5217 : BitVec 32 := Scalar.addi v5211 v5210
  let v5218 : BitVec 32 := Scalar.select v5216 v5217 v5211
  let c1_i32_5929 : BitVec 32 := 1#32
  let v5220 : BitVec 32 := Scalar.muli v5218 c1_i32_5929
  let v5221 : BitVec 32 := Scalar.addi c0_i32_5930 v5220
  v5221.toNat
def k0_dev163 (d0 : Dev nD) : Nat :=
  let c0_i32_5948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5934 : BitVec 32 := 8#32
  let v5229 : BitVec 32 := Scalar.addi v2 c8_i32_5934
  let c32_i32_5935 : BitVec 32 := 32#32
  let c0_i32_5936 : BitVec 32 := 0#32
  let v5230 : BitVec 1 := Scalar.cmpi .eq c32_i32_5935 c0_i32_5936
  let c1_i32_5937 : BitVec 32 := 1#32
  let v5231 : BitVec 32 := Scalar.select v5230 c1_i32_5937 c32_i32_5935
  let v5232 : BitVec 32 := Scalar.remsi v5229 v5231
  let c0_i32_5939 : BitVec 32 := 0#32
  let v5234 : BitVec 1 := Scalar.cmpi .slt v5232 c0_i32_5939
  let c0_i32_5940 : BitVec 32 := 0#32
  let v5235 : BitVec 1 := Scalar.cmpi .slt v5231 c0_i32_5940
  let v5236 : BitVec 1 := Scalar.xori v5234 v5235
  let c0_i32_5938 : BitVec 32 := 0#32
  let v5233 : BitVec 1 := Scalar.cmpi .ne v5232 c0_i32_5938
  let v5237 : BitVec 1 := Scalar.andi v5236 v5233
  let v5238 : BitVec 32 := Scalar.addi v5232 v5231
  let v5239 : BitVec 32 := Scalar.select v5237 v5238 v5232
  let c1_i32_5947 : BitVec 32 := 1#32
  let v5241 : BitVec 32 := Scalar.muli v5239 c1_i32_5947
  let v5242 : BitVec 32 := Scalar.addi c0_i32_5948 v5241
  v5242.toNat
def k0_dev164 (d0 : Dev nD) : Nat :=
  let c0_i32_5966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_5952 : BitVec 32 := 9#32
  let v5250 : BitVec 32 := Scalar.addi v2 c9_i32_5952
  let c32_i32_5953 : BitVec 32 := 32#32
  let c0_i32_5954 : BitVec 32 := 0#32
  let v5251 : BitVec 1 := Scalar.cmpi .eq c32_i32_5953 c0_i32_5954
  let c1_i32_5955 : BitVec 32 := 1#32
  let v5252 : BitVec 32 := Scalar.select v5251 c1_i32_5955 c32_i32_5953
  let v5253 : BitVec 32 := Scalar.remsi v5250 v5252
  let c0_i32_5957 : BitVec 32 := 0#32
  let v5255 : BitVec 1 := Scalar.cmpi .slt v5253 c0_i32_5957
  let c0_i32_5958 : BitVec 32 := 0#32
  let v5256 : BitVec 1 := Scalar.cmpi .slt v5252 c0_i32_5958
  let v5257 : BitVec 1 := Scalar.xori v5255 v5256
  let c0_i32_5956 : BitVec 32 := 0#32
  let v5254 : BitVec 1 := Scalar.cmpi .ne v5253 c0_i32_5956
  let v5258 : BitVec 1 := Scalar.andi v5257 v5254
  let v5259 : BitVec 32 := Scalar.addi v5253 v5252
  let v5260 : BitVec 32 := Scalar.select v5258 v5259 v5253
  let c1_i32_5965 : BitVec 32 := 1#32
  let v5262 : BitVec 32 := Scalar.muli v5260 c1_i32_5965
  let v5263 : BitVec 32 := Scalar.addi c0_i32_5966 v5262
  v5263.toNat
def k0_dev165 (d0 : Dev nD) : Nat :=
  let c0_i32_5984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_5970 : BitVec 32 := 10#32
  let v5271 : BitVec 32 := Scalar.addi v2 c10_i32_5970
  let c32_i32_5971 : BitVec 32 := 32#32
  let c0_i32_5972 : BitVec 32 := 0#32
  let v5272 : BitVec 1 := Scalar.cmpi .eq c32_i32_5971 c0_i32_5972
  let c1_i32_5973 : BitVec 32 := 1#32
  let v5273 : BitVec 32 := Scalar.select v5272 c1_i32_5973 c32_i32_5971
  let v5274 : BitVec 32 := Scalar.remsi v5271 v5273
  let c0_i32_5975 : BitVec 32 := 0#32
  let v5276 : BitVec 1 := Scalar.cmpi .slt v5274 c0_i32_5975
  let c0_i32_5976 : BitVec 32 := 0#32
  let v5277 : BitVec 1 := Scalar.cmpi .slt v5273 c0_i32_5976
  let v5278 : BitVec 1 := Scalar.xori v5276 v5277
  let c0_i32_5974 : BitVec 32 := 0#32
  let v5275 : BitVec 1 := Scalar.cmpi .ne v5274 c0_i32_5974
  let v5279 : BitVec 1 := Scalar.andi v5278 v5275
  let v5280 : BitVec 32 := Scalar.addi v5274 v5273
  let v5281 : BitVec 32 := Scalar.select v5279 v5280 v5274
  let c1_i32_5983 : BitVec 32 := 1#32
  let v5283 : BitVec 32 := Scalar.muli v5281 c1_i32_5983
  let v5284 : BitVec 32 := Scalar.addi c0_i32_5984 v5283
  v5284.toNat
def k0_dev166 (d0 : Dev nD) : Nat :=
  let c0_i32_6002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_5988 : BitVec 32 := 11#32
  let v5292 : BitVec 32 := Scalar.addi v2 c11_i32_5988
  let c32_i32_5989 : BitVec 32 := 32#32
  let c0_i32_5990 : BitVec 32 := 0#32
  let v5293 : BitVec 1 := Scalar.cmpi .eq c32_i32_5989 c0_i32_5990
  let c1_i32_5991 : BitVec 32 := 1#32
  let v5294 : BitVec 32 := Scalar.select v5293 c1_i32_5991 c32_i32_5989
  let v5295 : BitVec 32 := Scalar.remsi v5292 v5294
  let c0_i32_5993 : BitVec 32 := 0#32
  let v5297 : BitVec 1 := Scalar.cmpi .slt v5295 c0_i32_5993
  let c0_i32_5994 : BitVec 32 := 0#32
  let v5298 : BitVec 1 := Scalar.cmpi .slt v5294 c0_i32_5994
  let v5299 : BitVec 1 := Scalar.xori v5297 v5298
  let c0_i32_5992 : BitVec 32 := 0#32
  let v5296 : BitVec 1 := Scalar.cmpi .ne v5295 c0_i32_5992
  let v5300 : BitVec 1 := Scalar.andi v5299 v5296
  let v5301 : BitVec 32 := Scalar.addi v5295 v5294
  let v5302 : BitVec 32 := Scalar.select v5300 v5301 v5295
  let c1_i32_6001 : BitVec 32 := 1#32
  let v5304 : BitVec 32 := Scalar.muli v5302 c1_i32_6001
  let v5305 : BitVec 32 := Scalar.addi c0_i32_6002 v5304
  v5305.toNat
def k0_dev167 (d0 : Dev nD) : Nat :=
  let c0_i32_6020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_6006 : BitVec 32 := 12#32
  let v5313 : BitVec 32 := Scalar.addi v2 c12_i32_6006
  let c32_i32_6007 : BitVec 32 := 32#32
  let c0_i32_6008 : BitVec 32 := 0#32
  let v5314 : BitVec 1 := Scalar.cmpi .eq c32_i32_6007 c0_i32_6008
  let c1_i32_6009 : BitVec 32 := 1#32
  let v5315 : BitVec 32 := Scalar.select v5314 c1_i32_6009 c32_i32_6007
  let v5316 : BitVec 32 := Scalar.remsi v5313 v5315
  let c0_i32_6011 : BitVec 32 := 0#32
  let v5318 : BitVec 1 := Scalar.cmpi .slt v5316 c0_i32_6011
  let c0_i32_6012 : BitVec 32 := 0#32
  let v5319 : BitVec 1 := Scalar.cmpi .slt v5315 c0_i32_6012
  let v5320 : BitVec 1 := Scalar.xori v5318 v5319
  let c0_i32_6010 : BitVec 32 := 0#32
  let v5317 : BitVec 1 := Scalar.cmpi .ne v5316 c0_i32_6010
  let v5321 : BitVec 1 := Scalar.andi v5320 v5317
  let v5322 : BitVec 32 := Scalar.addi v5316 v5315
  let v5323 : BitVec 32 := Scalar.select v5321 v5322 v5316
  let c1_i32_6019 : BitVec 32 := 1#32
  let v5325 : BitVec 32 := Scalar.muli v5323 c1_i32_6019
  let v5326 : BitVec 32 := Scalar.addi c0_i32_6020 v5325
  v5326.toNat
def k0_dev168 (d0 : Dev nD) : Nat :=
  let c0_i32_6038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_6024 : BitVec 32 := 13#32
  let v5334 : BitVec 32 := Scalar.addi v2 c13_i32_6024
  let c32_i32_6025 : BitVec 32 := 32#32
  let c0_i32_6026 : BitVec 32 := 0#32
  let v5335 : BitVec 1 := Scalar.cmpi .eq c32_i32_6025 c0_i32_6026
  let c1_i32_6027 : BitVec 32 := 1#32
  let v5336 : BitVec 32 := Scalar.select v5335 c1_i32_6027 c32_i32_6025
  let v5337 : BitVec 32 := Scalar.remsi v5334 v5336
  let c0_i32_6029 : BitVec 32 := 0#32
  let v5339 : BitVec 1 := Scalar.cmpi .slt v5337 c0_i32_6029
  let c0_i32_6030 : BitVec 32 := 0#32
  let v5340 : BitVec 1 := Scalar.cmpi .slt v5336 c0_i32_6030
  let v5341 : BitVec 1 := Scalar.xori v5339 v5340
  let c0_i32_6028 : BitVec 32 := 0#32
  let v5338 : BitVec 1 := Scalar.cmpi .ne v5337 c0_i32_6028
  let v5342 : BitVec 1 := Scalar.andi v5341 v5338
  let v5343 : BitVec 32 := Scalar.addi v5337 v5336
  let v5344 : BitVec 32 := Scalar.select v5342 v5343 v5337
  let c1_i32_6037 : BitVec 32 := 1#32
  let v5346 : BitVec 32 := Scalar.muli v5344 c1_i32_6037
  let v5347 : BitVec 32 := Scalar.addi c0_i32_6038 v5346
  v5347.toNat
def k0_dev169 (d0 : Dev nD) : Nat :=
  let c0_i32_6056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_6042 : BitVec 32 := 14#32
  let v5355 : BitVec 32 := Scalar.addi v2 c14_i32_6042
  let c32_i32_6043 : BitVec 32 := 32#32
  let c0_i32_6044 : BitVec 32 := 0#32
  let v5356 : BitVec 1 := Scalar.cmpi .eq c32_i32_6043 c0_i32_6044
  let c1_i32_6045 : BitVec 32 := 1#32
  let v5357 : BitVec 32 := Scalar.select v5356 c1_i32_6045 c32_i32_6043
  let v5358 : BitVec 32 := Scalar.remsi v5355 v5357
  let c0_i32_6047 : BitVec 32 := 0#32
  let v5360 : BitVec 1 := Scalar.cmpi .slt v5358 c0_i32_6047
  let c0_i32_6048 : BitVec 32 := 0#32
  let v5361 : BitVec 1 := Scalar.cmpi .slt v5357 c0_i32_6048
  let v5362 : BitVec 1 := Scalar.xori v5360 v5361
  let c0_i32_6046 : BitVec 32 := 0#32
  let v5359 : BitVec 1 := Scalar.cmpi .ne v5358 c0_i32_6046
  let v5363 : BitVec 1 := Scalar.andi v5362 v5359
  let v5364 : BitVec 32 := Scalar.addi v5358 v5357
  let v5365 : BitVec 32 := Scalar.select v5363 v5364 v5358
  let c1_i32_6055 : BitVec 32 := 1#32
  let v5367 : BitVec 32 := Scalar.muli v5365 c1_i32_6055
  let v5368 : BitVec 32 := Scalar.addi c0_i32_6056 v5367
  v5368.toNat
def k0_dev170 (d0 : Dev nD) : Nat :=
  let c0_i32_6074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_6060 : BitVec 32 := 15#32
  let v5376 : BitVec 32 := Scalar.addi v2 c15_i32_6060
  let c32_i32_6061 : BitVec 32 := 32#32
  let c0_i32_6062 : BitVec 32 := 0#32
  let v5377 : BitVec 1 := Scalar.cmpi .eq c32_i32_6061 c0_i32_6062
  let c1_i32_6063 : BitVec 32 := 1#32
  let v5378 : BitVec 32 := Scalar.select v5377 c1_i32_6063 c32_i32_6061
  let v5379 : BitVec 32 := Scalar.remsi v5376 v5378
  let c0_i32_6065 : BitVec 32 := 0#32
  let v5381 : BitVec 1 := Scalar.cmpi .slt v5379 c0_i32_6065
  let c0_i32_6066 : BitVec 32 := 0#32
  let v5382 : BitVec 1 := Scalar.cmpi .slt v5378 c0_i32_6066
  let v5383 : BitVec 1 := Scalar.xori v5381 v5382
  let c0_i32_6064 : BitVec 32 := 0#32
  let v5380 : BitVec 1 := Scalar.cmpi .ne v5379 c0_i32_6064
  let v5384 : BitVec 1 := Scalar.andi v5383 v5380
  let v5385 : BitVec 32 := Scalar.addi v5379 v5378
  let v5386 : BitVec 32 := Scalar.select v5384 v5385 v5379
  let c1_i32_6073 : BitVec 32 := 1#32
  let v5388 : BitVec 32 := Scalar.muli v5386 c1_i32_6073
  let v5389 : BitVec 32 := Scalar.addi c0_i32_6074 v5388
  v5389.toNat
def k0_dev171 (d0 : Dev nD) : Nat :=
  let c0_i32_6092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_6078 : BitVec 32 := 16#32
  let v5397 : BitVec 32 := Scalar.addi v2 c16_i32_6078
  let c32_i32_6079 : BitVec 32 := 32#32
  let c0_i32_6080 : BitVec 32 := 0#32
  let v5398 : BitVec 1 := Scalar.cmpi .eq c32_i32_6079 c0_i32_6080
  let c1_i32_6081 : BitVec 32 := 1#32
  let v5399 : BitVec 32 := Scalar.select v5398 c1_i32_6081 c32_i32_6079
  let v5400 : BitVec 32 := Scalar.remsi v5397 v5399
  let c0_i32_6083 : BitVec 32 := 0#32
  let v5402 : BitVec 1 := Scalar.cmpi .slt v5400 c0_i32_6083
  let c0_i32_6084 : BitVec 32 := 0#32
  let v5403 : BitVec 1 := Scalar.cmpi .slt v5399 c0_i32_6084
  let v5404 : BitVec 1 := Scalar.xori v5402 v5403
  let c0_i32_6082 : BitVec 32 := 0#32
  let v5401 : BitVec 1 := Scalar.cmpi .ne v5400 c0_i32_6082
  let v5405 : BitVec 1 := Scalar.andi v5404 v5401
  let v5406 : BitVec 32 := Scalar.addi v5400 v5399
  let v5407 : BitVec 32 := Scalar.select v5405 v5406 v5400
  let c1_i32_6091 : BitVec 32 := 1#32
  let v5409 : BitVec 32 := Scalar.muli v5407 c1_i32_6091
  let v5410 : BitVec 32 := Scalar.addi c0_i32_6092 v5409
  v5410.toNat
def k0_dev172 (d0 : Dev nD) : Nat :=
  let c0_i32_6110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_6096 : BitVec 32 := 17#32
  let v5418 : BitVec 32 := Scalar.addi v2 c17_i32_6096
  let c32_i32_6097 : BitVec 32 := 32#32
  let c0_i32_6098 : BitVec 32 := 0#32
  let v5419 : BitVec 1 := Scalar.cmpi .eq c32_i32_6097 c0_i32_6098
  let c1_i32_6099 : BitVec 32 := 1#32
  let v5420 : BitVec 32 := Scalar.select v5419 c1_i32_6099 c32_i32_6097
  let v5421 : BitVec 32 := Scalar.remsi v5418 v5420
  let c0_i32_6101 : BitVec 32 := 0#32
  let v5423 : BitVec 1 := Scalar.cmpi .slt v5421 c0_i32_6101
  let c0_i32_6102 : BitVec 32 := 0#32
  let v5424 : BitVec 1 := Scalar.cmpi .slt v5420 c0_i32_6102
  let v5425 : BitVec 1 := Scalar.xori v5423 v5424
  let c0_i32_6100 : BitVec 32 := 0#32
  let v5422 : BitVec 1 := Scalar.cmpi .ne v5421 c0_i32_6100
  let v5426 : BitVec 1 := Scalar.andi v5425 v5422
  let v5427 : BitVec 32 := Scalar.addi v5421 v5420
  let v5428 : BitVec 32 := Scalar.select v5426 v5427 v5421
  let c1_i32_6109 : BitVec 32 := 1#32
  let v5430 : BitVec 32 := Scalar.muli v5428 c1_i32_6109
  let v5431 : BitVec 32 := Scalar.addi c0_i32_6110 v5430
  v5431.toNat
def k0_dev173 (d0 : Dev nD) : Nat :=
  let c0_i32_6128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_6114 : BitVec 32 := 18#32
  let v5439 : BitVec 32 := Scalar.addi v2 c18_i32_6114
  let c32_i32_6115 : BitVec 32 := 32#32
  let c0_i32_6116 : BitVec 32 := 0#32
  let v5440 : BitVec 1 := Scalar.cmpi .eq c32_i32_6115 c0_i32_6116
  let c1_i32_6117 : BitVec 32 := 1#32
  let v5441 : BitVec 32 := Scalar.select v5440 c1_i32_6117 c32_i32_6115
  let v5442 : BitVec 32 := Scalar.remsi v5439 v5441
  let c0_i32_6119 : BitVec 32 := 0#32
  let v5444 : BitVec 1 := Scalar.cmpi .slt v5442 c0_i32_6119
  let c0_i32_6120 : BitVec 32 := 0#32
  let v5445 : BitVec 1 := Scalar.cmpi .slt v5441 c0_i32_6120
  let v5446 : BitVec 1 := Scalar.xori v5444 v5445
  let c0_i32_6118 : BitVec 32 := 0#32
  let v5443 : BitVec 1 := Scalar.cmpi .ne v5442 c0_i32_6118
  let v5447 : BitVec 1 := Scalar.andi v5446 v5443
  let v5448 : BitVec 32 := Scalar.addi v5442 v5441
  let v5449 : BitVec 32 := Scalar.select v5447 v5448 v5442
  let c1_i32_6127 : BitVec 32 := 1#32
  let v5451 : BitVec 32 := Scalar.muli v5449 c1_i32_6127
  let v5452 : BitVec 32 := Scalar.addi c0_i32_6128 v5451
  v5452.toNat
def k0_dev174 (d0 : Dev nD) : Nat :=
  let c0_i32_6146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_6132 : BitVec 32 := 19#32
  let v5460 : BitVec 32 := Scalar.addi v2 c19_i32_6132
  let c32_i32_6133 : BitVec 32 := 32#32
  let c0_i32_6134 : BitVec 32 := 0#32
  let v5461 : BitVec 1 := Scalar.cmpi .eq c32_i32_6133 c0_i32_6134
  let c1_i32_6135 : BitVec 32 := 1#32
  let v5462 : BitVec 32 := Scalar.select v5461 c1_i32_6135 c32_i32_6133
  let v5463 : BitVec 32 := Scalar.remsi v5460 v5462
  let c0_i32_6137 : BitVec 32 := 0#32
  let v5465 : BitVec 1 := Scalar.cmpi .slt v5463 c0_i32_6137
  let c0_i32_6138 : BitVec 32 := 0#32
  let v5466 : BitVec 1 := Scalar.cmpi .slt v5462 c0_i32_6138
  let v5467 : BitVec 1 := Scalar.xori v5465 v5466
  let c0_i32_6136 : BitVec 32 := 0#32
  let v5464 : BitVec 1 := Scalar.cmpi .ne v5463 c0_i32_6136
  let v5468 : BitVec 1 := Scalar.andi v5467 v5464
  let v5469 : BitVec 32 := Scalar.addi v5463 v5462
  let v5470 : BitVec 32 := Scalar.select v5468 v5469 v5463
  let c1_i32_6145 : BitVec 32 := 1#32
  let v5472 : BitVec 32 := Scalar.muli v5470 c1_i32_6145
  let v5473 : BitVec 32 := Scalar.addi c0_i32_6146 v5472
  v5473.toNat
def k0_dev175 (d0 : Dev nD) : Nat :=
  let c0_i32_6164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_6150 : BitVec 32 := 20#32
  let v5481 : BitVec 32 := Scalar.addi v2 c20_i32_6150
  let c32_i32_6151 : BitVec 32 := 32#32
  let c0_i32_6152 : BitVec 32 := 0#32
  let v5482 : BitVec 1 := Scalar.cmpi .eq c32_i32_6151 c0_i32_6152
  let c1_i32_6153 : BitVec 32 := 1#32
  let v5483 : BitVec 32 := Scalar.select v5482 c1_i32_6153 c32_i32_6151
  let v5484 : BitVec 32 := Scalar.remsi v5481 v5483
  let c0_i32_6155 : BitVec 32 := 0#32
  let v5486 : BitVec 1 := Scalar.cmpi .slt v5484 c0_i32_6155
  let c0_i32_6156 : BitVec 32 := 0#32
  let v5487 : BitVec 1 := Scalar.cmpi .slt v5483 c0_i32_6156
  let v5488 : BitVec 1 := Scalar.xori v5486 v5487
  let c0_i32_6154 : BitVec 32 := 0#32
  let v5485 : BitVec 1 := Scalar.cmpi .ne v5484 c0_i32_6154
  let v5489 : BitVec 1 := Scalar.andi v5488 v5485
  let v5490 : BitVec 32 := Scalar.addi v5484 v5483
  let v5491 : BitVec 32 := Scalar.select v5489 v5490 v5484
  let c1_i32_6163 : BitVec 32 := 1#32
  let v5493 : BitVec 32 := Scalar.muli v5491 c1_i32_6163
  let v5494 : BitVec 32 := Scalar.addi c0_i32_6164 v5493
  v5494.toNat
def k0_dev176 (d0 : Dev nD) : Nat :=
  let c0_i32_6182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_6168 : BitVec 32 := 21#32
  let v5502 : BitVec 32 := Scalar.addi v2 c21_i32_6168
  let c32_i32_6169 : BitVec 32 := 32#32
  let c0_i32_6170 : BitVec 32 := 0#32
  let v5503 : BitVec 1 := Scalar.cmpi .eq c32_i32_6169 c0_i32_6170
  let c1_i32_6171 : BitVec 32 := 1#32
  let v5504 : BitVec 32 := Scalar.select v5503 c1_i32_6171 c32_i32_6169
  let v5505 : BitVec 32 := Scalar.remsi v5502 v5504
  let c0_i32_6173 : BitVec 32 := 0#32
  let v5507 : BitVec 1 := Scalar.cmpi .slt v5505 c0_i32_6173
  let c0_i32_6174 : BitVec 32 := 0#32
  let v5508 : BitVec 1 := Scalar.cmpi .slt v5504 c0_i32_6174
  let v5509 : BitVec 1 := Scalar.xori v5507 v5508
  let c0_i32_6172 : BitVec 32 := 0#32
  let v5506 : BitVec 1 := Scalar.cmpi .ne v5505 c0_i32_6172
  let v5510 : BitVec 1 := Scalar.andi v5509 v5506
  let v5511 : BitVec 32 := Scalar.addi v5505 v5504
  let v5512 : BitVec 32 := Scalar.select v5510 v5511 v5505
  let c1_i32_6181 : BitVec 32 := 1#32
  let v5514 : BitVec 32 := Scalar.muli v5512 c1_i32_6181
  let v5515 : BitVec 32 := Scalar.addi c0_i32_6182 v5514
  v5515.toNat
def k0_dev177 (d0 : Dev nD) : Nat :=
  let c0_i32_6200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_6186 : BitVec 32 := 22#32
  let v5523 : BitVec 32 := Scalar.addi v2 c22_i32_6186
  let c32_i32_6187 : BitVec 32 := 32#32
  let c0_i32_6188 : BitVec 32 := 0#32
  let v5524 : BitVec 1 := Scalar.cmpi .eq c32_i32_6187 c0_i32_6188
  let c1_i32_6189 : BitVec 32 := 1#32
  let v5525 : BitVec 32 := Scalar.select v5524 c1_i32_6189 c32_i32_6187
  let v5526 : BitVec 32 := Scalar.remsi v5523 v5525
  let c0_i32_6191 : BitVec 32 := 0#32
  let v5528 : BitVec 1 := Scalar.cmpi .slt v5526 c0_i32_6191
  let c0_i32_6192 : BitVec 32 := 0#32
  let v5529 : BitVec 1 := Scalar.cmpi .slt v5525 c0_i32_6192
  let v5530 : BitVec 1 := Scalar.xori v5528 v5529
  let c0_i32_6190 : BitVec 32 := 0#32
  let v5527 : BitVec 1 := Scalar.cmpi .ne v5526 c0_i32_6190
  let v5531 : BitVec 1 := Scalar.andi v5530 v5527
  let v5532 : BitVec 32 := Scalar.addi v5526 v5525
  let v5533 : BitVec 32 := Scalar.select v5531 v5532 v5526
  let c1_i32_6199 : BitVec 32 := 1#32
  let v5535 : BitVec 32 := Scalar.muli v5533 c1_i32_6199
  let v5536 : BitVec 32 := Scalar.addi c0_i32_6200 v5535
  v5536.toNat
def k0_dev178 (d0 : Dev nD) : Nat :=
  let c0_i32_6218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_6204 : BitVec 32 := 23#32
  let v5544 : BitVec 32 := Scalar.addi v2 c23_i32_6204
  let c32_i32_6205 : BitVec 32 := 32#32
  let c0_i32_6206 : BitVec 32 := 0#32
  let v5545 : BitVec 1 := Scalar.cmpi .eq c32_i32_6205 c0_i32_6206
  let c1_i32_6207 : BitVec 32 := 1#32
  let v5546 : BitVec 32 := Scalar.select v5545 c1_i32_6207 c32_i32_6205
  let v5547 : BitVec 32 := Scalar.remsi v5544 v5546
  let c0_i32_6209 : BitVec 32 := 0#32
  let v5549 : BitVec 1 := Scalar.cmpi .slt v5547 c0_i32_6209
  let c0_i32_6210 : BitVec 32 := 0#32
  let v5550 : BitVec 1 := Scalar.cmpi .slt v5546 c0_i32_6210
  let v5551 : BitVec 1 := Scalar.xori v5549 v5550
  let c0_i32_6208 : BitVec 32 := 0#32
  let v5548 : BitVec 1 := Scalar.cmpi .ne v5547 c0_i32_6208
  let v5552 : BitVec 1 := Scalar.andi v5551 v5548
  let v5553 : BitVec 32 := Scalar.addi v5547 v5546
  let v5554 : BitVec 32 := Scalar.select v5552 v5553 v5547
  let c1_i32_6217 : BitVec 32 := 1#32
  let v5556 : BitVec 32 := Scalar.muli v5554 c1_i32_6217
  let v5557 : BitVec 32 := Scalar.addi c0_i32_6218 v5556
  v5557.toNat
def k0_dev179 (d0 : Dev nD) : Nat :=
  let c0_i32_6236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_6222 : BitVec 32 := 24#32
  let v5565 : BitVec 32 := Scalar.addi v2 c24_i32_6222
  let c32_i32_6223 : BitVec 32 := 32#32
  let c0_i32_6224 : BitVec 32 := 0#32
  let v5566 : BitVec 1 := Scalar.cmpi .eq c32_i32_6223 c0_i32_6224
  let c1_i32_6225 : BitVec 32 := 1#32
  let v5567 : BitVec 32 := Scalar.select v5566 c1_i32_6225 c32_i32_6223
  let v5568 : BitVec 32 := Scalar.remsi v5565 v5567
  let c0_i32_6227 : BitVec 32 := 0#32
  let v5570 : BitVec 1 := Scalar.cmpi .slt v5568 c0_i32_6227
  let c0_i32_6228 : BitVec 32 := 0#32
  let v5571 : BitVec 1 := Scalar.cmpi .slt v5567 c0_i32_6228
  let v5572 : BitVec 1 := Scalar.xori v5570 v5571
  let c0_i32_6226 : BitVec 32 := 0#32
  let v5569 : BitVec 1 := Scalar.cmpi .ne v5568 c0_i32_6226
  let v5573 : BitVec 1 := Scalar.andi v5572 v5569
  let v5574 : BitVec 32 := Scalar.addi v5568 v5567
  let v5575 : BitVec 32 := Scalar.select v5573 v5574 v5568
  let c1_i32_6235 : BitVec 32 := 1#32
  let v5577 : BitVec 32 := Scalar.muli v5575 c1_i32_6235
  let v5578 : BitVec 32 := Scalar.addi c0_i32_6236 v5577
  v5578.toNat
def k0_dev180 (d0 : Dev nD) : Nat :=
  let c0_i32_6254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_6240 : BitVec 32 := 25#32
  let v5586 : BitVec 32 := Scalar.addi v2 c25_i32_6240
  let c32_i32_6241 : BitVec 32 := 32#32
  let c0_i32_6242 : BitVec 32 := 0#32
  let v5587 : BitVec 1 := Scalar.cmpi .eq c32_i32_6241 c0_i32_6242
  let c1_i32_6243 : BitVec 32 := 1#32
  let v5588 : BitVec 32 := Scalar.select v5587 c1_i32_6243 c32_i32_6241
  let v5589 : BitVec 32 := Scalar.remsi v5586 v5588
  let c0_i32_6245 : BitVec 32 := 0#32
  let v5591 : BitVec 1 := Scalar.cmpi .slt v5589 c0_i32_6245
  let c0_i32_6246 : BitVec 32 := 0#32
  let v5592 : BitVec 1 := Scalar.cmpi .slt v5588 c0_i32_6246
  let v5593 : BitVec 1 := Scalar.xori v5591 v5592
  let c0_i32_6244 : BitVec 32 := 0#32
  let v5590 : BitVec 1 := Scalar.cmpi .ne v5589 c0_i32_6244
  let v5594 : BitVec 1 := Scalar.andi v5593 v5590
  let v5595 : BitVec 32 := Scalar.addi v5589 v5588
  let v5596 : BitVec 32 := Scalar.select v5594 v5595 v5589
  let c1_i32_6253 : BitVec 32 := 1#32
  let v5598 : BitVec 32 := Scalar.muli v5596 c1_i32_6253
  let v5599 : BitVec 32 := Scalar.addi c0_i32_6254 v5598
  v5599.toNat
def k0_dev181 (d0 : Dev nD) : Nat :=
  let c0_i32_6272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_6258 : BitVec 32 := 26#32
  let v5607 : BitVec 32 := Scalar.addi v2 c26_i32_6258
  let c32_i32_6259 : BitVec 32 := 32#32
  let c0_i32_6260 : BitVec 32 := 0#32
  let v5608 : BitVec 1 := Scalar.cmpi .eq c32_i32_6259 c0_i32_6260
  let c1_i32_6261 : BitVec 32 := 1#32
  let v5609 : BitVec 32 := Scalar.select v5608 c1_i32_6261 c32_i32_6259
  let v5610 : BitVec 32 := Scalar.remsi v5607 v5609
  let c0_i32_6263 : BitVec 32 := 0#32
  let v5612 : BitVec 1 := Scalar.cmpi .slt v5610 c0_i32_6263
  let c0_i32_6264 : BitVec 32 := 0#32
  let v5613 : BitVec 1 := Scalar.cmpi .slt v5609 c0_i32_6264
  let v5614 : BitVec 1 := Scalar.xori v5612 v5613
  let c0_i32_6262 : BitVec 32 := 0#32
  let v5611 : BitVec 1 := Scalar.cmpi .ne v5610 c0_i32_6262
  let v5615 : BitVec 1 := Scalar.andi v5614 v5611
  let v5616 : BitVec 32 := Scalar.addi v5610 v5609
  let v5617 : BitVec 32 := Scalar.select v5615 v5616 v5610
  let c1_i32_6271 : BitVec 32 := 1#32
  let v5619 : BitVec 32 := Scalar.muli v5617 c1_i32_6271
  let v5620 : BitVec 32 := Scalar.addi c0_i32_6272 v5619
  v5620.toNat
def k0_dev182 (d0 : Dev nD) : Nat :=
  let c0_i32_6290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_6276 : BitVec 32 := 27#32
  let v5628 : BitVec 32 := Scalar.addi v2 c27_i32_6276
  let c32_i32_6277 : BitVec 32 := 32#32
  let c0_i32_6278 : BitVec 32 := 0#32
  let v5629 : BitVec 1 := Scalar.cmpi .eq c32_i32_6277 c0_i32_6278
  let c1_i32_6279 : BitVec 32 := 1#32
  let v5630 : BitVec 32 := Scalar.select v5629 c1_i32_6279 c32_i32_6277
  let v5631 : BitVec 32 := Scalar.remsi v5628 v5630
  let c0_i32_6281 : BitVec 32 := 0#32
  let v5633 : BitVec 1 := Scalar.cmpi .slt v5631 c0_i32_6281
  let c0_i32_6282 : BitVec 32 := 0#32
  let v5634 : BitVec 1 := Scalar.cmpi .slt v5630 c0_i32_6282
  let v5635 : BitVec 1 := Scalar.xori v5633 v5634
  let c0_i32_6280 : BitVec 32 := 0#32
  let v5632 : BitVec 1 := Scalar.cmpi .ne v5631 c0_i32_6280
  let v5636 : BitVec 1 := Scalar.andi v5635 v5632
  let v5637 : BitVec 32 := Scalar.addi v5631 v5630
  let v5638 : BitVec 32 := Scalar.select v5636 v5637 v5631
  let c1_i32_6289 : BitVec 32 := 1#32
  let v5640 : BitVec 32 := Scalar.muli v5638 c1_i32_6289
  let v5641 : BitVec 32 := Scalar.addi c0_i32_6290 v5640
  v5641.toNat
def k0_dev183 (d0 : Dev nD) : Nat :=
  let c0_i32_6308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_6294 : BitVec 32 := 28#32
  let v5649 : BitVec 32 := Scalar.addi v2 c28_i32_6294
  let c32_i32_6295 : BitVec 32 := 32#32
  let c0_i32_6296 : BitVec 32 := 0#32
  let v5650 : BitVec 1 := Scalar.cmpi .eq c32_i32_6295 c0_i32_6296
  let c1_i32_6297 : BitVec 32 := 1#32
  let v5651 : BitVec 32 := Scalar.select v5650 c1_i32_6297 c32_i32_6295
  let v5652 : BitVec 32 := Scalar.remsi v5649 v5651
  let c0_i32_6299 : BitVec 32 := 0#32
  let v5654 : BitVec 1 := Scalar.cmpi .slt v5652 c0_i32_6299
  let c0_i32_6300 : BitVec 32 := 0#32
  let v5655 : BitVec 1 := Scalar.cmpi .slt v5651 c0_i32_6300
  let v5656 : BitVec 1 := Scalar.xori v5654 v5655
  let c0_i32_6298 : BitVec 32 := 0#32
  let v5653 : BitVec 1 := Scalar.cmpi .ne v5652 c0_i32_6298
  let v5657 : BitVec 1 := Scalar.andi v5656 v5653
  let v5658 : BitVec 32 := Scalar.addi v5652 v5651
  let v5659 : BitVec 32 := Scalar.select v5657 v5658 v5652
  let c1_i32_6307 : BitVec 32 := 1#32
  let v5661 : BitVec 32 := Scalar.muli v5659 c1_i32_6307
  let v5662 : BitVec 32 := Scalar.addi c0_i32_6308 v5661
  v5662.toNat
def k0_dev184 (d0 : Dev nD) : Nat :=
  let c0_i32_6326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_6312 : BitVec 32 := 29#32
  let v5670 : BitVec 32 := Scalar.addi v2 c29_i32_6312
  let c32_i32_6313 : BitVec 32 := 32#32
  let c0_i32_6314 : BitVec 32 := 0#32
  let v5671 : BitVec 1 := Scalar.cmpi .eq c32_i32_6313 c0_i32_6314
  let c1_i32_6315 : BitVec 32 := 1#32
  let v5672 : BitVec 32 := Scalar.select v5671 c1_i32_6315 c32_i32_6313
  let v5673 : BitVec 32 := Scalar.remsi v5670 v5672
  let c0_i32_6317 : BitVec 32 := 0#32
  let v5675 : BitVec 1 := Scalar.cmpi .slt v5673 c0_i32_6317
  let c0_i32_6318 : BitVec 32 := 0#32
  let v5676 : BitVec 1 := Scalar.cmpi .slt v5672 c0_i32_6318
  let v5677 : BitVec 1 := Scalar.xori v5675 v5676
  let c0_i32_6316 : BitVec 32 := 0#32
  let v5674 : BitVec 1 := Scalar.cmpi .ne v5673 c0_i32_6316
  let v5678 : BitVec 1 := Scalar.andi v5677 v5674
  let v5679 : BitVec 32 := Scalar.addi v5673 v5672
  let v5680 : BitVec 32 := Scalar.select v5678 v5679 v5673
  let c1_i32_6325 : BitVec 32 := 1#32
  let v5682 : BitVec 32 := Scalar.muli v5680 c1_i32_6325
  let v5683 : BitVec 32 := Scalar.addi c0_i32_6326 v5682
  v5683.toNat
def k0_dev185 (d0 : Dev nD) : Nat :=
  let c0_i32_6344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_6330 : BitVec 32 := 30#32
  let v5691 : BitVec 32 := Scalar.addi v2 c30_i32_6330
  let c32_i32_6331 : BitVec 32 := 32#32
  let c0_i32_6332 : BitVec 32 := 0#32
  let v5692 : BitVec 1 := Scalar.cmpi .eq c32_i32_6331 c0_i32_6332
  let c1_i32_6333 : BitVec 32 := 1#32
  let v5693 : BitVec 32 := Scalar.select v5692 c1_i32_6333 c32_i32_6331
  let v5694 : BitVec 32 := Scalar.remsi v5691 v5693
  let c0_i32_6335 : BitVec 32 := 0#32
  let v5696 : BitVec 1 := Scalar.cmpi .slt v5694 c0_i32_6335
  let c0_i32_6336 : BitVec 32 := 0#32
  let v5697 : BitVec 1 := Scalar.cmpi .slt v5693 c0_i32_6336
  let v5698 : BitVec 1 := Scalar.xori v5696 v5697
  let c0_i32_6334 : BitVec 32 := 0#32
  let v5695 : BitVec 1 := Scalar.cmpi .ne v5694 c0_i32_6334
  let v5699 : BitVec 1 := Scalar.andi v5698 v5695
  let v5700 : BitVec 32 := Scalar.addi v5694 v5693
  let v5701 : BitVec 32 := Scalar.select v5699 v5700 v5694
  let c1_i32_6343 : BitVec 32 := 1#32
  let v5703 : BitVec 32 := Scalar.muli v5701 c1_i32_6343
  let v5704 : BitVec 32 := Scalar.addi c0_i32_6344 v5703
  v5704.toNat
def k0_dev186 (d0 : Dev nD) : Nat :=
  let c0_i32_6362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_6348 : BitVec 32 := 31#32
  let v5712 : BitVec 32 := Scalar.addi v2 c31_i32_6348
  let c32_i32_6349 : BitVec 32 := 32#32
  let c0_i32_6350 : BitVec 32 := 0#32
  let v5713 : BitVec 1 := Scalar.cmpi .eq c32_i32_6349 c0_i32_6350
  let c1_i32_6351 : BitVec 32 := 1#32
  let v5714 : BitVec 32 := Scalar.select v5713 c1_i32_6351 c32_i32_6349
  let v5715 : BitVec 32 := Scalar.remsi v5712 v5714
  let c0_i32_6353 : BitVec 32 := 0#32
  let v5717 : BitVec 1 := Scalar.cmpi .slt v5715 c0_i32_6353
  let c0_i32_6354 : BitVec 32 := 0#32
  let v5718 : BitVec 1 := Scalar.cmpi .slt v5714 c0_i32_6354
  let v5719 : BitVec 1 := Scalar.xori v5717 v5718
  let c0_i32_6352 : BitVec 32 := 0#32
  let v5716 : BitVec 1 := Scalar.cmpi .ne v5715 c0_i32_6352
  let v5720 : BitVec 1 := Scalar.andi v5719 v5716
  let v5721 : BitVec 32 := Scalar.addi v5715 v5714
  let v5722 : BitVec 32 := Scalar.select v5720 v5721 v5715
  let c1_i32_6361 : BitVec 32 := 1#32
  let v5724 : BitVec 32 := Scalar.muli v5722 c1_i32_6361
  let v5725 : BitVec 32 := Scalar.addi c0_i32_6362 v5724
  v5725.toNat
def k0_off8 (d0 : Dev nD) : Fin 3 → Nat :=
  let c2_i32_7101 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7099 : BitVec 32 := 16#32
  let v6161 : BitVec 32 := Scalar.muli v2 c16_i32_7099
  let c0_i32_7108 : BitVec 32 := 0#32
  ![2, v6161.toNat, 0]
def k0_dev187 (d0 : Dev nD) : Nat :=
  let c0_i32_7106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7092 : BitVec 32 := 1#32
  let v6150 : BitVec 32 := Scalar.addi v2 c1_i32_7092
  let c32_i32_7093 : BitVec 32 := 32#32
  let c0_i32_7094 : BitVec 32 := 0#32
  let v6151 : BitVec 1 := Scalar.cmpi .eq c32_i32_7093 c0_i32_7094
  let c1_i32_7095 : BitVec 32 := 1#32
  let v6152 : BitVec 32 := Scalar.select v6151 c1_i32_7095 c32_i32_7093
  let v6153 : BitVec 32 := Scalar.remsi v6150 v6152
  let c0_i32_7097 : BitVec 32 := 0#32
  let v6155 : BitVec 1 := Scalar.cmpi .slt v6153 c0_i32_7097
  let c0_i32_7098 : BitVec 32 := 0#32
  let v6156 : BitVec 1 := Scalar.cmpi .slt v6152 c0_i32_7098
  let v6157 : BitVec 1 := Scalar.xori v6155 v6156
  let c0_i32_7096 : BitVec 32 := 0#32
  let v6154 : BitVec 1 := Scalar.cmpi .ne v6153 c0_i32_7096
  let v6158 : BitVec 1 := Scalar.andi v6157 v6154
  let v6159 : BitVec 32 := Scalar.addi v6153 v6152
  let v6160 : BitVec 32 := Scalar.select v6158 v6159 v6153
  let c1_i32_7105 : BitVec 32 := 1#32
  let v6162 : BitVec 32 := Scalar.muli v6160 c1_i32_7105
  let v6163 : BitVec 32 := Scalar.addi c0_i32_7106 v6162
  v6163.toNat
def k0_dev188 (d0 : Dev nD) : Nat :=
  let c0_i32_7126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_7112 : BitVec 32 := 2#32
  let v6173 : BitVec 32 := Scalar.addi v2 c2_i32_7112
  let c32_i32_7113 : BitVec 32 := 32#32
  let c0_i32_7114 : BitVec 32 := 0#32
  let v6174 : BitVec 1 := Scalar.cmpi .eq c32_i32_7113 c0_i32_7114
  let c1_i32_7115 : BitVec 32 := 1#32
  let v6175 : BitVec 32 := Scalar.select v6174 c1_i32_7115 c32_i32_7113
  let v6176 : BitVec 32 := Scalar.remsi v6173 v6175
  let c0_i32_7117 : BitVec 32 := 0#32
  let v6178 : BitVec 1 := Scalar.cmpi .slt v6176 c0_i32_7117
  let c0_i32_7118 : BitVec 32 := 0#32
  let v6179 : BitVec 1 := Scalar.cmpi .slt v6175 c0_i32_7118
  let v6180 : BitVec 1 := Scalar.xori v6178 v6179
  let c0_i32_7116 : BitVec 32 := 0#32
  let v6177 : BitVec 1 := Scalar.cmpi .ne v6176 c0_i32_7116
  let v6181 : BitVec 1 := Scalar.andi v6180 v6177
  let v6182 : BitVec 32 := Scalar.addi v6176 v6175
  let v6183 : BitVec 32 := Scalar.select v6181 v6182 v6176
  let c1_i32_7125 : BitVec 32 := 1#32
  let v6185 : BitVec 32 := Scalar.muli v6183 c1_i32_7125
  let v6186 : BitVec 32 := Scalar.addi c0_i32_7126 v6185
  v6186.toNat
def k0_dev189 (d0 : Dev nD) : Nat :=
  let c0_i32_7146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_7132 : BitVec 32 := 3#32
  let v6196 : BitVec 32 := Scalar.addi v2 c3_i32_7132
  let c32_i32_7133 : BitVec 32 := 32#32
  let c0_i32_7134 : BitVec 32 := 0#32
  let v6197 : BitVec 1 := Scalar.cmpi .eq c32_i32_7133 c0_i32_7134
  let c1_i32_7135 : BitVec 32 := 1#32
  let v6198 : BitVec 32 := Scalar.select v6197 c1_i32_7135 c32_i32_7133
  let v6199 : BitVec 32 := Scalar.remsi v6196 v6198
  let c0_i32_7137 : BitVec 32 := 0#32
  let v6201 : BitVec 1 := Scalar.cmpi .slt v6199 c0_i32_7137
  let c0_i32_7138 : BitVec 32 := 0#32
  let v6202 : BitVec 1 := Scalar.cmpi .slt v6198 c0_i32_7138
  let v6203 : BitVec 1 := Scalar.xori v6201 v6202
  let c0_i32_7136 : BitVec 32 := 0#32
  let v6200 : BitVec 1 := Scalar.cmpi .ne v6199 c0_i32_7136
  let v6204 : BitVec 1 := Scalar.andi v6203 v6200
  let v6205 : BitVec 32 := Scalar.addi v6199 v6198
  let v6206 : BitVec 32 := Scalar.select v6204 v6205 v6199
  let c1_i32_7145 : BitVec 32 := 1#32
  let v6208 : BitVec 32 := Scalar.muli v6206 c1_i32_7145
  let v6209 : BitVec 32 := Scalar.addi c0_i32_7146 v6208
  v6209.toNat
def k0_dev190 (d0 : Dev nD) : Nat :=
  let c0_i32_7166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_7152 : BitVec 32 := 4#32
  let v6219 : BitVec 32 := Scalar.addi v2 c4_i32_7152
  let c32_i32_7153 : BitVec 32 := 32#32
  let c0_i32_7154 : BitVec 32 := 0#32
  let v6220 : BitVec 1 := Scalar.cmpi .eq c32_i32_7153 c0_i32_7154
  let c1_i32_7155 : BitVec 32 := 1#32
  let v6221 : BitVec 32 := Scalar.select v6220 c1_i32_7155 c32_i32_7153
  let v6222 : BitVec 32 := Scalar.remsi v6219 v6221
  let c0_i32_7157 : BitVec 32 := 0#32
  let v6224 : BitVec 1 := Scalar.cmpi .slt v6222 c0_i32_7157
  let c0_i32_7158 : BitVec 32 := 0#32
  let v6225 : BitVec 1 := Scalar.cmpi .slt v6221 c0_i32_7158
  let v6226 : BitVec 1 := Scalar.xori v6224 v6225
  let c0_i32_7156 : BitVec 32 := 0#32
  let v6223 : BitVec 1 := Scalar.cmpi .ne v6222 c0_i32_7156
  let v6227 : BitVec 1 := Scalar.andi v6226 v6223
  let v6228 : BitVec 32 := Scalar.addi v6222 v6221
  let v6229 : BitVec 32 := Scalar.select v6227 v6228 v6222
  let c1_i32_7165 : BitVec 32 := 1#32
  let v6231 : BitVec 32 := Scalar.muli v6229 c1_i32_7165
  let v6232 : BitVec 32 := Scalar.addi c0_i32_7166 v6231
  v6232.toNat
def k0_dev191 (d0 : Dev nD) : Nat :=
  let c0_i32_7186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_7172 : BitVec 32 := 5#32
  let v6242 : BitVec 32 := Scalar.addi v2 c5_i32_7172
  let c32_i32_7173 : BitVec 32 := 32#32
  let c0_i32_7174 : BitVec 32 := 0#32
  let v6243 : BitVec 1 := Scalar.cmpi .eq c32_i32_7173 c0_i32_7174
  let c1_i32_7175 : BitVec 32 := 1#32
  let v6244 : BitVec 32 := Scalar.select v6243 c1_i32_7175 c32_i32_7173
  let v6245 : BitVec 32 := Scalar.remsi v6242 v6244
  let c0_i32_7177 : BitVec 32 := 0#32
  let v6247 : BitVec 1 := Scalar.cmpi .slt v6245 c0_i32_7177
  let c0_i32_7178 : BitVec 32 := 0#32
  let v6248 : BitVec 1 := Scalar.cmpi .slt v6244 c0_i32_7178
  let v6249 : BitVec 1 := Scalar.xori v6247 v6248
  let c0_i32_7176 : BitVec 32 := 0#32
  let v6246 : BitVec 1 := Scalar.cmpi .ne v6245 c0_i32_7176
  let v6250 : BitVec 1 := Scalar.andi v6249 v6246
  let v6251 : BitVec 32 := Scalar.addi v6245 v6244
  let v6252 : BitVec 32 := Scalar.select v6250 v6251 v6245
  let c1_i32_7185 : BitVec 32 := 1#32
  let v6254 : BitVec 32 := Scalar.muli v6252 c1_i32_7185
  let v6255 : BitVec 32 := Scalar.addi c0_i32_7186 v6254
  v6255.toNat
def k0_dev192 (d0 : Dev nD) : Nat :=
  let c0_i32_7206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_7192 : BitVec 32 := 6#32
  let v6265 : BitVec 32 := Scalar.addi v2 c6_i32_7192
  let c32_i32_7193 : BitVec 32 := 32#32
  let c0_i32_7194 : BitVec 32 := 0#32
  let v6266 : BitVec 1 := Scalar.cmpi .eq c32_i32_7193 c0_i32_7194
  let c1_i32_7195 : BitVec 32 := 1#32
  let v6267 : BitVec 32 := Scalar.select v6266 c1_i32_7195 c32_i32_7193
  let v6268 : BitVec 32 := Scalar.remsi v6265 v6267
  let c0_i32_7197 : BitVec 32 := 0#32
  let v6270 : BitVec 1 := Scalar.cmpi .slt v6268 c0_i32_7197
  let c0_i32_7198 : BitVec 32 := 0#32
  let v6271 : BitVec 1 := Scalar.cmpi .slt v6267 c0_i32_7198
  let v6272 : BitVec 1 := Scalar.xori v6270 v6271
  let c0_i32_7196 : BitVec 32 := 0#32
  let v6269 : BitVec 1 := Scalar.cmpi .ne v6268 c0_i32_7196
  let v6273 : BitVec 1 := Scalar.andi v6272 v6269
  let v6274 : BitVec 32 := Scalar.addi v6268 v6267
  let v6275 : BitVec 32 := Scalar.select v6273 v6274 v6268
  let c1_i32_7205 : BitVec 32 := 1#32
  let v6277 : BitVec 32 := Scalar.muli v6275 c1_i32_7205
  let v6278 : BitVec 32 := Scalar.addi c0_i32_7206 v6277
  v6278.toNat
def k0_dev193 (d0 : Dev nD) : Nat :=
  let c0_i32_7226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_7212 : BitVec 32 := 7#32
  let v6288 : BitVec 32 := Scalar.addi v2 c7_i32_7212
  let c32_i32_7213 : BitVec 32 := 32#32
  let c0_i32_7214 : BitVec 32 := 0#32
  let v6289 : BitVec 1 := Scalar.cmpi .eq c32_i32_7213 c0_i32_7214
  let c1_i32_7215 : BitVec 32 := 1#32
  let v6290 : BitVec 32 := Scalar.select v6289 c1_i32_7215 c32_i32_7213
  let v6291 : BitVec 32 := Scalar.remsi v6288 v6290
  let c0_i32_7217 : BitVec 32 := 0#32
  let v6293 : BitVec 1 := Scalar.cmpi .slt v6291 c0_i32_7217
  let c0_i32_7218 : BitVec 32 := 0#32
  let v6294 : BitVec 1 := Scalar.cmpi .slt v6290 c0_i32_7218
  let v6295 : BitVec 1 := Scalar.xori v6293 v6294
  let c0_i32_7216 : BitVec 32 := 0#32
  let v6292 : BitVec 1 := Scalar.cmpi .ne v6291 c0_i32_7216
  let v6296 : BitVec 1 := Scalar.andi v6295 v6292
  let v6297 : BitVec 32 := Scalar.addi v6291 v6290
  let v6298 : BitVec 32 := Scalar.select v6296 v6297 v6291
  let c1_i32_7225 : BitVec 32 := 1#32
  let v6300 : BitVec 32 := Scalar.muli v6298 c1_i32_7225
  let v6301 : BitVec 32 := Scalar.addi c0_i32_7226 v6300
  v6301.toNat
def k0_dev194 (d0 : Dev nD) : Nat :=
  let c0_i32_7246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_7232 : BitVec 32 := 8#32
  let v6311 : BitVec 32 := Scalar.addi v2 c8_i32_7232
  let c32_i32_7233 : BitVec 32 := 32#32
  let c0_i32_7234 : BitVec 32 := 0#32
  let v6312 : BitVec 1 := Scalar.cmpi .eq c32_i32_7233 c0_i32_7234
  let c1_i32_7235 : BitVec 32 := 1#32
  let v6313 : BitVec 32 := Scalar.select v6312 c1_i32_7235 c32_i32_7233
  let v6314 : BitVec 32 := Scalar.remsi v6311 v6313
  let c0_i32_7237 : BitVec 32 := 0#32
  let v6316 : BitVec 1 := Scalar.cmpi .slt v6314 c0_i32_7237
  let c0_i32_7238 : BitVec 32 := 0#32
  let v6317 : BitVec 1 := Scalar.cmpi .slt v6313 c0_i32_7238
  let v6318 : BitVec 1 := Scalar.xori v6316 v6317
  let c0_i32_7236 : BitVec 32 := 0#32
  let v6315 : BitVec 1 := Scalar.cmpi .ne v6314 c0_i32_7236
  let v6319 : BitVec 1 := Scalar.andi v6318 v6315
  let v6320 : BitVec 32 := Scalar.addi v6314 v6313
  let v6321 : BitVec 32 := Scalar.select v6319 v6320 v6314
  let c1_i32_7245 : BitVec 32 := 1#32
  let v6323 : BitVec 32 := Scalar.muli v6321 c1_i32_7245
  let v6324 : BitVec 32 := Scalar.addi c0_i32_7246 v6323
  v6324.toNat
def k0_dev195 (d0 : Dev nD) : Nat :=
  let c0_i32_7266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_7252 : BitVec 32 := 9#32
  let v6334 : BitVec 32 := Scalar.addi v2 c9_i32_7252
  let c32_i32_7253 : BitVec 32 := 32#32
  let c0_i32_7254 : BitVec 32 := 0#32
  let v6335 : BitVec 1 := Scalar.cmpi .eq c32_i32_7253 c0_i32_7254
  let c1_i32_7255 : BitVec 32 := 1#32
  let v6336 : BitVec 32 := Scalar.select v6335 c1_i32_7255 c32_i32_7253
  let v6337 : BitVec 32 := Scalar.remsi v6334 v6336
  let c0_i32_7257 : BitVec 32 := 0#32
  let v6339 : BitVec 1 := Scalar.cmpi .slt v6337 c0_i32_7257
  let c0_i32_7258 : BitVec 32 := 0#32
  let v6340 : BitVec 1 := Scalar.cmpi .slt v6336 c0_i32_7258
  let v6341 : BitVec 1 := Scalar.xori v6339 v6340
  let c0_i32_7256 : BitVec 32 := 0#32
  let v6338 : BitVec 1 := Scalar.cmpi .ne v6337 c0_i32_7256
  let v6342 : BitVec 1 := Scalar.andi v6341 v6338
  let v6343 : BitVec 32 := Scalar.addi v6337 v6336
  let v6344 : BitVec 32 := Scalar.select v6342 v6343 v6337
  let c1_i32_7265 : BitVec 32 := 1#32
  let v6346 : BitVec 32 := Scalar.muli v6344 c1_i32_7265
  let v6347 : BitVec 32 := Scalar.addi c0_i32_7266 v6346
  v6347.toNat
def k0_dev196 (d0 : Dev nD) : Nat :=
  let c0_i32_7286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_7272 : BitVec 32 := 10#32
  let v6357 : BitVec 32 := Scalar.addi v2 c10_i32_7272
  let c32_i32_7273 : BitVec 32 := 32#32
  let c0_i32_7274 : BitVec 32 := 0#32
  let v6358 : BitVec 1 := Scalar.cmpi .eq c32_i32_7273 c0_i32_7274
  let c1_i32_7275 : BitVec 32 := 1#32
  let v6359 : BitVec 32 := Scalar.select v6358 c1_i32_7275 c32_i32_7273
  let v6360 : BitVec 32 := Scalar.remsi v6357 v6359
  let c0_i32_7277 : BitVec 32 := 0#32
  let v6362 : BitVec 1 := Scalar.cmpi .slt v6360 c0_i32_7277
  let c0_i32_7278 : BitVec 32 := 0#32
  let v6363 : BitVec 1 := Scalar.cmpi .slt v6359 c0_i32_7278
  let v6364 : BitVec 1 := Scalar.xori v6362 v6363
  let c0_i32_7276 : BitVec 32 := 0#32
  let v6361 : BitVec 1 := Scalar.cmpi .ne v6360 c0_i32_7276
  let v6365 : BitVec 1 := Scalar.andi v6364 v6361
  let v6366 : BitVec 32 := Scalar.addi v6360 v6359
  let v6367 : BitVec 32 := Scalar.select v6365 v6366 v6360
  let c1_i32_7285 : BitVec 32 := 1#32
  let v6369 : BitVec 32 := Scalar.muli v6367 c1_i32_7285
  let v6370 : BitVec 32 := Scalar.addi c0_i32_7286 v6369
  v6370.toNat
def k0_dev197 (d0 : Dev nD) : Nat :=
  let c0_i32_7306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_7292 : BitVec 32 := 11#32
  let v6380 : BitVec 32 := Scalar.addi v2 c11_i32_7292
  let c32_i32_7293 : BitVec 32 := 32#32
  let c0_i32_7294 : BitVec 32 := 0#32
  let v6381 : BitVec 1 := Scalar.cmpi .eq c32_i32_7293 c0_i32_7294
  let c1_i32_7295 : BitVec 32 := 1#32
  let v6382 : BitVec 32 := Scalar.select v6381 c1_i32_7295 c32_i32_7293
  let v6383 : BitVec 32 := Scalar.remsi v6380 v6382
  let c0_i32_7297 : BitVec 32 := 0#32
  let v6385 : BitVec 1 := Scalar.cmpi .slt v6383 c0_i32_7297
  let c0_i32_7298 : BitVec 32 := 0#32
  let v6386 : BitVec 1 := Scalar.cmpi .slt v6382 c0_i32_7298
  let v6387 : BitVec 1 := Scalar.xori v6385 v6386
  let c0_i32_7296 : BitVec 32 := 0#32
  let v6384 : BitVec 1 := Scalar.cmpi .ne v6383 c0_i32_7296
  let v6388 : BitVec 1 := Scalar.andi v6387 v6384
  let v6389 : BitVec 32 := Scalar.addi v6383 v6382
  let v6390 : BitVec 32 := Scalar.select v6388 v6389 v6383
  let c1_i32_7305 : BitVec 32 := 1#32
  let v6392 : BitVec 32 := Scalar.muli v6390 c1_i32_7305
  let v6393 : BitVec 32 := Scalar.addi c0_i32_7306 v6392
  v6393.toNat
def k0_dev198 (d0 : Dev nD) : Nat :=
  let c0_i32_7326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_7312 : BitVec 32 := 12#32
  let v6403 : BitVec 32 := Scalar.addi v2 c12_i32_7312
  let c32_i32_7313 : BitVec 32 := 32#32
  let c0_i32_7314 : BitVec 32 := 0#32
  let v6404 : BitVec 1 := Scalar.cmpi .eq c32_i32_7313 c0_i32_7314
  let c1_i32_7315 : BitVec 32 := 1#32
  let v6405 : BitVec 32 := Scalar.select v6404 c1_i32_7315 c32_i32_7313
  let v6406 : BitVec 32 := Scalar.remsi v6403 v6405
  let c0_i32_7317 : BitVec 32 := 0#32
  let v6408 : BitVec 1 := Scalar.cmpi .slt v6406 c0_i32_7317
  let c0_i32_7318 : BitVec 32 := 0#32
  let v6409 : BitVec 1 := Scalar.cmpi .slt v6405 c0_i32_7318
  let v6410 : BitVec 1 := Scalar.xori v6408 v6409
  let c0_i32_7316 : BitVec 32 := 0#32
  let v6407 : BitVec 1 := Scalar.cmpi .ne v6406 c0_i32_7316
  let v6411 : BitVec 1 := Scalar.andi v6410 v6407
  let v6412 : BitVec 32 := Scalar.addi v6406 v6405
  let v6413 : BitVec 32 := Scalar.select v6411 v6412 v6406
  let c1_i32_7325 : BitVec 32 := 1#32
  let v6415 : BitVec 32 := Scalar.muli v6413 c1_i32_7325
  let v6416 : BitVec 32 := Scalar.addi c0_i32_7326 v6415
  v6416.toNat
def k0_dev199 (d0 : Dev nD) : Nat :=
  let c0_i32_7346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_7332 : BitVec 32 := 13#32
  let v6426 : BitVec 32 := Scalar.addi v2 c13_i32_7332
  let c32_i32_7333 : BitVec 32 := 32#32
  let c0_i32_7334 : BitVec 32 := 0#32
  let v6427 : BitVec 1 := Scalar.cmpi .eq c32_i32_7333 c0_i32_7334
  let c1_i32_7335 : BitVec 32 := 1#32
  let v6428 : BitVec 32 := Scalar.select v6427 c1_i32_7335 c32_i32_7333
  let v6429 : BitVec 32 := Scalar.remsi v6426 v6428
  let c0_i32_7337 : BitVec 32 := 0#32
  let v6431 : BitVec 1 := Scalar.cmpi .slt v6429 c0_i32_7337
  let c0_i32_7338 : BitVec 32 := 0#32
  let v6432 : BitVec 1 := Scalar.cmpi .slt v6428 c0_i32_7338
  let v6433 : BitVec 1 := Scalar.xori v6431 v6432
  let c0_i32_7336 : BitVec 32 := 0#32
  let v6430 : BitVec 1 := Scalar.cmpi .ne v6429 c0_i32_7336
  let v6434 : BitVec 1 := Scalar.andi v6433 v6430
  let v6435 : BitVec 32 := Scalar.addi v6429 v6428
  let v6436 : BitVec 32 := Scalar.select v6434 v6435 v6429
  let c1_i32_7345 : BitVec 32 := 1#32
  let v6438 : BitVec 32 := Scalar.muli v6436 c1_i32_7345
  let v6439 : BitVec 32 := Scalar.addi c0_i32_7346 v6438
  v6439.toNat
def k0_dev200 (d0 : Dev nD) : Nat :=
  let c0_i32_7366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_7352 : BitVec 32 := 14#32
  let v6449 : BitVec 32 := Scalar.addi v2 c14_i32_7352
  let c32_i32_7353 : BitVec 32 := 32#32
  let c0_i32_7354 : BitVec 32 := 0#32
  let v6450 : BitVec 1 := Scalar.cmpi .eq c32_i32_7353 c0_i32_7354
  let c1_i32_7355 : BitVec 32 := 1#32
  let v6451 : BitVec 32 := Scalar.select v6450 c1_i32_7355 c32_i32_7353
  let v6452 : BitVec 32 := Scalar.remsi v6449 v6451
  let c0_i32_7357 : BitVec 32 := 0#32
  let v6454 : BitVec 1 := Scalar.cmpi .slt v6452 c0_i32_7357
  let c0_i32_7358 : BitVec 32 := 0#32
  let v6455 : BitVec 1 := Scalar.cmpi .slt v6451 c0_i32_7358
  let v6456 : BitVec 1 := Scalar.xori v6454 v6455
  let c0_i32_7356 : BitVec 32 := 0#32
  let v6453 : BitVec 1 := Scalar.cmpi .ne v6452 c0_i32_7356
  let v6457 : BitVec 1 := Scalar.andi v6456 v6453
  let v6458 : BitVec 32 := Scalar.addi v6452 v6451
  let v6459 : BitVec 32 := Scalar.select v6457 v6458 v6452
  let c1_i32_7365 : BitVec 32 := 1#32
  let v6461 : BitVec 32 := Scalar.muli v6459 c1_i32_7365
  let v6462 : BitVec 32 := Scalar.addi c0_i32_7366 v6461
  v6462.toNat
def k0_dev201 (d0 : Dev nD) : Nat :=
  let c0_i32_7386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_7372 : BitVec 32 := 15#32
  let v6472 : BitVec 32 := Scalar.addi v2 c15_i32_7372
  let c32_i32_7373 : BitVec 32 := 32#32
  let c0_i32_7374 : BitVec 32 := 0#32
  let v6473 : BitVec 1 := Scalar.cmpi .eq c32_i32_7373 c0_i32_7374
  let c1_i32_7375 : BitVec 32 := 1#32
  let v6474 : BitVec 32 := Scalar.select v6473 c1_i32_7375 c32_i32_7373
  let v6475 : BitVec 32 := Scalar.remsi v6472 v6474
  let c0_i32_7377 : BitVec 32 := 0#32
  let v6477 : BitVec 1 := Scalar.cmpi .slt v6475 c0_i32_7377
  let c0_i32_7378 : BitVec 32 := 0#32
  let v6478 : BitVec 1 := Scalar.cmpi .slt v6474 c0_i32_7378
  let v6479 : BitVec 1 := Scalar.xori v6477 v6478
  let c0_i32_7376 : BitVec 32 := 0#32
  let v6476 : BitVec 1 := Scalar.cmpi .ne v6475 c0_i32_7376
  let v6480 : BitVec 1 := Scalar.andi v6479 v6476
  let v6481 : BitVec 32 := Scalar.addi v6475 v6474
  let v6482 : BitVec 32 := Scalar.select v6480 v6481 v6475
  let c1_i32_7385 : BitVec 32 := 1#32
  let v6484 : BitVec 32 := Scalar.muli v6482 c1_i32_7385
  let v6485 : BitVec 32 := Scalar.addi c0_i32_7386 v6484
  v6485.toNat
def k0_dev202 (d0 : Dev nD) : Nat :=
  let c0_i32_7406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7392 : BitVec 32 := 16#32
  let v6495 : BitVec 32 := Scalar.addi v2 c16_i32_7392
  let c32_i32_7393 : BitVec 32 := 32#32
  let c0_i32_7394 : BitVec 32 := 0#32
  let v6496 : BitVec 1 := Scalar.cmpi .eq c32_i32_7393 c0_i32_7394
  let c1_i32_7395 : BitVec 32 := 1#32
  let v6497 : BitVec 32 := Scalar.select v6496 c1_i32_7395 c32_i32_7393
  let v6498 : BitVec 32 := Scalar.remsi v6495 v6497
  let c0_i32_7397 : BitVec 32 := 0#32
  let v6500 : BitVec 1 := Scalar.cmpi .slt v6498 c0_i32_7397
  let c0_i32_7398 : BitVec 32 := 0#32
  let v6501 : BitVec 1 := Scalar.cmpi .slt v6497 c0_i32_7398
  let v6502 : BitVec 1 := Scalar.xori v6500 v6501
  let c0_i32_7396 : BitVec 32 := 0#32
  let v6499 : BitVec 1 := Scalar.cmpi .ne v6498 c0_i32_7396
  let v6503 : BitVec 1 := Scalar.andi v6502 v6499
  let v6504 : BitVec 32 := Scalar.addi v6498 v6497
  let v6505 : BitVec 32 := Scalar.select v6503 v6504 v6498
  let c1_i32_7405 : BitVec 32 := 1#32
  let v6507 : BitVec 32 := Scalar.muli v6505 c1_i32_7405
  let v6508 : BitVec 32 := Scalar.addi c0_i32_7406 v6507
  v6508.toNat
def k0_dev203 (d0 : Dev nD) : Nat :=
  let c0_i32_7426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_7412 : BitVec 32 := 17#32
  let v6518 : BitVec 32 := Scalar.addi v2 c17_i32_7412
  let c32_i32_7413 : BitVec 32 := 32#32
  let c0_i32_7414 : BitVec 32 := 0#32
  let v6519 : BitVec 1 := Scalar.cmpi .eq c32_i32_7413 c0_i32_7414
  let c1_i32_7415 : BitVec 32 := 1#32
  let v6520 : BitVec 32 := Scalar.select v6519 c1_i32_7415 c32_i32_7413
  let v6521 : BitVec 32 := Scalar.remsi v6518 v6520
  let c0_i32_7417 : BitVec 32 := 0#32
  let v6523 : BitVec 1 := Scalar.cmpi .slt v6521 c0_i32_7417
  let c0_i32_7418 : BitVec 32 := 0#32
  let v6524 : BitVec 1 := Scalar.cmpi .slt v6520 c0_i32_7418
  let v6525 : BitVec 1 := Scalar.xori v6523 v6524
  let c0_i32_7416 : BitVec 32 := 0#32
  let v6522 : BitVec 1 := Scalar.cmpi .ne v6521 c0_i32_7416
  let v6526 : BitVec 1 := Scalar.andi v6525 v6522
  let v6527 : BitVec 32 := Scalar.addi v6521 v6520
  let v6528 : BitVec 32 := Scalar.select v6526 v6527 v6521
  let c1_i32_7425 : BitVec 32 := 1#32
  let v6530 : BitVec 32 := Scalar.muli v6528 c1_i32_7425
  let v6531 : BitVec 32 := Scalar.addi c0_i32_7426 v6530
  v6531.toNat
def k0_dev204 (d0 : Dev nD) : Nat :=
  let c0_i32_7446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_7432 : BitVec 32 := 18#32
  let v6541 : BitVec 32 := Scalar.addi v2 c18_i32_7432
  let c32_i32_7433 : BitVec 32 := 32#32
  let c0_i32_7434 : BitVec 32 := 0#32
  let v6542 : BitVec 1 := Scalar.cmpi .eq c32_i32_7433 c0_i32_7434
  let c1_i32_7435 : BitVec 32 := 1#32
  let v6543 : BitVec 32 := Scalar.select v6542 c1_i32_7435 c32_i32_7433
  let v6544 : BitVec 32 := Scalar.remsi v6541 v6543
  let c0_i32_7437 : BitVec 32 := 0#32
  let v6546 : BitVec 1 := Scalar.cmpi .slt v6544 c0_i32_7437
  let c0_i32_7438 : BitVec 32 := 0#32
  let v6547 : BitVec 1 := Scalar.cmpi .slt v6543 c0_i32_7438
  let v6548 : BitVec 1 := Scalar.xori v6546 v6547
  let c0_i32_7436 : BitVec 32 := 0#32
  let v6545 : BitVec 1 := Scalar.cmpi .ne v6544 c0_i32_7436
  let v6549 : BitVec 1 := Scalar.andi v6548 v6545
  let v6550 : BitVec 32 := Scalar.addi v6544 v6543
  let v6551 : BitVec 32 := Scalar.select v6549 v6550 v6544
  let c1_i32_7445 : BitVec 32 := 1#32
  let v6553 : BitVec 32 := Scalar.muli v6551 c1_i32_7445
  let v6554 : BitVec 32 := Scalar.addi c0_i32_7446 v6553
  v6554.toNat
def k0_dev205 (d0 : Dev nD) : Nat :=
  let c0_i32_7466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_7452 : BitVec 32 := 19#32
  let v6564 : BitVec 32 := Scalar.addi v2 c19_i32_7452
  let c32_i32_7453 : BitVec 32 := 32#32
  let c0_i32_7454 : BitVec 32 := 0#32
  let v6565 : BitVec 1 := Scalar.cmpi .eq c32_i32_7453 c0_i32_7454
  let c1_i32_7455 : BitVec 32 := 1#32
  let v6566 : BitVec 32 := Scalar.select v6565 c1_i32_7455 c32_i32_7453
  let v6567 : BitVec 32 := Scalar.remsi v6564 v6566
  let c0_i32_7457 : BitVec 32 := 0#32
  let v6569 : BitVec 1 := Scalar.cmpi .slt v6567 c0_i32_7457
  let c0_i32_7458 : BitVec 32 := 0#32
  let v6570 : BitVec 1 := Scalar.cmpi .slt v6566 c0_i32_7458
  let v6571 : BitVec 1 := Scalar.xori v6569 v6570
  let c0_i32_7456 : BitVec 32 := 0#32
  let v6568 : BitVec 1 := Scalar.cmpi .ne v6567 c0_i32_7456
  let v6572 : BitVec 1 := Scalar.andi v6571 v6568
  let v6573 : BitVec 32 := Scalar.addi v6567 v6566
  let v6574 : BitVec 32 := Scalar.select v6572 v6573 v6567
  let c1_i32_7465 : BitVec 32 := 1#32
  let v6576 : BitVec 32 := Scalar.muli v6574 c1_i32_7465
  let v6577 : BitVec 32 := Scalar.addi c0_i32_7466 v6576
  v6577.toNat
def k0_dev206 (d0 : Dev nD) : Nat :=
  let c0_i32_7486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_7472 : BitVec 32 := 20#32
  let v6587 : BitVec 32 := Scalar.addi v2 c20_i32_7472
  let c32_i32_7473 : BitVec 32 := 32#32
  let c0_i32_7474 : BitVec 32 := 0#32
  let v6588 : BitVec 1 := Scalar.cmpi .eq c32_i32_7473 c0_i32_7474
  let c1_i32_7475 : BitVec 32 := 1#32
  let v6589 : BitVec 32 := Scalar.select v6588 c1_i32_7475 c32_i32_7473
  let v6590 : BitVec 32 := Scalar.remsi v6587 v6589
  let c0_i32_7477 : BitVec 32 := 0#32
  let v6592 : BitVec 1 := Scalar.cmpi .slt v6590 c0_i32_7477
  let c0_i32_7478 : BitVec 32 := 0#32
  let v6593 : BitVec 1 := Scalar.cmpi .slt v6589 c0_i32_7478
  let v6594 : BitVec 1 := Scalar.xori v6592 v6593
  let c0_i32_7476 : BitVec 32 := 0#32
  let v6591 : BitVec 1 := Scalar.cmpi .ne v6590 c0_i32_7476
  let v6595 : BitVec 1 := Scalar.andi v6594 v6591
  let v6596 : BitVec 32 := Scalar.addi v6590 v6589
  let v6597 : BitVec 32 := Scalar.select v6595 v6596 v6590
  let c1_i32_7485 : BitVec 32 := 1#32
  let v6599 : BitVec 32 := Scalar.muli v6597 c1_i32_7485
  let v6600 : BitVec 32 := Scalar.addi c0_i32_7486 v6599
  v6600.toNat
def k0_dev207 (d0 : Dev nD) : Nat :=
  let c0_i32_7506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_7492 : BitVec 32 := 21#32
  let v6610 : BitVec 32 := Scalar.addi v2 c21_i32_7492
  let c32_i32_7493 : BitVec 32 := 32#32
  let c0_i32_7494 : BitVec 32 := 0#32
  let v6611 : BitVec 1 := Scalar.cmpi .eq c32_i32_7493 c0_i32_7494
  let c1_i32_7495 : BitVec 32 := 1#32
  let v6612 : BitVec 32 := Scalar.select v6611 c1_i32_7495 c32_i32_7493
  let v6613 : BitVec 32 := Scalar.remsi v6610 v6612
  let c0_i32_7497 : BitVec 32 := 0#32
  let v6615 : BitVec 1 := Scalar.cmpi .slt v6613 c0_i32_7497
  let c0_i32_7498 : BitVec 32 := 0#32
  let v6616 : BitVec 1 := Scalar.cmpi .slt v6612 c0_i32_7498
  let v6617 : BitVec 1 := Scalar.xori v6615 v6616
  let c0_i32_7496 : BitVec 32 := 0#32
  let v6614 : BitVec 1 := Scalar.cmpi .ne v6613 c0_i32_7496
  let v6618 : BitVec 1 := Scalar.andi v6617 v6614
  let v6619 : BitVec 32 := Scalar.addi v6613 v6612
  let v6620 : BitVec 32 := Scalar.select v6618 v6619 v6613
  let c1_i32_7505 : BitVec 32 := 1#32
  let v6622 : BitVec 32 := Scalar.muli v6620 c1_i32_7505
  let v6623 : BitVec 32 := Scalar.addi c0_i32_7506 v6622
  v6623.toNat
def k0_dev208 (d0 : Dev nD) : Nat :=
  let c0_i32_7526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_7512 : BitVec 32 := 22#32
  let v6633 : BitVec 32 := Scalar.addi v2 c22_i32_7512
  let c32_i32_7513 : BitVec 32 := 32#32
  let c0_i32_7514 : BitVec 32 := 0#32
  let v6634 : BitVec 1 := Scalar.cmpi .eq c32_i32_7513 c0_i32_7514
  let c1_i32_7515 : BitVec 32 := 1#32
  let v6635 : BitVec 32 := Scalar.select v6634 c1_i32_7515 c32_i32_7513
  let v6636 : BitVec 32 := Scalar.remsi v6633 v6635
  let c0_i32_7517 : BitVec 32 := 0#32
  let v6638 : BitVec 1 := Scalar.cmpi .slt v6636 c0_i32_7517
  let c0_i32_7518 : BitVec 32 := 0#32
  let v6639 : BitVec 1 := Scalar.cmpi .slt v6635 c0_i32_7518
  let v6640 : BitVec 1 := Scalar.xori v6638 v6639
  let c0_i32_7516 : BitVec 32 := 0#32
  let v6637 : BitVec 1 := Scalar.cmpi .ne v6636 c0_i32_7516
  let v6641 : BitVec 1 := Scalar.andi v6640 v6637
  let v6642 : BitVec 32 := Scalar.addi v6636 v6635
  let v6643 : BitVec 32 := Scalar.select v6641 v6642 v6636
  let c1_i32_7525 : BitVec 32 := 1#32
  let v6645 : BitVec 32 := Scalar.muli v6643 c1_i32_7525
  let v6646 : BitVec 32 := Scalar.addi c0_i32_7526 v6645
  v6646.toNat
def k0_dev209 (d0 : Dev nD) : Nat :=
  let c0_i32_7546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_7532 : BitVec 32 := 23#32
  let v6656 : BitVec 32 := Scalar.addi v2 c23_i32_7532
  let c32_i32_7533 : BitVec 32 := 32#32
  let c0_i32_7534 : BitVec 32 := 0#32
  let v6657 : BitVec 1 := Scalar.cmpi .eq c32_i32_7533 c0_i32_7534
  let c1_i32_7535 : BitVec 32 := 1#32
  let v6658 : BitVec 32 := Scalar.select v6657 c1_i32_7535 c32_i32_7533
  let v6659 : BitVec 32 := Scalar.remsi v6656 v6658
  let c0_i32_7537 : BitVec 32 := 0#32
  let v6661 : BitVec 1 := Scalar.cmpi .slt v6659 c0_i32_7537
  let c0_i32_7538 : BitVec 32 := 0#32
  let v6662 : BitVec 1 := Scalar.cmpi .slt v6658 c0_i32_7538
  let v6663 : BitVec 1 := Scalar.xori v6661 v6662
  let c0_i32_7536 : BitVec 32 := 0#32
  let v6660 : BitVec 1 := Scalar.cmpi .ne v6659 c0_i32_7536
  let v6664 : BitVec 1 := Scalar.andi v6663 v6660
  let v6665 : BitVec 32 := Scalar.addi v6659 v6658
  let v6666 : BitVec 32 := Scalar.select v6664 v6665 v6659
  let c1_i32_7545 : BitVec 32 := 1#32
  let v6668 : BitVec 32 := Scalar.muli v6666 c1_i32_7545
  let v6669 : BitVec 32 := Scalar.addi c0_i32_7546 v6668
  v6669.toNat
def k0_dev210 (d0 : Dev nD) : Nat :=
  let c0_i32_7566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_7552 : BitVec 32 := 24#32
  let v6679 : BitVec 32 := Scalar.addi v2 c24_i32_7552
  let c32_i32_7553 : BitVec 32 := 32#32
  let c0_i32_7554 : BitVec 32 := 0#32
  let v6680 : BitVec 1 := Scalar.cmpi .eq c32_i32_7553 c0_i32_7554
  let c1_i32_7555 : BitVec 32 := 1#32
  let v6681 : BitVec 32 := Scalar.select v6680 c1_i32_7555 c32_i32_7553
  let v6682 : BitVec 32 := Scalar.remsi v6679 v6681
  let c0_i32_7557 : BitVec 32 := 0#32
  let v6684 : BitVec 1 := Scalar.cmpi .slt v6682 c0_i32_7557
  let c0_i32_7558 : BitVec 32 := 0#32
  let v6685 : BitVec 1 := Scalar.cmpi .slt v6681 c0_i32_7558
  let v6686 : BitVec 1 := Scalar.xori v6684 v6685
  let c0_i32_7556 : BitVec 32 := 0#32
  let v6683 : BitVec 1 := Scalar.cmpi .ne v6682 c0_i32_7556
  let v6687 : BitVec 1 := Scalar.andi v6686 v6683
  let v6688 : BitVec 32 := Scalar.addi v6682 v6681
  let v6689 : BitVec 32 := Scalar.select v6687 v6688 v6682
  let c1_i32_7565 : BitVec 32 := 1#32
  let v6691 : BitVec 32 := Scalar.muli v6689 c1_i32_7565
  let v6692 : BitVec 32 := Scalar.addi c0_i32_7566 v6691
  v6692.toNat
def k0_dev211 (d0 : Dev nD) : Nat :=
  let c0_i32_7586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_7572 : BitVec 32 := 25#32
  let v6702 : BitVec 32 := Scalar.addi v2 c25_i32_7572
  let c32_i32_7573 : BitVec 32 := 32#32
  let c0_i32_7574 : BitVec 32 := 0#32
  let v6703 : BitVec 1 := Scalar.cmpi .eq c32_i32_7573 c0_i32_7574
  let c1_i32_7575 : BitVec 32 := 1#32
  let v6704 : BitVec 32 := Scalar.select v6703 c1_i32_7575 c32_i32_7573
  let v6705 : BitVec 32 := Scalar.remsi v6702 v6704
  let c0_i32_7577 : BitVec 32 := 0#32
  let v6707 : BitVec 1 := Scalar.cmpi .slt v6705 c0_i32_7577
  let c0_i32_7578 : BitVec 32 := 0#32
  let v6708 : BitVec 1 := Scalar.cmpi .slt v6704 c0_i32_7578
  let v6709 : BitVec 1 := Scalar.xori v6707 v6708
  let c0_i32_7576 : BitVec 32 := 0#32
  let v6706 : BitVec 1 := Scalar.cmpi .ne v6705 c0_i32_7576
  let v6710 : BitVec 1 := Scalar.andi v6709 v6706
  let v6711 : BitVec 32 := Scalar.addi v6705 v6704
  let v6712 : BitVec 32 := Scalar.select v6710 v6711 v6705
  let c1_i32_7585 : BitVec 32 := 1#32
  let v6714 : BitVec 32 := Scalar.muli v6712 c1_i32_7585
  let v6715 : BitVec 32 := Scalar.addi c0_i32_7586 v6714
  v6715.toNat
def k0_dev212 (d0 : Dev nD) : Nat :=
  let c0_i32_7606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_7592 : BitVec 32 := 26#32
  let v6725 : BitVec 32 := Scalar.addi v2 c26_i32_7592
  let c32_i32_7593 : BitVec 32 := 32#32
  let c0_i32_7594 : BitVec 32 := 0#32
  let v6726 : BitVec 1 := Scalar.cmpi .eq c32_i32_7593 c0_i32_7594
  let c1_i32_7595 : BitVec 32 := 1#32
  let v6727 : BitVec 32 := Scalar.select v6726 c1_i32_7595 c32_i32_7593
  let v6728 : BitVec 32 := Scalar.remsi v6725 v6727
  let c0_i32_7597 : BitVec 32 := 0#32
  let v6730 : BitVec 1 := Scalar.cmpi .slt v6728 c0_i32_7597
  let c0_i32_7598 : BitVec 32 := 0#32
  let v6731 : BitVec 1 := Scalar.cmpi .slt v6727 c0_i32_7598
  let v6732 : BitVec 1 := Scalar.xori v6730 v6731
  let c0_i32_7596 : BitVec 32 := 0#32
  let v6729 : BitVec 1 := Scalar.cmpi .ne v6728 c0_i32_7596
  let v6733 : BitVec 1 := Scalar.andi v6732 v6729
  let v6734 : BitVec 32 := Scalar.addi v6728 v6727
  let v6735 : BitVec 32 := Scalar.select v6733 v6734 v6728
  let c1_i32_7605 : BitVec 32 := 1#32
  let v6737 : BitVec 32 := Scalar.muli v6735 c1_i32_7605
  let v6738 : BitVec 32 := Scalar.addi c0_i32_7606 v6737
  v6738.toNat
def k0_dev213 (d0 : Dev nD) : Nat :=
  let c0_i32_7626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_7612 : BitVec 32 := 27#32
  let v6748 : BitVec 32 := Scalar.addi v2 c27_i32_7612
  let c32_i32_7613 : BitVec 32 := 32#32
  let c0_i32_7614 : BitVec 32 := 0#32
  let v6749 : BitVec 1 := Scalar.cmpi .eq c32_i32_7613 c0_i32_7614
  let c1_i32_7615 : BitVec 32 := 1#32
  let v6750 : BitVec 32 := Scalar.select v6749 c1_i32_7615 c32_i32_7613
  let v6751 : BitVec 32 := Scalar.remsi v6748 v6750
  let c0_i32_7617 : BitVec 32 := 0#32
  let v6753 : BitVec 1 := Scalar.cmpi .slt v6751 c0_i32_7617
  let c0_i32_7618 : BitVec 32 := 0#32
  let v6754 : BitVec 1 := Scalar.cmpi .slt v6750 c0_i32_7618
  let v6755 : BitVec 1 := Scalar.xori v6753 v6754
  let c0_i32_7616 : BitVec 32 := 0#32
  let v6752 : BitVec 1 := Scalar.cmpi .ne v6751 c0_i32_7616
  let v6756 : BitVec 1 := Scalar.andi v6755 v6752
  let v6757 : BitVec 32 := Scalar.addi v6751 v6750
  let v6758 : BitVec 32 := Scalar.select v6756 v6757 v6751
  let c1_i32_7625 : BitVec 32 := 1#32
  let v6760 : BitVec 32 := Scalar.muli v6758 c1_i32_7625
  let v6761 : BitVec 32 := Scalar.addi c0_i32_7626 v6760
  v6761.toNat
def k0_dev214 (d0 : Dev nD) : Nat :=
  let c0_i32_7646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_7632 : BitVec 32 := 28#32
  let v6771 : BitVec 32 := Scalar.addi v2 c28_i32_7632
  let c32_i32_7633 : BitVec 32 := 32#32
  let c0_i32_7634 : BitVec 32 := 0#32
  let v6772 : BitVec 1 := Scalar.cmpi .eq c32_i32_7633 c0_i32_7634
  let c1_i32_7635 : BitVec 32 := 1#32
  let v6773 : BitVec 32 := Scalar.select v6772 c1_i32_7635 c32_i32_7633
  let v6774 : BitVec 32 := Scalar.remsi v6771 v6773
  let c0_i32_7637 : BitVec 32 := 0#32
  let v6776 : BitVec 1 := Scalar.cmpi .slt v6774 c0_i32_7637
  let c0_i32_7638 : BitVec 32 := 0#32
  let v6777 : BitVec 1 := Scalar.cmpi .slt v6773 c0_i32_7638
  let v6778 : BitVec 1 := Scalar.xori v6776 v6777
  let c0_i32_7636 : BitVec 32 := 0#32
  let v6775 : BitVec 1 := Scalar.cmpi .ne v6774 c0_i32_7636
  let v6779 : BitVec 1 := Scalar.andi v6778 v6775
  let v6780 : BitVec 32 := Scalar.addi v6774 v6773
  let v6781 : BitVec 32 := Scalar.select v6779 v6780 v6774
  let c1_i32_7645 : BitVec 32 := 1#32
  let v6783 : BitVec 32 := Scalar.muli v6781 c1_i32_7645
  let v6784 : BitVec 32 := Scalar.addi c0_i32_7646 v6783
  v6784.toNat
def k0_dev215 (d0 : Dev nD) : Nat :=
  let c0_i32_7666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_7652 : BitVec 32 := 29#32
  let v6794 : BitVec 32 := Scalar.addi v2 c29_i32_7652
  let c32_i32_7653 : BitVec 32 := 32#32
  let c0_i32_7654 : BitVec 32 := 0#32
  let v6795 : BitVec 1 := Scalar.cmpi .eq c32_i32_7653 c0_i32_7654
  let c1_i32_7655 : BitVec 32 := 1#32
  let v6796 : BitVec 32 := Scalar.select v6795 c1_i32_7655 c32_i32_7653
  let v6797 : BitVec 32 := Scalar.remsi v6794 v6796
  let c0_i32_7657 : BitVec 32 := 0#32
  let v6799 : BitVec 1 := Scalar.cmpi .slt v6797 c0_i32_7657
  let c0_i32_7658 : BitVec 32 := 0#32
  let v6800 : BitVec 1 := Scalar.cmpi .slt v6796 c0_i32_7658
  let v6801 : BitVec 1 := Scalar.xori v6799 v6800
  let c0_i32_7656 : BitVec 32 := 0#32
  let v6798 : BitVec 1 := Scalar.cmpi .ne v6797 c0_i32_7656
  let v6802 : BitVec 1 := Scalar.andi v6801 v6798
  let v6803 : BitVec 32 := Scalar.addi v6797 v6796
  let v6804 : BitVec 32 := Scalar.select v6802 v6803 v6797
  let c1_i32_7665 : BitVec 32 := 1#32
  let v6806 : BitVec 32 := Scalar.muli v6804 c1_i32_7665
  let v6807 : BitVec 32 := Scalar.addi c0_i32_7666 v6806
  v6807.toNat
def k0_dev216 (d0 : Dev nD) : Nat :=
  let c0_i32_7686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_7672 : BitVec 32 := 30#32
  let v6817 : BitVec 32 := Scalar.addi v2 c30_i32_7672
  let c32_i32_7673 : BitVec 32 := 32#32
  let c0_i32_7674 : BitVec 32 := 0#32
  let v6818 : BitVec 1 := Scalar.cmpi .eq c32_i32_7673 c0_i32_7674
  let c1_i32_7675 : BitVec 32 := 1#32
  let v6819 : BitVec 32 := Scalar.select v6818 c1_i32_7675 c32_i32_7673
  let v6820 : BitVec 32 := Scalar.remsi v6817 v6819
  let c0_i32_7677 : BitVec 32 := 0#32
  let v6822 : BitVec 1 := Scalar.cmpi .slt v6820 c0_i32_7677
  let c0_i32_7678 : BitVec 32 := 0#32
  let v6823 : BitVec 1 := Scalar.cmpi .slt v6819 c0_i32_7678
  let v6824 : BitVec 1 := Scalar.xori v6822 v6823
  let c0_i32_7676 : BitVec 32 := 0#32
  let v6821 : BitVec 1 := Scalar.cmpi .ne v6820 c0_i32_7676
  let v6825 : BitVec 1 := Scalar.andi v6824 v6821
  let v6826 : BitVec 32 := Scalar.addi v6820 v6819
  let v6827 : BitVec 32 := Scalar.select v6825 v6826 v6820
  let c1_i32_7685 : BitVec 32 := 1#32
  let v6829 : BitVec 32 := Scalar.muli v6827 c1_i32_7685
  let v6830 : BitVec 32 := Scalar.addi c0_i32_7686 v6829
  v6830.toNat
def k0_dev217 (d0 : Dev nD) : Nat :=
  let c0_i32_7706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_7692 : BitVec 32 := 31#32
  let v6840 : BitVec 32 := Scalar.addi v2 c31_i32_7692
  let c32_i32_7693 : BitVec 32 := 32#32
  let c0_i32_7694 : BitVec 32 := 0#32
  let v6841 : BitVec 1 := Scalar.cmpi .eq c32_i32_7693 c0_i32_7694
  let c1_i32_7695 : BitVec 32 := 1#32
  let v6842 : BitVec 32 := Scalar.select v6841 c1_i32_7695 c32_i32_7693
  let v6843 : BitVec 32 := Scalar.remsi v6840 v6842
  let c0_i32_7697 : BitVec 32 := 0#32
  let v6845 : BitVec 1 := Scalar.cmpi .slt v6843 c0_i32_7697
  let c0_i32_7698 : BitVec 32 := 0#32
  let v6846 : BitVec 1 := Scalar.cmpi .slt v6842 c0_i32_7698
  let v6847 : BitVec 1 := Scalar.xori v6845 v6846
  let c0_i32_7696 : BitVec 32 := 0#32
  let v6844 : BitVec 1 := Scalar.cmpi .ne v6843 c0_i32_7696
  let v6848 : BitVec 1 := Scalar.andi v6847 v6844
  let v6849 : BitVec 32 := Scalar.addi v6843 v6842
  let v6850 : BitVec 32 := Scalar.select v6848 v6849 v6843
  let c1_i32_7705 : BitVec 32 := 1#32
  let v6852 : BitVec 32 := Scalar.muli v6850 c1_i32_7705
  let v6853 : BitVec 32 := Scalar.addi c0_i32_7706 v6852
  v6853.toNat
def k0_off9 (d0 : Dev nD) : Fin 3 → Nat :=
  let c2_7716 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7715 : BitVec 32 := 16#32
  let v6865 : BitVec 32 := Scalar.muli v2 c16_i32_7715
  let v6866 : Index := Scalar.indexCast v6865
  let c0_7717 : Index := 0#32
  ![2, v6866.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x16384 : Shape := ⟨2, ![256, 16384]⟩
abbrev S16384x256 : Shape := ⟨2, ![16384, 256]⟩
abbrev S512x16384 : Shape := ⟨2, ![512, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16384, .bf16⟩
  | .hbm, ⟨2, _⟩ => ⟨S256x16384, .bf16⟩
  | .hbm, ⟨3, _⟩ => ⟨S256x16384, .bf16⟩
  | .hbm, ⟨4, _⟩ => ⟨S16384x256, .bf16⟩
  | .hbm, ⟨5, _⟩ => ⟨S16384x256, .bf16⟩
  | .hbm, ⟨6, _⟩ => ⟨S16384x256, .bf16⟩
  | .hbm, ⟨7, _⟩ => ⟨S512x16384, .f32⟩
  | .hbm, ⟨8, _⟩ => ⟨S512x16384, .bf16⟩
  | .hbm, ⟨9, _⟩ => ⟨S_, .bf16⟩
  | .hbm, ⟨10, _⟩ => ⟨S512x16384, .bf16⟩
  | .hbm, ⟨11, _⟩ => ⟨S512x16384, .bf16⟩
  | .hbm, ⟨12, _⟩ => ⟨S512x256, .f32⟩
  | .hbm, ⟨13, _⟩ => ⟨S512x256, .bf16⟩
  | .hbm, ⟨14, _⟩ => ⟨S512x16384, .f32⟩
  | .hbm, ⟨15, _⟩ => ⟨S512x16384, .bf16⟩
  | .hbm, ⟨16, _⟩ => ⟨S_, .bf16⟩
  | .hbm, ⟨17, _⟩ => ⟨S512x16384, .bf16⟩
  | .hbm, ⟨18, _⟩ => ⟨S512x16384, .bf16⟩
  | .hbm, ⟨19, _⟩ => ⟨S512x256, .f32⟩
  | .hbm, ⟨20, _⟩ => ⟨S512x256, .bf16⟩
  | .hbm, ⟨21, _⟩ => ⟨S512x16384, .f32⟩
  | .hbm, ⟨22, _⟩ => ⟨S512x16384, .bf16⟩
  | .hbm, ⟨23, _⟩ => ⟨S_, .bf16⟩
  | .hbm, ⟨24, _⟩ => ⟨S512x16384, .bf16⟩
  | .hbm, ⟨25, _⟩ => ⟨S512x16384, .bf16⟩
  | .hbm, ⟨26, _⟩ => ⟨S512x256, .f32⟩
  | .hbm, ⟨27, _⟩ => ⟨S512x256, .bf16⟩
  | .hbm, ⟨28, _⟩ => ⟨S512x256, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Prog.lean ====
/- The kernel's body written as a few loops over the peers: every transfer, signal and wait appears
   once, at a symbolic layer and a symbolic distance `k` on the ring of devices. The printed body is
   this program by unfolding. -/
module

public import proofs.«01_k».proof.Proof.Gen.KernelIdeal
public import proofs.«01_k».proof.Proof.Gen.KernelIdeal.Skeleton
public import Idealize.ShloMosaic.Lib.Pipeline.Regions

@[expose] public section

noncomputable section

namespace Cert.Proof.Mlp

open Idealize.ShloMosaic Idealize.SL.Sem Cert.KernelIdeal Cert.KernelIdeal.Gen

variable {F : FTy → Type} [FloatOps F]

/-- The effects of the kernel's core. -/
abbrev Eff := TpuEff nD τ sig (Elt F) Λ₀ .tc

/-- The programs of the kernel's core. -/
abbrev Code := Prog (TpuEff nD τ sig (Elt F) Λ₀ .tc) PUnit

/-- One effect for every entry of a list, in the list's order, then the rest. -/
def each (f : Fin 32 → TpuEff nD τ sig (Elt F) Λ₀ .tc PUnit) : List (Fin 32) → Code (F := F) → Code (F := F)
  | [], k => k
  | i :: is, k => .op (f i) fun _ => each f is k

/-- The distances 1, 2, …, 31. -/
def ks : List (Fin 32) :=
  [1, 2, 3, 4, 5, 6, 7, 8, 9, 10, 11, 12, 13, 14, 15, 16, 17, 18, 19, 20, 21, 22, 23, 24, 25, 26, 27, 28, 29, 30, 31]

/-! ## Words -/

/-- The device's own position, as the kernel computes it. -/
def meW (d0 : Dev nD) : BitVec 32 := Scalar.remsi (Scalar.divsi (Dev.word d0) 1#32) 32#32

/-- The position `k` ahead on the ring, as the kernel computes it. -/
def peerW (d0 : Dev nD) (k : BitVec 32) : BitVec 32 :=
  let v422 : BitVec 32 := Scalar.addi (meW d0) k
  let v424 : BitVec 32 := Scalar.select (Scalar.cmpi .eq 32#32 0#32) 1#32 32#32
  let v425 : BitVec 32 := Scalar.remsi v422 v424
  let v429 : BitVec 1 := Scalar.xori (Scalar.cmpi .slt v425 0#32) (Scalar.cmpi .slt v424 0#32)
  let v430 : BitVec 1 := Scalar.andi v429 (Scalar.cmpi .ne v425 0#32)
  Scalar.select v430 (Scalar.addi v425 v424) v425

theorem meW_eq : ∀ d0 : Dev nD, meW d0 = BitVec.ofNat 32 d0.val := by decide +kernel

theorem peerW_eq : ∀ (d0 : Dev nD) (k : Fin 32),
    peerW d0 (BitVec.ofNat 32 k.val) = BitVec.ofNat 32 (d0 + k : Fin 32).val := by decide +kernel

/-- The device `k` ahead, as the kernel addresses it. -/
def devW (d0 : Dev nD) (k : Fin 32) : Nat :=
  (Scalar.addi 0#32 (Scalar.muli (peerW d0 (BitVec.ofNat 32 k.val)) 1#32)).toNat

theorem devW_eq : ∀ (d0 : Dev nD) (k : Fin 32), devW d0 k = (d0 + k : Fin 32).val := by decide +kernel

theorem devW_lt (d0 : Dev nD) (k : Fin 32) : devW d0 k < nD := by
  rw [devW_eq]; exact (d0 + k : Fin 32).isLt

/-- The device `k` ahead. -/
def peer (d0 : Dev nD) (k : Fin 32) : Dev nD := ⟨devW d0 k, devW_lt d0 k⟩

theorem peer_eq (d0 : Dev nD) (k : Fin 32) : peer d0 k = (d0 + k : Fin 32) := Fin.ext (devW_eq d0 k)

/-- Where the chunk for the device `k` ahead starts in the send buffer. -/
def sbOff (d0 : Dev nD) (k : Fin 32) : Fin 2 → Nat :=
  ![(Scalar.muli (peerW d0 (BitVec.ofNat 32 k.val)) 16#32).toNat, 0]

theorem sbOff_eq : ∀ (d0 : Dev nD) (k : Fin 32), sbOff d0 k = ![16 * (d0 + k : Fin 32).val, 0] := by
  decide +kernel

/-- Where the device's own rows start in the gather buffer's layer `l`. -/
def agOff (l : Fin 3) (d0 : Dev nD) : Fin 3 → Nat := ![l.val, (Scalar.muli (meW d0) 16#32).toNat, 0]

theorem agOff_eq : ∀ (l : Fin 3) (d0 : Dev nD), agOff l d0 = ![l.val, 16 * d0.val, 0] := by
  decide +kernel

/-- The same offset as the vector operations compute it. -/
def agOffV (l : Fin 3) (d0 : Dev nD) : Fin 3 → Nat :=
  ![l.val, (Scalar.indexCast (Scalar.muli (meW d0) 16#32) : Index).toNat, 0]

theorem agOffV_eq : ∀ (l : Fin 3) (d0 : Dev nD), agOffV l d0 = ![l.val, 16 * d0.val, 0] := by
  decide +kernel

/-! ## Bounds and whole words -/

theorem inb_sb : ∀ (p : Fin 32), ∀ a, (![16 * p.val, 0] : Fin 2 → Nat) a + S16x256.size a ≤ S512x256.size a := by
  decide +kernel
theorem ww_sb : ∀ (p : Fin 32), (Rect.unit (s := S512x256) ![16 * p.val, 0] S16x256.size (inb_sb p)).WholeWords (EltTy.packing .bf16) := by
  decide +kernel
theorem inb_rs : ∀ (l : Fin 3) (j : Fin 32), ∀ a, (![l.val, j.val, 0, 0] : Fin 4 → Nat) a + S1x1x16x256.size a ≤ S3x32x16x256.size a := by
  decide +kernel
theorem ww_rs : ∀ (l : Fin 3) (j : Fin 32), (Rect.unit (s := S3x32x16x256) ![l.val, j.val, 0, 0] S1x1x16x256.size (inb_rs l j)).WholeWords (EltTy.packing .bf16) := by
  decide +kernel
theorem inb_red : ∀ (l : Fin 3), ∀ a, (![l.val, 0, 0] : Fin 3 → Nat) a + S1x16x256.size a ≤ S3x16x256.size a := by
  decide +kernel
theorem ww_red : ∀ (l : Fin 3), (Rect.unit (s := S3x16x256) ![l.val, 0, 0] S1x16x256.size (inb_red l)).WholeWords (EltTy.packing .bf16) := by
  decide +kernel
theorem pk_red : ∀ (l : Fin 3), (Rect.unit (s := S3x16x256) ![l.val, 0, 0] S1x16x256.size (inb_red l)).PackedRows (EltTy.packing .bf16) := by
  decide +kernel
theorem inb_ag : ∀ (l : Fin 3) (p : Fin 32), ∀ a, (![l.val, 16 * p.val, 0] : Fin 3 → Nat) a + S1x16x256.size a ≤ S3x512x256.size a := by
  decide +kernel
theorem ww_ag : ∀ (l : Fin 3) (p : Fin 32), (Rect.unit (s := S3x512x256) ![l.val, 16 * p.val, 0] S1x16x256.size (inb_ag l p)).WholeWords (EltTy.packing .bf16) := by
  decide +kernel
theorem pk_ag : ∀ (l : Fin 3) (p : Fin 32), (Rect.unit (s := S3x512x256) ![l.val, 16 * p.val, 0] S1x16x256.size (inb_ag l p)).PackedRows (EltTy.packing .bf16) := by
  decide +kernel
theorem inb_rsSlab : ∀ (l : Fin 3), ∀ a, (![l.val, 0, 0, 0] : Fin 4 → Nat) a + S1x32x16x256.size a ≤ S3x32x16x256.size a := by
  decide +kernel
theorem inb_agSlab : ∀ (l : Fin 3), ∀ a, (![l.val, 0, 0] : Fin 3 → Nat) a + S1x512x256.size a ≤ S3x512x256.size a := by
  decide +kernel
theorem inb_sem2 : ∀ (l : Fin 3) (j : Fin 32), ∀ a, (![l.val, j.val] : Fin 2 → Nat) a + S1x1.size a ≤ S3x32.size a := by
  decide +kernel
theorem inb_sem1 : ∀ (j : Fin 32), ∀ a, (![j.val] : Fin 1 → Nat) a + S1.size a ≤ S32.size a := by
  decide +kernel

theorem sbOff_inb (d0 : Dev nD) (k : Fin 32) : ∀ a, sbOff d0 k a + S16x256.size a ≤ S512x256.size a := by
  rw [sbOff_eq]; exact inb_sb (d0 + k : Fin 32)
theorem sbOff_ww (d0 : Dev nD) (k : Fin 32) :
    (Rect.unit (s := S512x256) (sbOff d0 k) S16x256.size (sbOff_inb d0 k)).WholeWords (EltTy.packing .bf16) := by
  simp only [sbOff_eq]; exact ww_sb (d0 + k : Fin 32)
theorem agOff_inb (l : Fin 3) (d0 : Dev nD) : ∀ a, agOff l d0 a + S1x16x256.size a ≤ S3x512x256.size a := by
  rw [agOff_eq]; exact inb_ag l d0
theorem agOff_ww (l : Fin 3) (d0 : Dev nD) :
    (Rect.unit (s := S3x512x256) (agOff l d0) S1x16x256.size (agOff_inb l d0)).WholeWords (EltTy.packing .bf16) := by
  simp only [agOff_eq]; exact ww_ag l d0
theorem agOffV_inb (l : Fin 3) (d0 : Dev nD) : ∀ a, agOffV l d0 a + S1x16x256.size a ≤ S3x512x256.size a := by
  rw [agOffV_eq]; exact inb_ag l d0
theorem agOffV_pk (l : Fin 3) (d0 : Dev nD) :
    (Rect.unit (s := S3x512x256) (agOffV l d0) S1x16x256.size (agOffV_inb l d0)).PackedRows (EltTy.packing .bf16) := by
  simp only [agOffV_eq]; exact pk_ag l d0

/-! ## The buffers' pieces and the semaphores -/

/-- The send buffer. -/
abbrev sb : Memref sig .tc .vmem S512x256 .bf16 := Memref.whole cc0_scratch0
/-- The reduced chunks, one slab a layer. -/
abbrev red : Memref sig .tc .vmem S3x16x256 .bf16 := Memref.whole cc0_scratch1
/-- The received partial products, one slot a layer and distance. -/
abbrev rs : Memref sig .tc .vmem S3x32x16x256 .bf16 := Memref.whole cc0_scratch2
/-- The gathered activations, one slab a layer. -/
abbrev ag : Memref sig .tc .vmem S3x512x256 .bf16 := Memref.whole cc0_scratch3

theorem hsb : sb.IsWhole := Memref.isWhole_whole cc0_scratch0
theorem hred : red.IsWhole := Memref.isWhole_whole cc0_scratch1
theorem hrs : rs.IsWhole := Memref.isWhole_whole cc0_scratch2
theorem hag : ag.IsWhole := Memref.isWhole_whole cc0_scratch3

/-- The send buffer's chunk for the device `k` ahead. -/
def sbPiece (d0 : Dev nD) (k : Fin 32) : Memref sig .tc .vmem S16x256 .bf16 :=
  sb.slice (Rect.unit (s := S512x256) (sbOff d0 k) S16x256.size (sbOff_inb d0 k)) (fun _ => rfl)
/-- The received slot `j` of layer `l`. -/
def rsPiece (l : Fin 3) (j : Fin 32) : Memref sig .tc .vmem S16x256 .bf16 :=
  (rs.slice (Rect.unit (s := S3x32x16x256) ![l.val, j.val, 0, 0] S1x1x16x256.size (inb_rs l j)) (fun _ => rfl)).squeeze
    S16x256 squeezes_S1x1x16x256_S16x256
/-- The reduced chunk of layer `l`. -/
def redPiece (l : Fin 3) : Memref sig .tc .vmem S16x256 .bf16 :=
  (red.slice (Rect.unit (s := S3x16x256) ![l.val, 0, 0] S1x16x256.size (inb_red l)) (fun _ => rfl)).squeeze
    S16x256 squeezes_S1x16x256_S16x256
/-- Device `d0`'s rows of the gathered layer `l`. -/
def agPiece (l : Fin 3) (d0 : Dev nD) : Memref sig .tc .vmem S16x256 .bf16 :=
  (ag.slice (Rect.unit (s := S3x512x256) (agOff l d0) S1x16x256.size (agOff_inb l d0)) (fun _ => rfl)).squeeze
    S16x256 squeezes_S1x16x256_S16x256
/-- The first rows of the gathered layer `l` (what a wait on an arrival names). -/
def agFirst (l : Fin 3) : Memref sig .tc .vmem S16x256 .bf16 :=
  (ag.slice (Rect.unit (s := S3x512x256) ![l.val, 0, 0] S1x16x256.size (inb_ag l 0)) (fun _ => rfl)).squeeze
    S16x256 squeezes_S1x16x256_S16x256

theorem sbPiece_we (d0 : Dev nD) (k : Fin 32) : (sbPiece d0 k).view.WordExact :=
  hsb.wordExact_slice rfl _ (sbOff_ww d0 k)
theorem rsPiece_we (l : Fin 3) (j : Fin 32) : (rsPiece l j).view.WordExact :=
  (hrs.wordExact_slice rfl _ (ww_rs l j)).reshape _ _
theorem redPiece_we (l : Fin 3) : (redPiece l).view.WordExact :=
  (hred.wordExact_slice rfl _ (ww_red l)).reshape _ _
theorem agPiece_we (l : Fin 3) (d0 : Dev nD) : (agPiece l d0).view.WordExact :=
  (hag.wordExact_slice rfl _ (agOff_ww l d0)).reshape _ _
theorem agFirst_we (l : Fin 3) : (agFirst l).view.WordExact :=
  (hag.wordExact_slice rfl _ (ww_ag l 0)).reshape _ _

/-- The semaphore that counts arrivals in slot `j` of layer `l`. -/
def rsSem (l : Fin 3) (j : Fin 32) : DmaSem sig :=
  ((cc0_scratch4.slice (Rect.unit (s := S3x32) ![l.val, j.val] S1x1.size (inb_sem2 l j))).squeeze S_ squeezes_S1x1_S_).sem
/-- The semaphore that counts the rows arriving from distance `j` in layer `l`. -/
def agSem (l : Fin 3) (j : Fin 32) : DmaSem sig :=
  ((cc0_scratch5.slice (Rect.unit (s := S3x32) ![l.val, j.val] S1x1.size (inb_sem2 l j))).squeeze S_ squeezes_S1x1_S_).sem
/-- The semaphore that counts the completed sends to the device `k` ahead. -/
def sndSem (k : Fin 32) : DmaSem sig :=
  ((cc0_scratch6.slice (Rect.unit (s := S32) ![k.val] S1.size (inb_sem1 k))).squeeze S_ squeezes_S1_S_).sem
/-- The barrier semaphore. -/
def barSem : Sem sig := (SemArray.scalar (sig.barrier 0 rfl) : Sems sig S_).sem

/-! ## The operations -/

/-- Tell the device `k` ahead that this one has started. -/
def opSignal (d0 : Dev nD) (k : Fin 32) : TpuEff nD τ sig (Elt F) Λ₀ .tc PUnit :=
  .semSignal (peer d0 k, .tc) barSem (1#32).toInt
/-- Send the chunk of the partial product to the device `k` ahead. -/
def opRs (d0 : Dev nD) (l : Fin 3) (k : Fin 32) : TpuEff nD τ sig (Elt F) Λ₀ .tc PUnit :=
  .enqueueDma (sbPiece d0 k) (.remote (Dev.tc (peer d0 k)) (rsPiece l (-k)) (.dma (sndSem k))) (.dma (rsSem l (-k)))
    (sbPiece_we d0 k) (rsPiece_we l (-k)) ⟨⟨rfl, Or.inl rfl⟩, trivial⟩
/-- Send the reduced chunk to the device `k` ahead. -/
def opAg (d0 : Dev nD) (l : Fin 3) (k : Fin 32) : TpuEff nD τ sig (Elt F) Λ₀ .tc PUnit :=
  .enqueueDma (redPiece l) (.remote (Dev.tc (peer d0 k)) (agPiece l d0) (.dma (sndSem k))) (.dma (agSem l (-k)))
    (redPiece_we l) (agPiece_we l d0) ⟨⟨rfl, Or.inl rfl⟩, trivial⟩
/-- Wait for the partial product in slot `j`. -/
def opRsWait (l : Fin 3) (j : Fin 32) : TpuEff nD τ sig (Elt F) Λ₀ .tc PUnit :=
  .waitDma2 (rsSem l j) (rsPiece l j) (rsPiece l j) (rsPiece_we l j) (rsPiece_we l j)
/-- Wait until the partial product has been sent to the device `k` ahead. -/
def opRsSent (d0 : Dev nD) (l : Fin 3) (k : Fin 32) : TpuEff nD τ sig (Elt F) Λ₀ .tc PUnit :=
  .waitDma2 (sndSem k) (rsPiece l (-k)) (sbPiece d0 k) (rsPiece_we l (-k)) (sbPiece_we d0 k)
/-- Wait for the rows from distance `j`. -/
def opAgWait (l : Fin 3) (j : Fin 32) : TpuEff nD τ sig (Elt F) Λ₀ .tc PUnit :=
  .waitDma2 (agSem l j) (agFirst l) (agFirst l) (agFirst_we l) (agFirst_we l)
/-- Wait until the reduced chunk has been sent to the device `k` ahead. -/
def opAgSent (d0 : Dev nD) (l : Fin 3) (k : Fin 32) : TpuEff nD τ sig (Elt F) Λ₀ .tc PUnit :=
  .waitDma2 (sndSem k) (agPiece l d0) (redPiece l) (agPiece_we l d0) (redPiece_we l)

/-! ## The program -/

/-- The whole of a 512 × 256 buffer. -/
abbrev rX : Rect S512x256 := Rect.unit (s := S512x256) ![0, 0] S512x256.size inb_S512x256_S512x256_0_0
/-- The whole of a 256 × 512 buffer. -/
abbrev rW : Rect S256x512 := Rect.unit (s := S256x512) ![0, 0] S256x512.size inb_S256x512_S256x512_0_0

/-- Store a whole partial product in the send buffer. -/
def opStoreSb (v : FVec F S512x256 .bf16) : TpuEff nD τ sig (Elt F) Λ₀ .tc PUnit :=
  .store sb rX v Finset.univ
    (View.stores_vmem h_S512x256 (hsb.storeExact_slice rfl _ packedbf16_S512x256_S512x256_0_0) (fun _ => rfl)) (.inl rfl)

/-- Load the device's own chunk. -/
def opLoadOwn (d0 : Dev nD) : TpuEff nD τ sig (Elt F) Λ₀ .tc (Vec F S16x256 .bf16) :=
  .load sb (Rect.unit (s := S512x256) (k0_off2 d0) S16x256.size (k0_off2_inb d0)).toLoadRect (View.loadsAt_vmem h_S16x256)
theorem pk_rs : ∀ (l : Fin 3) (j : Fin 32), (Rect.unit (s := S3x32x16x256) ![l.val, j.val, 0, 0] S1x1x16x256.size (inb_rs l j)).PackedRows (EltTy.packing .bf16) := by
  decide +kernel
/-- Load slot 0 of layer `l` (the value is not used). -/
def opLoadSlot0 (l : Fin 3) : TpuEff nD τ sig (Elt F) Λ₀ .tc (Vec F S1x1x16x256 .bf16) :=
  .load rs (Rect.unit (s := S3x32x16x256) ![l.val, 0, 0, 0] S1x1x16x256.size (inb_rs l 0)).toLoadRect (View.loadsAt_vmem h_S1x1x16x256)
/-- Store the device's own chunk in slot 0. -/
def opStoreSlot0 (l : Fin 3) (v : FVec F S1x1x16x256 .bf16) : TpuEff nD τ sig (Elt F) Λ₀ .tc PUnit :=
  .store rs (Rect.unit (s := S3x32x16x256) ![l.val, 0, 0, 0] S1x1x16x256.size (inb_rs l 0)) v Finset.univ
    (View.stores_vmem h_S1x1x16x256 (hrs.storeExact_slice rfl _ (pk_rs l 0)) (fun _ => rfl)) (.inl rfl)
/-- Load all slots of layer `l`. -/
def opLoadSlots (l : Fin 3) : TpuEff nD τ sig (Elt F) Λ₀ .tc (Vec F S1x32x16x256 .bf16) :=
  .load rs (Rect.unit (s := S3x32x16x256) ![l.val, 0, 0, 0] S1x32x16x256.size (inb_rsSlab l)).toLoadRect (View.loadsAt_vmem h_S1x32x16x256)
/-- Load the reduced chunk of layer `l`. -/
def opLoadRed (l : Fin 3) : TpuEff nD τ sig (Elt F) Λ₀ .tc (Vec F S1x16x256 .bf16) :=
  .load red (Rect.unit (s := S3x16x256) ![l.val, 0, 0] S1x16x256.size (inb_red l)).toLoadRect (View.loadsAt_vmem h_S1x16x256)
/-- Store the reduced chunk of layer `l`. -/
def opStoreRed (l : Fin 3) (v : FVec F S1x16x256 .bf16) : TpuEff nD τ sig (Elt F) Λ₀ .tc PUnit :=
  .store red (Rect.unit (s := S3x16x256) ![l.val, 0, 0] S1x16x256.size (inb_red l)) v Finset.univ
    (View.stores_vmem h_S1x16x256 (hred.storeExact_slice rfl _ (pk_red l)) (fun _ => rfl)) (.inl rfl)
/-- Load the device's own gathered rows (the value is not used). -/
def opLoadRows (l : Fin 3) (d0 : Dev nD) : TpuEff nD τ sig (Elt F) Λ₀ .tc (Vec F S1x16x256 .bf16) :=
  .load ag (Rect.unit (s := S3x512x256) (agOffV l d0) S1x16x256.size (agOffV_inb l d0)).toLoadRect (View.loadsAt_vmem h_S1x16x256)
/-- Store the device's own gathered rows. -/
def opStoreRows (l : Fin 3) (d0 : Dev nD) (v : FVec F S1x16x256 .bf16) : TpuEff nD τ sig (Elt F) Λ₀ .tc PUnit :=
  .store ag (Rect.unit (s := S3x512x256) (agOffV l d0) S1x16x256.size (agOffV_inb l d0)) v Finset.univ
    (View.stores_vmem h_S1x16x256 (hag.storeExact_slice rfl _ (agOffV_pk l d0)) (fun _ => rfl)) (.inl rfl)
/-- Load the gathered layer `l`. -/
def opLoadSlab (l : Fin 3) : TpuEff nD τ sig (Elt F) Λ₀ .tc (Vec F S1x512x256 .bf16) :=
  .load ag (Rect.unit (s := S3x512x256) ![l.val, 0, 0] S1x512x256.size (inb_agSlab l)).toLoadRect (View.loadsAt_vmem h_S1x512x256)
/-- Load a whole 512 × 256 buffer. -/
def opLoadX (m : Memref sig .tc .vmem S512x256 .bf16) : TpuEff nD τ sig (Elt F) Λ₀ .tc (Vec F S512x256 .bf16) :=
  .load m rX.toLoadRect (View.loadsAt_vmem h_S512x256)
/-- Load a whole 256 × 512 buffer. -/
def opLoadW (m : Memref sig .tc .vmem S256x512 .bf16) : TpuEff nD τ sig (Elt F) Λ₀ .tc (Vec F S256x512 .bf16) :=
  .load m rW.toLoadRect (View.loadsAt_vmem h_S256x512)

/-- The exchange and reduction of layer `l`'s partial product. -/
def reduceP (d0 : Dev nD) (l : Fin 3) (next : Code (F := F)) : Code (F := F) :=
  each (opRs d0 l) ks <|
  .op (opLoadOwn d0) fun v =>
  .op (opLoadSlot0 l) fun _ =>
  .op (opStoreSlot0 l (k0_pay3 v)) fun _ =>
  each (opRsWait l) ks <|
  each (opRsSent d0 l) ks <|
  .op (opLoadSlots l) fun w =>
  .op (opLoadRed l) fun _ =>
  .op (opStoreRed l (k0_pay4 w)) fun _ => next

/-- The gathering of layer `l`'s reduced chunks. -/
def gatherP (d0 : Dev nD) (l : Fin 3) (next : Vec F S1x512x256 .bf16 → Code (F := F)) : Code (F := F) :=
  each (opAg d0 l) ks <|
  .op (opLoadRed l) fun v =>
  .op (opLoadRows l d0) fun _ =>
  .op (opStoreRows l d0 (k0_pay5 v)) fun _ =>
  each (opAgWait l) ks <|
  each (opAgSent d0 l) ks <|
  .op (opLoadSlab l) next

/-- One layer after the partial product is stored. -/
def layerP (d0 : Dev nD) (l : Fin 3) (next : Vec F S1x512x256 .bf16 → Code (F := F)) : Code (F := F) :=
  reduceP d0 l (gatherP d0 l next)

/-- The next layer's partial product, stored. -/
def nextP (win : Memref sig .tc .vmem S256x512 .bf16) (wout : Memref sig .tc .vmem S512x256 .bf16)
    (v : Vec F S1x512x256 .bf16) (next : Code (F := F)) : Code (F := F) :=
  .op (opLoadW win) fun a =>
  .op (opLoadX wout) fun b =>
  .op (opLoadX sb) fun _ =>
  .op (opStoreSb (k0_pay6 v a b)) fun _ => next

/-- The whole body. -/
def bodyP (arg0 : Memref sig .tc .vmem S512x256 .bf16) (arg1 : Memref sig .tc .vmem S256x512 .bf16)
    (arg2 : Memref sig .tc .vmem S512x256 .bf16) (arg3 : Memref sig .tc .vmem S256x512 .bf16)
    (arg4 : Memref sig .tc .vmem S512x256 .bf16) (arg5 : Memref sig .tc .vmem S256x512 .bf16)
    (arg6 : Memref sig .tc .vmem S512x256 .bf16) (arg7 : Memref sig .tc .vmem S512x256 .f32) : Code (F := F) :=
  .op .deviceId fun d0 =>
  each (opSignal d0) ks <|
  .op (opLoadX arg0) fun x =>
  .op (opLoadW arg1) fun a =>
  .op (opLoadX arg2) fun b =>
  .op (opLoadX sb) fun _ =>
  .op (opStoreSb (k0_pay2 x a b)) fun _ =>
  .op (.semWait barSem (31#32).toInt) fun _ =>
  layerP d0 0 fun v =>
  nextP arg3 arg4 v <|
  layerP d0 1 fun v =>
  nextP arg5 arg6 v <|
  layerP d0 2 fun v =>
  .op (.load arg7 rX.toLoadRect (View.loadsAt_vmem h_S512x256)) fun _ =>
  .op (.store arg7 rX (k0_pay1 v) Finset.univ (View.stores_vmem_bits_univ h_S512x256 rfl) (.inl rfl)) fun _ =>
  .ret ⟨⟩

end Cert.Proof.Mlp
-- ==== Proof.Geom.lean ====
/- Where the pieces the kernel moves lie in their buffers: each piece's index map in coordinates, the
   sets of elements, and that the pieces of a buffer are disjoint and cover it. -/
module

public import proofs.«01_k».proof.Proof.Prog
public import Idealize.ShloMosaic.Lib.ValueLayout
public import Idealize.ShloMosaic.Lib.Ring

@[expose] public section

noncomputable section

namespace Cert.Proof.Mlp

open Idealize.ShloMosaic Idealize.ShloMosaic.ValueIdx Idealize.SL.Sem Cert.KernelIdeal Cert.KernelIdeal.Gen

/-- The send buffer's rows of position `p`. -/
def sbRow (p : Fin 32) : Memref sig .tc .vmem S16x256 .bf16 :=
  sb.slice (Rect.unit (s := S512x256) ![16 * p.val, 0] S16x256.size (inb_sb p)) (fun _ => rfl)

/-- The gather buffer's rows of position `p` in layer `l`. -/
def agRow (l : Fin 3) (p : Fin 32) : Memref sig .tc .vmem S16x256 .bf16 :=
  (ag.slice (Rect.unit (s := S3x512x256) ![l.val, 16 * p.val, 0] S1x16x256.size (inb_ag l p)) (fun _ => rfl)).squeeze
    S16x256 squeezes_S1x16x256_S16x256

theorem sbRow_we (p : Fin 32) : (sbRow p).view.WordExact := hsb.wordExact_slice rfl _ (ww_sb p)
theorem agRow_we (l : Fin 3) (p : Fin 32) : (agRow l p).view.WordExact :=
  (hag.wordExact_slice rfl _ (ww_ag l p)).reshape _ _

theorem sbPiece_eq (d : Dev nD) (k : Fin 32) : sbPiece d k = sbRow (d + k : Fin 32) := by
  have key : ∀ (off : Fin 2 → Nat) (h : ∀ a, off a + S16x256.size a ≤ S512x256.size a)
      (e : off = ![16 * (d + k : Fin 32).val, 0]),
      (sb.slice (Rect.unit (s := S512x256) off S16x256.size h) (fun _ => rfl) : Memref sig .tc .vmem S16x256 .bf16)
        = sbRow (d + k : Fin 32) := by
    intro off h e; subst e; rfl
  exact key _ _ (sbOff_eq d k)

theorem agPiece_eq (l : Fin 3) (d : Dev nD) : agPiece l d = agRow l d := by
  have key : ∀ (off : Fin 3 → Nat) (h : ∀ a, off a + S1x16x256.size a ≤ S3x512x256.size a)
      (e : off = ![l.val, 16 * d.val, 0]),
      ((ag.slice (Rect.unit (s := S3x512x256) off S1x16x256.size h) (fun _ => rfl)).squeeze
        S16x256 squeezes_S1x16x256_S16x256 : Memref sig .tc .vmem S16x256 .bf16) = agRow l d := by
    intro off h e; subst e; rfl
  exact key _ _ (agOff_eq l d)

theorem agFirst_eq (l : Fin 3) : agFirst l = agRow l 0 := rfl

/-! ## Coordinates -/

/-- Row `a` of position `p` among 512 rows. -/
def row (p : Fin 32) (a : Fin 16) : Fin 512 := ⟨16 * p.val + a.val, by omega⟩

theorem row_div (p : Fin 32) (a : Fin 16) : (row p a).val / 16 = p.val := by simp only [row]; omega
theorem row_mod (p : Fin 32) (a : Fin 16) : (row p a).val % 16 = a.val := by simp only [row]; omega

/-- The position a row belongs to, -/
def posOf (i : Fin 512) : Fin 32 := ⟨i.val / 16, by omega⟩
/-- and its place among that position's rows. -/
def subOf (i : Fin 512) : Fin 16 := ⟨i.val % 16, by omega⟩
@[simp] theorem posOf_row (p : Fin 32) (a : Fin 16) : posOf (row p a) = p := Fin.ext (row_div p a)
@[simp] theorem subOf_row (p : Fin 32) (a : Fin 16) : subOf (row p a) = a := Fin.ext (row_mod p a)
@[simp] theorem row_posOf (i : Fin 512) : row (posOf i) (subOf i) = i := by
  apply Fin.ext; simp only [row, posOf, subOf]; omega

theorem sbRow_emb (p : Fin 32) (a : Fin 16) (b : Fin 256) :
    (sbRow p).view.emb (ix2 a b) = (ix2 (row p a) b : S512x256.Idx) := by
  funext d
  match d with
  | ⟨0, _⟩ => exact Fin.ext (by show 16 * p.val + 1 * a.val = 16 * p.val + a.val; omega)
  | ⟨1, _⟩ => exact Fin.ext (by show 0 + 1 * b.val = b.val; omega)

theorem rsPiece_emb (l : Fin 3) (j : Fin 32) (a : Fin 16) (b : Fin 256) :
    (rsPiece l j).view.emb (ix2 a b) = (ix4 l j a b : S3x32x16x256.Idx) := by
  refine (congrArg ((rs.slice (Rect.unit (s := S3x32x16x256) ![l.val, j.val, 0, 0] S1x1x16x256.size (inb_rs l j)) (fun _ => rfl)).view.emb)
    (reshapeEquiv_ix2_11ab (a := 16) (b := 256) squeezes_S1x1x16x256_S16x256.numel_eq a b)).trans ?_
  funext d
  match d with
  | ⟨0, _⟩ => exact Fin.ext (by show l.val + 1 * 0 = l.val; omega)
  | ⟨1, _⟩ => exact Fin.ext (by show j.val + 1 * 0 = j.val; omega)
  | ⟨2, _⟩ => exact Fin.ext (by show 0 + 1 * a.val = a.val; omega)
  | ⟨3, _⟩ => exact Fin.ext (by show 0 + 1 * b.val = b.val; omega)

theorem redPiece_emb (l : Fin 3) (a : Fin 16) (b : Fin 256) :
    (redPiece l).view.emb (ix2 a b) = (ix3 l a b : S3x16x256.Idx) := by
  refine (congrArg ((red.slice (Rect.unit (s := S3x16x256) ![l.val, 0, 0] S1x16x256.size (inb_red l)) (fun _ => rfl)).view.emb)
    (reshapeEquiv_ix2_1ab (a := 16) (b := 256) squeezes_S1x16x256_S16x256.numel_eq a b)).trans ?_
  funext d
  match d with
  | ⟨0, _⟩ => exact Fin.ext (by show l.val + 1 * 0 = l.val; omega)
  | ⟨1, _⟩ => exact Fin.ext (by show 0 + 1 * a.val = a.val; omega)
  | ⟨2, _⟩ => exact Fin.ext (by show 0 + 1 * b.val = b.val; omega)

theorem agRow_emb (l : Fin 3) (p : Fin 32) (a : Fin 16) (b : Fin 256) :
    (agRow l p).view.emb (ix2 a b) = (ix3 l (row p a) b : S3x512x256.Idx) := by
  refine (congrArg ((ag.slice (Rect.unit (s := S3x512x256) ![l.val, 16 * p.val, 0] S1x16x256.size (inb_ag l p)) (fun _ => rfl)).view.emb)
    (reshapeEquiv_ix2_1ab (a := 16) (b := 256) squeezes_S1x16x256_S16x256.numel_eq a b)).trans ?_
  funext d
  match d with
  | ⟨0, _⟩ => exact Fin.ext (by show l.val + 1 * 0 = l.val; omega)
  | ⟨1, _⟩ => exact Fin.ext (by show 16 * p.val + 1 * a.val = 16 * p.val + a.val; omega)
  | ⟨2, _⟩ => exact Fin.ext (by show 0 + 1 * b.val = b.val; omega)

/-! ## Sets of elements -/

theorem mem_view_set {sp : Space} {e : EltTy} {s : Shape} (v : View sig .tc sp s e) (i : v.ty.Idx) :
    i ∈ v.set ↔ ∃ x, v.emb x = i := by
  rw [View.set, Finset.mem_map]; simp

theorem exists_ix2 {n m : ℕ} {p : (⟨2, ![n, m]⟩ : Shape).Idx → Prop} : (∃ x, p x) ↔ ∃ a b, p (ix2 a b) :=
  ⟨fun ⟨x, h⟩ => ⟨x 0, x 1, (congrArg p (eq_ix2 x)).mp h⟩, fun ⟨a, b, h⟩ => ⟨_, h⟩⟩

theorem mem_sbRow (p : Fin 32) (i : S512x256.Idx) : i ∈ (sbRow p).view.set ↔ posOf (i 0) = p := by
  refine (mem_view_set (sbRow p).view i).trans (exists_ix2.trans ⟨?_, ?_⟩)
  · rintro ⟨a, b, h⟩; rw [sbRow_emb] at h; rw [← h]; exact posOf_row p a
  · rintro rfl
    exact ⟨subOf (i 0), i 1, (sbRow_emb _ _ _).trans ((congrArg (fun r : Fin 512 => (ix2 r (i 1) : S512x256.Idx)) (row_posOf (i 0))).trans (eq_ix2 i).symm)⟩

theorem mem_rsPiece (l : Fin 3) (j : Fin 32) (i : S3x32x16x256.Idx) :
    i ∈ (rsPiece l j).view.set ↔ i 0 = l ∧ i 1 = j := by
  refine (mem_view_set (rsPiece l j).view i).trans (exists_ix2.trans ⟨?_, ?_⟩)
  · rintro ⟨a, b, h⟩; rw [rsPiece_emb] at h; rw [← h]; exact ⟨rfl, rfl⟩
  · rintro ⟨rfl, rfl⟩
    exact ⟨i 2, i 3, (rsPiece_emb _ _ _ _).trans (eq_ix4 i).symm⟩

theorem mem_redPiece (l : Fin 3) (i : S3x16x256.Idx) : i ∈ (redPiece l).view.set ↔ i 0 = l := by
  refine (mem_view_set (redPiece l).view i).trans (exists_ix2.trans ⟨?_, ?_⟩)
  · rintro ⟨a, b, h⟩; rw [redPiece_emb] at h; rw [← h]
  · rintro rfl
    exact ⟨i 1, i 2, (redPiece_emb _ _ _).trans (eq_ix3 i).symm⟩

theorem mem_agRow (l : Fin 3) (p : Fin 32) (i : S3x512x256.Idx) :
    i ∈ (agRow l p).view.set ↔ i 0 = l ∧ posOf (i 1) = p := by
  refine (mem_view_set (agRow l p).view i).trans (exists_ix2.trans ⟨?_, ?_⟩)
  · rintro ⟨a, b, h⟩; rw [agRow_emb] at h; rw [← h]; exact ⟨rfl, posOf_row p a⟩
  · rintro ⟨rfl, rfl⟩
    exact ⟨subOf (i 1), i 2, (agRow_emb _ _ _ _).trans ((congrArg (fun r : Fin 512 => (ix3 (i 0) r (i 2) : S3x512x256.Idx)) (row_posOf (i 1))).trans (eq_ix3 i).symm)⟩

end Cert.Proof.Mlp
-- ==== Proof.Vals.lean ====
/- What the kernel's buffers hold, as functions of every device's arguments: the partial products of each
   layer, the slots filled with them, the reduced chunks and the gathered activations; and that each piece
   moved, stored or loaded reads exactly those values. -/
module

public import proofs.«01_k».proof.Proof.Geom
public import Idealize.ShloMosaic.Lib.Pipeline.Value

@[expose] public section

noncomputable section

namespace Cert.Proof.Mlp

open Idealize.ShloMosaic Idealize.ShloMosaic.ValueIdx Idealize.SL.Sem Cert.KernelIdeal Cert.KernelIdeal.Gen

variable {F : FTy → Type} [FloatOps F]

/-- The devices' arguments. -/
structure Ins (F : FTy → Type) where
  x : Dev nD → Vec F S512x256 .bf16
  wi : Fin 3 → Dev nD → Vec F S256x512 .bf16
  wo : Fin 3 → Dev nD → Vec F S512x256 .bf16

/-- The device `j` ahead on the ring. -/
abbrev ahead (c : Fin 32) (j : Fin 32) : Fin 32 := c + j

/-- The slots of device `c` when every device's partial product is `P`: slot `j` holds the rows of `c` in the
    product of the device `j` ahead. -/
def slotsOf (P : Dev nD → Vec F S512x256 .bf16) (c : Dev nD) : Vec F S1x32x16x256 .bf16 :=
  fun i => P (ahead c (i 1)) (ix2 (row c (i 2)) (i 3))

/-- The reduced chunk of device `c`. -/
def redOf (P : Dev nD → Vec F S512x256 .bf16) (c : Dev nD) : Vec F S1x16x256 .bf16 := k0_pay4 (slotsOf P c)

/-- The gathered activations. -/
def slabOf (P : Dev nD → Vec F S512x256 .bf16) : Vec F S1x512x256 .bf16 :=
  fun i => redOf P (posOf (i 1)) (ix3 0 (subOf (i 1)) (i 2))

/-- The partial products of the first, -/
def part0 (I : Ins F) (c : Dev nD) : Vec F S512x256 .bf16 := k0_pay2 (I.x c) (I.wi 0 c) (I.wo 0 c)
/-- the second -/
def part1 (I : Ins F) (c : Dev nD) : Vec F S512x256 .bf16 := k0_pay6 (slabOf (part0 I)) (I.wi 1 c) (I.wo 1 c)
/-- and the third layer. -/
def part2 (I : Ins F) (c : Dev nD) : Vec F S512x256 .bf16 := k0_pay6 (slabOf (part1 I)) (I.wi 2 c) (I.wo 2 c)

/-- The partial products of layer `l`. -/
def part (I : Ins F) (l : Fin 3) : Dev nD → Vec F S512x256 .bf16 :=
  match l with
  | ⟨0, _⟩ => part0 I
  | ⟨1, _⟩ => part1 I
  | ⟨_, _⟩ => part2 I

/-- The received slots of device `p`, all layers. -/
def rsF (I : Ins F) (p : Dev nD) : S3x32x16x256.Idx → Elt F .bf16 :=
  fun i => part I (i 0) (ahead p (i 1)) (ix2 (row p (i 2)) (i 3))

/-- The reduced chunks of device `c`, all layers. -/
def redF (I : Ins F) (c : Dev nD) : S3x16x256.Idx → Elt F .bf16 :=
  fun i => redOf (part I (i 0)) c (ix3 0 (i 1) (i 2))

/-- The gathered activations, all layers: the same on every device. -/
def agF (I : Ins F) : S3x512x256.Idx → Elt F .bf16 :=
  fun i => redOf (part I (i 0)) (posOf (i 1)) (ix3 0 (subOf (i 1)) (i 2))

/-- The result. -/
def outF (I : Ins F) : Vec F S512x256 .f32 := k0_pay1 (slabOf (part I 2))

/-! ## What is written is what the buffer's function says -/

/-- A piece written with what `g` reads through it agrees with `g` on the piece. -/
theorem write_agree {sp : Space} {e : EltTy} {s : Shape} (v : View sig .tc sp s e) (fd g : v.ty.Contents (Elt F))
    (w : s.Idx → Elt F e) (h : v.read (Elt F) g = w) (i : v.ty.Idx) (hi : i ∈ v.set) :
    v.write (Elt F) fd w Finset.univ i = g i := by
  obtain ⟨x, rfl⟩ := (mem_view_set v i).mp hi
  subst h
  rw [View.write_emb_of_mem _ _ (Finset.mem_univ x), View.read_apply, cast_cast, cast_eq]

theorem funext_ix2 {n m : ℕ} {α : Type} {f g : (⟨2, ![n, m]⟩ : Shape).Idx → α} (h : ∀ a b, f (ix2 a b) = g (ix2 a b)) :
    f = g := funext fun x => (congrArg f (eq_ix2 x)).trans ((h _ _).trans (congrArg g (eq_ix2 x)).symm)
theorem funext_ix3 {n m k : ℕ} {α : Type} {f g : (⟨3, ![n, m, k]⟩ : Shape).Idx → α}
    (h : ∀ a b c, f (ix3 a b c) = g (ix3 a b c)) :
    f = g := funext fun x => (congrArg f (eq_ix3 x)).trans ((h _ _ _).trans (congrArg g (eq_ix3 x)).symm)
theorem funext_ix4 {n m k j : ℕ} {α : Type} {f g : (⟨4, ![n, m, k, j]⟩ : Shape).Idx → α}
    (h : ∀ a b c d, f (ix4 a b c d) = g (ix4 a b c d)) :
    f = g := funext fun x => (congrArg f (eq_ix4 x)).trans ((h _ _ _ _).trans (congrArg g (eq_ix4 x)).symm)

theorem sbRow_read (f : S512x256.Idx → Elt F .bf16) (p : Fin 32) (a : Fin 16) (b : Fin 256) :
    (sbRow p).view.read (Elt F) f (ix2 a b) = f (ix2 (row p a) b) := congrArg f (sbRow_emb p a b)
theorem rsPiece_read (f : S3x32x16x256.Idx → Elt F .bf16) (l : Fin 3) (j : Fin 32) (a : Fin 16) (b : Fin 256) :
    (rsPiece l j).view.read (Elt F) f (ix2 a b) = f (ix4 l j a b) := congrArg f (rsPiece_emb l j a b)
theorem redPiece_read (f : S3x16x256.Idx → Elt F .bf16) (l : Fin 3) (a : Fin 16) (b : Fin 256) :
    (redPiece l).view.read (Elt F) f (ix2 a b) = f (ix3 l a b) := congrArg f (redPiece_emb l a b)
theorem agRow_read (f : S3x512x256.Idx → Elt F .bf16) (l : Fin 3) (p : Fin 32) (a : Fin 16) (b : Fin 256) :
    (agRow l p).view.read (Elt F) f (ix2 a b) = f (ix3 l (row p a) b) := congrArg f (agRow_emb l p a b)

/-- The slot `j` of device `p` reads the rows of `p` in the product of the device `j` ahead of `p`. -/
theorem rs_read_eq (I : Ins F) (l : Fin 3) (p j : Fin 32) :
    (rsPiece l j).view.read (Elt F) (rsF I p) = (sbRow p).view.read (Elt F) (part I l (p + j : Fin 32)) :=
  funext_ix2 fun a b => (rsPiece_read _ l j a b).trans (sbRow_read _ p a b).symm

/-- Device `p`'s gathered rows are its reduced chunk. -/
theorem ag_read_eq (I : Ins F) (l : Fin 3) (p : Fin 32) :
    (agRow l p).view.read (Elt F) (agF I) = (redPiece l).view.read (Elt F) (redF I p) :=
  funext_ix2 fun a b => by
    refine (agRow_read _ l p a b).trans (Eq.trans ?_ (redPiece_read _ l a b).symm)
    show redOf (part I l) (posOf (row p a)) (ix3 0 (subOf (row p a)) b) = redOf (part I l) p (ix3 0 a b)
    rw [posOf_row, subOf_row]

/-! ## The loads and stores -/

theorem k0_off2_rect (d : Dev nD) (f : S512x256.Idx → Elt F .bf16) :
    (sb.access (Rect.unit (s := S512x256) (k0_off2 d) S16x256.size (k0_off2_inb d))).read (Elt F) f
      = (sbRow d).view.read (Elt F) f := by
  have key : ∀ (off : Fin 2 → Nat) (h : ∀ a, off a + S16x256.size a ≤ S512x256.size a)
      (e : off = ![16 * d.val, 0]),
      (sb.access (Rect.unit (s := S512x256) off S16x256.size h)).read (Elt F) f = (sbRow d).view.read (Elt F) f := by
    intro off h e; subst e; rfl
  exact key _ _ (k0_off2_eq d)

theorem pay3_apply (v : Vec F S16x256 .bf16) (a : Fin 16) (b : Fin 256) :
    k0_pay3 v (ix4 0 0 a b) = v (ix2 a b) := by
  show v (Shape.reshapeEquiv _ (ix4 0 0 a b)) = v (ix2 a b)
  rw [show (ix4 0 0 a b : S1x1x16x256.Idx) = Shape.reshapeEquiv squeezes_S1x1x16x256_S16x256.numel_eq (ix2 a b) from
    (reshapeEquiv_ix2_11ab _ a b).symm, Shape.reshapeEquiv_reshapeEquiv, Shape.reshapeEquiv_self]

theorem pay5_eq (v : Vec F S1x16x256 .bf16) : k0_pay5 v = v :=
  shapeCast_shapeCast v _ _

/-- The access to slot `j` of layer `l`. -/
abbrev accRs (l : Fin 3) (j : Fin 32) := rs.access (Rect.unit (s := S3x32x16x256) ![l.val, j.val, 0, 0] S1x1x16x256.size (inb_rs l j))
abbrev accSlots (l : Fin 3) := rs.access (Rect.unit (s := S3x32x16x256) ![l.val, 0, 0, 0] S1x32x16x256.size (inb_rsSlab l))
abbrev accRed (l : Fin 3) := red.access (Rect.unit (s := S3x16x256) ![l.val, 0, 0] S1x16x256.size (inb_red l))
abbrev accRows (l : Fin 3) (p : Fin 32) := ag.access (Rect.unit (s := S3x512x256) ![l.val, 16 * p.val, 0] S1x16x256.size (inb_ag l p))
abbrev accSlab (l : Fin 3) := ag.access (Rect.unit (s := S3x512x256) ![l.val, 0, 0] S1x512x256.size (inb_agSlab l))

theorem accRs_set (l : Fin 3) (j : Fin 32) : (accRs l j).set = (rsPiece l j).view.set := (View.set_reshape _ _).symm
theorem accRed_set (l : Fin 3) : (accRed l).set = (redPiece l).view.set := (View.set_reshape _ _).symm
theorem accRows_set (l : Fin 3) (p : Fin 32) : (accRows l p).set = (agRow l p).view.set := (View.set_reshape _ _).symm

theorem accRs_emb (l : Fin 3) (j : Fin 32) (a a' : Fin 1) (b : Fin 16) (c : Fin 256) :
    (accRs l j).emb (ix4 a a' b c) = (ix4 l j b c : S3x32x16x256.Idx) := by
  funext d
  match d with
  | ⟨0, _⟩ => exact Fin.ext (by show l.val + 1 * a.val = l.val; omega)
  | ⟨1, _⟩ => exact Fin.ext (by show j.val + 1 * a'.val = j.val; omega)
  | ⟨2, _⟩ => exact Fin.ext (by show 0 + 1 * b.val = b.val; omega)
  | ⟨3, _⟩ => exact Fin.ext (by show 0 + 1 * c.val = c.val; omega)

theorem accSlots_emb (l : Fin 3) (a : Fin 1) (j : Fin 32) (b : Fin 16) (c : Fin 256) :
    (accSlots l).emb (ix4 a j b c) = (ix4 l j b c : S3x32x16x256.Idx) := by
  funext d
  match d with
  | ⟨0, _⟩ => exact Fin.ext (by show l.val + 1 * a.val = l.val; omega)
  | ⟨1, _⟩ => exact Fin.ext (by show 0 + 1 * j.val = j.val; omega)
  | ⟨2, _⟩ => exact Fin.ext (by show 0 + 1 * b.val = b.val; omega)
  | ⟨3, _⟩ => exact Fin.ext (by show 0 + 1 * c.val = c.val; omega)

theorem accRed_emb (l : Fin 3) (a : Fin 1) (b : Fin 16) (c : Fin 256) :
    (accRed l).emb (ix3 a b c) = (ix3 l b c : S3x16x256.Idx) := by
  funext d
  match d with
  | ⟨0, _⟩ => exact Fin.ext (by show l.val + 1 * a.val = l.val; omega)
  | ⟨1, _⟩ => exact Fin.ext (by show 0 + 1 * b.val = b.val; omega)
  | ⟨2, _⟩ => exact Fin.ext (by show 0 + 1 * c.val = c.val; omega)

theorem accRows_emb (l : Fin 3) (p : Fin 32) (a : Fin 1) (b : Fin 16) (c : Fin 256) :
    (accRows l p).emb (ix3 a b c) = (ix3 l (row p b) c : S3x512x256.Idx) := by
  funext d
  match d with
  | ⟨0, _⟩ => exact Fin.ext (by show l.val + 1 * a.val = l.val; omega)
  | ⟨1, _⟩ => exact Fin.ext (by show 16 * p.val + 1 * b.val = 16 * p.val + b.val; omega)
  | ⟨2, _⟩ => exact Fin.ext (by show 0 + 1 * c.val = c.val; omega)

theorem accSlab_emb (l : Fin 3) (a : Fin 1) (b : Fin 512) (c : Fin 256) :
    (accSlab l).emb (ix3 a b c) = (ix3 l b c : S3x512x256.Idx) := by
  funext d
  match d with
  | ⟨0, _⟩ => exact Fin.ext (by show l.val + 1 * a.val = l.val; omega)
  | ⟨1, _⟩ => exact Fin.ext (by show 0 + 1 * b.val = b.val; omega)
  | ⟨2, _⟩ => exact Fin.ext (by show 0 + 1 * c.val = c.val; omega)

/-- Slot 0 reads the device's own rows, as the kernel stores them. -/
theorem slot0_read (I : Ins F) (l : Fin 3) (p : Dev nD) :
    (accRs l 0).read (Elt F) (rsF I p) = k0_pay3 ((sbRow p).view.read (Elt F) (part I l p)) :=
  funext_ix4 fun a a' b c => by
    obtain rfl : a = 0 := Fin.ext (by omega)
    obtain rfl : a' = 0 := Fin.ext (by omega)
    refine (congrArg (rsF I p) (accRs_emb l 0 0 0 b c)).trans ?_
    refine Eq.trans ?_ ((pay3_apply _ b c).trans (sbRow_read _ p b c)).symm
    exact congrArg (fun q : Fin 32 => part I l q (ix2 (row p b) c)) (Fin.add_zero p)

/-- A layer's slots read what `slotsOf` says. -/
theorem slots_read (I : Ins F) (l : Fin 3) (p : Dev nD) :
    (accSlots l).read (Elt F) (rsF I p) = slotsOf (part I l) p :=
  funext_ix4 fun a j b c => congrArg (rsF I p) (accSlots_emb l a j b c)

/-- A layer's reduced chunk. -/
theorem red_read (I : Ins F) (l : Fin 3) (p : Dev nD) :
    (accRed l).read (Elt F) (redF I p) = redOf (part I l) p :=
  funext_ix3 fun a b c => by
    obtain rfl : a = 0 := Fin.ext (by omega)
    exact congrArg (redF I p) (accRed_emb l 0 b c)

/-- The device's own gathered rows. -/
theorem rows_read (I : Ins F) (l : Fin 3) (p : Dev nD) :
    (accRows l p).read (Elt F) (agF I) = redOf (part I l) p :=
  funext_ix3 fun a b c => by
    obtain rfl : a = 0 := Fin.ext (by omega)
    refine (congrArg (agF I) (accRows_emb l p 0 b c)).trans ?_
    show redOf (part I l) (posOf (row p b)) (ix3 0 (subOf (row p b)) c) = redOf (part I l) p (ix3 0 b c)
    rw [posOf_row, subOf_row]

/-- A layer's gathered activations. -/
theorem slab_read (I : Ins F) (l : Fin 3) : (accSlab l).read (Elt F) (agF I) = slabOf (part I l) :=
  funext_ix3 fun a b c => congrArg (agF I) (accSlab_emb l a b c)

end Cert.Proof.Mlp
-- ==== Proof.Sched.lean ====
/- The protocol of the exchange: the cells, what each signal and each transfer hands over, in what order a
   device may wait, and what it owes the others at launch. -/
module

public import proofs.«01_k».proof.Proof.Vals
public import proofs.«01_k».proof.Proof.Gen.KernelIdeal.Launch
public import Idealize.ShloMosaic.Lib.Rounds
public import Idealize.ShloMosaic.Lib.Transfers
public import Idealize.ShloMosaic.Lib.Pipeline.Launch
public import Idealize.ShloMosaic.Lib.Pipeline.Kit
public import Idealize.ShloMosaic.Lib.Tactic

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `k` behind. -/
abbrev behind (c k : Fin 32) : Fin 32 := c - k
/-- The slot a transfer over distance `k` fills. -/
abbrev opp (k : Fin 32) : Fin 32 := -k

theorem behind_ahead (c k : Fin 32) : behind (ahead c k) k = c := by revert c k; decide +kernel
theorem ahead_behind (c k : Fin 32) : ahead (behind c k) k = c := by revert c k; decide +kernel
theorem ahead_opp (c k : Fin 32) : ahead (ahead c k) (opp k) = c := by revert c k; decide +kernel
theorem behind_eq (c k : Fin 32) : behind c k = ahead c (opp k) := by revert c k; decide +kernel
theorem opp_opp (k : Fin 32) : opp (opp k) = k := by revert k; decide +kernel
theorem opp_ne {k : Fin 32} (h : k ≠ 0) : opp k ≠ 0 := by revert k; decide +kernel
theorem ahead_zero (c : Fin 32) : ahead c 0 = c := Fin.add_zero c

/-- The distances a device sends over. -/
abbrev ds : Finset (Fin 32) := Finset.univ.erase 0

theorem ks_toFinset : ks.toFinset = ds := by decide +kernel
theorem ks_nodup : ks.Nodup := by decide +kernel
theorem ks_ne {k : Fin 32} (h : k ∈ ks) : k ≠ 0 := by revert k; decide +kernel
theorem mem_ds {k : Fin 32} (h : k ≠ 0) : k ∈ ds := Finset.mem_erase.mpr ⟨h, Finset.mem_univ _⟩

/-! ## The cells -/

/-- What a semaphore counts. -/
inductive Kd where
  | other
  | bar
  | rs (l : Fin 3) (j : Fin 32)
  | ag (l : Fin 3) (j : Fin 32)
  | snd (k : Fin 32)

/-- The kind of the DMA semaphore numbered `n`. -/
def kdOf (n : ℕ) : Kd :=
  if n < 8 then .other
  else if h : n - 8 < 96 then .rs ⟨(n - 8) / 32, by omega⟩ ⟨(n - 8) % 32, by omega⟩
  else if h : n - 104 < 96 then .ag ⟨(n - 104) / 32, by omega⟩ ⟨(n - 104) % 32, by omega⟩
  else if h : n - 200 < 32 then .snd ⟨n - 200, h⟩ else .other

/-- The kind of a semaphore. -/
def kd (sm : SemLoc sig) : Kd := match sm with
  | .reg _ => .bar
  | .dma q => kdOf q.val

theorem rsSem_val (l : Fin 3) (j : Fin 32) : (rsSem l j).val = 8 + (32 * l.val + j.val) := by
  revert l j; decide +kernel
theorem agSem_val (l : Fin 3) (j : Fin 32) : (agSem l j).val = 104 + (32 * l.val + j.val) := by
  revert l j; decide +kernel
theorem sndSem_val (k : Fin 32) : (sndSem k).val = 200 + k.val := by revert k; decide +kernel

abbrev barLoc : SemLoc sig := .reg barSem
abbrev rsLoc (l : Fin 3) (j : Fin 32) : SemLoc sig := .dma (rsSem l j)
abbrev agLoc (l : Fin 3) (j : Fin 32) : SemLoc sig := .dma (agSem l j)
abbrev sndLoc (k : Fin 32) : SemLoc sig := .dma (sndSem k)

theorem kd_bar : kd barLoc = .bar := rfl
theorem kd_rs (l : Fin 3) (j : Fin 32) : kd (rsLoc l j) = .rs l j := by
  show kdOf (rsSem l j).val = _
  rw [rsSem_val]
  have hl := l.isLt; have hj := j.isLt
  have h1 : (8 + (32 * l.val + j.val) - 8) / 32 = l.val := by omega
  have h2 : (8 + (32 * l.val + j.val) - 8) % 32 = j.val := by omega
  unfold kdOf
  rw [if_neg (by omega), dif_pos (by omega)]
  congr 1 <;> exact Fin.ext (by assumption)
theorem kd_ag (l : Fin 3) (j : Fin 32) : kd (agLoc l j) = .ag l j := by
  show kdOf (agSem l j).val = _
  rw [agSem_val]
  have hl := l.isLt; have hj := j.isLt
  have h1 : (104 + (32 * l.val + j.val) - 104) / 32 = l.val := by omega
  have h2 : (104 + (32 * l.val + j.val) - 104) % 32 = j.val := by omega
  unfold kdOf
  rw [if_neg (by omega), dif_neg (by omega), dif_pos (by omega)]
  congr 1 <;> exact Fin.ext (by assumption)
theorem kd_snd (k : Fin 32) : kd (sndLoc k) = .snd k := by
  show kdOf (sndSem k).val = _
  rw [sndSem_val]
  have hk := k.isLt
  have h1 : 200 + k.val - 200 = k.val := by omega
  unfold kdOf
  rw [if_neg (by omega), dif_neg (by omega), dif_neg (by omega), dif_pos (by omega)]
  congr 1; exact Fin.ext (by assumption)

abbrev barCell (c : Dev nD) : GSem nD τ sig := ((c : Thread nD τ), barLoc)
abbrev rsCell (c : Dev nD) (l : Fin 3) (j : Fin 32) : GSem nD τ sig := ((c : Thread nD τ), rsLoc l j)
abbrev agCell (c : Dev nD) (l : Fin 3) (j : Fin 32) : GSem nD τ sig := ((c : Thread nD τ), agLoc l j)
abbrev sndCell (c : Dev nD) (k : Fin 32) : GSem nD τ sig := ((c : Thread nD τ), sndLoc k)

/-- The credit of one transfer. -/
abbrev N : ℕ := (sbRow 0).view.dmaCredit
theorem N_pos : 0 < N := View.dmaCredit_pos _ (by decide)

/-! ## The pieces of the buffers -/

/-- The rows of device `p` in the send buffer of `c`. -/
def sbPts (c : Dev nD) (p : Fin 32) (f : S512x256.Idx → Elt F .bf16) : sProp 𝕄 :=
  (sbRow p).view.loc (c : Thread nD τ) ↦[(sbRow p).view.set]{fullShare} f
/-- Slot `j` of layer `l` on device `c`. -/
def rsPts (c : Dev nD) (l : Fin 3) (j : Fin 32) (f : S3x32x16x256.Idx → Elt F .bf16) : sProp 𝕄 :=
  (rsPiece l j).view.loc (c : Thread nD τ) ↦[(rsPiece l j).view.set]{fullShare} f
/-- A share of the reduced chunk of layer `l` on device `c`. -/
def redPts (c : Dev nD) (l : Fin 3) (q : PosShare TreeShare) (f : S3x16x256.Idx → Elt F .bf16) : sProp 𝕄 :=
  (redPiece l).view.loc (c : Thread nD τ) ↦[(redPiece l).view.set]{q} f
/-- The rows of device `p` in the gathered activations of layer `l` on device `c`. -/
def agPts (c : Dev nD) (l : Fin 3) (p : Fin 32) (f : S3x512x256.Idx → Elt F .bf16) : sProp 𝕄 :=
  (agRow l p).view.loc (c : Thread nD τ) ↦[(agRow l p).view.set]{fullShare} f

/-- The read share the transfer over distance `k` borrows. -/
abbrev tok (k : Fin 32) : PosShare TreeShare := Transfers.shareTok fullShare 32 k

section Stor
omit [FloatOps F]
theorem pts_storable {ℓ : Loc nD τ sig} {S : Finset (Idx ℓ)} {q : PosShare TreeShare} {f : Buf (Elt F) ℓ} :
    BI.Storable (upEmb : UEmb _ 𝕄) (ℓ ↦[S]{q} f : sProp 𝕄) := inferInstance
instance sbPts_storable (c : Dev nD) (p : Fin 32) (f) : BI.Storable (upEmb : UEmb _ 𝕄) (sbPts (F := F) c p f) := by unfold sbPts; exact pts_storable
instance rsPts_storable (c : Dev nD) (l : Fin 3) (j : Fin 32) (f) :
    BI.Storable (upEmb : UEmb _ 𝕄) (rsPts (F := F) c l j f) := by unfold rsPts; exact pts_storable
instance redPts_storable (c : Dev nD) (l : Fin 3) (q : PosShare TreeShare) (f) :
    BI.Storable (upEmb : UEmb _ 𝕄) (redPts (F := F) c l q f) := by unfold redPts; exact pts_storable
instance agPts_storable (c : Dev nD) (l : Fin 3) (p : Fin 32) (f) :
    BI.Storable (upEmb : UEmb _ 𝕄) (agPts (F := F) c l p f) := by unfold agPts; exact pts_storable
end Stor

/-! ## The schedule -/

/-- What device `p`'s entry signal to the device `k` ahead hands over: on `p`, the slot that device's chunks
    land in and the rows its reduced chunks land in, of each layer. -/
def barOne (p : Dev nD) (k : Fin 32) (l : Fin 3) : sProp 𝕄 :=
  iprop((∃ f, rsPts (F := F) p l k f) ∗ (∃ f, agPts (F := F) p l (ahead p k) f))
def barPay (p : Dev nD) (k : Fin 32) : sProp 𝕄 := bigSep Finset.univ fun l : Fin 3 => barOne (F := F) p k l

/-- What a completed send returns: the rows sent, or the read share of the reduced chunk. -/
def sndPay (I : Ins F) (c : Dev nD) (k : Fin 32) (r : ℕ) : sProp 𝕄 :=
  if h : r / 2 < 3 then
    (if r % 2 = 0 then sbPts c (ahead c k) (part I ⟨r / 2, h⟩ c) else redPts c ⟨r / 2, h⟩ (tok k) (redF I c))
  else iprop(emp)

def dutiesOf (k : Kd) (r : ℕ) : Finset (Fin 32) := match k with
  | .other => ∅
  | .bar => if r = 0 then ds else ∅
  | .rs _ j => if r = 0 ∧ j ≠ 0 then {0} else ∅
  | .ag _ j => if r = 0 ∧ j ≠ 0 then {0} else ∅
  | .snd k => if r < 6 ∧ k ≠ 0 then {0} else ∅

def amountOf (k : Kd) : ℕ := match k with
  | .bar => 1
  | _ => N

def payOf (I : Ins F) (c : Dev nD) (k : Kd) (r : ℕ) (d : Fin 32) : sProp 𝕄 := match k with
  | .other => iprop(emp)
  | .bar => barPay (behind c d) d
  | .rs l j => rsPts c l j (rsF I c)
  | .ag l j => agPts c l (ahead c j) (agF I)
  | .snd k => sndPay I c k r

def ringRd (I : Ins F) : Rounds.Schedule (GSem nD τ sig) (Fin 32) 𝕄 where
  duties g r := if g.1.2 = .tc then dutiesOf (kd g.2) r else ∅
  unitless _ := False
  amount g _ _ := amountOf (kd g.2)
  payload g r d := payOf I g.1.1 (kd g.2) r d
  amount_pos g _ _ _ := by
    cases h : kd g.2 <;> first | exact N_pos | exact Nat.one_pos

instance barOne_storable (p : Dev nD) (k : Fin 32) (l : Fin 3) : BI.Storable (upEmb : UEmb _ 𝕄) (barOne (F := F) p k l) := by
  unfold barOne; infer_instance
instance barPay_storable (p : Dev nD) (k : Fin 32) : BI.Storable (upEmb : UEmb _ 𝕄) (barPay (F := F) p k) := by
  unfold barPay; infer_instance
instance sndPay_storable (I : Ins F) (c : Dev nD) (k : Fin 32) (r : ℕ) :
    BI.Storable (upEmb : UEmb _ 𝕄) (sndPay I c k r) := by
  unfold sndPay; (repeat' split) <;> infer_instance
instance ringRd_payload_storable (I : Ins F) (g : GSem nD τ sig) (r : ℕ) (d : Fin 32) :
    BI.Storable (upEmb : UEmb _ 𝕄) ((ringRd I).payload g r d) := by
  show BI.Storable upEmb (payOf I g.1.1 (kd g.2) r d)
  unfold payOf; (repeat' split) <;> infer_instance

section Facts
variable (I : Ins F) (c : Dev nD)

theorem duties_bar : (ringRd I).duties (barCell c) 0 = ds := rfl
theorem duties_rs (l : Fin 3) {j : Fin 32} (h : j ≠ 0) : (ringRd I).duties (rsCell c l j) 0 = {0} := by
  show dutiesOf (kd (rsLoc l j)) 0 = _
  rw [kd_rs]; exact if_pos ⟨rfl, h⟩
theorem duties_ag (l : Fin 3) {j : Fin 32} (h : j ≠ 0) : (ringRd I).duties (agCell c l j) 0 = {0} := by
  show dutiesOf (kd (agLoc l j)) 0 = _
  rw [kd_ag]; exact if_pos ⟨rfl, h⟩
theorem duties_snd {k : Fin 32} (h : k ≠ 0) {r : ℕ} (hr : r < 6) : (ringRd I).duties (sndCell c k) r = {0} := by
  show dutiesOf (kd (sndLoc k)) r = _
  rw [kd_snd]; exact if_pos ⟨hr, h⟩

theorem later_bar : ∀ r, 1 ≤ r → (ringRd I).duties (barCell c) r = ∅ := fun r hr => by
  show dutiesOf .bar r = _
  exact if_neg (by omega)
theorem later_rs (l : Fin 3) (j : Fin 32) : ∀ r, (if j = 0 then 0 else 1) ≤ r → (ringRd I).duties (rsCell c l j) r = ∅ :=
  fun r hr => by
    show dutiesOf (kd (rsLoc l j)) r = _
    rw [kd_rs]; refine if_neg ?_
    split at hr <;> rename_i h <;> [exact fun h' => h'.2 h; exact fun h' => by omega]
theorem later_ag (l : Fin 3) (j : Fin 32) : ∀ r, (if j = 0 then 0 else 1) ≤ r → (ringRd I).duties (agCell c l j) r = ∅ :=
  fun r hr => by
    show dutiesOf (kd (agLoc l j)) r = _
    rw [kd_ag]; refine if_neg ?_
    split at hr <;> rename_i h <;> [exact fun h' => h'.2 h; exact fun h' => by omega]
theorem later_snd (k : Fin 32) : ∀ r, (if k = 0 then 0 else 6) ≤ r → (ringRd I).duties (sndCell c k) r = ∅ :=
  fun r hr => by
    show dutiesOf (kd (sndLoc k)) r = _
    rw [kd_snd]; refine if_neg ?_
    split at hr <;> rename_i h <;> [exact fun h' => h'.2 h; exact fun h' => by omega]

theorem amount_bar (r : ℕ) (d : Fin 32) : (ringRd I).amount (barCell c) r d = 1 := rfl
theorem amount_rs (l : Fin 3) (j : Fin 32) (r : ℕ) (d : Fin 32) : (ringRd I).amount (rsCell c l j) r d = N := by
  show amountOf (kd (rsLoc l j)) = _; rw [kd_rs]; rfl
theorem amount_ag (l : Fin 3) (j : Fin 32) (r : ℕ) (d : Fin 32) : (ringRd I).amount (agCell c l j) r d = N := by
  show amountOf (kd (agLoc l j)) = _; rw [kd_ag]; rfl
theorem amount_snd (k : Fin 32) (r : ℕ) (d : Fin 32) : (ringRd I).amount (sndCell c k) r d = N := by
  show amountOf (kd (sndLoc k)) = _; rw [kd_snd]; rfl

theorem expect_bar : (ringRd I).expect (barCell c) 0 = 31 := by
  unfold Schedule.expect Schedule.amountOf
  rw [duties_bar, Finset.sum_congr rfl fun d _ => amount_bar I c 0 d]; rfl
theorem expect_rs (l : Fin 3) {j : Fin 32} (h : j ≠ 0) : (ringRd I).expect (rsCell c l j) 0 = N := by
  unfold Schedule.expect Schedule.amountOf; rw [duties_rs I c l h, Finset.sum_singleton, amount_rs]
theorem expect_ag (l : Fin 3) {j : Fin 32} (h : j ≠ 0) : (ringRd I).expect (agCell c l j) 0 = N := by
  unfold Schedule.expect Schedule.amountOf; rw [duties_ag I c l h, Finset.sum_singleton, amount_ag]
theorem expect_snd {k : Fin 32} (h : k ≠ 0) {r : ℕ} (hr : r < 6) : (ringRd I).expect (sndCell c k) r = N := by
  unfold Schedule.expect Schedule.amountOf; rw [duties_snd I c h hr, Finset.sum_singleton, amount_snd]

theorem payload_bar (k : Fin 32) (r : ℕ) : (ringRd I).payload (barCell (ahead c k)) r k = barPay c k := by
  show barPay (behind (ahead c k) k) k = _; rw [behind_ahead]
theorem payload_rs (l : Fin 3) (j : Fin 32) (r : ℕ) (d : Fin 32) :
    (ringRd I).payload (rsCell c l j) r d = rsPts c l j (rsF I c) := by
  show payOf I c (kd (rsLoc l j)) r d = _; rw [kd_rs]; rfl
theorem payload_ag (l : Fin 3) (j : Fin 32) (r : ℕ) (d : Fin 32) :
    (ringRd I).payload (agCell c l j) r d = agPts c l (ahead c j) (agF I) := by
  show payOf I c (kd (agLoc l j)) r d = _; rw [kd_ag]; rfl
theorem payload_snd (k : Fin 32) (r : ℕ) (d : Fin 32) : (ringRd I).payload (sndCell c k) r d = sndPay I c k r := by
  show payOf I c (kd (sndLoc k)) r d = _; rw [kd_snd]; rfl

theorem sndPay_rs (k : Fin 32) (l : Fin 3) : sndPay I c k (2 * l.val) = sbPts c (ahead c k) (part I l c) := by
  have h2 : 2 * l.val / 2 = l.val := by omega
  have h : 2 * l.val / 2 < 3 := by rw [h2]; exact l.isLt
  unfold sndPay
  rw [dif_pos h, if_pos (by omega), show (⟨2 * l.val / 2, h⟩ : Fin 3) = l from Fin.ext h2]
theorem sndPay_ag (k : Fin 32) (l : Fin 3) : sndPay I c k (2 * l.val + 1) = redPts c l (tok k) (redF I c) := by
  have h2 : (2 * l.val + 1) / 2 = l.val := by omega
  have h : (2 * l.val + 1) / 2 < 3 := by rw [h2]; exact l.isLt
  unfold sndPay
  rw [dif_pos h, if_neg (by omega), show (⟨(2 * l.val + 1) / 2, h⟩ : Fin 3) = l from Fin.ext h2]

/-- What the wait for every other device's entry signal receives. -/
theorem rest_bar : bigSep ((ringRd I).duties (barCell c) 0 \ ∅) (fun d => (ringRd I).payload (barCell c) 0 d)
    = bigSep ds fun k => barPay (F := F) (behind c k) k := by
  rw [Finset.sdiff_empty, duties_bar]; rfl
theorem rest_rs (l : Fin 3) {j : Fin 32} (h : j ≠ 0) :
    bigSep ((ringRd I).duties (rsCell c l j) 0 \ ∅) (fun d => (ringRd I).payload (rsCell c l j) 0 d)
      = rsPts c l j (rsF I c) := by
  rw [Finset.sdiff_empty, duties_rs I c l h, bigSep_singleton, payload_rs]
theorem rest_ag (l : Fin 3) {j : Fin 32} (h : j ≠ 0) :
    bigSep ((ringRd I).duties (agCell c l j) 0 \ ∅) (fun d => (ringRd I).payload (agCell c l j) 0 d)
      = agPts c l (ahead c j) (agF I) := by
  rw [Finset.sdiff_empty, duties_ag I c l h, bigSep_singleton, payload_ag]
theorem rest_snd {k : Fin 32} (h : k ≠ 0) {r : ℕ} (hr : r < 6) :
    bigSep ((ringRd I).duties (sndCell c k) r \ ∅) (fun d => (ringRd I).payload (sndCell c k) r d)
      = sndPay I c k r := by
  rw [Finset.sdiff_empty, duties_snd I c h hr, bigSep_singleton, payload_snd]

end Facts

/-! ## What a device owes, and the levels -/

abbrev Tal : Type := CellTallies nD τ sig Unit

/-- The amounts owed for the distances listed. -/
def debt (t : Fin 32 → Tal) : List (Fin 32) → Tal
  | [] => 0
  | k :: is => debt t is + t k

abbrev tBar (c : Dev nD) (k : Fin 32) : Tal := tallyAt (barCell (ahead c k)) () 1
abbrev tRs (c : Dev nD) (l : Fin 3) (k : Fin 32) : Tal := tallyAt (rsCell (ahead c k) l (opp k)) () N
abbrev tAg (c : Dev nD) (l : Fin 3) (k : Fin 32) : Tal := tallyAt (agCell (ahead c k) l (opp k)) () N

/-- What is owed once layer 2, 1, 0 is over, -/
def aft (c : Dev nD) (l : Fin 3) : Tal := match l with
  | ⟨0, _⟩ => 0 + debt (tAg c 2) ks + debt (tRs c 2) ks + debt (tAg c 1) ks + debt (tRs c 1) ks
  | ⟨1, _⟩ => 0 + debt (tAg c 2) ks + debt (tRs c 2) ks
  | ⟨_, _⟩ => 0
/-- once its chunks are sent, -/
def mid (c : Dev nD) (l : Fin 3) : Tal := aft c l + debt (tAg c l) ks
/-- and before. -/
def bef (c : Dev nD) (l : Fin 3) : Tal := mid c l + debt (tRs c l) ks

/-- What a device owes at launch. -/
def O₀ (c : Dev nD) : Tal := bef c 0 + debt (tBar c) ks

theorem aft_0 (c : Dev nD) : aft c 0 = bef c 1 := rfl
theorem aft_1 (c : Dev nD) : aft c 1 = bef c 2 := rfl
theorem aft_2 (c : Dev nD) : aft c 2 = 0 := rfl

def L (g : GSem nD τ sig) : Finset Unit := if g.1.2 = .tc then {()} else ∅
def lvOf (k : Kd) : ℕ := match k with
  | .other => 0
  | .bar => 1
  | .rs l _ => 2 + 2 * l.val
  | .ag l _ => 3 + 2 * l.val
  | .snd _ => 0
def lv (g : GSem nD τ sig) (_ : Unit) : ℕ := lvOf (kd g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to a core's cell above level `n`. -/
def Above (n : ℕ) (O : Tal) : Prop := ∀ g u, 0 < O g u → u ∈ L g ∧ n < lv g u

theorem Above.zero (n : ℕ) : Above n 0 := fun g u h => absurd h (Nat.lt_irrefl 0)
theorem Above.add {n : ℕ} {O O' : Tal} (h : Above n O) (h' : Above n O') : Above n (O + O') := fun g u hg => by
  rw [Pi.add_apply, Finsupp.add_apply] at hg
  rcases Nat.lt_or_ge 0 (O g u) with h1 | h1
  · exact h g u h1
  · exact h' g u (by omega)
theorem Above.tally {n : ℕ} (p : Dev nD) (sm : SemLoc sig) (m : ℕ) (h : n < lvOf (kd sm)) :
    Above n (tallyAt ((p : Thread nD τ), sm) () m) := fun g u hg => by
  rw [tallyAt_apply] at hg
  by_cases hh : g = ((p : Thread nD τ), sm) ∧ u = ()
  · rw [hh.1, L_tc]; exact ⟨Finset.mem_singleton_self _, h⟩
  · rw [if_neg hh] at hg; exact absurd hg (Nat.lt_irrefl 0)
theorem Above.debt {n : ℕ} {t : Fin 32 → Tal} (h : ∀ k, Above n (t k)) : ∀ is, Above n (debt t is)
  | [] => Above.zero n
  | k :: is => (Above.debt h is).add (h k)
theorem Above.tBar {n : ℕ} (c : Dev nD) (h : n < 1) (k : Fin 32) : Above n (tBar c k) := Above.tally _ _ _ (by rw [kd_bar]; exact h)
theorem Above.tRs {n : ℕ} (c : Dev nD) (l : Fin 3) (h : n < 2 + 2 * l.val) (k : Fin 32) : Above n (tRs c l k) :=
  Above.tally _ _ _ (by rw [kd_rs]; exact h)
theorem Above.tAg {n : ℕ} (c : Dev nD) (l : Fin 3) (h : n < 3 + 2 * l.val) (k : Fin 32) : Above n (tAg c l k) :=
  Above.tally _ _ _ (by rw [kd_ag]; exact h)

theorem above_aft1 (c : Dev nD) : Above 5 (aft c 1) :=
  ((Above.zero _).add (Above.debt (Above.tAg c 2 (by decide)) ks)).add (Above.debt (Above.tRs c 2 (by decide)) ks)
theorem above_aft0 (c : Dev nD) : Above 3 (aft c 0) :=
  ((((Above.zero _).add (Above.debt (Above.tAg c 2 (by decide)) ks)).add (Above.debt (Above.tRs c 2 (by decide)) ks)).add
    (Above.debt (Above.tAg c 1 (by decide)) ks)).add (Above.debt (Above.tRs c 1 (by decide)) ks)
theorem above_aft (c : Dev nD) : (l : Fin 3) → Above (3 + 2 * l.val) (aft c l)
  | ⟨0, _⟩ => above_aft0 c
  | ⟨1, _⟩ => above_aft1 c
  | ⟨2, _⟩ => Above.zero _

theorem Above.mono {n n' : ℕ} {O : Tal} (h : Above n' O) (hn : n ≤ n') : Above n O :=
  fun g u hg => ⟨(h g u hg).1, lt_of_le_of_lt hn (h g u hg).2⟩

theorem above_mid (c : Dev nD) (l : Fin 3) : Above (2 + 2 * l.val) (mid c l) :=
  ((above_aft c l).mono (by omega)).add (Above.debt (Above.tAg c l (by omega)) ks)
theorem above_bef (c : Dev nD) (l : Fin 3) : Above (1 + 2 * l.val) (bef c l) :=
  ((above_mid c l).mono (by omega)).add (Above.debt (Above.tRs c l (by omega)) ks)
theorem above_O₀ (c : Dev nD) : Above 0 (O₀ c) :=
  ((above_bef c 0).mono (by decide)).add (Above.debt (Above.tBar c (by decide)) ks)

omit [FloatOps F] in
/-- A device may wait on a cell below everything it owes. -/
theorem mayWait (c : Dev nD) (sm : SemLoc sig) {O : Tal} {n : ℕ} (h : lvOf (kd sm) ≤ n) (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact h)
    (fun g u hg => (hO g u hg).2)

/-! ## The records -/

/-- A device's own cells: its scoped semaphores and the barrier. -/
abbrev CI : Type := Fin 224 ⊕ Unit
def osem (i : Fin 224) : SemLoc sig := .dma ⟨8 + i.val, by have := i.isLt; show 8 + i.val < 232; omega⟩
def csem : CI → SemLoc sig
  | .inl i => osem i
  | .inr _ => barLoc
abbrev kcell (ck : Dev nD × CI) : GSem nD τ sig := ((ck.1 : Thread nD τ), csem ck.2)

def rsIx (l : Fin 3) (j : Fin 32) : Fin 224 := ⟨32 * l.val + j.val, by omega⟩
def agIx (l : Fin 3) (j : Fin 32) : Fin 224 := ⟨96 + (32 * l.val + j.val), by omega⟩
def sndIx (k : Fin 32) : Fin 224 := ⟨192 + k.val, by omega⟩
theorem osem_rs (l : Fin 3) (j : Fin 32) : osem (rsIx l j) = rsLoc l j :=
  congrArg SemLoc.dma (Fin.ext (rsSem_val l j).symm)
theorem osem_ag (l : Fin 3) (j : Fin 32) : osem (agIx l j) = agLoc l j :=
  congrArg SemLoc.dma (Fin.ext (by rw [agSem_val]; show 8 + (96 + _) = _; omega))
theorem osem_snd (k : Fin 32) : osem (sndIx k) = sndLoc k :=
  congrArg SemLoc.dma (Fin.ext (by rw [sndSem_val]; show 8 + (192 + _) = _; omega))

/-- A cell's invariant, and that its first round is open. -/
def recOf (I : Ins F) (g : GSem nD τ sig) : sProp 𝕄 :=
  iprop((∃ κ : ℕ, cellInv ER (ringRd I) κ g) ∗ reached ER g 0)
/-- Every cell of every device. -/
def recs (I : Ins F) : sProp 𝕄 := bigSep Finset.univ fun ck : Dev nD × CI => recOf I (kcell ck)

instance recOf_persistent (I : Ins F) (g : GSem nD τ sig) : BI.Persistent (recOf I g) := by unfold recOf; infer_instance
instance recs_persistent (I : Ins F) : BI.Persistent (recs I) := by unfold recs; infer_instance

theorem recs_elim (I : Ins F) (c : Dev nD) (i : CI) : recs I ⊢ recOf I (kcell (c, i)) :=
  bigSep_elim (Finset.mem_univ (c, i))
theorem recs_bar (I : Ins F) (c : Dev nD) : recs I ⊢ recOf I (barCell c) := recs_elim I c (.inr ())
theorem recs_rs (I : Ins F) (c : Dev nD) (l : Fin 3) (j : Fin 32) : recs I ⊢ recOf I (rsCell c l j) := by
  have h := recs_elim I c (.inl (rsIx l j))
  rw [show kcell (c, .inl (rsIx l j)) = rsCell c l j from congrArg (Prod.mk _) (osem_rs l j)] at h; exact h
theorem recs_ag (I : Ins F) (c : Dev nD) (l : Fin 3) (j : Fin 32) : recs I ⊢ recOf I (agCell c l j) := by
  have h := recs_elim I c (.inl (agIx l j))
  rw [show kcell (c, .inl (agIx l j)) = agCell c l j from congrArg (Prod.mk _) (osem_ag l j)] at h; exact h
theorem recs_snd (I : Ins F) (c : Dev nD) (k : Fin 32) : recs I ⊢ recOf I (sndCell c k) := by
  have h := recs_elim I c (.inl (sndIx k))
  rw [show kcell (c, .inl (sndIx k)) = sndCell c k from congrArg (Prod.mk _) (osem_snd k)] at h; exact h

end Cert.Proof.Mlp
-- ==== Proof.Ops.lean ====
/- One rule per step of the exchange: an entry signal, a transfer of either phase, a wait of either phase, and
   the wait for a transfer's source; and the rule for a run of such steps over a list of distances. -/
module

public import proofs.«01_k».proof.Proof.Sched

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` may run `p` and then `Q` holds. -/
abbrev Run (c : Dev nD) (p : Code (F := F)) (Q : PUnit.{1} → sProp (MT nD τ sig Unit (Elt F) ℕ UU ℕ)) : sProp 𝕄 :=
  wp frame (wpE (defs₀ (F := F)) 𝒱₀ (c : Thread nD τ) none) Set.univ p Q

/-- What device `c` owes, whatever it has waited on. -/
def owed (c : Dev nD) (O : Tal) : sProp 𝕄 := iprop(∃ W, owes (c : Thread nD τ) O W)

/-- The records of all cells and the levels. -/
def ctx (I : Ins F) : sProp 𝕄 := iprop(recs I ∗ levAts L lv)
instance ctx_persistent (I : Ins F) : BI.Persistent (ctx I) := by unfold ctx; infer_instance

variable (I : Ins F) (c : Dev nD) (Q : PUnit.{1} → sProp (MT nD τ sig Unit (Elt F) ℕ UU ℕ))

/-- The entry signal to the device `k` ahead. -/
theorem step_signal {k : Fin 32} (hk : k ≠ 0) (R : Tal) (next : Code (F := F)) :
    iprop(ctx I ∗ (dutyTok ER (barCell (ahead c k)) 0 k ∗ barPay (F := F) c k) ∗ owed c (R + tBar c k)
        ∗ (emp ∗ owed (F := F) c R -∗ Run c next Q))
      ⊢ Run c (.op (opSignal c k) fun _ => next) Q := by
  unfold opSignal owed ctx
  have hp := peer_eq c k
  generalize peer c k = p at hp ⊢
  subst hp
  iintro ⟨⟨#HR, #Hlev⟩, ⟨Ht, Hpay⟩, ⟨%W, HO⟩, Hk⟩
  ihave Hrec := (recs_bar I (ahead c k)) $$ HR
  unfold recOf
  icases Hrec with ⟨⟨%κ, #Hi⟩, #Hr⟩
  iapply (Rounds.wp_signal 𝒱₀ ER (ringRd I) (c : Thread nD τ) none (dst := (ahead c k : Thread nD τ)) (κ := κ)
      (d := k) (r := 0) (by rw [duties_bar]; exact mem_ds hk) ((amount_bar I (ahead c k) 0 k).trans (by decide)) () R rfl)
    $$ [HO Ht Hpay]
  · isplitr; · iexact Hi
    isplitl [HO]; · iexact HO
    isplitl [Ht]; · iexact Ht
    isplitl [Hpay]; · rw [payload_bar]; iexact Hpay
    iexact Hr
  iintro HO
  iapply Hk
  isplitr; · iempintro
  iexists W; iexact HO

/-- The transfer of rows `v` of the partial product to device `p`. -/
def mkRs (l : Fin 3) (k : Fin 32) (p : Dev nD) (v : Memref sig .tc .vmem S16x256 .bf16) (we : v.view.WordExact) :
    Eff (F := F) PUnit :=
  .enqueueDma v (.remote (Dev.tc p) (rsPiece l (opp k)) (.dma (sndSem k))) (.dma (rsSem l (opp k)))
    we (rsPiece_we l (opp k)) ⟨⟨rfl, Or.inl rfl⟩, trivial⟩
theorem mkRs_congr (l : Fin 3) (k : Fin 32) {p p' : Dev nD} {v v' : Memref sig .tc .vmem S16x256 .bf16} (we : v.view.WordExact)
    (we' : v'.view.WordExact) (hp : p = p') (hv : v = v') : mkRs (F := F) l k p v we = mkRs l k p' v' we' := by
  subst hp hv; rfl
theorem opRs_eq (c : Dev nD) (l : Fin 3) (k : Fin 32) :
    opRs (F := F) c l k = mkRs l k (ahead c k) (sbRow (ahead c k)) (sbRow_we _) :=
  mkRs_congr l k (sbPiece_we c k) (sbRow_we _) (peer_eq c k) (sbPiece_eq c k)

/-- The transfer of the reduced chunk into the rows `v` on device `p`. -/
def mkAg (l : Fin 3) (k : Fin 32) (p : Dev nD) (v : Memref sig .tc .vmem S16x256 .bf16) (we : v.view.WordExact)
    (hs : v.view.ref.isScScratch = false) : Eff (F := F) PUnit :=
  .enqueueDma (redPiece l) (.remote (Dev.tc p) v (.dma (sndSem k)) hs) (.dma (agSem l (opp k)))
    (redPiece_we l) we ⟨⟨rfl, Or.inl rfl⟩, trivial⟩
theorem mkAg_congr (l : Fin 3) (k : Fin 32) {p p' : Dev nD} {v v' : Memref sig .tc .vmem S16x256 .bf16} (we : v.view.WordExact)
    (we' : v'.view.WordExact) (hs) (hs') (hp : p = p') (hv : v = v') :
    mkAg (F := F) l k p v we hs = mkAg l k p' v' we' hs' := by
  subst hp hv; rfl
theorem opAg_eq (c : Dev nD) (l : Fin 3) (k : Fin 32) :
    opAg (F := F) c l k = mkAg l k (ahead c k) (agRow l c) (agRow_we _ _) rfl :=
  mkAg_congr l k (agPiece_we l c) (agRow_we _ _) _ rfl (peer_eq c k) (agPiece_eq l c)

/-- What the transfer of the partial product leaves on the device `k` ahead is what that device waits for. -/
theorem rs_landed (l : Fin 3) (k : Fin 32) (fd : S3x32x16x256.Idx → Elt F .bf16) :
    ((rsPiece l (opp k)).view.loc (ahead c k : Thread nD τ) ↦[(rsPiece l (opp k)).view.set]{fullShare}
        ((rsPiece l (opp k)).view.write (Elt F) fd ((sbRow (ahead c k)).view.read (Elt F) (part I l c)) Finset.univ) : sProp 𝕄)
      ⊢ (ringRd I).payload (rsCell (ahead c k) l (opp k)) 0 0 := by
  rw [payload_rs]
  unfold rsPts
  refine Entails.of_eq (pointsTo_congr fun i hi => ?_)
  exact write_agree (rsPiece l (opp k)).view fd (rsF I (ahead c k)) _
    ((rs_read_eq I l (ahead c k) (opp k)).trans (congrArg (fun q : Fin 32 => (sbRow (ahead c k)).view.read (Elt F) (part I l q)) (ahead_opp c k))) i hi

/-- The transfer of the partial product to the device `k` ahead. -/
theorem step_rs (l : Fin 3) {k : Fin 32} (hk : k ≠ 0) (R : Tal) (next : Code (F := F)) :
    iprop(ctx I ∗ (sbPts c (ahead c k) (part I l c) ∗ (∃ f, rsPts (ahead c k) l (opp k) f)
          ∗ dutyTok ER (sndCell c k) (2 * l.val) 0 ∗ reached ER (sndCell c k) (2 * l.val)
          ∗ dutyTok ER (rsCell (ahead c k) l (opp k)) 0 0) ∗ owed c (R + tRs c l k)
        ∗ (cred (tallyAt (sndCell c k) () N) ∗ owed (F := F) c R -∗ Run c next Q))
      ⊢ Run c (.op (opRs c l k) fun _ => next) Q := by
  have hsd : (0 : Fin 32) ∈ (ringRd I).duties (sndCell c k) (2 * l.val) := by
    rw [duties_snd I c hk (by omega)]; exact Finset.mem_singleton_self _
  have hrd : (0 : Fin 32) ∈ (ringRd I).duties (rsCell (ahead c k) l (opp k)) 0 := by
    rw [duties_rs I _ l (opp_ne hk)]; exact Finset.mem_singleton_self _
  have hp1 : ((sbRow (ahead c k)).view.loc (c : Thread nD τ) ↦[(sbRow (ahead c k)).view.set]{fullShare} (part I l c) : sProp 𝕄)
      ⊢ (ringRd I).payload (sndCell c k) (2 * l.val) 0 := by
    rw [payload_snd, sndPay_rs]; exact BI.Entails.refl _
  rw [opRs_eq]
  unfold mkRs owed ctx
  iintro ⟨⟨#HR, #Hlev⟩, ⟨Hs, ⟨%fd, Hd⟩, Ht1, #Hr1, Ht2⟩, ⟨%W, HO⟩, Hk⟩
  ihave Hrec := (recs_rs I (ahead c k) l (opp k)) $$ HR
  ihave Hrec' := (recs_snd I c k) $$ HR
  unfold recOf sbPts rsPts
  icases Hrec with ⟨⟨%κ, #Hi⟩, #Hr⟩
  icases Hrec' with ⟨⟨%κ', #Hi'⟩, -⟩
  iapply (Rounds.wp_send_pointsTo 𝒱₀ ER (ringRd I) (c : Thread nD τ) none (defs := defs₀ (F := F)) (κ₁ := κ') (κ₂ := κ)
    (c' := (ahead c k : Thread nD τ)) (src := sbRow (ahead c k)) (dst := rsPiece l (opp k)) (sS := sndLoc k) (sem := rsLoc l (opp k)) (q := fullShare)
    (hsc := rfl) (hsrc := sbRow_we _) (hdst := rsPiece_we l (opp k)) (hsem := ⟨⟨rfl, Or.inl rfl⟩, trivial⟩) (k := fun _ => next) (Q := Q)
    (r₁ := 2 * l.val) (r₂ := 0) (d₁ := 0) (d₂ := 0) (fs := part I l c) (fd := fd) hsd hrd
    () () N rfl (amount_snd I c k _ 0) (amount_rs I (ahead c k) l (opp k) 0 0) R rfl (W := W)
    hp1 (rs_landed I c l k fd) (Es := Set.univ)) $$ [Hs Hd HO Ht1 Ht2]
  · isplitr; · iexact Hi'
    isplitr; · iexact Hi
    isplitl [Hs]; · iexact Hs
    isplitl [Hd]; · iexact Hd
    isplitl [HO]; · iexact HO
    isplitl [Ht1]; · iexact Ht1
    isplitr; · iexact Hr1
    isplitl [Ht2]; · iexact Ht2
    iexact Hr
  iintro ⟨Hc, HO⟩
  iapply Hk
  isplitl [Hc]; · iexact Hc
  iexists W; iexact HO

/-- What the transfer of the reduced chunk leaves on the device `k` ahead is what that device waits for. -/
theorem ag_landed (l : Fin 3) (k : Fin 32) (fd : S3x512x256.Idx → Elt F .bf16) :
    ((agRow l c).view.loc (ahead c k : Thread nD τ) ↦[(agRow l c).view.set]{fullShare}
        ((agRow l c).view.write (Elt F) fd ((redPiece l).view.read (Elt F) (redF I c)) Finset.univ) : sProp 𝕄)
      ⊢ (ringRd I).payload (agCell (ahead c k) l (opp k)) 0 0 := by
  rw [payload_ag, ahead_opp]
  unfold agPts
  refine Entails.of_eq (pointsTo_congr fun i hi => ?_)
  exact write_agree (agRow l c).view fd (agF I) _ (ag_read_eq I l c) i hi

/-- The transfer of the reduced chunk to the device `k` ahead. -/
theorem step_ag (l : Fin 3) {k : Fin 32} (hk : k ≠ 0) (R : Tal) (next : Code (F := F)) :
    iprop(ctx I ∗ (redPts c l (tok k) (redF I c) ∗ (∃ f, agPts (ahead c k) l c f)
          ∗ dutyTok ER (sndCell c k) (2 * l.val + 1) 0 ∗ reached ER (sndCell c k) (2 * l.val + 1)
          ∗ dutyTok ER (agCell (ahead c k) l (opp k)) 0 0) ∗ owed c (R + tAg c l k)
        ∗ (cred (tallyAt (sndCell c k) () N) ∗ owed (F := F) c R -∗ Run c next Q))
      ⊢ Run c (.op (opAg c l k) fun _ => next) Q := by
  have hsd : (0 : Fin 32) ∈ (ringRd I).duties (sndCell c k) (2 * l.val + 1) := by
    rw [duties_snd I c hk (by omega)]; exact Finset.mem_singleton_self _
  have hrd : (0 : Fin 32) ∈ (ringRd I).duties (agCell (ahead c k) l (opp k)) 0 := by
    rw [duties_ag I _ l (opp_ne hk)]; exact Finset.mem_singleton_self _
  have hp1 : ((redPiece l).view.loc (c : Thread nD τ) ↦[(redPiece l).view.set]{tok k} (redF I c) : sProp 𝕄)
      ⊢ (ringRd I).payload (sndCell c k) (2 * l.val + 1) 0 := by
    rw [payload_snd, sndPay_ag]; exact BI.Entails.refl _
  rw [opAg_eq]
  unfold mkAg owed ctx
  iintro ⟨⟨#HR, #Hlev⟩, ⟨Hs, ⟨%fd, Hd⟩, Ht1, #Hr1, Ht2⟩, ⟨%W, HO⟩, Hk⟩
  ihave Hrec := (recs_ag I (ahead c k) l (opp k)) $$ HR
  ihave Hrec' := (recs_snd I c k) $$ HR
  unfold recOf redPts agPts
  icases Hrec with ⟨⟨%κ, #Hi⟩, #Hr⟩
  icases Hrec' with ⟨⟨%κ', #Hi'⟩, -⟩
  iapply (Rounds.wp_send_pointsTo 𝒱₀ ER (ringRd I) (c : Thread nD τ) none (defs := defs₀ (F := F)) (κ₁ := κ') (κ₂ := κ)
    (c' := (ahead c k : Thread nD τ)) (src := redPiece l) (dst := agRow l c) (sS := sndLoc k) (sem := agLoc l (opp k)) (q := tok k)
    (hsc := rfl) (hsrc := redPiece_we l) (hdst := agRow_we l c) (hsem := ⟨⟨rfl, Or.inl rfl⟩, trivial⟩) (k := fun _ => next) (Q := Q)
    (r₁ := 2 * l.val + 1) (r₂ := 0) (d₁ := 0) (d₂ := 0) (fs := redF I c) (fd := fd) hsd hrd
    () () N rfl (amount_snd I c k _ 0) (amount_ag I (ahead c k) l (opp k) 0 0) R rfl (W := W)
    hp1 (ag_landed I c l k fd) (Es := Set.univ)) $$ [Hs Hd HO Ht1 Ht2]
  · isplitr; · iexact Hi'
    isplitr; · iexact Hi
    isplitl [Hs]; · iexact Hs
    isplitl [Hd]; · iexact Hd
    isplitl [HO]; · iexact HO
    isplitl [Ht1]; · iexact Ht1
    isplitr; · iexact Hr1
    isplitl [Ht2]; · iexact Ht2
    iexact Hr
  iintro ⟨Hc, HO⟩
  iapply Hk
  isplitl [Hc]; · iexact Hc
  iexists W; iexact HO

/-- The wait for the partial product in slot `k`. -/
theorem step_rsWait (l : Fin 3) {k : Fin 32} (hk : k ≠ 0) {O : Tal} (hO : Above (2 + 2 * l.val) O) (next : Code (F := F)) :
    iprop(ctx I ∗ (atPos ER (rsCell c l k) 0 ∅ 0 ∗ cred (tallyAt (rsCell c l k) () N)) ∗ owed c O
        ∗ ((atPos ER (rsCell c l k) 1 ∅ 0 ∗ rsPts c l k (rsF I c)) ∗ owed (F := F) c O -∗ Run c next Q))
      ⊢ Run c (.op (opRsWait l k) fun _ => next) Q := by
  unfold opRsWait owed ctx
  iintro ⟨⟨#HR, #Hlev⟩, ⟨Hat, Hc⟩, ⟨%W, HO⟩, Hk⟩
  ihave Hrec := (recs_rs I c l k) $$ HR
  unfold recOf
  icases Hrec with ⟨⟨%κ, #Hi⟩, -⟩
  iapply (Rounds.wp_wait_rest_token 𝒱₀ ER (ringRd I) (c : Thread nD τ) none (κ := κ)
      (wpE_waitDma2_eq 𝒱₀ (c : Thread nD τ) none Set.univ) (Set.mem_univ _) () (O := O) (W := W) (R := 0) (m := 0) (T := ∅)
      (by rw [Nat.zero_add, expect_rs I c l hk])) $$ [Hc HO Hat]
  · isplitr; · iexact Hi
    isplitl [Hc]; · iexact Hc
    isplitl [HO]; · iexact HO
    isplitr; · iapply (mayWait c _ (by rw [kd_rs]; exact Nat.le_refl _) hO); iexact Hlev
    iexact Hat
  iintro ⟨HO, Hat, -, Hpay⟩
  ihave Hp := (Entails.of_eq (rest_rs I c l hk)) $$ Hpay
  iapply Hk
  isplitr [HO]
  · isplitl [Hat]; · iexact Hat
    iexact Hp
  iexists _; iexact HO

/-- The wait for the rows of the device `k` ahead. -/
theorem step_agWait (l : Fin 3) {k : Fin 32} (hk : k ≠ 0) {O : Tal} (hO : Above (3 + 2 * l.val) O) (next : Code (F := F)) :
    iprop(ctx I ∗ (atPos ER (agCell c l k) 0 ∅ 0 ∗ cred (tallyAt (agCell c l k) () N)) ∗ owed c O
        ∗ ((atPos ER (agCell c l k) 1 ∅ 0 ∗ agPts c l (ahead c k) (agF I)) ∗ owed (F := F) c O -∗ Run c next Q))
      ⊢ Run c (.op (opAgWait l k) fun _ => next) Q := by
  unfold opAgWait owed ctx
  iintro ⟨⟨#HR, #Hlev⟩, ⟨Hat, Hc⟩, ⟨%W, HO⟩, Hk⟩
  ihave Hrec := (recs_ag I c l k) $$ HR
  unfold recOf
  icases Hrec with ⟨⟨%κ, #Hi⟩, -⟩
  iapply (Rounds.wp_wait_rest_token 𝒱₀ ER (ringRd I) (c : Thread nD τ) none (κ := κ)
      (wpE_waitDma2_eq 𝒱₀ (c : Thread nD τ) none Set.univ) (Set.mem_univ _) () (O := O) (W := W) (R := 0) (m := 0) (T := ∅)
      (by rw [Nat.zero_add, expect_ag I c l hk])) $$ [Hc HO Hat]
  · isplitr; · iexact Hi
    isplitl [Hc]; · iexact Hc
    isplitl [HO]; · iexact HO
    isplitr; · iapply (mayWait c _ (by rw [kd_ag]; exact Nat.le_refl _) hO); iexact Hlev
    iexact Hat
  iintro ⟨HO, Hat, -, Hpay⟩
  ihave Hp := (Entails.of_eq (rest_ag I c l hk)) $$ Hpay
  iapply Hk
  isplitr [HO]
  · isplitl [Hat]; · iexact Hat
    iexact Hp
  iexists _; iexact HO

/-- The wait for the source of a transfer of the partial product. -/
theorem step_rsSent (l : Fin 3) {k : Fin 32} (hk : k ≠ 0) {O : Tal} (hO : Above 0 O) (next : Code (F := F)) :
    iprop(ctx I ∗ (atPos ER (sndCell c k) (2 * l.val) ∅ 0 ∗ cred (tallyAt (sndCell c k) () N)) ∗ owed c O
        ∗ ((atPos ER (sndCell c k) (2 * l.val + 1) ∅ 0 ∗ reached ER (sndCell c k) (2 * l.val + 1) ∗ sbPts c (ahead c k) (part I l c)) ∗ owed (F := F) c O -∗ Run c next Q))
      ⊢ Run c (.op (opRsSent c l k) fun _ => next) Q := by
  unfold opRsSent owed ctx
  iintro ⟨⟨#HR, #Hlev⟩, ⟨Hat, Hc⟩, ⟨%W, HO⟩, Hk⟩
  ihave Hrec := (recs_snd I c k) $$ HR
  unfold recOf
  icases Hrec with ⟨⟨%κ, #Hi⟩, -⟩
  iapply (Rounds.wp_wait_rest_token 𝒱₀ ER (ringRd I) (c : Thread nD τ) none (κ := κ)
      (wpE_waitDma2_eq 𝒱₀ (c : Thread nD τ) none Set.univ) (Set.mem_univ _) () (O := O) (W := W) (R := (2 * l.val)) (m := 0) (T := ∅)
      (by rw [Nat.zero_add, expect_snd I c hk (by omega)])) $$ [Hc HO Hat]
  · isplitr; · iexact Hi
    isplitl [Hc]; · iexact Hc
    isplitl [HO]; · iexact HO
    isplitr; · iapply (mayWait c _ (by rw [kd_snd]; exact Nat.le_refl _) hO); iexact Hlev
    iexact Hat
  iintro ⟨HO, Hat, #Hr, Hpay⟩
  ihave Hp := (Entails.of_eq ((rest_snd I c hk (by omega)).trans (sndPay_rs I c k l))) $$ Hpay
  iapply Hk
  isplitr [HO]
  · isplitl [Hat]; · iexact Hat
    isplitr; · iexact Hr
    iexact Hp
  iexists _; iexact HO

/-- The wait for the source of a transfer of the reduced chunk. -/
theorem step_agSent (l : Fin 3) {k : Fin 32} (hk : k ≠ 0) {O : Tal} (hO : Above 0 O) (next : Code (F := F)) :
    iprop(ctx I ∗ (atPos ER (sndCell c k) (2 * l.val + 1) ∅ 0 ∗ cred (tallyAt (sndCell c k) () N)) ∗ owed c O
        ∗ ((atPos ER (sndCell c k) (2 * l.val + 2) ∅ 0 ∗ reached ER (sndCell c k) (2 * l.val + 2) ∗ redPts c l (tok k) (redF I c)) ∗ owed (F := F) c O -∗ Run c next Q))
      ⊢ Run c (.op (opAgSent c l k) fun _ => next) Q := by
  unfold opAgSent owed ctx
  iintro ⟨⟨#HR, #Hlev⟩, ⟨Hat, Hc⟩, ⟨%W, HO⟩, Hk⟩
  ihave Hrec := (recs_snd I c k) $$ HR
  unfold recOf
  icases Hrec with ⟨⟨%κ, #Hi⟩, -⟩
  iapply (Rounds.wp_wait_rest_token 𝒱₀ ER (ringRd I) (c : Thread nD τ) none (κ := κ)
      (wpE_waitDma2_eq 𝒱₀ (c : Thread nD τ) none Set.univ) (Set.mem_univ _) () (O := O) (W := W) (R := (2 * l.val + 1)) (m := 0) (T := ∅)
      (by rw [Nat.zero_add, expect_snd I c hk (by omega)])) $$ [Hc HO Hat]
  · isplitr; · iexact Hi
    isplitl [Hc]; · iexact Hc
    isplitl [HO]; · iexact HO
    isplitr; · iapply (mayWait c _ (by rw [kd_snd]; exact Nat.le_refl _) hO); iexact Hlev
    iexact Hat
  iintro ⟨HO, Hat, #Hr, Hpay⟩
  ihave Hp := (Entails.of_eq ((rest_snd I c hk (by omega)).trans (sndPay_ag I c k l))) $$ Hpay
  iapply Hk
  isplitr [HO]
  · isplitl [Hat]; · iexact Hat
    isplitr; · iexact Hr
    iexact Hp
  iexists _; iexact HO

/-- The wait for every other device's entry signal. -/
theorem step_bar {O : Tal} (hO : Above 1 O) (next : Code (F := F)) :
    iprop(ctx I ∗ (atPos ER (barCell c) 0 ∅ 0 ∗ cred (tallyAt (barCell c) () 31)) ∗ owed c O
        ∗ ((atPos ER (barCell c) 1 ∅ 0 ∗ bigSep ds fun k => barPay (F := F) (behind c k) k) ∗ owed (F := F) c O -∗ Run c next Q))
      ⊢ Run c (.op (.semWait barSem (31#32).toInt) fun _ => next) Q := by
  unfold owed ctx
  iintro ⟨⟨#HR, #Hlev⟩, ⟨Hat, Hc⟩, ⟨%W, HO⟩, Hk⟩
  ihave Hrec := (recs_bar I c) $$ HR
  unfold recOf
  icases Hrec with ⟨⟨%κ, #Hi⟩, -⟩
  iapply (Rounds.wp_wait_rest_token 𝒱₀ ER (ringRd I) (c : Thread nD τ) none (κ := κ)
      (wpE_semWait_eq 𝒱₀ (c : Thread nD τ) none Set.univ) (Set.mem_univ _) () (O := O) (W := W) (R := 0) (m := 0) (T := ∅)
      (by rw [expect_bar]; decide)) $$ [Hc HO Hat]
  · isplitr; · iexact Hi
    isplitl [Hc]; · iexact Hc
    isplitl [HO]; · iexact HO
    isplitr; · iapply (mayWait c _ (by rw [kd_bar]; exact Nat.le_refl _) hO); iexact Hlev
    iexact Hat
  iintro ⟨HO, Hat, -, Hpay⟩
  ihave Hp := (Entails.of_eq (rest_bar I c)) $$ Hpay
  iapply Hk
  isplitr [HO]
  · isplitl [Hat]; · iexact Hat
    iexact Hp
  iexists _; iexact HO

omit [FloatOps F] in
theorem bigSep_insert' {α : Type} [DecidableEq α] {s : Finset α} {i : α} (A : α → sProp 𝕄) (h : i ∉ s) :
    bigSep (insert i s) A = iprop(A i ∗ bigSep s A) := bigSep_insert h

/-- A run of steps over a list of distances: each step turns `A k` into `B k` and what is owed before it into
    what is owed after it. -/
theorem run_each (f : Fin 32 → Eff (F := F) PUnit) (P : sProp 𝕄) [BI.Persistent P] (A B : Fin 32 → sProp 𝕄)
    (O : List (Fin 32) → Tal)
    (step : ∀ k, k ≠ 0 → ∀ is (next : Code (F := F)),
      iprop(P ∗ A k ∗ owed c (O (k :: is)) ∗ (B k ∗ owed (F := F) c (O is) -∗ Run c next Q))
        ⊢ Run c (.op (f k) fun _ => next) Q) (next : Code (F := F)) :
    ∀ is : List (Fin 32), is.Nodup → (∀ k ∈ is, k ≠ 0) →
      iprop(P ∗ bigSep is.toFinset A ∗ owed c (O is) ∗ (bigSep is.toFinset B ∗ owed (F := F) c (O []) -∗ Run c next Q))
        ⊢ Run c (each f is next) Q
  | [], _, _ => by
    show _ ⊢ Run c next Q
    iintro ⟨-, HA, HO, Hk⟩
    iapply Hk
    isplitl [HA]; · iexact HA
    iexact HO
  | k :: is, hn, h0 => by
    have hk : k ∉ is.toFinset := fun h => (List.nodup_cons.mp hn).1 (List.mem_toFinset.mp h)
    rw [List.toFinset_cons, bigSep_insert' A hk, bigSep_insert' B hk]
    iintro ⟨#HP, ⟨HAk, HA⟩, HO, Hk⟩
    iapply (step k (h0 k List.mem_cons_self) is (each f is next))
    isplitr; · iexact HP
    isplitl [HAk]; · iexact HAk
    isplitl [HO]; · iexact HO
    iintro ⟨HBk, HO⟩
    iapply (run_each f P A B O step next is (List.nodup_cons.mp hn).2 fun k' h => h0 k' (List.mem_cons_of_mem _ h))
    isplitr; · iexact HP
    isplitl [HA]; · iexact HA
    isplitl [HO]; · iexact HO
    iintro ⟨HB, HO⟩
    iapply Hk
    isplitr [HO]
    · isplitl [HBk]; · iexact HBk
      iexact HB
    iexact HO

/-- The run over every distance. -/
theorem run_ks (f : Fin 32 → Eff (F := F) PUnit) (P : sProp 𝕄) [BI.Persistent P] (A B : Fin 32 → sProp 𝕄)
    (O : List (Fin 32) → Tal)
    (step : ∀ k, k ≠ 0 → ∀ is (next : Code (F := F)),
      iprop(P ∗ A k ∗ owed c (O (k :: is)) ∗ (B k ∗ owed (F := F) c (O is) -∗ Run c next Q))
        ⊢ Run c (.op (f k) fun _ => next) Q) (next : Code (F := F)) :
    iprop(P ∗ bigSep ds A ∗ owed c (O ks) ∗ (bigSep ds B ∗ owed (F := F) c (O []) -∗ Run c next Q))
      ⊢ Run c (each f ks next) Q := by
  have h := run_each c Q f P A B O step next ks ks_nodup fun k hk => ks_ne hk
  rw [ks_toFinset] at h
  exact h

end Cert.Proof.Mlp
-- ==== Proof.Mem.lean ====
/- The loads and stores of the body as rules, and the buffers cut into the pieces the exchange moves. -/
module

public import proofs.«01_k».proof.Proof.Ops
public import Idealize.ShloMosaic.Lib.Ring

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD) (Q : PUnit.{1} → sProp (MT nD τ sig Unit (Elt F) ℕ UU ℕ))

/-! ## Cutting the buffers -/

section Cut
omit [FloatOps F]

/-- A whole buffer of device `c`. -/
abbrev whole (b : Ref sig .tc) (f : Buf (Elt F) ((c : Thread nD τ).loc b)) : sProp 𝕄 :=
  ((c : Thread nD τ).loc b) ↦{fullShare} f

abbrev sbSet (p : Fin 32) : Finset S512x256.Idx := (sbRow p).view.set
abbrev rsSet (l : Fin 3) (j : Fin 32) : Finset S3x32x16x256.Idx := (rsPiece l j).view.set
abbrev redSet (l : Fin 3) : Finset S3x16x256.Idx := (redPiece l).view.set
abbrev agSet (l : Fin 3) (p : Fin 32) : Finset S3x512x256.Idx := (agRow l p).view.set

theorem sb_disj (p p' : Fin 32) (h : p ≠ p') : Disjoint (sbRow p).view.set (sbRow p').view.set :=
  Finset.disjoint_left.mpr fun i hi hi' => h (((mem_sbRow p i).mp hi).symm.trans ((mem_sbRow p' i).mp hi'))
theorem sb_cover : (Finset.univ.biUnion sbSet) = Finset.univ :=
  Finset.eq_univ_iff_forall.mpr fun i => Finset.mem_biUnion.mpr ⟨_, Finset.mem_univ _, (mem_sbRow _ i).mpr rfl⟩

theorem rs_disj (l l' : Fin 3) (j j' : Fin 32) (h : (l, j) ≠ (l', j')) :
    Disjoint (rsPiece l j).view.set (rsPiece l' j').view.set :=
  Finset.disjoint_left.mpr fun i hi hi' => by
    have h1 := (mem_rsPiece l j i).mp hi
    have h2 := (mem_rsPiece l' j' i).mp hi'
    exact h (Prod.ext (h1.1.symm.trans h2.1) (h1.2.symm.trans h2.2))
theorem rs_cover : (Finset.univ.biUnion fun x : Fin 3 × Fin 32 => rsSet x.1 x.2) = Finset.univ :=
  Finset.eq_univ_iff_forall.mpr fun i => Finset.mem_biUnion.mpr ⟨(i 0, i 1), Finset.mem_univ _, (mem_rsPiece _ _ i).mpr ⟨rfl, rfl⟩⟩

theorem red_disj (l l' : Fin 3) (h : l ≠ l') : Disjoint (redPiece l).view.set (redPiece l').view.set :=
  Finset.disjoint_left.mpr fun i hi hi' => h (((mem_redPiece l i).mp hi).symm.trans ((mem_redPiece l' i).mp hi'))
theorem red_cover : (Finset.univ.biUnion redSet) = Finset.univ :=
  Finset.eq_univ_iff_forall.mpr fun i => Finset.mem_biUnion.mpr ⟨_, Finset.mem_univ _, (mem_redPiece _ i).mpr rfl⟩

theorem ag_disj (l l' : Fin 3) (p p' : Fin 32) (h : (l, p) ≠ (l', p')) :
    Disjoint (agRow l p).view.set (agRow l' p').view.set :=
  Finset.disjoint_left.mpr fun i hi hi' => by
    have h1 := (mem_agRow l p i).mp hi
    have h2 := (mem_agRow l' p' i).mp hi'
    exact h (Prod.ext (h1.1.symm.trans h2.1) (h1.2.symm.trans h2.2))
theorem ag_cover : (Finset.univ.biUnion fun x : Fin 3 × Fin 32 => agSet x.1 x.2) = Finset.univ :=
  Finset.eq_univ_iff_forall.mpr fun i => Finset.mem_biUnion.mpr ⟨(i 0, posOf (i 1)), Finset.mem_univ _, (mem_agRow _ _ i).mpr ⟨rfl, rfl⟩⟩

theorem sbPts_loc (p : Fin 32) (f : S512x256.Idx → Elt F .bf16) :
    sbPts c p f = (((c : Thread nD τ).loc cc0_scratch0) ↦[(sbRow p).view.set]{fullShare} f : sProp 𝕄) := rfl
theorem rsPts_loc (l : Fin 3) (j : Fin 32) (f : S3x32x16x256.Idx → Elt F .bf16) :
    rsPts c l j f = (((c : Thread nD τ).loc cc0_scratch2) ↦[(rsPiece l j).view.set]{fullShare} f : sProp 𝕄) := rfl
theorem redPts_loc (l : Fin 3) (q : PosShare TreeShare) (f : S3x16x256.Idx → Elt F .bf16) :
    redPts c l q f = (((c : Thread nD τ).loc cc0_scratch1) ↦[(redPiece l).view.set]{q} f : sProp 𝕄) := rfl
theorem agPts_loc (l : Fin 3) (p : Fin 32) (f : S3x512x256.Idx → Elt F .bf16) :
    agPts c l p f = (((c : Thread nD τ).loc cc0_scratch3) ↦[(agRow l p).view.set]{fullShare} f : sProp 𝕄) := rfl

theorem sb_cut (f : S512x256.Idx → Elt F .bf16) :
    whole c cc0_scratch0 f = bigSep Finset.univ fun p => sbPts (F := F) c p f :=
  Ring.pointsTo_blocks (ℓ := (c : Thread nD τ).loc cc0_scratch0) (fun p : Fin 32 => (sbRow p).view.set) sb_disj sb_cover f
theorem rs_cut (f : S3x32x16x256.Idx → Elt F .bf16) :
    whole c cc0_scratch2 f = bigSep Finset.univ fun x : Fin 3 × Fin 32 => rsPts (F := F) c x.1 x.2 f :=
  Ring.pointsTo_blocks (ℓ := (c : Thread nD τ).loc cc0_scratch2) (fun x : Fin 3 × Fin 32 => (rsPiece x.1 x.2).view.set)
    (fun x y h => rs_disj _ _ _ _ h) rs_cover f
theorem red_cut (f : S3x16x256.Idx → Elt F .bf16) :
    whole c cc0_scratch1 f = bigSep Finset.univ fun l : Fin 3 => redPts (F := F) c l fullShare f :=
  Ring.pointsTo_blocks (ℓ := (c : Thread nD τ).loc cc0_scratch1) (fun l : Fin 3 => (redPiece l).view.set) red_disj red_cover f
theorem ag_cut (f : S3x512x256.Idx → Elt F .bf16) :
    whole c cc0_scratch3 f = bigSep Finset.univ fun x : Fin 3 × Fin 32 => agPts (F := F) c x.1 x.2 f :=
  Ring.pointsTo_blocks (ℓ := (c : Thread nD τ).loc cc0_scratch3) (fun x : Fin 3 × Fin 32 => (agRow x.1 x.2).view.set)
    (fun x y h => ag_disj _ _ _ _ h) ag_cover f

/-- The slots of one layer. -/
theorem rs_join (l : Fin 3) (f : S3x32x16x256.Idx → Elt F .bf16) :
    (bigSep Finset.univ fun j => rsPts (F := F) c l j f)
      = (((c : Thread nD τ).loc cc0_scratch2) ↦[Finset.univ.biUnion fun j : Fin 32 => (rsPiece l j).view.set]{fullShare} f : sProp 𝕄) :=
  (pointsTo_biUnion (ℓ := (c : Thread nD τ).loc cc0_scratch2) (Finset.univ : Finset (Fin 32)) (fun j : Fin 32 => (rsPiece l j).view.set)
    (fun j _ j' _ h => rs_disj l l j j' fun e => h (Prod.ext_iff.mp e).2)).symm
/-- The rows of one layer. -/
theorem ag_join (l : Fin 3) (f : S3x512x256.Idx → Elt F .bf16) :
    (bigSep Finset.univ fun p => agPts (F := F) c l p f)
      = (((c : Thread nD τ).loc cc0_scratch3) ↦[Finset.univ.biUnion fun p : Fin 32 => (agRow l p).view.set]{fullShare} f : sProp 𝕄) :=
  (pointsTo_biUnion (ℓ := (c : Thread nD τ).loc cc0_scratch3) (Finset.univ : Finset (Fin 32)) (fun p : Fin 32 => (agRow l p).view.set)
    (fun j _ j' _ h => ag_disj l l j j' fun e => h (Prod.ext_iff.mp e).2)).symm

/-- The reduced chunk dealt into what stays and a read share for every transfer. -/
theorem red_deal (l : Fin 3) (f : S3x16x256.Idx → Elt F .bf16) :
    redPts (F := F) c l fullShare f
      ⊣⊢ iprop(redPts c l (Transfers.shareDrop fullShare 32) f ∗ bigSep Finset.univ fun k : Fin 32 => redPts c l (tok k) f) :=
  Transfers.pointsTo_toks fullShare 32

end Cut

/-! ## Loads and stores -/

theorem accSlots_sub (l : Fin 3) : (accSlots l).set ⊆ Finset.univ.biUnion fun j : Fin 32 => (rsPiece l j).view.set := fun i hi => by
  obtain ⟨x, rfl⟩ := (mem_view_set _ i).mp hi
  obtain ⟨a, j, b, d, rfl⟩ : ∃ a j b d, x = ix4 a j b d := ⟨x 0, x 1, x 2, x 3, by funext e; fin_cases e <;> rfl⟩
  refine Finset.mem_biUnion.mpr ⟨j, Finset.mem_univ _, ?_⟩
  rw [accSlots_emb]
  exact (mem_rsPiece l j _).mpr ⟨rfl, rfl⟩

theorem accSlab_sub (l : Fin 3) : (accSlab l).set ⊆ Finset.univ.biUnion fun p : Fin 32 => (agRow l p).view.set := fun i hi => by
  obtain ⟨x, rfl⟩ := (mem_view_set _ i).mp hi
  obtain ⟨a, b, d, rfl⟩ : ∃ a b d, x = ix3 a b d := ⟨x 0, x 1, x 2, by funext e; fin_cases e <;> rfl⟩
  refine Finset.mem_biUnion.mpr ⟨posOf b, Finset.mem_univ _, ?_⟩
  rw [accSlab_emb]
  exact (mem_agRow l _ _).mpr ⟨rfl, rfl⟩

theorem accOwn_set (d : Dev nD) :
    (sb.access (Rect.unit (s := S512x256) (k0_off2 d) S16x256.size (k0_off2_inb d))).set = (sbRow d).view.set := by
  have key : ∀ (off : Fin 2 → Nat) (h : ∀ a, off a + S16x256.size a ≤ S512x256.size a)
      (e : off = ![16 * d.val, 0]),
      (sb.access (Rect.unit (s := S512x256) off S16x256.size h)).set = (sbRow d).view.set := by
    intro off h e; subst e; rfl
  exact key _ _ (k0_off2_eq d)

/-- The device's own chunk of the partial product. -/
theorem ld_own (f : S512x256.Idx → Elt F .bf16) (next : Vec F S16x256 .bf16 → Code (F := F)) :
    iprop(sbPts c c f ∗ (sbPts c c f -∗ Run c (next ((sbRow c).view.read (Elt F) f)) Q)) ⊢ Run c (.op (opLoadOwn c) next) Q := by
  unfold opLoadOwn
  simp only [sbPts_loc]
  iintro ⟨H, Hk⟩
  iapply (wp_load_rect 𝒱₀ (c : Thread nD τ) none Set.univ (m := sb)
    (r := Rect.unit (s := S512x256) (k0_off2 c) S16x256.size (k0_off2_inb c)) (S := (sbRow c).view.set) (f := f) (accOwn_set c).le) $$ H
  iintro H
  rw [k0_off2_rect]
  iapply Hk; iexact H

/-- Slot 0, at any contents. -/
theorem ld_slot0 (l : Fin 3) (f : S3x32x16x256.Idx → Elt F .bf16) (next : Code (F := F)) :
    iprop(rsPts c l 0 f ∗ (rsPts c l 0 f -∗ Run c next Q)) ⊢ Run c (.op (opLoadSlot0 l) fun _ => next) Q := by
  unfold opLoadSlot0
  simp only [rsPts_loc]
  iintro ⟨H, Hk⟩
  iapply (wp_load_rect 𝒱₀ (c : Thread nD τ) none Set.univ (m := rs)
    (r := Rect.unit (s := S3x32x16x256) ![l.val, 0, 0, 0] S1x1x16x256.size (inb_rs l 0)) (S := (rsPiece l 0).view.set) (f := f) (accRs_set l 0).le) $$ H
  iintro H
  iapply Hk; iexact H

theorem st_slot0_holds (l : Fin 3) (f : S3x32x16x256.Idx → Elt F .bf16) :
    ((rs.access (Rect.unit (s := S3x32x16x256) ![l.val, 0, 0, 0] S1x1x16x256.size (inb_rs l 0))).loc (c : Thread nD τ) ↦[(rsPiece l 0).view.set]{fullShare}
        ((rs.access (Rect.unit (s := S3x32x16x256) ![l.val, 0, 0, 0] S1x1x16x256.size (inb_rs l 0))).write (Elt F) f (k0_pay3 ((sbRow c).view.read (Elt F) (part I l c))) Finset.univ) : sProp 𝕄) ⊢ (((c : Thread nD τ).loc cc0_scratch2) ↦[(rsPiece l 0).view.set]{fullShare} (rsF I c)) :=
  Entails.of_eq (pointsTo_congr fun i hi =>
    write_agree (rs.access (Rect.unit (s := S3x32x16x256) ![l.val, 0, 0, 0] S1x1x16x256.size (inb_rs l 0))) f _ _ (slot0_read I l c) i ((accRs_set l 0).symm ▸ hi))

/-- Slot 0 filled with the device's own chunk. -/
theorem st_slot0 (l : Fin 3) (f : S3x32x16x256.Idx → Elt F .bf16) (next : Code (F := F)) :
    iprop(rsPts c l 0 f ∗ (rsPts c l 0 (rsF I c) -∗ Run c next Q))
      ⊢ Run c (.op (opStoreSlot0 l (k0_pay3 ((sbRow c).view.read (Elt F) (part I l c)))) fun _ => next) Q := by
  unfold opStoreSlot0
  simp only [rsPts_loc]
  iintro ⟨H, Hk⟩
  iapply (wp_store 𝒱₀ (c : Thread nD τ) none Set.univ (m := rs)
    (r := Rect.unit (s := S3x32x16x256) ![l.val, 0, 0, 0] S1x1x16x256.size (inb_rs l 0)) (Mk := Finset.univ)
    (S := (rsPiece l 0).view.set) (f := f) (accRs_set l 0).le) $$ H
  iintro H
  iapply Hk
  iapply (st_slot0_holds I c l f) $$ H

/-- All slots of a layer. -/
theorem ld_slots (l : Fin 3) (next : Vec F S1x32x16x256 .bf16 → Code (F := F)) :
    iprop((bigSep Finset.univ fun j => rsPts c l j (rsF I c))
        ∗ ((bigSep Finset.univ fun j => rsPts c l j (rsF I c)) -∗ Run c (next (slotsOf (part I l) c)) Q))
      ⊢ Run c (.op (opLoadSlots l) next) Q := by
  unfold opLoadSlots
  rw [rs_join]
  iintro ⟨H, Hk⟩
  iapply (wp_load_rect 𝒱₀ (c : Thread nD τ) none Set.univ (m := rs)
    (r := Rect.unit (s := S3x32x16x256) ![l.val, 0, 0, 0] S1x32x16x256.size (inb_rsSlab l)) (f := rsF I c) (accSlots_sub l)) $$ H
  iintro H
  rw [slots_read]
  iapply Hk; iexact H

/-- The reduced chunk at any share. -/
theorem ld_red (l : Fin 3) (q : PosShare TreeShare) (f : S3x16x256.Idx → Elt F .bf16) (next : Vec F S1x16x256 .bf16 → Code (F := F)) :
    iprop(redPts c l q f ∗ (redPts c l q f -∗ Run c (next ((accRed l).read (Elt F) f)) Q)) ⊢ Run c (.op (opLoadRed l) next) Q := by
  unfold opLoadRed
  simp only [redPts_loc]
  iintro ⟨H, Hk⟩
  iapply (wp_load_rect 𝒱₀ (c : Thread nD τ) none Set.univ (m := red)
    (r := Rect.unit (s := S3x16x256) ![l.val, 0, 0] S1x16x256.size (inb_red l)) (S := (redPiece l).view.set) (f := f) (accRed_set l).le) $$ H
  iintro H
  iapply Hk; iexact H

theorem st_red_holds (l : Fin 3) (f : S3x16x256.Idx → Elt F .bf16) :
    ((accRed l).loc (c : Thread nD τ) ↦[(redPiece l).view.set]{fullShare}
        ((accRed l).write (Elt F) f (k0_pay4 (slotsOf (part I l) c)) Finset.univ) : sProp 𝕄) ⊢ (((c : Thread nD τ).loc cc0_scratch1) ↦[(redPiece l).view.set]{fullShare} (redF I c)) :=
  Entails.of_eq (pointsTo_congr fun i hi =>
    write_agree (accRed l) f _ _ (red_read I l c) i ((accRed_set l).symm ▸ hi))

/-- The reduced chunk stored. -/
theorem st_red (l : Fin 3) (f : S3x16x256.Idx → Elt F .bf16) (next : Code (F := F)) :
    iprop(redPts c l fullShare f ∗ (redPts c l fullShare (redF I c) -∗ Run c next Q))
      ⊢ Run c (.op (opStoreRed l (k0_pay4 (slotsOf (part I l) c))) fun _ => next) Q := by
  unfold opStoreRed
  simp only [redPts_loc]
  iintro ⟨H, Hk⟩
  iapply (wp_store 𝒱₀ (c : Thread nD τ) none Set.univ (m := red)
    (r := Rect.unit (s := S3x16x256) ![l.val, 0, 0] S1x16x256.size (inb_red l)) (Mk := Finset.univ)
    (S := (redPiece l).view.set) (f := f) (accRed_set l).le) $$ H
  iintro H
  iapply Hk
  iapply (st_red_holds I c l f) $$ H

theorem agOff_set (l : Fin 3) (d : Dev nD) :
    (ag.access (Rect.unit (s := S3x512x256) (agOffV l d) S1x16x256.size (agOffV_inb l d))).set = (agRow l d).view.set := by
  have key : ∀ (off : Fin 3 → Nat) (h : ∀ a, off a + S1x16x256.size a ≤ S3x512x256.size a)
      (e : off = ![l.val, 16 * d.val, 0]),
      (ag.access (Rect.unit (s := S3x512x256) off S1x16x256.size h)).set = (agRow l d).view.set := by
    intro off h e; subst e; exact accRows_set l d
  exact key _ _ (agOffV_eq l d)
theorem agOff_read (l : Fin 3) (d : Dev nD) :
    (ag.access (Rect.unit (s := S3x512x256) (agOffV l d) S1x16x256.size (agOffV_inb l d))).read (Elt F) (agF I)
      = redOf (part I l) d := by
  have key : ∀ (off : Fin 3 → Nat) (h : ∀ a, off a + S1x16x256.size a ≤ S3x512x256.size a)
      (e : off = ![l.val, 16 * d.val, 0]),
      (ag.access (Rect.unit (s := S3x512x256) off S1x16x256.size h)).read (Elt F) (agF I) = redOf (part I l) d := by
    intro off h e; subst e; exact rows_read I l d
  exact key _ _ (agOffV_eq l d)

/-- The device's own gathered rows, at any contents. -/
theorem ld_rows (l : Fin 3) (f : S3x512x256.Idx → Elt F .bf16) (next : Code (F := F)) :
    iprop(agPts c l c f ∗ (agPts c l c f -∗ Run c next Q)) ⊢ Run c (.op (opLoadRows l c) fun _ => next) Q := by
  unfold opLoadRows
  simp only [agPts_loc]
  iintro ⟨H, Hk⟩
  iapply (wp_load_rect 𝒱₀ (c : Thread nD τ) none Set.univ (m := ag)
    (r := Rect.unit (s := S3x512x256) (agOffV l c) S1x16x256.size (agOffV_inb l c)) (S := (agRow l c).view.set) (f := f) (agOff_set l c).le) $$ H
  iintro H
  iapply Hk; iexact H

theorem st_rows_holds (l : Fin 3) (f : S3x512x256.Idx → Elt F .bf16) :
    ((ag.access (Rect.unit (s := S3x512x256) (agOffV l c) S1x16x256.size (agOffV_inb l c))).loc (c : Thread nD τ) ↦[(agRow l c).view.set]{fullShare}
        ((ag.access (Rect.unit (s := S3x512x256) (agOffV l c) S1x16x256.size (agOffV_inb l c))).write (Elt F) f (redOf (part I l) c) Finset.univ) : sProp 𝕄) ⊢ (((c : Thread nD τ).loc cc0_scratch3) ↦[(agRow l c).view.set]{fullShare} (agF I)) :=
  Entails.of_eq (pointsTo_congr fun i hi =>
    write_agree (ag.access (Rect.unit (s := S3x512x256) (agOffV l c) S1x16x256.size (agOffV_inb l c))) f _ _ (agOff_read I l c) i ((agOff_set l c).symm ▸ hi))

/-- The device's own gathered rows stored. -/
theorem st_rows (l : Fin 3) (f : S3x512x256.Idx → Elt F .bf16) (next : Code (F := F)) :
    iprop(agPts c l c f ∗ (agPts c l c (agF I) -∗ Run c next Q))
      ⊢ Run c (.op (opStoreRows l c (redOf (part I l) c)) fun _ => next) Q := by
  unfold opStoreRows
  simp only [agPts_loc]
  iintro ⟨H, Hk⟩
  iapply (wp_store 𝒱₀ (c : Thread nD τ) none Set.univ (m := ag)
    (r := Rect.unit (s := S3x512x256) (agOffV l c) S1x16x256.size (agOffV_inb l c)) (Mk := Finset.univ)
    (S := (agRow l c).view.set) (f := f) (agOff_set l c).le) $$ H
  iintro H
  iapply Hk
  iapply (st_rows_holds I c l f) $$ H

/-- A layer's gathered activations. -/
theorem ld_slab (l : Fin 3) (next : Vec F S1x512x256 .bf16 → Code (F := F)) :
    iprop((bigSep Finset.univ fun p => agPts c l p (agF I))
        ∗ ((bigSep Finset.univ fun p => agPts c l p (agF I)) -∗ Run c (next (slabOf (part I l))) Q))
      ⊢ Run c (.op (opLoadSlab l) next) Q := by
  unfold opLoadSlab
  rw [ag_join]
  iintro ⟨H, Hk⟩
  iapply (wp_load_rect 𝒱₀ (c : Thread nD τ) none Set.univ (m := ag)
    (r := Rect.unit (s := S3x512x256) ![l.val, 0, 0] S1x512x256.size (inb_agSlab l)) (f := agF I) (accSlab_sub l)) $$ H
  iintro H
  rw [slab_read]
  iapply Hk; iexact H

theorem zero2 : (![0, 0] : Fin 2 → Nat) = fun _ => 0 := by funext a; fin_cases a <;> rfl

/-- The send buffer, at any contents. -/
theorem ld_sb (f : S512x256.Idx → Elt F .bf16) (next : Code (F := F)) :
    iprop(whole c cc0_scratch0 f ∗ (whole c cc0_scratch0 f -∗ Run c next Q)) ⊢ Run c (.op (opLoadX sb) fun _ => next) Q := by
  unfold opLoadX
  iintro ⟨H, Hk⟩
  iapply (wp_load 𝒱₀ (c : Thread nD τ) none Set.univ (m := sb) (Finset.subset_univ _)) $$ H
  iintro H
  iapply Hk; iexact H

/-- The send buffer stored. -/
theorem st_sb (f g : S512x256.Idx → Elt F .bf16) (next : Code (F := F)) :
    iprop(whole c cc0_scratch0 f ∗ (whole c cc0_scratch0 g -∗ Run c next Q)) ⊢ Run c (.op (opStoreSb g) fun _ => next) Q := by
  unfold opStoreSb
  iintro ⟨H, Hk⟩
  iapply (wp_store 𝒱₀ (c : Thread nD τ) none Set.univ (m := sb) (r := rX) (Mk := Finset.univ) (Finset.subset_univ _)) $$ H
  iintro H
  iapply Hk
  have hw : (sb.access rX).write (Elt F) f g Finset.univ = g := Memref.write_access_unit_zero_univ (Elt F) cc0_scratch0 zero2 _ f g
  rw [hw]; iexact H

end Cert.Proof.Mlp
-- ==== Proof.Layer.lean ====
/- One layer's exchange on device `c`: its chunks sent, the slots received and reduced, the reduced chunk sent,
   the rows received. -/
module

public import proofs.«01_k».proof.Proof.Mem

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD) (Q : PUnit.{1} → sProp (MT nD τ sig Unit (Elt F) ℕ UU ℕ))

/-! ## Runs over every distance -/

/-- A run of steps each paying one amount owed. -/
theorem run_pay (f : Fin 32 → Eff (F := F) PUnit) (P : sProp 𝕄) [BI.Persistent P] (A B : Fin 32 → sProp 𝕄)
    (R : Tal) (t : Fin 32 → Tal)
    (step : ∀ k, k ≠ 0 → ∀ R' (next : Code (F := F)),
      iprop(P ∗ A k ∗ owed c (R' + t k) ∗ (B k ∗ owed (F := F) c R' -∗ Run c next Q))
        ⊢ Run c (.op (f k) fun _ => next) Q) (next : Code (F := F)) :
    iprop(P ∗ bigSep ds A ∗ owed c (R + debt t ks) ∗ (bigSep ds B ∗ owed (F := F) c R -∗ Run c next Q))
      ⊢ Run c (each f ks next) Q := by
  have h := run_ks c Q f P A B (fun is => R + debt t is) (fun k hk is next => by
    show iprop(P ∗ A k ∗ owed c (R + (debt t is + t k)) ∗ (B k ∗ owed (F := F) c (R + debt t is) -∗ Run c next Q)) ⊢ _
    rw [← add_assoc]; exact step k hk _ next) next
  rw [show R + debt t [] = R from add_zero R] at h
  exact h

/-- A run of steps that leave what is owed as it is. -/
theorem run_wait (f : Fin 32 → Eff (F := F) PUnit) (P : sProp 𝕄) [BI.Persistent P] (A B : Fin 32 → sProp 𝕄)
    (R : Tal)
    (step : ∀ k, k ≠ 0 → ∀ (next : Code (F := F)),
      iprop(P ∗ A k ∗ owed c R ∗ (B k ∗ owed (F := F) c R -∗ Run c next Q))
        ⊢ Run c (.op (f k) fun _ => next) Q) (next : Code (F := F)) :
    iprop(P ∗ bigSep ds A ∗ owed c R ∗ (bigSep ds B ∗ owed (F := F) c R -∗ Run c next Q))
      ⊢ Run c (each f ks next) Q :=
  run_ks c Q f P A B (fun _ => R) (fun k hk _ next => step k hk next) next

/-- The entry signals. -/
theorem ph_signal (R : Tal) (next : Code (F := F)) :
    iprop(ctx I ∗ (bigSep ds (fun k => dutyTok ER (barCell (ahead c k)) 0 k) ∗ bigSep ds fun k => barPay (F := F) c k)
        ∗ owed c (R + debt (tBar c) ks) ∗ (bigSep ds (fun _ => iprop(emp)) ∗ owed (F := F) c R -∗ Run c next Q))
      ⊢ Run c (each (opSignal c) ks next) Q := by
  have h := run_pay c Q (opSignal c) (ctx I) _ _ R _ (fun k hk R' next => step_signal I c Q hk R' next) next
  rw [bigSep_sep'] at h
  exact h

/-- The transfers of the partial product. -/
theorem ph_rs (l : Fin 3) (next : Code (F := F)) :
    iprop(ctx I ∗ (bigSep ds (fun k => sbPts c (ahead c k) (part I l c)) ∗ bigSep ds (fun k => iprop(∃ f, rsPts (F := F) (ahead c k) l (opp k) f))
          ∗ bigSep ds (fun k => dutyTok ER (sndCell c k) (2 * l.val) 0) ∗ bigSep ds (fun k => reached ER (sndCell c k) (2 * l.val))
          ∗ bigSep ds fun k => dutyTok ER (rsCell (ahead c k) l (opp k)) 0 0)
        ∗ owed c (bef c l) ∗ (bigSep ds (fun k => cred (tallyAt (sndCell c k) () N)) ∗ owed (F := F) c (mid c l) -∗ Run c next Q))
      ⊢ Run c (each (opRs c l) ks next) Q := by
  have h := run_pay c Q (opRs c l) (ctx I) _ _ (mid c l) _ (fun k hk R' next => step_rs I c Q l hk R' next) next
  rw [bigSep_sep', bigSep_sep', bigSep_sep', bigSep_sep'] at h
  exact h

/-- The transfers of the reduced chunk. -/
theorem ph_ag (l : Fin 3) (next : Code (F := F)) :
    iprop(ctx I ∗ (bigSep ds (fun k => redPts c l (tok k) (redF I c)) ∗ bigSep ds (fun k => iprop(∃ f, agPts (F := F) (ahead c k) l c f))
          ∗ bigSep ds (fun k => dutyTok ER (sndCell c k) (2 * l.val + 1) 0) ∗ bigSep ds (fun k => reached ER (sndCell c k) (2 * l.val + 1))
          ∗ bigSep ds fun k => dutyTok ER (agCell (ahead c k) l (opp k)) 0 0)
        ∗ owed c (mid c l) ∗ (bigSep ds (fun k => cred (tallyAt (sndCell c k) () N)) ∗ owed (F := F) c (aft c l) -∗ Run c next Q))
      ⊢ Run c (each (opAg c l) ks next) Q := by
  have h := run_pay c Q (opAg c l) (ctx I) _ _ (aft c l) _ (fun k hk R' next => step_ag I c Q l hk R' next) next
  rw [bigSep_sep', bigSep_sep', bigSep_sep', bigSep_sep'] at h
  exact h

/-- The waits for the slots. -/
theorem ph_rsWait (l : Fin 3) (next : Code (F := F)) :
    iprop(ctx I ∗ (bigSep ds (fun k => atPos ER (rsCell c l k) 0 ∅ 0) ∗ bigSep ds fun k => cred (tallyAt (rsCell c l k) () N))
        ∗ owed c (mid c l) ∗ ((bigSep ds (fun k => atPos ER (rsCell c l k) 1 ∅ 0) ∗ bigSep ds (fun k => rsPts c l k (rsF I c)))
          ∗ owed (F := F) c (mid c l) -∗ Run c next Q))
      ⊢ Run c (each (opRsWait l) ks next) Q := by
  have h := run_wait c Q (opRsWait l) (ctx I) _ _ (mid c l) (fun k hk next => step_rsWait I c Q l hk (above_mid c l) next) next
  rw [bigSep_sep', bigSep_sep'] at h
  exact h

/-- The waits for the rows. -/
theorem ph_agWait (l : Fin 3) (next : Code (F := F)) :
    iprop(ctx I ∗ (bigSep ds (fun k => atPos ER (agCell c l k) 0 ∅ 0) ∗ bigSep ds fun k => cred (tallyAt (agCell c l k) () N))
        ∗ owed c (aft c l) ∗ ((bigSep ds (fun k => atPos ER (agCell c l k) 1 ∅ 0) ∗ bigSep ds (fun k => agPts c l (ahead c k) (agF I)))
          ∗ owed (F := F) c (aft c l) -∗ Run c next Q))
      ⊢ Run c (each (opAgWait l) ks next) Q := by
  have h := run_wait c Q (opAgWait l) (ctx I) _ _ (aft c l) (fun k hk next => step_agWait I c Q l hk (above_aft c l) next) next
  rw [bigSep_sep', bigSep_sep'] at h
  exact h

/-- The waits for the sources of the partial product's transfers. -/
theorem ph_rsSent (l : Fin 3) (next : Code (F := F)) :
    iprop(ctx I ∗ (bigSep ds (fun k => atPos ER (sndCell c k) (2 * l.val) ∅ 0) ∗ bigSep ds fun k => cred (tallyAt (sndCell c k) () N))
        ∗ owed c (mid c l) ∗ ((bigSep ds (fun k => atPos ER (sndCell c k) (2 * l.val + 1) ∅ 0)
            ∗ bigSep ds (fun k => reached ER (sndCell c k) (2 * l.val + 1)) ∗ bigSep ds (fun k => sbPts c (ahead c k) (part I l c)))
          ∗ owed (F := F) c (mid c l) -∗ Run c next Q))
      ⊢ Run c (each (opRsSent c l) ks next) Q := by
  have h := run_wait c Q (opRsSent c l) (ctx I) _ _ (mid c l)
    (fun k hk next => step_rsSent I c Q l hk ((above_mid c l).mono (Nat.zero_le _)) next) next
  rw [bigSep_sep', bigSep_sep', bigSep_sep'] at h
  exact h

/-- The waits for the sources of the reduced chunk's transfers. -/
theorem ph_agSent (l : Fin 3) (next : Code (F := F)) :
    iprop(ctx I ∗ (bigSep ds (fun k => atPos ER (sndCell c k) (2 * l.val + 1) ∅ 0) ∗ bigSep ds fun k => cred (tallyAt (sndCell c k) () N))
        ∗ owed c (aft c l) ∗ ((bigSep ds (fun k => atPos ER (sndCell c k) (2 * l.val + 2) ∅ 0)
            ∗ bigSep ds (fun k => reached ER (sndCell c k) (2 * l.val + 2)) ∗ bigSep ds (fun k => redPts c l (tok k) (redF I c)))
          ∗ owed (F := F) c (aft c l) -∗ Run c next Q))
      ⊢ Run c (each (opAgSent c l) ks next) Q := by
  have h := run_wait c Q (opAgSent c l) (ctx I) _ _ (aft c l)
    (fun k hk next => step_agSent I c Q l hk ((above_aft c l).mono (Nat.zero_le _)) next) next
  rw [bigSep_sep', bigSep_sep', bigSep_sep'] at h
  exact h

/-! ## One layer -/

/-- The devices by their distance from `c`. -/
def turn (c : Fin 32) : Fin 32 ≃ Fin 32 :=
  ⟨fun k => ahead c k, fun p => behind p c, fun k => by revert c k; decide +kernel, fun p => by revert c p; decide +kernel⟩

omit [FloatOps F] in
/-- What is held for every device is held for `c` and for the device at every distance. -/
theorem by_distance (c : Fin 32) (A : Fin 32 → sProp 𝕄) :
    bigSep Finset.univ A = iprop(A c ∗ bigSep ds fun k => A (ahead c k)) := by
  rw [bigSep_univ_equiv (turn c), bigSep_univ_split (0 : Fin 32)]
  show iprop(A (ahead c 0) ∗ bigSep ds fun k => A (ahead c k)) = _
  rw [ahead_zero]
omit [FloatOps F] in
theorem by_slot (A : Fin 32 → sProp 𝕄) : bigSep Finset.univ A = iprop(A 0 ∗ bigSep ds A) := bigSep_univ_split 0

/-- Where a device stands on its send cells. -/
def sndAt (r : ℕ) : sProp 𝕄 :=
  iprop(bigSep ds (fun k => atPos ER (sndCell c k) r ∅ 0) ∗ bigSep ds fun k => reached ER (sndCell c k) r)

/-- What the exchange of layer `l` starts from: the slots and rows to fill on the other devices, the positions and
    credits of the cells waited on, the duties paid, and the device's own slot, rows and reduced chunk. -/
def layIn (l : Fin 3) : sProp 𝕄 :=
  iprop(bigSep ds (fun k => iprop(∃ f, rsPts (F := F) (ahead c k) l (opp k) f))
    ∗ bigSep ds (fun k => iprop(∃ f, agPts (F := F) (ahead c k) l c f))
    ∗ (bigSep ds (fun k => atPos ER (rsCell c l k) 0 ∅ 0) ∗ bigSep ds fun k => cred (tallyAt (rsCell c l k) () N))
    ∗ (bigSep ds (fun k => atPos ER (agCell c l k) 0 ∅ 0) ∗ bigSep ds fun k => cred (tallyAt (agCell c l k) () N))
    ∗ bigSep ds (fun k => dutyTok ER (sndCell c k) (2 * l.val) 0)
    ∗ bigSep ds (fun k => dutyTok ER (sndCell c k) (2 * l.val + 1) 0)
    ∗ bigSep ds (fun k => dutyTok ER (rsCell (ahead c k) l (opp k)) 0 0)
    ∗ bigSep ds (fun k => dutyTok ER (agCell (ahead c k) l (opp k)) 0 0)
    ∗ (∃ f, rsPts (F := F) c l 0 f) ∗ (∃ f, agPts (F := F) c l c f) ∗ (∃ f, redPts (F := F) c l fullShare f))

/-- What it ends with. -/
def layOut (l : Fin 3) : sProp 𝕄 :=
  iprop(bigSep ds (fun k => atPos ER (rsCell c l k) 1 ∅ 0) ∗ bigSep ds (fun k => atPos ER (agCell c l k) 1 ∅ 0)
    ∗ bigSep Finset.univ (fun j => rsPts c l j (rsF I c)) ∗ bigSep Finset.univ (fun p => agPts c l p (agF I))
    ∗ redPts c l fullShare (redF I c))

/-- The exchange of layer `l`. -/
theorem run_layer (l : Fin 3) (next : Vec F S1x512x256 .bf16 → Code (F := F)) :
    iprop(ctx I ∗ whole c cc0_scratch0 (part I l c) ∗ layIn c l ∗ sndAt c (2 * l.val) ∗ owed c (bef c l)
        ∗ (whole c cc0_scratch0 (part I l c) ∗ layOut I c l ∗ sndAt c (2 * l.val + 2) ∗ owed (F := F) c (aft c l)
          -∗ Run c (next (slabOf (part I l))) Q))
      ⊢ Run c (layerP c l next) Q := by
  unfold layerP reduceP gatherP layIn sndAt
  rw [sb_cut, by_distance c]
  iintro ⟨#HC, ⟨Hown, Hsb⟩, ⟨Hps, Hpr, ⟨Hrs, Hrc⟩, ⟨Hag, Hac⟩, Ht1, Ht2, Ht3, Ht4, ⟨%f1, H1⟩, ⟨%f2, H2⟩, ⟨%f3, H3⟩⟩, ⟨Hs, #Hr⟩, HO, Hk⟩
  iapply (ph_rs I c Q l)
  isplitr; · iexact HC
  isplitl [Hsb Hps Ht1 Ht3]
  · isplitl [Hsb]; · iexact Hsb
    isplitl [Hps]; · iexact Hps
    isplitl [Ht1]; · iexact Ht1
    isplitr; · iexact Hr
    iexact Ht3
  isplitl [HO]; · iexact HO
  iintro ⟨Hcs, HO⟩
  iapply (ld_own c Q (part I l c))
  isplitl [Hown]; · iexact Hown
  iintro Hown
  iapply (ld_slot0 c Q l f1)
  isplitl [H1]; · iexact H1
  iintro H1
  iapply (st_slot0 I c Q l f1)
  isplitl [H1]; · iexact H1
  iintro H1
  iapply (ph_rsWait I c Q l)
  isplitr; · iexact HC
  isplitl [Hrs Hrc]
  · isplitl [Hrs] <;> iassumption
  isplitl [HO]; · iexact HO
  iintro ⟨⟨Hrs, Hslots⟩, HO⟩
  iapply (ph_rsSent I c Q l)
  isplitr; · iexact HC
  isplitl [Hs Hcs]
  · isplitl [Hs] <;> iassumption
  isplitl [HO]; · iexact HO
  iintro ⟨⟨Hs, #Hr', Hsb⟩, HO⟩
  iapply (ld_slots I c Q l)
  isplitl [H1 Hslots]
  · rw [by_slot (fun j => rsPts c l j (rsF I c))]
    isplitl [H1] <;> iassumption
  iintro Hslots
  iapply (ld_red c Q l fullShare f3)
  isplitl [H3]; · iexact H3
  iintro H3
  iapply (st_red I c Q l f3)
  isplitl [H3]; · iexact H3
  iintro H3
  ihave H3' := (red_deal c l (redF I c)).1 $$ H3
  icases H3' with ⟨Hkeep, Htoks⟩
  ihave Htoks' := (Entails.of_eq (by_slot (fun k => redPts c l (tok k) (redF I c)))) $$ Htoks
  icases Htoks' with ⟨Htok0, Htoks⟩
  iapply (ph_ag I c Q l)
  isplitr; · iexact HC
  isplitl [Htoks Hpr Ht2 Ht4]
  · isplitl [Htoks]; · iexact Htoks
    isplitl [Hpr]; · iexact Hpr
    isplitl [Ht2]; · iexact Ht2
    isplitr; · iexact Hr'
    iexact Ht4
  isplitl [HO]; · iexact HO
  iintro ⟨Hcs, HO⟩
  iapply (ld_red c Q l _ (redF I c))
  isplitl [Hkeep]; · iexact Hkeep
  iintro Hkeep
  rw [red_read, pay5_eq]
  iapply (ld_rows c Q l f2)
  isplitl [H2]; · iexact H2
  iintro H2
  iapply (st_rows I c Q l f2)
  isplitl [H2]; · iexact H2
  iintro H2
  iapply (ph_agWait I c Q l)
  isplitr; · iexact HC
  isplitl [Hag Hac]
  · isplitl [Hag] <;> iassumption
  isplitl [HO]; · iexact HO
  iintro ⟨⟨Hag, Hrows⟩, HO⟩
  iapply (ph_agSent I c Q l)
  isplitr; · iexact HC
  isplitl [Hs Hcs]
  · isplitl [Hs] <;> iassumption
  isplitl [HO]; · iexact HO
  iintro ⟨⟨Hs, #Hr'', Htoks⟩, HO⟩
  iapply (ld_slab I c Q l)
  isplitl [H2 Hrows]
  · rw [by_distance c (fun p => agPts c l p (agF I))]
    isplitl [H2] <;> iassumption
  iintro Hrows
  iapply Hk
  isplitl [Hown Hsb]
  · isplitl [Hown] <;> iassumption
  isplitr [Hs HO]
  · unfold layOut
    isplitl [Hrs]; · iexact Hrs
    isplitl [Hag]; · iexact Hag
    isplitl [Hslots]; · iexact Hslots
    isplitl [Hrows]; · iexact Hrows
    iapply (red_deal c l (redF I c)).2
    isplitl [Hkeep]; · iexact Hkeep
    rw [by_slot (fun k => redPts c l (tok k) (redF I c))]
    isplitl [Htok0] <;> iassumption
  isplitl [Hs]
  · isplitl [Hs]; · iexact Hs
    iexact Hr''
  iexact HO

end Cert.Proof.Mlp
-- ==== Proof.Cells.lean ====
/- The semaphores of one device, by what they count, and how they are handed back at the end. -/
module

public import proofs.«01_k».proof.Proof.Layer

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where each counted semaphore sits among the kernel's own. -/
def place : ((Fin 3 × Fin 32) ⊕ (Fin 3 × Fin 32)) ⊕ Fin 32 → Fin 224
  | .inl (.inl x) => rsIx x.1 x.2
  | .inl (.inr x) => agIx x.1 x.2
  | .inr k => sndIx k

theorem place_inj : Function.Injective place := by
  rintro ((⟨l, j⟩ | ⟨l, j⟩) | k) ((⟨l', j'⟩ | ⟨l', j'⟩) | k') h <;>
    have h := congrArg Fin.val h <;> simp only [place, rsIx, agIx, sndIx] at h <;>
    first
      | (exfalso; omega)
      | (obtain ⟨h1, h2⟩ : l = l' ∧ j = j' := ⟨Fin.ext (by omega), Fin.ext (by omega)⟩; rw [h1, h2])
      | (rw [show k = k' from Fin.ext (by omega)])

def placeEquiv : ((Fin 3 × Fin 32) ⊕ (Fin 3 × Fin 32)) ⊕ Fin 32 ≃ Fin 224 :=
  Equiv.ofBijective place ((Fintype.bijective_iff_injective_and_card place).mpr ⟨place_inj, by
    simp only [Fintype.card_sum, Fintype.card_prod, Fintype.card_fin]⟩)

omit [FloatOps F] in
theorem by_layer (A : Fin 3 → sProp 𝕄) : bigSep Finset.univ A = iprop(A 0 ∗ A 1 ∗ A 2) := by
  rw [show (Finset.univ : Finset (Fin 3)) = insert 0 (insert 1 {2}) from by decide, bigSep_insert' _ (by decide),
    bigSep_insert' _ (by decide), bigSep_singleton]

/-- One resource for each own semaphore, sorted. -/
def sorted (A : SemLoc sig → sProp 𝕄) : sProp 𝕄 :=
  iprop(((A (rsLoc 0 0) ∗ A (rsLoc 1 0) ∗ A (rsLoc 2 0)) ∗ (A (agLoc 0 0) ∗ A (agLoc 1 0) ∗ A (agLoc 2 0)) ∗ A (sndLoc 0))
    ∗ (bigSep ds (fun j => A (rsLoc 0 j)) ∗ bigSep ds (fun j => A (rsLoc 1 j)) ∗ bigSep ds (fun j => A (rsLoc 2 j)))
    ∗ (bigSep ds (fun j => A (agLoc 0 j)) ∗ bigSep ds (fun j => A (agLoc 1 j)) ∗ bigSep ds (fun j => A (agLoc 2 j)))
    ∗ bigSep ds (fun k => A (sndLoc k)))

omit [FloatOps F] in
theorem sorted_raw (A : SemLoc sig → sProp 𝕄) :
    bigSep Finset.univ (fun i : Fin 224 => A (osem i))
      = iprop(((bigSep Finset.univ fun l => bigSep Finset.univ fun j => A (rsLoc l j))
        ∗ (bigSep Finset.univ fun l => bigSep Finset.univ fun j => A (agLoc l j)))
        ∗ bigSep Finset.univ fun k => A (sndLoc k)) := by
  rw [bigSep_univ_equiv placeEquiv, bigSep_univ_sum, bigSep_univ_sum, bigSep_univ_prod, bigSep_univ_prod]
  simp only [placeEquiv, Equiv.ofBijective_apply, place, osem_rs, osem_ag, osem_snd]
  rfl

omit [FloatOps F] in
theorem sort (A : SemLoc sig → sProp 𝕄) : bigSep Finset.univ (fun i : Fin 224 => A (osem i)) ⊢ sorted A := by
  rw [sorted_raw, by_layer, by_layer, by_slot fun j => A (rsLoc 0 j), by_slot fun j => A (rsLoc 1 j),
    by_slot fun j => A (rsLoc 2 j), by_slot fun j => A (agLoc 0 j), by_slot fun j => A (agLoc 1 j),
    by_slot fun j => A (agLoc 2 j), by_slot fun j => A (sndLoc j)]
  unfold sorted
  iintro ⟨⟨⟨⟨a0, A0⟩, ⟨a1, A1⟩, ⟨a2, A2⟩⟩, ⟨⟨b0, B0⟩, ⟨b1, B1⟩, ⟨b2, B2⟩⟩⟩, ⟨c0, C0⟩⟩
  iframe

omit [FloatOps F] in
theorem unsort (A : SemLoc sig → sProp 𝕄) : sorted A ⊢ bigSep Finset.univ (fun i : Fin 224 => A (osem i)) := by
  rw [sorted_raw, by_layer, by_layer, by_slot fun j => A (rsLoc 0 j), by_slot fun j => A (rsLoc 1 j),
    by_slot fun j => A (rsLoc 2 j), by_slot fun j => A (agLoc 0 j), by_slot fun j => A (agLoc 1 j),
    by_slot fun j => A (agLoc 2 j), by_slot fun j => A (sndLoc j)]
  unfold sorted
  iintro ⟨⟨⟨a0, a1, a2⟩, ⟨b0, b1, b2⟩, c0⟩, ⟨A0, A1, A2⟩, ⟨B0, B1, B2⟩, C0⟩
  iframe

variable (I : Ins F) (c : Dev nD)

/-- A cell past its last round gives its semaphore back at zero. -/
theorem close_cell (i : CI) {r : ℕ} (h : ∀ r', r ≤ r' → (ringRd I).duties (kcell (c, i)) r' = ∅) :
    iprop(recs I ∗ atPos ER (kcell (c, i)) r ∅ 0) ⊢ |={Set.univ}=> semVal (kcell (c, i)) 0 := by
  iintro ⟨#HR, Hat⟩
  ihave HR := (recs_elim I c i) $$ HR
  unfold recOf
  icases HR with ⟨⟨%κ, #Hc⟩, -⟩
  iapply (Rounds.cell_close ER (ringRd I) (Set.mem_univ κ) (fun h => h) (R := r) h)
  isplitl []
  · iexact Hc
  · iexact Hat

theorem close_loc (s : SemLoc sig) (hs : ∃ i, csem i = s) {r : ℕ}
    (h : ∀ r', r ≤ r' → (ringRd I).duties ((c : Thread nD τ), s) r' = ∅) :
    iprop(recs I ∗ atPos ER ((c : Thread nD τ), s) r ∅ 0) ⊢ |={Set.univ}=> semVal ((c : Thread nD τ), s) 0 := by
  obtain ⟨i, rfl⟩ := hs
  exact close_cell I c i h

theorem close_many (S : Finset (Fin 32)) (s : Fin 32 → SemLoc sig) (hs : ∀ k, ∃ i, csem i = s k) {r : ℕ}
    (h : ∀ k ∈ S, ∀ r', r ≤ r' → (ringRd I).duties ((c : Thread nD τ), s k) r' = ∅) :
    iprop(recs I ∗ bigSep S fun k => atPos ER ((c : Thread nD τ), s k) r ∅ 0)
      ⊢ |={Set.univ}=> bigSep S fun k => semVal ((c : Thread nD τ), s k) 0 := by
  iintro ⟨#HR, Hat⟩
  ihave HR' := (BI.bigSep_of_persistent S (recs I)) $$ HR
  icombine HR' Hat as H
  iapply ((show iprop(bigSep S (fun _ => recs I) ∗ bigSep S fun k => atPos ER ((c : Thread nD τ), s k) r ∅ 0)
    ⊢ |={Set.univ}=> bigSep S fun k => semVal ((c : Thread nD τ), s k) 0 from by
      rw [← bigSep_sep']
      exact (bigSep_mono fun k hk => close_loc I c (s k) (hs k) (h k hk)).trans (bigSep_fupd _ _)))
  iexact H

end Cert.Proof.Mlp
-- ==== Proof.ProgEq.lean ====
/- The printed body, on the kernel's own scratch buffers and semaphores, is the looped program. -/
module

public import proofs.«01_k».proof.Proof.Prog

@[expose] public section

noncomputable section

namespace Cert.Proof.Mlp

open Idealize.ShloMosaic Idealize.SL.Sem Cert.KernelIdeal Cert.KernelIdeal.Gen

variable {F : FTy → Type} [FloatOps F]

set_option maxRecDepth 65536 in
theorem body_eq (arg0 : Memref sig .tc .vmem S512x256 .bf16) (harg0 : arg0.IsWhole) (arg1 : Memref sig .tc .vmem S256x512 .bf16) (harg1 : arg1.IsWhole) (arg2 : Memref sig .tc .vmem S512x256 .bf16) (harg2 : arg2.IsWhole) (arg3 : Memref sig .tc .vmem S256x512 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x256 .bf16) (harg6 : arg6.IsWhole) (arg7 : Memref sig .tc .vmem S512x256 .f32) (harg7 : arg7.IsWhole)
    (h8 : sb.IsWhole) (h9 : red.IsWhole) (h10 : rs.IsWhole) (h11 : ag.IsWhole) :
    cc0_body_skel (F := F) arg0 harg0 arg1 harg1 arg2 harg2 arg3 harg3 arg4 harg4 arg5 harg5 arg6 harg6 arg7 harg7 sb h8 red h9 rs h10 ag h11 cc0_scratch4 cc0_scratch5 cc0_scratch6
      = bodyP arg0 arg1 arg2 arg3 arg4 arg5 arg6 arg7 := by
  chain_rfl

end Cert.Proof.Mlp
-- ==== Proof.Body.lean ====
/- The kernel body on one device, from the buffers and the device's share of the protocol to the results. -/
module

public import proofs.«01_k».proof.Proof.Cells
public import proofs.«01_k».proof.Proof.ProgEq

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD) (Q : PUnit.{1} → sProp (MT nD τ sig Unit (Elt F) ℕ UU ℕ))

/-- The tokens a device spends in layer `l`. -/
def toks (l : Fin 3) : sProp 𝕄 :=
  iprop(bigSep ds (fun k => dutyTok ER (sndCell c k) (2 * l.val) 0)
    ∗ bigSep ds (fun k => dutyTok ER (sndCell c k) (2 * l.val + 1) 0)
    ∗ bigSep ds (fun k => dutyTok ER (rsCell (ahead c k) l (opp k)) 0 0)
    ∗ bigSep ds (fun k => dutyTok ER (agCell (ahead c k) l (opp k)) 0 0))

/-- The credit a device waits on in layer `l`. -/
def creds (l : Fin 3) : sProp 𝕄 :=
  iprop(bigSep ds (fun k => cred (tallyAt (rsCell c l k) () N)) ∗ bigSep ds fun k => cred (tallyAt (agCell c l k) () N))

/-- A device's share of the protocol at the start. -/
def share : sProp 𝕄 :=
  iprop((bigSep Finset.univ (fun i : Fin 224 => atPos ER ((c : Thread nD τ), osem i) 0 ∅ 0) ∗ atPos ER (barCell c) 0 ∅ 0)
    ∗ (bigSep ds (fun k => dutyTok ER (barCell (ahead c k)) 0 k) ∗ toks c 0 ∗ toks c 1 ∗ toks c 2)
    ∗ (cred (tallyAt (barCell c) () 31) ∗ creds c 0 ∗ creds c 1 ∗ creds c 2))

/-- What a device keeps of its own buffers for layer `l`. -/
def mine (l : Fin 3) : sProp 𝕄 :=
  iprop((∃ f, rsPts (F := F) c l 0 f) ∗ (∃ f, agPts (F := F) c l c f) ∗ (∃ f, redPts (F := F) c l fullShare f))

/-- What a device has of the others' buffers for layer `l`, after the barrier. -/
def lent (l : Fin 3) : sProp 𝕄 :=
  iprop(bigSep ds (fun k => iprop(∃ f, rsPts (F := F) (ahead c k) l (opp k) f))
    ∗ bigSep ds (fun k => iprop(∃ f, agPts (F := F) (ahead c k) l c f)))

omit [FloatOps F] in
theorem barPay_split (k : Fin 32) : barPay (F := F) c k = iprop(barOne c k 0 ∗ barOne c k 1 ∗ barOne c k 2) := by
  unfold barPay; exact by_layer _

omit [FloatOps F] in
theorem rs_give (l : Fin 3) (f : S3x32x16x256.Idx → Elt F .bf16) :
    bigSep ds (fun j => rsPts (F := F) c l j f) ⊢ bigSep ds fun j => iprop(∃ f, rsPts (F := F) c l j f) :=
  bigSep_mono fun j _ => by
    show (rsPts (F := F) c l j f : sProp 𝕄) ⊢ (iprop(∃ f, rsPts (F := F) c l j f) : sProp 𝕄)
    iintro H; iexists f; iexact H
omit [FloatOps F] in
theorem ag_give (l : Fin 3) (f : S3x512x256.Idx → Elt F .bf16) :
    bigSep ds (fun k => agPts (F := F) c l (ahead c k) f) ⊢ bigSep ds fun k => iprop(∃ f, agPts (F := F) c l (ahead c k) f) :=
  bigSep_mono fun j _ => by
    show (agPts (F := F) c l (ahead c j) f : sProp 𝕄) ⊢ (iprop(∃ f, agPts (F := F) c l (ahead c j) f) : sProp 𝕄)
    iintro H; iexists f; iexact H

omit [FloatOps F] in
/-- The scratch buffers are cut into what goes to the others and what stays. -/
theorem scratch_in (f1 : S3x16x256.Idx → Elt F .bf16) (f2 : S3x32x16x256.Idx → Elt F .bf16)
    (f3 : S3x512x256.Idx → Elt F .bf16) :
    iprop(whole c cc0_scratch1 f1 ∗ whole c cc0_scratch2 f2 ∗ whole c cc0_scratch3 f3)
      ⊢ (iprop(bigSep ds (fun k => barPay (F := F) c k) ∗ mine c 0 ∗ mine c 1 ∗ mine c 2) : sProp 𝕄) := by
  rw [rs_cut, red_cut, ag_cut, bigSep_univ_prod, bigSep_univ_prod, by_layer, by_layer, by_layer,
    by_slot fun j => rsPts (F := F) c 0 j f2, by_slot fun j => rsPts (F := F) c 1 j f2, by_slot fun j => rsPts (F := F) c 2 j f2,
    by_distance c fun j => agPts (F := F) c 0 j f3, by_distance c fun j => agPts (F := F) c 1 j f3,
    by_distance c fun j => agPts (F := F) c 2 j f3]
  simp only [barPay_split, barOne, bigSep_sep']
  unfold mine
  iintro ⟨⟨d0, d1, d2⟩, ⟨⟨a0, A0⟩, ⟨a1, A1⟩, ⟨a2, A2⟩⟩, ⟨⟨b0, B0⟩, ⟨b1, B1⟩, ⟨b2, B2⟩⟩⟩
  ihave A0 := (rs_give c 0 f2) $$ A0
  ihave A1 := (rs_give c 1 f2) $$ A1
  ihave A2 := (rs_give c 2 f2) $$ A2
  ihave B0 := (ag_give c 0 f3) $$ B0
  ihave B1 := (ag_give c 1 f3) $$ B1
  ihave B2 := (ag_give c 2 f3) $$ B2
  isplitl [A0 A1 A2 B0 B1 B2]
  · iframe
  isplitl [a0 b0 d0]
  · isplitl [a0]; · iexists f2; iexact a0
    isplitl [b0]; · iexists f3; iexact b0
    iexists f1; iexact d0
  isplitl [a1 b1 d1]
  · isplitl [a1]; · iexists f2; iexact a1
    isplitl [b1]; · iexists f3; iexact b1
    iexists f1; iexact d1
  · isplitl [a2]; · iexists f2; iexact a2
    isplitl [b2]; · iexists f3; iexact b2
    iexists f1; iexact d2

def oppEmb : Fin 32 ↪ Fin 32 := ⟨opp, fun a b h => by rw [← opp_opp a, ← opp_opp b, h]⟩

omit [FloatOps F] in
/-- A family over the distances, read at the opposite distances. -/
theorem by_opp (A : Fin 32 → sProp 𝕄) : bigSep ds A = bigSep ds fun k => A (opp k) := by
  conv_lhs => rw [show ds = ds.map oppEmb from by decide]
  exact bigSep_map oppEmb

omit [FloatOps F] in
/-- What the others paid into the barrier is what this device may write of theirs. -/
theorem lent_in : bigSep ds (fun k => barPay (F := F) (behind c k) k) ⊢ (iprop(lent c 0 ∗ lent c 1 ∗ lent c 2) : sProp 𝕄) := by
  rw [by_opp]
  simp only [behind_eq, opp_opp, barPay_split, barOne, bigSep_sep', ahead_opp]
  unfold lent
  iintro H
  iframe

theorem layer_in (l : Fin 3) :
    iprop(lent c l ∗ bigSep ds (fun j => atPos ER (rsCell c l j) 0 ∅ 0) ∗ bigSep ds (fun j => atPos ER (agCell c l j) 0 ∅ 0)
      ∗ creds c l ∗ toks c l ∗ mine c l) ⊢ (layIn c l : sProp 𝕄) := by
  unfold lent creds toks mine layIn
  iintro ⟨⟨h1, h2⟩, h3, h4, ⟨h5, h6⟩, ⟨h7, h8, h9, h10⟩, h11, h12, h13⟩
  iframe

/-- The semaphores at zero again. -/
def zeros : sProp 𝕄 :=
  iprop(bigSep Finset.univ (fun i : Fin 224 => semVal ((c : Thread nD τ), osem i) 0) ∗ semVal (barCell c) 0)

/-- Where a device stands when the three layers are over. -/
def ended : sProp 𝕄 :=
  iprop(((atPos ER (rsCell c 0 0) 0 ∅ 0 ∗ atPos ER (rsCell c 1 0) 0 ∅ 0 ∗ atPos ER (rsCell c 2 0) 0 ∅ 0)
      ∗ (atPos ER (agCell c 0 0) 0 ∅ 0 ∗ atPos ER (agCell c 1 0) 0 ∅ 0 ∗ atPos ER (agCell c 2 0) 0 ∅ 0)
      ∗ atPos ER (sndCell c 0) 0 ∅ 0)
    ∗ (bigSep ds (fun j => atPos ER (rsCell c 0 j) 1 ∅ 0) ∗ bigSep ds (fun j => atPos ER (rsCell c 1 j) 1 ∅ 0)
      ∗ bigSep ds (fun j => atPos ER (rsCell c 2 j) 1 ∅ 0))
    ∗ (bigSep ds (fun j => atPos ER (agCell c 0 j) 1 ∅ 0) ∗ bigSep ds (fun j => atPos ER (agCell c 1 j) 1 ∅ 0)
      ∗ bigSep ds (fun j => atPos ER (agCell c 2 j) 1 ∅ 0))
    ∗ bigSep ds (fun k => atPos ER (sndCell c k) 6 ∅ 0)
    ∗ atPos ER (barCell c) 1 ∅ 0)

theorem shut_rs0 (l : Fin 3) :
    iprop(recs I ∗ atPos ER (rsCell c l 0) 0 ∅ 0) ⊢ |={Set.univ}=> semVal (rsCell c l 0) 0 :=
  close_loc I c (rsLoc l 0) ⟨.inl (rsIx l 0), osem_rs l 0⟩ (later_rs I c l 0)
theorem shut_ag0 (l : Fin 3) :
    iprop(recs I ∗ atPos ER (agCell c l 0) 0 ∅ 0) ⊢ |={Set.univ}=> semVal (agCell c l 0) 0 :=
  close_loc I c (agLoc l 0) ⟨.inl (agIx l 0), osem_ag l 0⟩ (later_ag I c l 0)
theorem shut_snd0 : iprop(recs I ∗ atPos ER (sndCell c 0) 0 ∅ 0) ⊢ |={Set.univ}=> semVal (sndCell c 0) 0 :=
  close_loc I c (sndLoc 0) ⟨.inl (sndIx 0), osem_snd 0⟩ (later_snd I c 0)
theorem shut_bar : iprop(recs I ∗ atPos ER (barCell c) 1 ∅ 0) ⊢ |={Set.univ}=> semVal (barCell c) 0 :=
  close_loc I c barLoc ⟨.inr (), rfl⟩ (later_bar I c)
theorem shut_rs (l : Fin 3) : iprop(recs I ∗ bigSep ds fun j => atPos ER (rsCell c l j) 1 ∅ 0)
    ⊢ |={Set.univ}=> bigSep ds fun j => semVal (rsCell c l j) 0 :=
  close_many I c ds (rsLoc l) (fun j => ⟨.inl (rsIx l j), osem_rs l j⟩) fun j hj r hr =>
    later_rs I c l j r (by rw [if_neg (Finset.ne_of_mem_erase hj)]; exact hr)
theorem shut_ag (l : Fin 3) : iprop(recs I ∗ bigSep ds fun j => atPos ER (agCell c l j) 1 ∅ 0)
    ⊢ |={Set.univ}=> bigSep ds fun j => semVal (agCell c l j) 0 :=
  close_many I c ds (agLoc l) (fun j => ⟨.inl (agIx l j), osem_ag l j⟩) fun j hj r hr =>
    later_ag I c l j r (by rw [if_neg (Finset.ne_of_mem_erase hj)]; exact hr)
theorem shut_snd : iprop(recs I ∗ bigSep ds fun k => atPos ER (sndCell c k) 6 ∅ 0)
    ⊢ |={Set.univ}=> bigSep ds fun k => semVal (sndCell c k) 0 :=
  close_many I c ds sndLoc (fun j => ⟨.inl (sndIx j), osem_snd j⟩) fun j hj r hr =>
    later_snd I c j r (by rw [if_neg (Finset.ne_of_mem_erase hj)]; exact hr)

/-- All the cells of a device close. -/
theorem close_all : iprop(recs I ∗ ended c) ⊢ |={Set.univ}=> zeros c := by
  unfold ended zeros
  iintro ⟨#HR, ⟨⟨a0, a1, a2⟩, ⟨b0, b1, b2⟩, c0⟩, ⟨A0, A1, A2⟩, ⟨B0, B1, B2⟩, C0, d⟩
  icombine HR a0 as a0
  imod (shut_rs0 I c 0) $$ a0 with a0
  icombine HR a1 as a1
  imod (shut_rs0 I c 1) $$ a1 with a1
  icombine HR a2 as a2
  imod (shut_rs0 I c 2) $$ a2 with a2
  icombine HR b0 as b0
  imod (shut_ag0 I c 0) $$ b0 with b0
  icombine HR b1 as b1
  imod (shut_ag0 I c 1) $$ b1 with b1
  icombine HR b2 as b2
  imod (shut_ag0 I c 2) $$ b2 with b2
  icombine HR c0 as c0
  imod (shut_snd0 I c) $$ c0 with c0
  icombine HR A0 as A0
  imod (shut_rs I c 0) $$ A0 with A0
  icombine HR A1 as A1
  imod (shut_rs I c 1) $$ A1 with A1
  icombine HR A2 as A2
  imod (shut_rs I c 2) $$ A2 with A2
  icombine HR B0 as B0
  imod (shut_ag I c 0) $$ B0 with B0
  icombine HR B1 as B1
  imod (shut_ag I c 1) $$ B1 with B1
  icombine HR B2 as B2
  imod (shut_ag I c 2) $$ B2 with B2
  icombine HR C0 as C0
  imod (shut_snd I c) $$ C0 with C0
  icombine HR d as d
  imod (shut_bar I c) $$ d with d
  imodintro
  isplitr [d]
  · iapply (unsort fun s => semVal ((c : Thread nD τ), s) 0)
    unfold sorted
    iframe
  · iexact d

theorem scratch_out : iprop(
      (bigSep Finset.univ (fun j => rsPts c 0 j (rsF I c)) ∗ bigSep Finset.univ (fun j => rsPts c 1 j (rsF I c))
        ∗ bigSep Finset.univ (fun j => rsPts c 2 j (rsF I c)))
      ∗ (bigSep Finset.univ (fun j => agPts c 0 j (agF I)) ∗ bigSep Finset.univ (fun j => agPts c 1 j (agF I))
        ∗ bigSep Finset.univ (fun j => agPts c 2 j (agF I)))
      ∗ (redPts c 0 fullShare (redF I c) ∗ redPts c 1 fullShare (redF I c) ∗ redPts c 2 fullShare (redF I c)))
    ⊢ (iprop(whole c cc0_scratch1 (redF I c) ∗ whole c cc0_scratch2 (rsF I c) ∗ whole c cc0_scratch3 (agF I)) : sProp 𝕄) := by
  rw [rs_cut, red_cut, ag_cut, bigSep_univ_prod, bigSep_univ_prod, by_layer, by_layer, by_layer]
  iintro ⟨h1, h2, h3⟩
  iframe

end Cert.Proof.Mlp
-- ==== Proof.Run.lean ====
/- The run of the body on one device. -/
module

public import proofs.«01_k».proof.Proof.Body

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD) (Q : PUnit.{1} → sProp (MT nD τ sig Unit (Elt F) ℕ UU ℕ))

/-- A load of a whole 512 × 256 buffer. -/
theorem ld_x (m : Memref sig .tc .vmem S512x256 .bf16) (f : Buf (Elt F) (m.view.loc (c : Thread nD τ)))
    (v : Vec F S512x256 .bf16) (h : m.view.readAt (Elt F) rX.toLoadRect f = v) (next : Vec F S512x256 .bf16 → Code (F := F)) :
    iprop((m.view.loc (c : Thread nD τ) ↦{fullShare} f) ∗ ((m.view.loc (c : Thread nD τ) ↦{fullShare} f) -∗ Run c (next v) Q))
      ⊢ Run c (.op (opLoadX m) next) Q := by
  subst h
  unfold opLoadX
  iintro ⟨H, Hk⟩
  iapply (wp_load 𝒱₀ (c : Thread nD τ) none Set.univ (m := m) (Finset.subset_univ _)) $$ H
  iintro H
  iapply Hk; iexact H

/-- A load of a whole 256 × 512 buffer. -/
theorem ld_w (m : Memref sig .tc .vmem S256x512 .bf16) (f : Buf (Elt F) (m.view.loc (c : Thread nD τ)))
    (v : Vec F S256x512 .bf16) (h : m.view.readAt (Elt F) rW.toLoadRect f = v) (next : Vec F S256x512 .bf16 → Code (F := F)) :
    iprop((m.view.loc (c : Thread nD τ) ↦{fullShare} f) ∗ ((m.view.loc (c : Thread nD τ) ↦{fullShare} f) -∗ Run c (next v) Q))
      ⊢ Run c (.op (opLoadW m) next) Q := by
  subst h
  unfold opLoadW
  iintro ⟨H, Hk⟩
  iapply (wp_load 𝒱₀ (c : Thread nD τ) none Set.univ (m := m) (Finset.subset_univ _)) $$ H
  iintro H
  iapply Hk; iexact H

/-- The weights' buffers of a device, holding its inputs. -/
def stgs : sProp 𝕄 :=
  iprop(whole c cc0_stg0_0 (I.x c) ∗ whole c cc0_stg1_0 (I.wi 0 c) ∗ whole c cc0_stg2_0 (I.wo 0 c)
    ∗ whole c cc0_stg3_0 (I.wi 1 c) ∗ whole c cc0_stg4_0 (I.wo 1 c) ∗ whole c cc0_stg5_0 (I.wi 2 c)
    ∗ whole c cc0_stg6_0 (I.wo 2 c))

/-- The scratch buffers, whatever they hold. -/
def scratch : sProp 𝕄 :=
  iprop((∃ f : S512x256.Idx → Elt F .bf16, whole c cc0_scratch0 f) ∗ (∃ f : S3x16x256.Idx → Elt F .bf16, whole c cc0_scratch1 f)
    ∗ (∃ f : S3x32x16x256.Idx → Elt F .bf16, whole c cc0_scratch2 f) ∗ (∃ f : S3x512x256.Idx → Elt F .bf16, whole c cc0_scratch3 f))

/-- The end of a layer's work before the last: the next partial product. -/
theorem run_next (win : Memref sig .tc .vmem S256x512 .bf16) (wout : Memref sig .tc .vmem S512x256 .bf16)
    (fi : Buf (Elt F) (win.view.loc (c : Thread nD τ))) (fo : Buf (Elt F) (wout.view.loc (c : Thread nD τ)))
    (v : Vec F S1x512x256 .bf16) (a : Vec F S256x512 .bf16) (b : Vec F S512x256 .bf16)
    (ha : win.view.readAt (Elt F) rW.toLoadRect fi = a) (hb : wout.view.readAt (Elt F) rX.toLoadRect fo = b)
    (P g : Vec F S512x256 .bf16) (hg : k0_pay6 v a b = g) (next : Code (F := F)) :
    iprop((win.view.loc (c : Thread nD τ) ↦{fullShare} fi) ∗ (wout.view.loc (c : Thread nD τ) ↦{fullShare} fo)
        ∗ whole c cc0_scratch0 P
        ∗ ((win.view.loc (c : Thread nD τ) ↦{fullShare} fi) ∗ (wout.view.loc (c : Thread nD τ) ↦{fullShare} fo)
          ∗ whole c cc0_scratch0 g -∗ Run c next Q))
      ⊢ Run c (nextP win wout v next) Q := by
  subst hg
  unfold nextP
  iintro ⟨Hi, Ho, Hs, Hk⟩
  iapply (ld_w c Q win fi a ha)
  isplitl [Hi]; · iexact Hi
  iintro Hi
  iapply (ld_x c Q wout fo b hb)
  isplitl [Ho]; · iexact Ho
  iintro Ho
  iapply (ld_sb c Q P)
  isplitl [Hs]; · iexact Hs
  iintro Hs
  iapply (st_sb c Q P)
  isplitl [Hs]; · iexact Hs
  iintro Hs
  iapply Hk
  iframe

/-- The last store. -/
theorem run_out (f : S512x256.Idx → Elt F .f32) (g : Vec F S512x256 .f32) :
    iprop(whole c cc0_stg7_0 f ∗ (whole c cc0_stg7_0 g -∗ Q ⟨⟩))
      ⊢ Run c (.op (.load (Memref.whole cc0_stg7_0) rX.toLoadRect (View.loadsAt_vmem h_S512x256)) fun _ =>
          .op (.store (Memref.whole cc0_stg7_0) rX g Finset.univ (View.stores_vmem_bits_univ h_S512x256 rfl) (.inl rfl)) fun _ =>
          .ret ⟨⟩) Q := by
  iintro ⟨H, Hk⟩
  iapply (wp_load 𝒱₀ (c : Thread nD τ) none Set.univ (m := Memref.whole cc0_stg7_0) (Finset.subset_univ _)) $$ H
  iintro H
  iapply (wp_store 𝒱₀ (c : Thread nD τ) none Set.univ (m := Memref.whole cc0_stg7_0) (r := rX) (Mk := Finset.univ)
    (Finset.subset_univ _)) $$ H
  iintro H
  have hw : ((Memref.whole cc0_stg7_0).access rX).write (Elt F) f g Finset.univ = g :=
    Memref.write_access_unit_zero_univ (Elt F) cc0_stg7_0 zero2 _ f g
  rw [hw]
  simp only [wp_ret]
  imodintro
  iapply Hk
  iexact H

/-- What the body leaves. -/
def result : sProp 𝕄 :=
  iprop(whole c cc0_scratch0 (part I 2 c) ∗ whole c cc0_scratch1 (redF I c) ∗ whole c cc0_scratch2 (rsF I c)
    ∗ whole c cc0_scratch3 (agF I) ∗ zeros c ∗ owed (F := F) c 0 ∗ stgs I c ∗ whole c cc0_stg7_0 (outF I))

theorem reached_snd : recs I ⊢ bigSep ds fun k => reached ER (sndCell c k) 0 :=
  (BI.bigSep_of_persistent ds (recs I)).trans (bigSep_mono fun k _ => (recs_snd I c k).trans (by
    unfold recOf
    iintro ⟨-, H⟩
    iexact H))

theorem start_snd : iprop(recs I ∗ bigSep ds fun k => atPos ER (sndCell c k) 0 ∅ 0) ⊢ sndAt c 0 := by
  unfold sndAt
  iintro ⟨#HR, Hat⟩
  isplitl [Hat]
  · iexact Hat
  · iapply (reached_snd I c); iexact HR

theorem run_body (f7 : S512x256.Idx → Elt F .f32) :
    iprop(ctx I ∗ share c ∗ scratch c ∗ owed (F := F) c (O₀ c) ∗ stgs I c ∗ whole c cc0_stg7_0 f7 ∗ (result I c -∗ Q ⟨⟩))
      ⊢ Run c (bodyP (Memref.whole cc0_stg0_0) (Memref.whole cc0_stg1_0) (Memref.whole cc0_stg2_0) (Memref.whole cc0_stg3_0)
          (Memref.whole cc0_stg4_0) (Memref.whole cc0_stg5_0) (Memref.whole cc0_stg6_0) (Memref.whole cc0_stg7_0)) Q := by
  unfold bodyP share scratch stgs
  iintro ⟨#Hctx, ⟨⟨Hats, Hbar⟩, ⟨Htb, Ht0, Ht1, Ht2⟩, ⟨Hcb, Hc0, Hc1, Hc2⟩⟩, ⟨⟨%g0, Hs0⟩, ⟨%g1, Hs1⟩, ⟨%g2, Hs2⟩, ⟨%g3, Hs3⟩⟩,
    HO, ⟨H0, H1, H2, H3, H4, H5, H6⟩, H7, HQ⟩
  have hctx : ctx I ⊢ recs I := by unfold ctx; iintro ⟨H, -⟩; iexact H
  ihave #HR := hctx $$ Hctx
  ihave Hats := (sort fun s => atPos ER ((c : Thread nD τ), s) 0 ∅ 0) $$ Hats
  unfold sorted
  icases Hats with ⟨⟨⟨a0, a1, a2⟩, ⟨b0, b1, b2⟩, c0⟩, ⟨A0, A1, A2⟩, ⟨B0, B1, B2⟩, C0⟩
  icombine HR C0 as C0
  ihave C0 := (start_snd I c) $$ C0
  icombine Hs1 Hs2 Hs3 as Hs
  ihave Hs := (scratch_in c g1 g2 g3) $$ Hs
  icases Hs with ⟨Hpay, Hm0, Hm1, Hm2⟩
  unfold Run
  simp only [wp_deviceId]
  iapply (ph_signal I c Q (bef c 0))
  isplitl []; · iexact Hctx
  isplitl [Htb Hpay]; · iframe
  isplitl [HO]; · iexact HO
  iintro ⟨-, HO⟩
  iapply (ld_x c Q (Memref.whole cc0_stg0_0) (I.x c) (I.x c) (Memref.readAt_unit_zero (Elt F) cc0_stg0_0 zero2 _ _))
  isplitl [H0]; · iexact H0
  iintro H0
  iapply (ld_w c Q (Memref.whole cc0_stg1_0) (I.wi 0 c) (I.wi 0 c) (Memref.readAt_unit_zero (Elt F) cc0_stg1_0 zero2 _ _))
  isplitl [H1]; · iexact H1
  iintro H1
  iapply (ld_x c Q (Memref.whole cc0_stg2_0) (I.wo 0 c) (I.wo 0 c) (Memref.readAt_unit_zero (Elt F) cc0_stg2_0 zero2 _ _))
  isplitl [H2]; · iexact H2
  iintro H2
  iapply (ld_sb c Q g0)
  isplitl [Hs0]; · iexact Hs0
  iintro Hs0
  iapply (st_sb c Q g0 (part I 0 c))
  isplitl [Hs0]; · iexact Hs0
  iintro Hs0
  iapply (step_bar I c Q (above_bef c 0))
  isplitl []; · iexact Hctx
  isplitl [Hbar Hcb]; · iframe
  isplitl [HO]; · iexact HO
  iintro ⟨⟨Hbar, Hl⟩, HO⟩
  ihave Hl := (lent_in c) $$ Hl
  icases Hl with ⟨Hl0, Hl1, Hl2⟩
  icombine Hl0 A0 B0 Hc0 Ht0 Hm0 as Hin
  ihave Hin := (layer_in c 0) $$ Hin
  iapply (run_layer I c Q 0)
  isplitl []; · iexact Hctx
  isplitl [Hs0]; · iexact Hs0
  isplitl [Hin]; · iexact Hin
  isplitl [C0]; · iexact C0
  isplitl [HO]; · iexact HO
  iintro ⟨Hs0, Ho0, C0, HO⟩
  iapply (run_next c Q (Memref.whole cc0_stg3_0) (Memref.whole cc0_stg4_0) (I.wi 1 c) (I.wo 1 c) (slabOf (part I 0))
    (I.wi 1 c) (I.wo 1 c) (Memref.readAt_unit_zero (Elt F) cc0_stg3_0 zero2 _ _)
    (Memref.readAt_unit_zero (Elt F) cc0_stg4_0 zero2 _ _) (part I 0 c) (part I 1 c) rfl)
  isplitl [H3]; · iexact H3
  isplitl [H4]; · iexact H4
  isplitl [Hs0]; · iexact Hs0
  iintro ⟨H3, H4, Hs0⟩
  icombine Hl1 A1 B1 Hc1 Ht1 Hm1 as Hin
  ihave Hin := (layer_in c 1) $$ Hin
  iapply (run_layer I c Q 1)
  isplitl []; · iexact Hctx
  isplitl [Hs0]; · iexact Hs0
  isplitl [Hin]; · iexact Hin
  isplitl [C0]; · iexact C0
  isplitl [HO]; · iexact HO
  iintro ⟨Hs0, Ho1, C0, HO⟩
  iapply (run_next c Q (Memref.whole cc0_stg5_0) (Memref.whole cc0_stg6_0) (I.wi 2 c) (I.wo 2 c) (slabOf (part I 1))
    (I.wi 2 c) (I.wo 2 c) (Memref.readAt_unit_zero (Elt F) cc0_stg5_0 zero2 _ _)
    (Memref.readAt_unit_zero (Elt F) cc0_stg6_0 zero2 _ _) (part I 1 c) (part I 2 c) rfl)
  isplitl [H5]; · iexact H5
  isplitl [H6]; · iexact H6
  isplitl [Hs0]; · iexact Hs0
  iintro ⟨H5, H6, Hs0⟩
  icombine Hl2 A2 B2 Hc2 Ht2 Hm2 as Hin
  ihave Hin := (layer_in c 2) $$ Hin
  iapply (run_layer I c Q 2)
  isplitl []; · iexact Hctx
  isplitl [Hs0]; · iexact Hs0
  isplitl [Hin]; · iexact Hin
  isplitl [C0]; · iexact C0
  isplitl [HO]; · iexact HO
  iintro ⟨Hs0, Ho2, C0, HO⟩
  unfold layOut sndAt
  icases Ho0 with ⟨A0, B0, R0, G0, D0⟩
  icases Ho1 with ⟨A1, B1, R1, G1, D1⟩
  icases Ho2 with ⟨A2, B2, R2, G2, D2⟩
  icases C0 with ⟨C0, -⟩
  have hc := close_all I c
  unfold ended at hc
  ihave Hz := hc $$ [a0 a1 a2 b0 b1 b2 c0 A0 A1 A2 B0 B1 B2 C0 Hbar]
  · isplitl []; · iexact HR
    iframe
  have ho := scratch_out I c
  ihave Hs := ho $$ [R0 R1 R2 G0 G1 G2 D0 D1 D2]
  · iframe
  icases Hs with ⟨Hs1, Hs2, Hs3⟩
  iapply (fupd_wp (Q := Q))
  imod Hz
  imodintro
  iapply (run_out c Q f7 (outF I))
  isplitl [H7]; · iexact H7
  iintro H7
  iapply HQ
  have he : owed (F := F) c (aft c 2) ⊢ owed c 0 := by rw [aft_2]
  ihave HO := he $$ HO
  unfold result stgs
  iframe

end Cert.Proof.Mlp
-- ==== Proof.Tokens.lean ====
/- The protocol's launch: cells, duty tokens and credit of all the devices, and how they are dealt out. -/
module

public import proofs.«01_k».proof.Proof.Run

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem csem_inj : Function.Injective csem := by
  rintro (i | u) (j | v) h
  · have h' : 8 + i.val = 8 + j.val := congrArg (fun s : SemLoc sig => match s with | .dma x => x.val | .reg x => 0) h
    rw [show i = j from Fin.ext (by omega)]
  · exact absurd h (by unfold csem osem; exact fun h => by cases h)
  · exact absurd h (by unfold csem osem; exact fun h => by cases h)
  · rfl

theorem kcell_inj : Function.Injective kcell := by
  rintro ⟨c, i⟩ ⟨c', i'⟩ h
  have h1 : c = c' := Fin.ext (congrArg (fun g : GSem nD τ sig => g.1.1.val) h)
  have h2 : i = i' := csem_inj (congrArg Prod.snd h)
  rw [h1, h2]

def cellSet : Finset (GSem nD τ sig) := Finset.univ.map ⟨kcell, kcell_inj⟩

/-! ## The duty tokens -/

/-- Which duties the cells of one device have: the barrier's by distance, the slots', the rows', and those of a send
    cell in an even and in an odd round. -/
abbrev TI : Type := Fin 32 ⊕ (Fin 3 × Fin 32) ⊕ (Fin 3 × Fin 32) ⊕ (Fin 3 × Fin 32) ⊕ (Fin 3 × Fin 32)

def tokAt (c : Dev nD) : TI → GSem nD τ sig × ℕ × Fin 32
  | .inl k => (barCell c, 0, k)
  | .inr (.inl x) => (rsCell c x.1 x.2, 0, 0)
  | .inr (.inr (.inl x)) => (agCell c x.1 x.2, 0, 0)
  | .inr (.inr (.inr (.inl x))) => (sndCell c x.2, 2 * x.1.val, 0)
  | .inr (.inr (.inr (.inr x))) => (sndCell c x.2, 2 * x.1.val + 1, 0)

/-- What tells one token from another. -/
def mark (x : GSem nD τ sig × ℕ × Fin 32) : Fin 32 × Kd × ℕ × Fin 32 := (x.1.1.1, kd x.1.2, x.2.1, x.2.2)

theorem tokAt_inj : Function.Injective fun ct : Dev nD × TI => tokAt ct.1 ct.2 := by
  rintro ⟨c, t⟩ ⟨c', t'⟩ h
  have h := congrArg mark h
  rcases t with k | ⟨l, j⟩ | ⟨l, j⟩ | ⟨l, j⟩ | ⟨l, j⟩ <;> rcases t' with k' | ⟨l', j'⟩ | ⟨l', j'⟩ | ⟨l', j'⟩ | ⟨l', j'⟩ <;>
    simp only [mark, tokAt, kd_bar, kd_rs, kd_ag, kd_snd, Prod.mk.injEq, Kd.rs.injEq, Kd.ag.injEq, Kd.snd.injEq, reduceCtorEq,
      true_and, and_true, false_and, and_false] at h <;>
    first
      | (exfalso; omega)
      | (obtain ⟨h1, h2⟩ := h
         first
           | (obtain ⟨h2, h3⟩ := h2; subst h1 h2; first | (subst h3; rfl) | (rw [show l = l' from Fin.ext (by omega)]))
           | (subst h1 h2; rfl))

def tokSet : Finset (GSem nD τ sig × ℕ × Fin 32) := Finset.univ.map ⟨fun ct : Dev nD × TI => tokAt ct.1 ct.2, tokAt_inj⟩

/-- The tokens of one device's own cells. -/
def born (c : Dev nD) : sProp 𝕄 :=
  iprop((bigSep Finset.univ fun k : Fin 32 => dutyTok ER (barCell c) 0 k)
    ∗ (bigSep Finset.univ fun l : Fin 3 => bigSep Finset.univ fun j : Fin 32 => dutyTok ER (rsCell c l j) 0 0)
    ∗ (bigSep Finset.univ fun l : Fin 3 => bigSep Finset.univ fun j : Fin 32 => dutyTok ER (agCell c l j) 0 0)
    ∗ (bigSep Finset.univ fun l : Fin 3 => bigSep Finset.univ fun k : Fin 32 => dutyTok ER (sndCell c k) (2 * l.val) 0)
    ∗ (bigSep Finset.univ fun l : Fin 3 => bigSep Finset.univ fun k : Fin 32 => dutyTok ER (sndCell c k) (2 * l.val + 1) 0))

/-- The tokens of the duties one device pays. -/
def spent (c : Dev nD) : sProp 𝕄 :=
  iprop(bigSep ds (fun k => dutyTok ER (barCell (ahead c k)) 0 k) ∗ toks c 0 ∗ toks c 1 ∗ toks c 2)

omit [FloatOps F] in
theorem born_eq : bigSep tokSet (fun x => (dutyTok ER x.1 x.2.1 x.2.2 : sProp 𝕄)) = bigSep Finset.univ fun c : Dev nD => born c := by
  unfold tokSet
  rw [bigSep_map, bigSep_univ_prod]
  refine bigSep_congr fun c _ => ?_
  unfold born
  rw [bigSep_univ_sum, bigSep_univ_sum, bigSep_univ_sum, bigSep_univ_sum, bigSep_univ_prod, bigSep_univ_prod, bigSep_univ_prod,
    bigSep_univ_prod]
  rfl

def oppEquiv : Fin 32 ≃ Fin 32 := ⟨opp, opp, opp_opp, opp_opp⟩
def shift (k : Fin 32) : Fin 32 ≃ Fin 32 := ⟨fun c => ahead c k, fun c => behind c k, fun c => behind_ahead c k, fun c => ahead_behind c k⟩

omit [FloatOps F] in
/-- What every device has for every distance goes to the device that far behind. -/
theorem deal (A : Fin 32 → Fin 32 → sProp 𝕄) :
    (bigSep Finset.univ fun c => bigSep Finset.univ fun k => A c k)
      = bigSep Finset.univ fun c => bigSep Finset.univ fun k => A (ahead c k) k := by
  rw [bigSep_univ_comm, bigSep_univ_comm (fun c k => A (ahead c k) k)]
  exact bigSep_congr fun k _ => bigSep_univ_equiv (shift k) (fun c => A c k)

omit [FloatOps F] in
theorem deal_opp (A : Fin 32 → Fin 32 → sProp 𝕄) :
    (bigSep Finset.univ fun c => bigSep Finset.univ fun j => A c j)
      = bigSep Finset.univ fun c => bigSep Finset.univ fun k => A (ahead c k) (opp k) := by
  rw [← deal fun c k => A c (opp k)]
  exact bigSep_congr fun c _ => bigSep_univ_equiv oppEquiv (A c)

omit [FloatOps F] in
theorem deal_layers (A : Fin 32 → Fin 3 → Fin 32 → sProp 𝕄) :
    (bigSep Finset.univ fun c => bigSep Finset.univ fun l => bigSep Finset.univ fun j => A c l j)
      = bigSep Finset.univ fun c => bigSep Finset.univ fun l => bigSep Finset.univ fun k => A (ahead c k) l (opp k) := by
  rw [bigSep_univ_comm, bigSep_univ_comm (fun c l => bigSep Finset.univ fun k => A (ahead c k) l (opp k))]
  exact bigSep_congr fun l _ => deal_opp fun c j => A c l j

omit [FloatOps F] in
theorem spare (A : Fin 32 → sProp 𝕄) : bigSep Finset.univ A ⊢ bigSep ds A := bigSep_subset (Finset.erase_subset _ _)

omit [FloatOps F] in
/-- A device's tokens once dealt, by layer. -/
theorem spent_in (c : Dev nD) :
    iprop((bigSep Finset.univ fun k : Fin 32 => dutyTok ER (barCell (ahead c k)) 0 k)
      ∗ (bigSep Finset.univ fun l : Fin 3 => bigSep Finset.univ fun k : Fin 32 => dutyTok ER (rsCell (ahead c k) l (opp k)) 0 0)
      ∗ (bigSep Finset.univ fun l : Fin 3 => bigSep Finset.univ fun k : Fin 32 => dutyTok ER (agCell (ahead c k) l (opp k)) 0 0)
      ∗ (bigSep Finset.univ fun l : Fin 3 => bigSep Finset.univ fun k : Fin 32 => dutyTok ER (sndCell c k) (2 * l.val) 0)
      ∗ (bigSep Finset.univ fun l : Fin 3 => bigSep Finset.univ fun k : Fin 32 => dutyTok ER (sndCell c k) (2 * l.val + 1) 0))
    ⊢ (spent c : sProp 𝕄) := by
  unfold spent toks
  rw [by_layer, by_layer, by_layer, by_layer]
  iintro ⟨hb, ⟨r0, r1, r2⟩, ⟨a0, a1, a2⟩, ⟨e0, e1, e2⟩, o0, o1, o2⟩
  isplitl [hb]; · iapply (spare _); iexact hb
  isplitl [r0 a0 e0 o0]
  · isplitl [e0]; · iapply (spare _); iexact e0
    isplitl [o0]; · iapply (spare _); iexact o0
    isplitl [r0]; · iapply (spare _); iexact r0
    iapply (spare _); iexact a0
  isplitl [r1 a1 e1 o1]
  · isplitl [e1]; · iapply (spare _); iexact e1
    isplitl [o1]; · iapply (spare _); iexact o1
    isplitl [r1]; · iapply (spare _); iexact r1
    iapply (spare _); iexact a1
  · isplitl [e2]; · iapply (spare _); iexact e2
    isplitl [o2]; · iapply (spare _); iexact o2
    isplitl [r2]; · iapply (spare _); iexact r2
    iapply (spare _); iexact a2

omit [FloatOps F] in
/-- Each device's tokens go to those who pay the duties. -/
theorem born_spent : (bigSep Finset.univ fun c : Dev nD => (born c : sProp 𝕄)) ⊢ bigSep Finset.univ fun c : Dev nD => spent c := by
  unfold born
  rw [bigSep_sep', bigSep_sep', bigSep_sep', bigSep_sep', deal fun c k => dutyTok ER (barCell c) 0 k,
    deal_layers fun c l j => dutyTok ER (rsCell c l j) 0 0, deal_layers fun c l j => dutyTok ER (agCell c l j) 0 0,
    ← bigSep_sep', ← bigSep_sep', ← bigSep_sep', ← bigSep_sep']
  exact bigSep_mono fun c _ => spent_in c

/-! ## The launch -/

variable (I : Ins F)

def u₀ : UU :=
  (initOf (Pipeline.cells cfgs cellOf_inj) (Pipeline.launchToks cfgs cellOf_inj), initOf cellSet tokSet)

/-- What the launch deals a device, -/
def dealt (c : Dev nD) : sProp 𝕄 :=
  iprop((bigSep Finset.univ fun i : CI => roundState ER (ringRd I) (kcell (c, i)) 0)
    ∗ (bigSep Finset.univ fun i : CI => atPos ER (kcell (c, i)) 0 ∅ 0)
    ∗ (bigSep Finset.univ fun i : CI => reached ER (kcell (c, i)) 0) ∗ born c)
/-- and what it has once all have set up. -/
def ready (c : Dev nD) : sProp 𝕄 :=
  iprop(recs I ∗ (bigSep Finset.univ fun i : CI => atPos ER (kcell (c, i)) 0 ∅ 0) ∗ spent c)

theorem fund_all : BI.own (ER (initOf cellSet tokSet)) ⊢ (|==> bigSep Finset.univ (dealt I) : sProp 𝕄) := by
  have hX (Φ : GSem nD τ sig → sProp 𝕄) : bigSep cellSet Φ = bigSep Finset.univ fun c : Dev nD => bigSep Finset.univ fun i : CI => Φ (kcell (c, i)) := by
    unfold cellSet; rw [bigSep_map, bigSep_univ_prod]; rfl
  iintro HX
  imod (Rounds.fund ER (ringRd I) cellSet tokSet) $$ HX with ⟨Hst, Hr, Hat, Htok⟩
  imodintro
  ihave Hst := (Entails.of_eq (hX fun g => roundState ER (ringRd I) g 0)) $$ Hst
  ihave Hat := (Entails.of_eq (hX fun g => atPos ER g 0 ∅ 0)) $$ Hat
  ihave Hr := (Entails.of_eq (hX fun g => reached ER g 0)) $$ Hr
  ihave Htok := (Entails.of_eq born_eq) $$ Htok
  unfold dealt; simp only [bigSep_sep']
  iframe

omit [FloatOps F] in
/-- The barrier's semaphore is the one semaphore that outlives the kernel. -/
theorem unscopedSems0_eq (c : Dev nD) : (unscopedSems0 c : sProp 𝕄) = semVal (barCell c) 0 := by
  unfold unscopedSems0; rw [bigSep_eq_bigSepL_of_eq [barLoc] (by decide +kernel) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  have hs : (bigSep Finset.univ fun i : CI => semVal (kcell (c, i)) 0 : sProp 𝕄)
      = iprop((bigSep Finset.univ fun i : Fin 224 => semVal (kcell (c, .inl i)) 0)
        ∗ bigSep Finset.univ fun u : Unit => semVal (kcell (c, .inr u)) 0) := bigSep_univ_sum _
  rw [unscopedSems0_eq, hs]
  unfold Pipeline.ownSems0
  iintro ⟨H, B⟩
  isplitl [H]; · iexact H
  iapply (Entails.of_eq (show semVal (barCell c) 0 = bigSep Finset.univ fun u : Unit => (semVal (kcell (c, .inr u)) 0 : sProp 𝕄) from by
    rw [show (Finset.univ : Finset Unit) = {()} from rfl, bigSep_singleton]; rfl))
  iexact B

theorem alloc_one (c : Dev nD) :
    iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun i : CI => recOf I (kcell (c, i)))
          ∗ (bigSep Finset.univ fun i : CI => atPos ER (kcell (c, i)) 0 ∅ 0) ∗ born c) := by
  have hopen : iprop((bigSep Finset.univ fun i : CI => semVal (kcell (c, i)) 0) ∗ bigSep Finset.univ fun i : CI => roundState ER (ringRd I) (kcell (c, i)) 0)
      ⊢ (|={Set.univ}=> bigSep Finset.univ fun i => iprop(∃ κ : ℕ, cellInv ER (ringRd I) κ (kcell (c, i))) : sProp 𝕄) := by
    rw [← bigSep_sep']
    exact (bigSep_mono fun i _ => (Rounds.body_intro ER (ringRd I) (kcell (c, i))).trans inv_alloc).trans (bigSep_fupd _ _)
  unfold dealt recOf
  rw [bigSep_sep']
  iintro ⟨Hos, Hus, Hst, Hat, Hr, Htok⟩
  icombine Hos Hus as Hv
  ihave Hv := (sems_eq (F := F) c) $$ Hv
  icombine Hv Hst as Hv
  imod hopen $$ Hv with Hinv
  imodintro
  iframe

theorem regroup :
    (bigSep Finset.univ fun c : Dev nD => iprop((bigSep Finset.univ fun i : CI => recOf I (kcell (c, i)))
          ∗ (bigSep Finset.univ fun i : CI => atPos ER (kcell (c, i)) 0 ∅ 0) ∗ born c) : sProp 𝕄)
      ⊢ bigSep Finset.univ (ready I) := by
  unfold ready
  rw [bigSep_sep', bigSep_sep', ← bigSep_univ_prod (fun ck : Dev nD × CI => recOf I (kcell ck)), bigSep_sep', bigSep_sep']
  iintro ⟨#HI, Hat, Htok⟩
  isplitl []
  · iapply (BI.bigSep_of_persistent Finset.univ (recs I)); unfold recs; iexact HI
  isplitl [Hat]; · iexact Hat
  iapply born_spent; iexact Htok

theorem set_up : (bigSep Finset.univ fun c => iprop(Pipeline.ownSems0 (Ix := Unit) (Name := ℕ) (U := UU) (Lvl := ℕ) (Val := Elt F) (τ := τ) osem c ∗ unscopedSems0 c ∗ dealt I c) : sProp 𝕄)
    ⊢ |={Set.univ}=> bigSep Finset.univ (ready I) :=
  ((bigSep_mono fun c _ => alloc_one I c).trans (bigSep_fupd _ _)).trans (BI.fupd_mono (regroup I))

end Cert.Proof.Mlp
-- ==== Proof.Credit.lean ====
/- The credit the launch gives each device: what the others owe its cells. -/
module

public import proofs.«01_k».proof.Proof.Tokens

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What all devices together owe cell `g` when each owes `n` to the cell `cf p k` of the device `p` at distance `k`. -/
def load (cf : Dev nD → Fin 32 → GSem nD τ sig) (n : ℕ) (g : GSem nD τ sig) : ℕ :=
  ∑ k ∈ ds, ∑ p : Fin 32, (tallyAt (cf p k) () n : Tal) g ()

theorem debt_apply (t : Fin 32 → Tal) (g : GSem nD τ sig) : ∀ is : List (Fin 32), debt t is g () = (is.map fun k => t k g ()).sum
  | [] => rfl
  | k :: is => by
    show (debt t is + t k) g () = _
    rw [Pi.add_apply, Finsupp.add_apply, debt_apply t g is, List.map_cons, List.sum_cons, Nat.add_comm]

theorem sum_debt (cf : Dev nD → Fin 32 → GSem nD τ sig) (n : ℕ) (g : GSem nD τ sig) :
    ∑ d : Fin 32, debt (fun k => tallyAt (cf (ahead d k) k) () n) ks g () = load cf n g := by
  unfold load
  rw [← ks_toFinset]
  simp only [debt_apply, ← List.sum_toFinset _ ks_nodup]
  rw [Finset.sum_comm]
  exact Finset.sum_congr rfl fun k _ => (shift k).sum_comp fun p => (tallyAt (cf p k) () n : Tal) g ()

theorem owed_total (g : GSem nD τ sig) : ∑ d : Fin 32, O₀ d g () =
    load (fun p k => agCell p 2 (opp k)) N g + load (fun p k => rsCell p 2 (opp k)) N g
    + load (fun p k => agCell p 1 (opp k)) N g + load (fun p k => rsCell p 1 (opp k)) N g
    + load (fun p k => agCell p 0 (opp k)) N g + load (fun p k => rsCell p 0 (opp k)) N g
    + load (fun p _ => barCell p) 1 g := by
  simp only [← sum_debt, ← Finset.sum_add_distrib]
  refine Finset.sum_congr rfl fun d _ => ?_
  rw [show O₀ d = 0 + debt (tAg d 2) ks + debt (tRs d 2) ks + debt (tAg d 1) ks + debt (tRs d 1) ks + debt (tAg d 0) ks
    + debt (tRs d 0) ks + debt (tBar d) ks from rfl, zero_add]
  simp only [Pi.add_apply, Finsupp.add_apply]

theorem load_zero {cf : Dev nD → Fin 32 → GSem nD τ sig} {n : ℕ} {g : GSem nD τ sig} (h : ∀ p k, g ≠ cf p k) : load cf n g = 0 :=
  Finset.sum_eq_zero fun k _ => Finset.sum_eq_zero fun p _ => by rw [tallyAt_ne_cell (h p k)]; rfl

theorem load_one {cf : Dev nD → Fin 32 → GSem nD τ sig} {n : ℕ} {g : GSem nD τ sig} (c : Dev nD) {j : Fin 32} (hj : j ∈ ds)
    (h : ∀ p k, g = cf p k ↔ p = c ∧ k = j) : load cf n g = n := by
  unfold load
  rw [Finset.sum_eq_single_of_mem j hj, Finset.sum_eq_single_of_mem c (Finset.mem_univ _), tallyAt_apply,
    if_pos ⟨(h c j).2 ⟨rfl, rfl⟩, rfl⟩]
  · intro p _ hp; rw [tallyAt_ne_cell fun e => hp ((h p j).1 e).1]; rfl
  · intro k _ hk; exact Finset.sum_eq_zero fun p _ => by rw [tallyAt_ne_cell fun e => hk ((h p k).1 e).2]; rfl

theorem load_all {cf : Dev nD → Fin 32 → GSem nD τ sig} {n : ℕ} {g : GSem nD τ sig} (c : Dev nD)
    (h : ∀ p k, g = cf p k ↔ p = c) : load cf n g = 31 * n := by
  unfold load
  rw [Finset.sum_congr rfl fun k _ => show _ = n from ?_, Finset.sum_const, show ds.card = 31 from by decide, smul_eq_mul]
  rw [Finset.sum_eq_single_of_mem c (Finset.mem_univ _), tallyAt_apply, if_pos ⟨(h c k).2 rfl, rfl⟩]
  intro p _ hp; rw [tallyAt_ne_cell fun e => hp ((h p k).1 e)]; rfl

/-- Two cells that count different things differ. -/
theorem cell_ne {a b : GSem nD τ sig} {x y : Kd} (ha : kd a.2 = x) (hb : kd b.2 = y) (h : x ≠ y) : a ≠ b :=
  fun e => h (by rw [← ha, ← hb, e])

theorem bar_iff (c p : Dev nD) : barCell c = barCell p ↔ p = c :=
  ⟨fun h => Fin.ext (congrArg (fun g : GSem nD τ sig => g.1.1.val) h).symm, fun h => h ▸ rfl⟩
theorem rs_iff (c p : Dev nD) (l : Fin 3) (j k : Fin 32) : rsCell c l j = rsCell p l (opp k) ↔ p = c ∧ k = opp j := by
  refine ⟨fun h => ⟨Fin.ext (congrArg (fun g : GSem nD τ sig => g.1.1.val) h).symm, ?_⟩, fun h => ?_⟩
  · have h' := congrArg (fun g : GSem nD τ sig => kd g.2) h
    simp only [kd_rs, Kd.rs.injEq, true_and] at h'
    rw [h', opp_opp]
  · rw [h.1, h.2, opp_opp]
theorem ag_iff (c p : Dev nD) (l : Fin 3) (j k : Fin 32) : agCell c l j = agCell p l (opp k) ↔ p = c ∧ k = opp j := by
  refine ⟨fun h => ⟨Fin.ext (congrArg (fun g : GSem nD τ sig => g.1.1.val) h).symm, ?_⟩, fun h => ?_⟩
  · have h' := congrArg (fun g : GSem nD τ sig => kd g.2) h
    simp only [kd_ag, Kd.ag.injEq, true_and] at h'
    rw [h', opp_opp]
  · rw [h.1, h.2, opp_opp]

theorem owed_bar (c : Dev nD) : ∑ d : Fin 32, O₀ d (barCell c) () = 31 := by
  rw [owed_total, load_all c fun p _ => bar_iff c p]
  have ha (l' : Fin 3) : load (fun p k => agCell p l' (opp k)) N (barCell c) = 0 :=
    load_zero fun p k => cell_ne kd_bar (kd_ag l' (opp k)) (by simp)
  have hr (l' : Fin 3) : load (fun p k => rsCell p l' (opp k)) N (barCell c) = 0 :=
    load_zero fun p k => cell_ne kd_bar (kd_rs l' (opp k)) (by simp)
  rw [ha, ha, ha, hr, hr, hr]

theorem owed_rs (c : Dev nD) (l : Fin 3) {j : Fin 32} (hj : j ≠ 0) : ∑ d : Fin 32, O₀ d (rsCell c l j) () = N := by
  have hb : load (fun p _ => barCell p) 1 (rsCell c l j) = 0 := load_zero fun p k => cell_ne (kd_rs l j) kd_bar (by simp)
  have ha (l' : Fin 3) : load (fun p k => agCell p l' (opp k)) N (rsCell c l j) = 0 :=
    load_zero fun p k => cell_ne (kd_rs l j) (kd_ag l' (opp k)) (by simp)
  have hn (l' : Fin 3) (h : l ≠ l') : load (fun p k => rsCell p l' (opp k)) N (rsCell c l j) = 0 :=
    load_zero fun p k => cell_ne (kd_rs l j) (kd_rs l' (opp k)) (by simp [h])
  have hy : load (fun p k => rsCell p l (opp k)) N (rsCell c l j) = N := load_one c (mem_ds (opp_ne hj)) fun p k => rs_iff c p l j k
  rw [owed_total, hb, ha, ha, ha]
  fin_cases l
  · rw [hn 2 (by decide), hn 1 (by decide)]; simp only [zero_add, add_zero]; exact hy
  · rw [hn 2 (by decide), hn 0 (by decide)]; simp only [zero_add, add_zero]; exact hy
  · rw [hn 1 (by decide), hn 0 (by decide)]; simp only [zero_add, add_zero]; exact hy

theorem owed_ag (c : Dev nD) (l : Fin 3) {j : Fin 32} (hj : j ≠ 0) : ∑ d : Fin 32, O₀ d (agCell c l j) () = N := by
  have hb : load (fun p _ => barCell p) 1 (agCell c l j) = 0 := load_zero fun p k => cell_ne (kd_ag l j) kd_bar (by simp)
  have ha (l' : Fin 3) : load (fun p k => rsCell p l' (opp k)) N (agCell c l j) = 0 :=
    load_zero fun p k => cell_ne (kd_ag l j) (kd_rs l' (opp k)) (by simp)
  have hn (l' : Fin 3) (h : l ≠ l') : load (fun p k => agCell p l' (opp k)) N (agCell c l j) = 0 :=
    load_zero fun p k => cell_ne (kd_ag l j) (kd_ag l' (opp k)) (by simp [h])
  have hy : load (fun p k => agCell p l (opp k)) N (agCell c l j) = N := load_one c (mem_ds (opp_ne hj)) fun p k => ag_iff c p l j k
  rw [owed_total, hb, ha, ha, ha]
  fin_cases l
  · rw [hn 2 (by decide), hn 1 (by decide)]; simp only [zero_add, add_zero]; exact hy
  · rw [hn 2 (by decide), hn 0 (by decide)]; simp only [zero_add, add_zero]; exact hy
  · rw [hn 1 (by decide), hn 0 (by decide)]; simp only [zero_add, add_zero]; exact hy

theorem launch_at {g : GSem nD τ sig} {n : ℕ} (h : ∑ d : Fin 32, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same]
  exact h

omit [FloatOps F] in
/-- The credit for a family of cells at the distances. -/
theorem credit_at (c : Dev nD) (s : Fin 32 → SemLoc sig) (h : ∀ j ≠ 0, ∑ d : Fin 32, O₀ d ((c : Thread nD τ), s j) () = N) :
    (bigSep ds fun j => cred (tallyOn ((c : Thread nD τ), s j) (launchCredit (Pipeline.owing O₀) 0 ((c : Thread nD τ), s j))) : sProp 𝕄)
      = bigSep ds fun j => cred (tallyAt ((c : Thread nD τ), s j) () N) :=
  bigSep_congr fun j hj => by rw [launch_at (h j (Finset.ne_of_mem_erase hj))]

omit [FloatOps F] in
/-- The launch credit of a device is what it waits on. -/
theorem credits (c : Dev nD) :
    (Pipeline.launchCred O₀ c : sProp 𝕄) ⊢ iprop(cred (tallyAt (barCell c) () 31) ∗ creds c 0 ∗ creds c 1 ∗ creds c 2) := by
  have hall : (Pipeline.launchCred O₀ c : sProp 𝕄) ⊢ iprop(
      bigSep Finset.univ (fun i : Fin 224 => cred (tallyOn ((c : Thread nD τ), osem i) (launchCredit (Pipeline.owing O₀) 0 ((c : Thread nD τ), osem i))))
      ∗ cred (tallyOn (barCell c) (launchCredit (Pipeline.owing O₀) 0 (barCell c)))) := by
    unfold Pipeline.launchCred
    have h := bigSep_subset (Finset.subset_univ (Finset.univ.map ⟨csem, csem_inj⟩)) (Φ := fun sm : SemLoc sig =>
      (cred (tallyOn ((c : Thread nD τ), sm) (launchCredit (Pipeline.owing O₀) 0 ((c : Thread nD τ), sm))) : sProp 𝕄))
    rw [bigSep_map, bigSep_univ_sum, show (Finset.univ : Finset Unit) = {()} from rfl, bigSep_singleton] at h
    exact h
  refine hall.trans ?_
  rw [launch_at (owed_bar c)]
  iintro ⟨H, Hb⟩
  ihave H := (sort fun s => cred (tallyOn ((c : Thread nD τ), s) (launchCredit (Pipeline.owing O₀) 0 ((c : Thread nD τ), s)))) $$ H
  unfold sorted creds
  rw [credit_at c _ fun j h => owed_rs c 0 h, credit_at c _ fun j h => owed_rs c 1 h, credit_at c _ fun j h => owed_rs c 2 h,
    credit_at c _ fun j h => owed_ag c 0 h, credit_at c _ fun j h => owed_ag c 1 h, credit_at c _ fun j h => owed_ag c 2 h]
  icases H with ⟨-, ⟨r0, r1, r2⟩, ⟨a0, a1, a2⟩, -⟩
  iframe

end Cert.Proof.Mlp
-- ==== Proof.Launch.lean ====
/- The launch: from any memory, all the devices run the body and stop with the results written. -/
module

public import proofs.«01_k».proof.Proof.Credit
public import proofs.«01_k».proof.Proof.Gen.KernelIdeal.Launch

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The inputs of every device, as the launch's memory holds them. -/
def insOf : Ins F where
  x c := (win0_0.blk (0 : Fin 1)).view.read (Elt F) (m ((c : Thread nD τ).loc main_arg0))
  wi l c := match l with
    | ⟨0, _⟩ => (win0_1.blk (0 : Fin 1)).view.read (Elt F) (m ((c : Thread nD τ).loc main_arg1))
    | ⟨1, _⟩ => (win0_3.blk (0 : Fin 1)).view.read (Elt F) (m ((c : Thread nD τ).loc main_arg2))
    | ⟨_, _⟩ => (win0_5.blk (0 : Fin 1)).view.read (Elt F) (m ((c : Thread nD τ).loc main_arg3))
  wo l c := match l with
    | ⟨0, _⟩ => (win0_2.blk (0 : Fin 1)).view.read (Elt F) (m ((c : Thread nD τ).loc main_arg4))
    | ⟨1, _⟩ => (win0_4.blk (0 : Fin 1)).view.read (Elt F) (m ((c : Thread nD τ).loc main_arg5))
    | ⟨_, _⟩ => (win0_6.blk (0 : Fin 1)).view.read (Elt F) (m ((c : Thread nD τ).loc main_arg6))

/-- Before the body: the rules and the device's share; -/
def begin_ (c : Dev nD) : sProp 𝕄 := iprop(ctx (insOf m) ∗ share c)
/-- after it: the semaphores at zero, and the scratch buffers. -/
def done (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).wi 0 c
    | ⟨2, _⟩ => (insOf m).wo 0 c
    | ⟨3, _⟩ => (insOf m).wi 1 c
    | ⟨4, _⟩ => (insOf m).wo 1 c
    | ⟨5, _⟩ => (insOf m).wi 2 c
    | ⟨6, _⟩ => (insOf m).wo 2 c
    | ⟨7, _⟩ => outF (insOf m)
  Φ t := match t with
    | ⟨0, _⟩ => iprop(begin_ m c ∗ scratch c)
    | ⟨_ + 1, _⟩ => done c
  q _ := fullShare
  owed t := match t with
    | ⟨0, _⟩ => O₀ c
    | ⟨_ + 1, _⟩ => 0

theorem cfg0_N : cfg0.N = 1 := by decide
def t₀ : Fin cfg0.N := ⟨0, by rw [cfg0_N]; exact Nat.zero_lt_one⟩
theorem only_point (t : Fin cfg0.N) : t = t₀ := Fin.ext (by have h := t.isLt; have := cfg0_N; show t.val = 0; omega)

theorem fetch_in (w : Fin 8) (h : w ≠ 7) : (cfg0.win w).fetch t₀ = true := by
  fin_cases w <;> first | rfl | exact absurd rfl h

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem stg_in {A : Type} (c : Dev nD) (b : Ref sig .tc) (B : A → b.ty.Contents (Elt F)) (X : b.ty.Contents (Elt F)) (h : ∀ d, B d = X) :
    (iprop(∃ d, stg c b (B d)) : sProp 𝕄) ⊢ whole c b X := by
  iintro ⟨%d, %f, %hf, H⟩
  rw [h d] at hf
  subst hf
  iexact H
omit [FloatOps F] in
theorem stg_any {A : Type} (c : Dev nD) (b : Ref sig .tc) (B : A → b.ty.Contents (Elt F)) :
    (iprop(∃ d, stg c b (B d)) : sProp 𝕄) ⊢ iprop(∃ f, whole c b f) := by
  iintro ⟨%d, %f, %hf, H⟩
  iexists f; iexact H
omit [FloatOps F] in
theorem stg_out (c : Dev nD) (b : Ref sig .tc) (X : b.ty.Contents (Elt F)) : (whole c b X : sProp 𝕄) ⊢ stg c b X := by
  iintro H
  iexists X
  isplitr; · (ipureintro; rfl)
  iexact H

set_option maxRecDepth 65536 in
def bodyPre (c : Dev nD) : sProp 𝕄 :=
  iprop((begin_ m c ∗ scratch c) ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

def bodyPost (c : Dev nD) : sProp 𝕄 :=
  iprop(done c ∗ (dats m ρ 0 c).owesAt () t₀.succ
    ∗ stg c cc0_stg0_0 ((insOf m).x c) ∗ stg c cc0_stg1_0 ((insOf m).wi 0 c) ∗ stg c cc0_stg2_0 ((insOf m).wo 0 c)
    ∗ stg c cc0_stg3_0 ((insOf m).wi 1 c) ∗ stg c cc0_stg4_0 ((insOf m).wo 1 c) ∗ stg c cc0_stg5_0 ((insOf m).wi 2 c)
    ∗ stg c cc0_stg6_0 ((insOf m).wo 2 c) ∗ stg c cc0_stg7_0 (outF (insOf m)))

theorem before_0 (c : Dev nD) (d) : (dats m ρ 0 c).before (0 : Fin 8) t₀ d = (insOf m).x c := by
  unfold Dat.before; rw [if_pos (fetch_in 0 (by decide))]; rfl
theorem before_1 (c : Dev nD) (d) : (dats m ρ 0 c).before (1 : Fin 8) t₀ d = (insOf m).wi 0 c := by
  unfold Dat.before; rw [if_pos (fetch_in 1 (by decide))]; rfl
theorem before_2 (c : Dev nD) (d) : (dats m ρ 0 c).before (2 : Fin 8) t₀ d = (insOf m).wo 0 c := by
  unfold Dat.before; rw [if_pos (fetch_in 2 (by decide))]; rfl
theorem before_3 (c : Dev nD) (d) : (dats m ρ 0 c).before (3 : Fin 8) t₀ d = (insOf m).wi 1 c := by
  unfold Dat.before; rw [if_pos (fetch_in 3 (by decide))]; rfl
theorem before_4 (c : Dev nD) (d) : (dats m ρ 0 c).before (4 : Fin 8) t₀ d = (insOf m).wo 1 c := by
  unfold Dat.before; rw [if_pos (fetch_in 4 (by decide))]; rfl
theorem before_5 (c : Dev nD) (d) : (dats m ρ 0 c).before (5 : Fin 8) t₀ d = (insOf m).wi 2 c := by
  unfold Dat.before; rw [if_pos (fetch_in 5 (by decide))]; rfl
theorem before_6 (c : Dev nD) (d) : (dats m ρ 0 c).before (6 : Fin 8) t₀ d = (insOf m).wo 2 c := by
  unfold Dat.before; rw [if_pos (fetch_in 6 (by decide))]; rfl

omit [FloatOps F] in
theorem scratch_any (c : Dev nD) (f0 : S512x256.Idx → Elt F .bf16) (f1 : S3x16x256.Idx → Elt F .bf16)
    (f2 : S3x32x16x256.Idx → Elt F .bf16) (f3 : S3x512x256.Idx → Elt F .bf16) :
    iprop(whole c cc0_scratch0 f0 ∗ whole c cc0_scratch1 f1 ∗ whole c cc0_scratch2 f2 ∗ whole c cc0_scratch3 f3)
      ⊢ (scratch c : sProp 𝕄) := by
  unfold scratch
  iintro ⟨h0, h1, h2, h3⟩
  isplitl [h0]; · iexists f0; iexact h0
  isplitl [h1]; · iexists f1; iexact h1
  isplitl [h2]; · iexists f2; iexact h2
  iexists f3; iexact h3

theorem owes_in (c : Dev nD) : (dats m ρ 0 c).owesAt () t₀.castSucc ⊢ owed (F := F) c (O₀ c) := by
  unfold Dat.owesAt Pipeline.owesWithin owed
  iintro ⟨%W, -, H⟩
  iexists W; iexact H
theorem owes_out (c : Dev nD) : owed (F := F) c 0 ⊢ (dats m ρ 0 c).owesAt () t₀.succ := by
  unfold Dat.owesAt Pipeline.owesWithin owed
  iintro ⟨%W, H⟩
  iexists W
  isplitr; · (ipureintro; exact fun _ _ => Or.inl trivial)
  iexact H

theorem body_run (c : Dev nD) :
    bodyPre m ρ c ⊢ Run c (bodyP (Memref.whole cc0_stg0_0) (Memref.whole cc0_stg1_0) (Memref.whole cc0_stg2_0) (Memref.whole cc0_stg3_0)
          (Memref.whole cc0_stg4_0) (Memref.whole cc0_stg5_0) (Memref.whole cc0_stg6_0) (Memref.whole cc0_stg7_0)) fun _ => bodyPost m ρ c := by
  unfold bodyPre begin_
  iintro ⟨⟨⟨#Hctx, Hsh⟩, Hscr⟩, HO, h0, h1, h2, h3, h4, h5, h6, h7⟩
  ihave h0 := (stg_in c cc0_stg0_0 _ _ (before_0 m ρ c)) $$ h0
  ihave h1 := (stg_in c cc0_stg1_0 _ _ (before_1 m ρ c)) $$ h1
  ihave h2 := (stg_in c cc0_stg2_0 _ _ (before_2 m ρ c)) $$ h2
  ihave h3 := (stg_in c cc0_stg3_0 _ _ (before_3 m ρ c)) $$ h3
  ihave h4 := (stg_in c cc0_stg4_0 _ _ (before_4 m ρ c)) $$ h4
  ihave h5 := (stg_in c cc0_stg5_0 _ _ (before_5 m ρ c)) $$ h5
  ihave h6 := (stg_in c cc0_stg6_0 _ _ (before_6 m ρ c)) $$ h6
  ihave h7 := (stg_any c cc0_stg7_0 _) $$ h7
  icases h7 with ⟨%f7, h7⟩
  ihave HO := (owes_in m ρ c) $$ HO
  iapply (run_body (insOf m) c (fun _ => bodyPost m ρ c) f7)
  isplitl []; · iexact Hctx
  isplitl [Hsh]; · iexact Hsh
  isplitl [Hscr]; · iexact Hscr
  isplitl [HO]; · iexact HO
  isplitl [h0 h1 h2 h3 h4 h5 h6]
  · unfold stgs; iframe
  isplitl [h7]; · iexact h7
  unfold result stgs bodyPost done
  iintro ⟨s0, s1, s2, s3, Hz, HO, ⟨h0, h1, h2, h3, h4, h5, h6⟩, h7⟩
  isplitl [s0 s1 s2 s3 Hz]
  · isplitr [Hz]
    · iapply (scratch_any c (part (insOf m) 2 c) (redF (insOf m) c) (rsF (insOf m) c) (agF (insOf m))); iframe
    · iexact Hz
  isplitl [HO]; · iapply (owes_out m ρ c); iexact HO
  isplitl [h0]; · iapply (stg_out c cc0_stg0_0); iexact h0
  isplitl [h1]; · iapply (stg_out c cc0_stg1_0); iexact h1
  isplitl [h2]; · iapply (stg_out c cc0_stg2_0); iexact h2
  isplitl [h3]; · iapply (stg_out c cc0_stg3_0); iexact h3
  isplitl [h4]; · iapply (stg_out c cc0_stg4_0); iexact h4
  isplitl [h5]; · iapply (stg_out c cc0_stg5_0); iexact h5
  isplitl [h6]; · iapply (stg_out c cc0_stg6_0); iexact h6
  iapply (stg_out c cc0_stg7_0); iexact h7

omit [FloatOps F] in
theorem by_window (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

set_option maxRecDepth 65536 in
/-- What the launch asks of the body. -/
theorem body_obligation (c : Dev nD) : BodyObligation (dats (F := F) m ρ 0 c) (defs₀ (F := F)) 𝒱₀ () Set.univ := fun t => by
  rw [only_point t]
  rw [by_window, by_window]
  simp only [owns_stg]
  have h := body_run m ρ c
  rw [← body_eq (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.isWhole_whole _) (Memref.isWhole_whole _) (Memref.isWhole_whole _) (Memref.isWhole_whole _), ← cc0_body_eq_skeleton] at h
  exact h

end Cert.Proof.Mlp
-- ==== Proof.Main.lean ====
/- The whole run, for any float values. -/
module

public import proofs.«01_k».proof.Proof.Launch
public import Idealize.ShloMosaic.Lib.Pipeline.CollectiveSegs

@[expose] public section

noncomputable section

namespace Cert.Proof.Mlp

open Idealize.ShloMosaic Idealize.ShloMosaic.ValueIdx Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem own_scoped (k : Fin 224) : (osem k).isScoped .tc = true := by revert k; decide +kernel
theorem osem_inj : Function.Injective osem := fun i j h => Sum.inl.inj (csem_inj (show csem (.inl i) = csem (.inl j) from h))
theorem stage_low (w : Fin 8) (s : Fin (cfg0.win w).nbuf) : ((cfg0.win w).sem s).val < 8 := by
  fin_cases w <;> fin_cases s <;> decide
theorem ownSemFacts : Pipeline.OwnSemFacts cfg0.spec osem :=
  ⟨own_scoped, osem_inj, fun k w s h => by
    have h1 : 8 + k.val = ((cfg0.win w).sem s).val :=
      congrArg (fun s : SemLoc sig => match s with | .dma x => x.val | .reg x => 0) h
    have h2 := stage_low w s
    omega⟩

theorem share_eq (c : Dev nD) (w : Fin cfg0.W) : (dats m ρ 0 c).share w = fullShare := by unfold Dat.share; split <;> rfl

/-- What a device has when its kernel starts. -/
theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (insOf m) c)
      ⊢ |={Set.univ}=> iprop(begin_ m c ∗ emp) := by
  have hat : (bigSep Finset.univ fun i : CI => atPos ER (kcell (c, i)) 0 ∅ 0 : sProp 𝕄)
      = iprop((bigSep Finset.univ fun i : Fin 224 => atPos ER ((c : Thread nD τ), osem i) 0 ∅ 0) ∗ atPos ER (barCell c) 0 ∅ 0) := by
    rw [bigSep_univ_sum, show (Finset.univ : Finset Unit) = {()} from rfl, bigSep_singleton]; rfl
  unfold ready spent
  rw [hat]
  iintro ⟨-, #Hlev, Hcr, -, #HR, ⟨Hat, Hbar⟩, Hb, Ht⟩
  ihave Hc := (credits (F := F) c) $$ Hcr
  imodintro
  unfold begin_ ctx share
  isplitl
  · isplitl []
    · isplitl []
      · iexact HR
      · iexact Hlev
    isplitl [Hat Hbar]
    · isplitl [Hat]; · iexact Hat
      iexact Hbar
    isplitl [Hb Ht]
    · isplitl [Hb]; · iexact Hb
      iexact Ht
    iexact Hc
  · iempintro

theorem phi_in (c : Dev nD) :
    iprop(begin_ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begin_ m c ∗ scratch c) from rfl, scopedRest0_eq]
  unfold scratch
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq, unscopedSems0_eq]
  unfold done zeros scratch Pipeline.ownSems0
  iintro ⟨Hr, Ho, Hb⟩
  isplitl [Hb]; · iexact Hb
  isplitl [Ho]; · iexact Ho
  iexact Hr

theorem kd_stage (w : Fin 8) (s : Fin (cfg0.win w).nbuf) : lvOf (kd (.dma ((cfg0.win w).sem s))) ≤ 0 := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t =>
    mayWait c _ (kd_stage w s) (by
      rcases t with ⟨_ | _, ht⟩
      · exact above_O₀ c
      · exact Above.zero 0)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory at zero counters every fair run ends, the arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := dealt (insOf m)) (G' := ready (insOf m)) (u₀ := u₀)
    (hu₀ := by
      unfold u₀
      iintro Hu
      ihave H := (ownU_pair _ _) $$ Hu
      icases H with ⟨HP, HX⟩
      imod (fund_all (insOf m)) $$ HX with HG
      imodintro
      isplitl [HP] <;> iassumption)
    (hglob := set_up (insOf m))
    (hA := fun _ _ => rfl) (hpf := fun _ k => k.elim0)
    (X := begin_ m) (Y := fun c => unscopedSems0 c) (Z := fun _ => iprop(emp))
    (hX := begin_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds at the end what it held. -/
theorem final_in (c : Dev nD) (w : Fin 8) (h : (cfg0.win w).isOut = false) :
    finalA m ρ c w = m ((cfg0.win w).arr.view.loc (c : Thread nD τ)) :=
  (dats (F := F) m ρ 0 c).arrAt_in w h _

/-- The arguments of a device are what they were. -/
def Kept (r : PUnit.{1} × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept {r : PUnit.{1} × MemSt nD τ sig (Elt F)} (h : QC m ρ r) (c : Dev nD) : Kept m r c :=
  ⟨(h c 0).trans (final_in m ρ c 0 rfl), (h c 1).trans (final_in m ρ c 1 rfl), (h c 3).trans (final_in m ρ c 3 rfl),
    (h c 5).trans (final_in m ρ c 5 rfl), (h c 2).trans (final_in m ρ c 2 rfl), (h c 4).trans (final_in m ρ c 4 rfl),
    (h c 6).trans (final_in m ρ c 6 rfl)⟩

end Cert.Proof.Mlp
-- ==== Proof.Frames.lean ====
/- The kernel's runs end, leave their arguments and every semaphore at zero, at both float readings. -/
module

public import proofs.«01_k».proof.Defs
public import proofs.«01_k».proof.Proof.Main
public import proofs.«01_k».proof.Proof.Gen.Kernel

@[expose] public section

noncomputable section

namespace Cert.Proof.Mlp

open Idealize.ShloMosaic Cert.KernelIdeal Cert.KernelIdeal.Gen Idealize.SL.Sem

theorem frame_ideal : Cert.quiescent_KernelIdeal (hKernelIdeal := Cert.KernelIdeal.Gen.facts) := fun m ρ _ =>
  (θ_run Cert.KernelIdeal.defs _ _).mono (fun _ h => ⟨fun c => kept m ρ h.1 c, h.2⟩) (run_main (F := Ideal) m ρ)

/-! The two programs are the same text, so the same body table. -/

set_option maxRecDepth 65536 in
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => dsimp only; rfl

set_option maxRecDepth 65536 in
theorem defs_eq : Cert.Kernel.defs (F := Bits) = Cert.KernelIdeal.defs (F := Bits) := by
  unfold Cert.Kernel.defs Cert.KernelIdeal.defs
  rw [defs₀_eq]
  rfl

set_option maxRecDepth 65536 in
theorem frame_kernel : Cert.quiescent_Kernel (hKernel := Cert.Kernel.Gen.facts) := fun m ρ _ => by
  have h : θ_run (Cert.KernelIdeal.defs (F := Bits)) (onTc (τ := τ) (Cert.KernelIdeal.main (F := Bits))) (s₀ (F := Bits) m ρ)
      (fun r => (∀ c : Dev nD, Kept (F := Bits) m r c) ∧ r.2.sem = fun _ => 0) :=
    (θ_run Cert.KernelIdeal.defs _ _).mono (fun _ h => ⟨fun c => kept m ρ h.1 c, h.2⟩) (run_main (F := Bits) m ρ)
  rw [defs_eq]
  exact h

end Cert.Proof.Mlp
-- ==== Proof.Ends.lean ====
/- What the kernel's windows read and leave: each is a whole array, so a device's inputs are its argument arrays
   and its result array ends as the gathered activations. -/
module

public import proofs.«01_k».proof.Proof.Main
public import Idealize.ShloMosaic.Lib.Pipeline.Value

@[expose] public section

noncomputable section

namespace Cert.Proof.Mlp

open Idealize.ShloMosaic Idealize.ShloMosaic.ValueIdx Cert.KernelIdeal Cert.KernelIdeal.Gen Idealize.SL.Sem
open Idealize.ShloMosaic.TcCoe Idealize.ShloMosaic.Pipeline

variable {F : FTy → Type} [FloatOps F]
variable (m : (ℓ : Loc nD τ sig) → Buf (Elt F) ℓ) (ρ : Dev nD → PrngReg)

theorem index_zero (w : Fin 8) (t : Fin cfg0.N) (a : Fin (cfg0.win w).shape.rank) : (cfg0.win w).index t a = 0 := by
  fin_cases w <;> fin_cases t <;> fin_cases a <;> decide

/-- An element of a window's one block is where it is in the array. -/
theorem at_zero (w : Fin 8) (a : Fin (cfg0.win w).shape.rank) (y : ((cfg0.win w).xblock (cfg0.grid.coords (0 : Fin 1))).Idx) :
    (((cfg0.win w).rect (0 : Fin 1)).emb y a : Nat) = y a :=
  (cfg0.win w).rect_emb_val_of_index_zero (0 : Fin 1) a (index_zero w (0 : Fin 1) a) y

theorem insOf_x (c : Dev nD) : (insOf m).x c = m ((c : Thread nD τ).loc main_arg0) := by
  refine funext fun i => congrArg (m ((c : Thread nD τ).loc main_arg0)) (funext fun a => Fin.ext ?_)
  exact at_zero 0 a i
theorem insOf_wi0 (c : Dev nD) : (insOf m).wi 0 c = m ((c : Thread nD τ).loc main_arg1) := by
  refine funext fun i => congrArg (m ((c : Thread nD τ).loc main_arg1)) (funext fun a => Fin.ext ?_)
  exact at_zero 1 a i
theorem insOf_wi1 (c : Dev nD) : (insOf m).wi 1 c = m ((c : Thread nD τ).loc main_arg2) := by
  refine funext fun i => congrArg (m ((c : Thread nD τ).loc main_arg2)) (funext fun a => Fin.ext ?_)
  exact at_zero 3 a i
theorem insOf_wi2 (c : Dev nD) : (insOf m).wi 2 c = m ((c : Thread nD τ).loc main_arg3) := by
  refine funext fun i => congrArg (m ((c : Thread nD τ).loc main_arg3)) (funext fun a => Fin.ext ?_)
  exact at_zero 5 a i
theorem insOf_wo0 (c : Dev nD) : (insOf m).wo 0 c = m ((c : Thread nD τ).loc main_arg4) := by
  refine funext fun i => congrArg (m ((c : Thread nD τ).loc main_arg4)) (funext fun a => Fin.ext ?_)
  exact at_zero 2 a i
theorem insOf_wo1 (c : Dev nD) : (insOf m).wo 1 c = m ((c : Thread nD τ).loc main_arg5) := by
  refine funext fun i => congrArg (m ((c : Thread nD τ).loc main_arg5)) (funext fun a => Fin.ext ?_)
  exact at_zero 4 a i
theorem insOf_wo2 (c : Dev nD) : (insOf m).wo 2 c = m ((c : Thread nD τ).loc main_arg6) := by
  refine funext fun i => congrArg (m ((c : Thread nD τ).loc main_arg6)) (funext fun a => Fin.ext ?_)
  exact at_zero 6 a i

/-- The result window's block is the whole array. -/
theorem out_emb (i : S512x256.Idx) : (win0_7.blk (0 : Fin 1)).view.emb i = i :=
  funext fun a => Fin.ext (at_zero 7 a i)

theorem out_flush : (cfg0.win 7).flush (0 : Fin 1) = true := by decide

/-- The result array ends as the last layer's gathered activations. -/
theorem final_out (c : Dev nD) : finalA m ρ c 7 = outF (insOf m) := by
  refine (dats m ρ 0 c).arrAt_eq_of_cover 7 (outF (insOf m)) ?_ ?_
  · intro t _
    obtain rfl : t = (0 : Fin 1) := (Subsingleton.elim (α := Fin 1) t 0)
    exact funext fun i => (congrArg (outF (insOf m)) (out_emb i)).symm
  · intro i
    refine ⟨(0 : Fin 1), out_flush, ?_⟩
    have h := (win0_7.blk (0 : Fin 1)).view.emb_mem_set i
    rw [out_emb] at h
    exact h

theorem ends {r : PUnit.{1} × MemSt nD τ sig (Elt F)} (h : QC m ρ r) (c : Dev nD) :
    r.2.mem ((c.tc : Thread nD τ).loc main_v1) = outF (insOf m) := (h c 7).trans (final_out m ρ c)

end Cert.Proof.Mlp
-- ==== Proof.Sums.lean ====
/- The kernel's arithmetic on the extended reals: a device's partial product at an index, the reduced rows as a
   sum over the devices, and a sum over the whole hidden axis as a sum over the devices' blocks of it. -/
module

public import proofs.«01_k».proof.Proof.Vals
public import Idealize.ShloMosaic.Lib.MatmulPlain
public import Idealize.ShloMosaic.Lib.ValueLayout
public import Idealize.ShloMosaic.PureOps.Ideal.Laws

@[expose] public section

noncomputable section

namespace Cert.Proof.Mlp

open Idealize.ShloMosaic Idealize.ShloMosaic.ValueIdx Cert.KernelIdeal Cert.KernelIdeal.Gen

/-- One hidden unit: the row of `X` against a column of the first matrix, kept if positive. -/
def hid {k : ℕ} (X : Fin 512 → Fin 256 → EReal) (W : (⟨2, ![256, k]⟩ : Shape).Idx → EReal) (r : Fin 512) (h : Fin k) : EReal :=
  max (∑ q, X r q * W (ix2 q h)) 0

/-- The layer's output through `k` hidden units. -/
def lay {k : ℕ} (X : Fin 512 → Fin 256 → EReal) (W : (⟨2, ![256, k]⟩ : Shape).Idx → EReal)
    (V : (⟨2, ![k, 256]⟩ : Shape).Idx → EReal) (r : Fin 512) (c : Fin 256) : EReal :=
  ∑ h, hid X W r h * V (ix2 h c)

theorem dot_up : dot_S512x256_S256x512_S512x512_1_0_0_1_n_n = DotDims.plain 512 256 512 := rfl
theorem dot_down : dot_S512x512_S512x256_S512x256_1_0_0_1_n_n = DotDims.plain 512 512 256 := rfl

/-- The two products of a layer with the cut at zero between them, as the kernel and the program on one device write them. -/
theorem layer_apply (X : FVec Ideal S512x256 .bf16) (W : FVec Ideal S256x512 .bf16) (V : FVec Ideal S512x256 .bf16) (r : Fin 512) (c : Fin 256) :
    matmul dot_S512x512_S512x256_S512x256_1_0_0_1_n_n none
      (truncf .bf16 (maximumf (matmul dot_S512x256_S256x512_S512x512_1_0_0_1_n_n none X W (constant S512x512 .f32 0x00000000#32))
        (broadcast S512x512 (Scalar.ofBits .f32 0x00000000#32))) bitsLt_bf16_f32) V (constant S512x256 .f32 0x00000000#32) (ix2 r c)
      = lay (fun r q => X (ix2 r q)) W V r c := by
  rw [dot_up, dot_down]
  unfold lay
  refine (Ideal.matmul_plain_apply _ _ _ _ _ _).trans ?_
  refine (congrArg₂ (· + ·) (Ideal.ofBits_zero_f32) rfl).trans ((zero_add _).trans ?_)
  refine Finset.sum_congr rfl fun h _ => congrArg (· * V (ix2 h c)) ?_
  unfold hid
  refine congrArg₂ max ?_ Ideal.ofBits_zero_f32
  refine (Ideal.matmul_plain_apply _ _ _ _ _ _).trans ?_
  exact (congrArg₂ (· + ·) (Ideal.ofBits_zero_f32) rfl).trans (zero_add _)

theorem pay2_apply (X : Vec Ideal S512x256 .bf16) (W : Vec Ideal S256x512 .bf16) (V : Vec Ideal S512x256 .bf16) (r : Fin 512) (c : Fin 256) :
    k0_pay2 X W V (ix2 r c) = lay (fun r q => X (ix2 r q)) W V r c := by
  unfold k0_pay2
  simp only [shapeCast_self]
  exact layer_apply X W V r c

theorem pay6_apply (X : Vec Ideal S1x512x256 .bf16) (W : Vec Ideal S256x512 .bf16) (V : Vec Ideal S512x256 .bf16) (r : Fin 512) (c : Fin 256) :
    k0_pay6 X W V (ix2 r c) = lay (fun r q => X (ix3 0 r q)) W V r c := by
  unfold k0_pay6
  simp only [shapeCast_self]
  refine (layer_apply (shapeCast S512x256 X shapeCasts_S1x512x256_S512x256) W V r c).trans ?_
  exact congrArg (fun Y => lay Y W V r c) (funext fun r => funext fun q => shapeCast_1ab_ab_apply X _ r q)

/-- A reduced row is the sum over all devices of that row of their products: the slots run over every device once. -/
theorem red_apply (P : Dev nD → Vec Ideal S512x256 .bf16) (p : Dev nD) (u : Fin 1) (a : Fin 16) (c : Fin 256) :
    redOf P p (ix3 u a c) = ∑ d : Fin 32, P d (ix2 (row p a) c) := by
  unfold redOf k0_pay4
  refine (shapeCast_ab_1ab_apply _ _ u a c).trans ?_
  refine (Ideal.multiReduction_add_single _ 0x00000000#32 reduces_S32x16x256_S16x256 (.inl rfl) rfl (ix2 a c)).trans ?_
  refine Eq.trans (Finset.sum_congr rfl fun j _ => ?_)
    (Equiv.sum_comp (Equiv.addLeft (p : Fin 32)) fun d : Fin 32 => P d (ix2 (row p a) c))
  exact shapeCast_1abc_abc_apply (slotsOf P p) shapeCasts_S1x32x16x256_S32x16x256 j a c

/-- The gathered row is the same sum. -/
theorem slab_apply (P : Dev nD → Vec Ideal S512x256 .bf16) (u : Fin 1) (r : Fin 512) (c : Fin 256) :
    slabOf P (ix3 u r c) = ∑ d : Fin 32, P d (ix2 r c) := by
  refine (red_apply P (posOf r) 0 (subOf r) c).trans ?_
  rw [row_posOf]

theorem out_apply (I : Ins Ideal) (r : Fin 512) (c : Fin 256) :
    outF I (ix2 r c) = ∑ d : Fin 32, part2 I d (ix2 r c) :=
  (shapeCast_1ab_ab_apply (slabOf (part I 2)) shapeCasts_S1x512x256_S512x256 r c).trans (slab_apply _ 0 r c)

/-! ## The hidden axis in blocks -/

/-- The hidden unit `h` of device `d`. -/
def unitOf (d : Fin 32) (h : Fin 512) : Fin 16384 := ⟨d.val * 512 + h.val, by omega⟩

/-- A sum over the hidden axis is the devices' sums over their units. -/
theorem sum_units (f : Fin 16384 → EReal) : ∑ h, f h = ∑ d : Fin 32, ∑ h : Fin 512, f (unitOf d h) := by
  rw [← Fintype.sum_prod_type']
  refine (Equiv.sum_comp (finProdFinEquiv (m := 32) (n := 512)) f).symm.trans ?_
  refine Finset.sum_congr rfl fun x _ => congrArg f (Fin.ext ?_)
  simp only [finProdFinEquiv, unitOf, Equiv.coe_fn_mk]
  omega

/-- When each device holds its block of both matrices, the devices' layers add up to the whole one. -/
theorem lay_units (X : Fin 512 → Fin 256 → EReal) (W : (⟨2, ![256, 16384]⟩ : Shape).Idx → EReal)
    (V : (⟨2, ![16384, 256]⟩ : Shape).Idx → EReal) (w : Fin 32 → (⟨2, ![256, 512]⟩ : Shape).Idx → EReal)
    (v : Fin 32 → (⟨2, ![512, 256]⟩ : Shape).Idx → EReal)
    (hw : ∀ d q h, w d (ix2 q h) = W (ix2 q (unitOf d h))) (hv : ∀ d h c, v d (ix2 h c) = V (ix2 (unitOf d h) c))
    (r : Fin 512) (c : Fin 256) : ∑ d, lay X (w d) (v d) r c = lay X W V r c := by
  unfold lay
  rw [sum_units]
  refine Finset.sum_congr rfl fun d _ => Finset.sum_congr rfl fun h _ => ?_
  rw [hv]
  refine congrArg (· * _) ?_
  unfold hid
  refine congrArg (max · 0) (Finset.sum_congr rfl fun q _ => ?_)
  rw [hw]

/-- The three layers on whole matrices. -/
def net (x : Fin 512 → Fin 256 → EReal) (W : Fin 3 → (⟨2, ![256, 16384]⟩ : Shape).Idx → EReal)
    (V : Fin 3 → (⟨2, ![16384, 256]⟩ : Shape).Idx → EReal) : Fin 512 → Fin 256 → EReal :=
  lay (lay (lay x (W 0) (V 0)) (W 1) (V 1)) (W 2) (V 2)

/-- What the kernel leaves is the three layers on the whole matrices. -/
theorem out_net (I : Ins Ideal) (x : Fin 512 → Fin 256 → EReal) (W : Fin 3 → (⟨2, ![256, 16384]⟩ : Shape).Idx → EReal)
    (V : Fin 3 → (⟨2, ![16384, 256]⟩ : Shape).Idx → EReal) (hx : ∀ d r q, I.x d (ix2 r q) = x r q)
    (hw : ∀ l d q h, I.wi l d (ix2 q h) = W l (ix2 q (unitOf d h)))
    (hv : ∀ l d h c, I.wo l d (ix2 h c) = V l (ix2 (unitOf d h) c)) (r : Fin 512) (c : Fin 256) :
    outF I (ix2 r c) = net x W V r c := by
  have h0 : ∀ u r c, slabOf (part0 I) (ix3 u r c) = lay x (W 0) (V 0) r c := fun u r c => by
    rw [slab_apply]
    refine Eq.trans (Finset.sum_congr rfl fun d _ => ?_) (lay_units x (W 0) (V 0) (I.wi 0) (I.wo 0) (hw 0) (hv 0) r c)
    refine (pay2_apply _ _ _ r c).trans (congrArg (fun Y => lay Y _ _ r c) ?_)
    exact funext fun r => funext fun q => hx d r q
  have h1 : ∀ u r c, slabOf (part1 I) (ix3 u r c) = lay (lay x (W 0) (V 0)) (W 1) (V 1) r c := fun u r c => by
    rw [slab_apply]
    refine Eq.trans (Finset.sum_congr rfl fun d _ => ?_) (lay_units _ (W 1) (V 1) (I.wi 1) (I.wo 1) (hw 1) (hv 1) r c)
    refine (pay6_apply _ _ _ r c).trans (congrArg (fun Y => lay Y _ _ r c) ?_)
    exact funext fun r => funext fun q => h0 0 r q
  rw [out_apply]
  refine Eq.trans (Finset.sum_congr rfl fun d _ => ?_) (lay_units _ (W 2) (V 2) (I.wi 2) (I.wo 2) (hw 2) (hv 2) r c)
  refine (pay6_apply _ _ _ r c).trans (congrArg (fun Y => lay Y _ _ r c) ?_)
  exact funext fun r => funext fun q => h1 0 r q

end Cert.Proof.Mlp
-- ==== Proof.RefVal.lean ====
/- The program on one device, on the extended reals: its composed term is the three layers on the whole matrices. -/
module

public import proofs.«01_k».proof.Proof.Sums
public import proofs.«01_k».proof.Proof.Gen.ReferenceIdeal
public import Idealize.ShloMosaic.Lib.StackMember

@[expose] public section

noncomputable section

namespace Cert.Proof.Mlp

open Idealize.ShloMosaic Idealize.ShloMosaic.ValueIdx Idealize.ShloMosaic.StackMember Cert.ReferenceIdeal Cert.ReferenceIdeal.Gen

theorem ref_up : dot_S512x256_S256x16384_S512x16384_1_0_0_1_n_n = DotDims.plain 512 256 16384 := rfl
theorem ref_down : dot_S512x16384_S16384x256_S512x256_1_0_0_1_n_n = DotDims.plain 512 16384 256 := rfl

/-- One layer as that program writes it. -/
def refLayer (X : FVec Ideal S512x256 .bf16) (W : FVec Ideal S256x16384 .bf16) (V : FVec Ideal S16384x256 .bf16) : FVec Ideal S512x256 .bf16 :=
  truncf .bf16 (Host.dotGeneral dot_S512x16384_S16384x256_S512x256_1_0_0_1_n_n none
    (maximumf (truncf .bf16 (Host.dotGeneral dot_S512x256_S256x16384_S512x16384_1_0_0_1_n_n none X W) bitsLt_bf16_f32)
      (broadcastInDim S512x16384 ![] bcast_S_S512x16384 (constant S_ .bf16 0x0000#16))) V) bitsLt_bf16_f32

theorem zero_bf16 : Ideal.ofBits .bf16 0x0000#16 = 0 := by simp [Ideal.ofBits, Ideal.ieee]

theorem refLayer_apply (X : FVec Ideal S512x256 .bf16) (W : FVec Ideal S256x16384 .bf16) (V : FVec Ideal S16384x256 .bf16)
    (r : Fin 512) (c : Fin 256) : refLayer X W V (ix2 r c) = lay (fun r q => X (ix2 r q)) W V r c := by
  unfold refLayer lay
  rw [ref_up, ref_down]
  refine (dotGeneral_plain_apply none _ _ r c).trans ?_
  refine Finset.sum_congr rfl fun h _ => congrArg (· * V (ix2 h c)) ?_
  unfold hid
  exact congrArg₂ max (dotGeneral_plain_apply none _ _ r h) zero_bf16

/-- The whole program. -/
def refOut (X : FVec Ideal S512x256 .bf16) (W0 W1 W2 : FVec Ideal S256x16384 .bf16) (V0 V1 V2 : FVec Ideal S16384x256 .bf16) :
    FVec Ideal S512x256 .f32 :=
  extf .f32 (refLayer (refLayer (refLayer X W0 V0) W1 V1) W2 V2) bitsLt_bf16_f32

theorem refOut_apply (X : FVec Ideal S512x256 .bf16) (W0 W1 W2 : FVec Ideal S256x16384 .bf16) (V0 V1 V2 : FVec Ideal S16384x256 .bf16)
    (r : Fin 512) (c : Fin 256) :
    refOut X W0 W1 W2 V0 V1 V2 (ix2 r c) = net (fun r q => X (ix2 r q)) ![W0, W1, W2] ![V0, V1, V2] r c := by
  refine (refLayer_apply _ W2 V2 r c).trans (congrArg (fun Y => lay Y W2 V2 r c) ?_)
  funext r q
  refine (refLayer_apply _ W1 V1 r q).trans (congrArg (fun Y => lay Y W1 V1 r q) ?_)
  funext r q
  exact refLayer_apply X W0 V0 r q

end Cert.Proof.Mlp
-- ==== Proof.Agree.lean ====
/- The kernel on 32 devices and the program on one leave the same array, on the extended reals. -/
module

public import proofs.«01_k».proof.Defs
public import proofs.«01_k».proof.Proof.Ends
public import proofs.«01_k».proof.Proof.RefVal
public import proofs.«01_k».proof.Proof.Gen.ReferenceIdeal.Run
public import Idealize.ShloMosaic.Lib.Quiescent

@[expose] public section

noncomputable section

namespace Cert.Proof.Mlp

open Idealize.ShloMosaic Idealize.ShloMosaic.ValueIdx Idealize.SL.Sem

/-- A device's block of a first matrix is the columns of its hidden units, -/
theorem cols_block (d : Fin 32) (v : (⟨2, ![256, 16384]⟩ : Shape).Idx → EReal) (q : Fin 256) (h : Fin 512) :
    Layout.block ⟨2, ![256, 512]⟩ ⟨2, ![256, 16384]⟩ 1 32 d v (by decide) (ix2 q h) = v (ix2 q (unitOf d h)) := by
  refine congrArg v (funext fun a => Fin.ext ?_)
  match a with
  | ⟨0, _⟩ => rfl
  | ⟨1, _⟩ => rfl

/-- and of a second matrix their rows. -/
theorem rows_block (d : Fin 32) (v : (⟨2, ![16384, 256]⟩ : Shape).Idx → EReal) (h : Fin 512) (c : Fin 256) :
    Layout.block ⟨2, ![512, 256]⟩ ⟨2, ![16384, 256]⟩ 0 32 d v (by decide) (ix2 h c) = v (ix2 (unitOf d h) c) := by
  refine congrArg v (funext fun a => Fin.ext ?_)
  match a with
  | ⟨0, _⟩ => rfl
  | ⟨1, _⟩ => rfl

/-- The program on one device ends, its arguments kept; it has no semaphores. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The value claim: with the matrices dealt out in blocks, every device ends holding the whole result. -/
theorem agree : Cert.algebraic_KernelIdeal_ReferenceIdeal (hKernelIdeal := Cert.KernelIdeal.Gen.facts)
    (hReferenceIdeal := Cert.ReferenceIdeal.Gen.facts) := fun m ρ m' ρ' _ hin => by
  let g (b : Ref Cert.ReferenceIdeal.sig .tc) := m' (((0 : Dev Cert.ReferenceIdeal.nD).tc : Thread Cert.ReferenceIdeal.nD Cert.ReferenceIdeal.τ).loc b)
  have hout : outF (insOf (F := Ideal) m) = refOut (g Cert.ReferenceIdeal.main_arg0) (g Cert.ReferenceIdeal.main_arg1)
      (g Cert.ReferenceIdeal.main_arg2) (g Cert.ReferenceIdeal.main_arg3) (g Cert.ReferenceIdeal.main_arg4)
      (g Cert.ReferenceIdeal.main_arg5) (g Cert.ReferenceIdeal.main_arg6) := by
    refine funext_ix2 fun r c => Eq.trans ?_ (refOut_apply _ _ _ _ _ _ _ r c).symm
    refine out_net _ _ _ _ ?_ ?_ ?_ r c
    · intro d r q
      rw [insOf_x, (hin d).1]
    · intro l d q h
      fin_cases l
      · exact (congrFun ((insOf_wi0 m d).trans (hin d).2.1) (ix2 q h)).trans (cols_block d _ q h)
      · exact (congrFun ((insOf_wi1 m d).trans (hin d).2.2.1) (ix2 q h)).trans (cols_block d _ q h)
      · exact (congrFun ((insOf_wi2 m d).trans (hin d).2.2.2.1) (ix2 q h)).trans (cols_block d _ q h)
    · intro l d h c
      fin_cases l
      · exact (congrFun ((insOf_wo0 m d).trans (hin d).2.2.2.2.1) (ix2 h c)).trans (rows_block d _ h c)
      · exact (congrFun ((insOf_wo1 m d).trans (hin d).2.2.2.2.2.1) (ix2 h c)).trans (rows_block d _ h c)
      · exact (congrFun ((insOf_wo2 m d).trans (hin d).2.2.2.2.2.2) (ix2 h c)).trans (rows_block d _ h c)
  refine ⟨outF (insOf (F := Ideal) m), ?_, ?_⟩
  · exact (θ_run Cert.KernelIdeal.defs _ _).mono (fun _ h c => ⟨ends m ρ h.1 c, kept m ρ h.1 c⟩) (run_main (F := Ideal) m ρ)
  · refine (θ_run Cert.ReferenceIdeal.defs _ _).mono (fun _ h => ⟨(h 0).1.trans ?_, (h 0).2⟩)
      (Cert.ReferenceIdeal.Value.run (F := Ideal) m' ρ')
    exact hout.symm

end Cert.Proof.Mlp
-- ==== Proof.lean ====
/- Assembles the claim: the three frames, the idealization, and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Mlp.frame_kernel, Mlp.frame_ideal, Mlp.frame_ref, trivial, Mlp.agree⟩

end Cert.Proof

end
